-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite1 [hPre_finite1 : Cert.Pre_finite1.Facts] (m : (ℓ : Loc Cert.KernelIdeal.nD Cert.KernelIdeal.τ Cert.KernelIdeal.sig) → Buf (Elt Ideal) ℓ) : Prop :=
  ∀ c : Dev Cert.KernelIdeal.nD,
    (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite1 [hPre_finite1 : Cert.Pre_finite1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 [hPre_shard_of_four : Cert.Pre_shard_of_four.Facts] (m : (ℓ : Loc Cert.Kernel8.nD Cert.Kernel8.τ Cert.Kernel8.sig) → Buf (Elt Bits) ℓ) : Prop :=
  ∀ c : Dev Cert.Kernel8.nD,
    (Cert.Pre_shard_of_four.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3))) = (fun _ => 1#1)

def Pre_Kernel8Ideal [hPre_shard_of_four : Cert.Pre_shard_of_four.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_shard_of_four.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_shard_of_four [hPre_shard_of_four : Cert.Pre_shard_of_four.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_shard_of_four.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 [hPre_own_of_four : Cert.Pre_own_of_four.Facts] (m : (ℓ : Loc Cert.Kernel9.nD Cert.Kernel9.τ Cert.Kernel9.sig) → Buf (Elt Bits) ℓ) : Prop :=
  ∀ c : Dev Cert.Kernel9.nD,
    (Cert.Pre_own_of_four.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2))) = (fun _ => 1#1)

def Pre_Kernel9Ideal [hPre_own_of_four : Cert.Pre_own_of_four.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_own_of_four.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_own_of_four [hPre_own_of_four : Cert.Pre_own_of_four.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_own_of_four.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite1 [hKernelIdeal : Cert.KernelIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite1 [hReferenceIdeal : Cert.ReferenceIdeal.Facts] [hPre_finite1 : Cert.Pre_finite1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite1 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] [hPre_shard_of_four : Cert.Pre_shard_of_four.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] [hPre_shard_of_four : Cert.Pre_shard_of_four.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_shard_of_four [hReference8Ideal : Cert.Reference8Ideal.Facts] [hPre_shard_of_four : Cert.Pre_shard_of_four.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_shard_of_four m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] [hPre_own_of_four : Cert.Pre_own_of_four.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] [hPre_own_of_four : Cert.Pre_own_of_four.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_own_of_four [hReference9Ideal : Cert.Reference9Ideal.Facts] [hPre_own_of_four : Cert.Pre_own_of_four.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_own_of_four m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "log_gamma2" .f32 0xBC0080AC#32 ((Real.log (127 / 128) : ℝ) : EReal)
  ∧ IdealRules.named_const.Statement Cert.KernelIdeal.κ "log_gamma3" .f32 0xBB80402B#32 ((Real.log (255 / 256) : ℝ) : EReal)
  ∧ IdealRules.named_const.Statement Cert.KernelIdeal.κ "log_gamma1" .f32 0xBC8102B3#32 ((Real.log (63 / 64) : ℝ) : EReal)
  ∧ IdealRules.named_const.Statement Cert.KernelIdeal.κ "log_gamma0" .f32 0xBD020AEC#32 ((Real.log (31 / 32) : ℝ) : EReal)

def algebraic_KernelIdeal_ReferenceIdeal_pre_finite1 [hKernelIdeal : Cert.KernelIdeal.Facts] [hReferenceIdeal : Cert.ReferenceIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite1 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v362) = v0 c
          ∧ r.2.mem ((c.tc : Thread Cert.ReferenceIdeal.nD Cert.ReferenceIdeal.τ).loc Cert.ReferenceIdeal.main_v368) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)) (v1 : (c : Dev Cert.Kernel2Ideal.nD) → Buf (Elt Ideal) ((c.tc : Thread Cert.Kernel2Ideal.nD Cert.Kernel2Ideal.τ).loc Cert.Kernel2Ideal.main_v4_0)) (v2 : (c : Dev Cert.Kernel2Ideal.nD) → Buf (Elt Ideal) ((c.tc : Thread Cert.Kernel2Ideal.nD Cert.Kernel2Ideal.τ).loc Cert.Kernel2Ideal.main_v4_1)) (v3 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_v4_0) = v1 c
          ∧ r.2.mem ((c.tc : Thread Cert.Kernel2Ideal.nD Cert.Kernel2Ideal.τ).loc Cert.Kernel2Ideal.main_v4_1) = v2 c
          ∧ r.2.mem ((c.tc : Thread Cert.Kernel2Ideal.nD Cert.Kernel2Ideal.τ).loc Cert.Kernel2Ideal.main_v3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v25) = v2 c
          ∧ r.2.mem ((c.tc : Thread Cert.Reference2Ideal.nD Cert.Reference2Ideal.τ).loc Cert.Reference2Ideal.main_v26) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v1)) (v2 : (c : Dev Cert.Kernel3Ideal.nD) → Buf (Elt Ideal) ((c.tc : Thread Cert.Kernel3Ideal.nD Cert.Kernel3Ideal.τ).loc Cert.Kernel3Ideal.main_v2)) (v3 : (c : Dev Cert.Kernel3Ideal.nD) → Buf (Elt Ideal) ((c.tc : Thread Cert.Kernel3Ideal.nD Cert.Kernel3Ideal.τ).loc Cert.Kernel3Ideal.main_v3)) (v4 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v1) = v1 c
          ∧ r.2.mem ((c.tc : Thread Cert.Kernel3Ideal.nD Cert.Kernel3Ideal.τ).loc Cert.Kernel3Ideal.main_v2) = v2 c
          ∧ r.2.mem ((c.tc : Thread Cert.Kernel3Ideal.nD Cert.Kernel3Ideal.τ).loc Cert.Kernel3Ideal.main_v3) = v3 c
          ∧ r.2.mem ((c.tc : Thread Cert.Kernel3Ideal.nD Cert.Kernel3Ideal.τ).loc Cert.Kernel3Ideal.main_v4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_v27) = v3 c
          ∧ r.2.mem ((c.tc : Thread Cert.Reference3Ideal.nD Cert.Reference3Ideal.τ).loc Cert.Reference3Ideal.main_v28) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_v39) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v52) = v0 c
          ∧ r.2.mem ((c.tc : Thread Cert.Reference5Ideal.nD Cert.Reference5Ideal.τ).loc Cert.Reference5Ideal.main_v51) = v1 c
          ∧ r.2.mem ((c.tc : Thread Cert.Reference5Ideal.nD Cert.Reference5Ideal.τ).loc Cert.Reference5Ideal.main_v53) = v2 c
          ∧ r.2.mem ((c.tc : Thread Cert.Reference5Ideal.nD Cert.Reference5Ideal.τ).loc Cert.Reference5Ideal.main_v54) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v1_0)) (v4 : (c : Dev Cert.Kernel6Ideal.nD) → Buf (Elt Ideal) ((c.tc : Thread Cert.Kernel6Ideal.nD Cert.Kernel6Ideal.τ).loc Cert.Kernel6Ideal.main_v1_1)) (v5 : (c : Dev Cert.Kernel6Ideal.nD) → Buf (Elt Ideal) ((c.tc : Thread Cert.Kernel6Ideal.nD Cert.Kernel6Ideal.τ).loc Cert.Kernel6Ideal.main_v1_2)) (v6 : (c : Dev Cert.Kernel6Ideal.nD) → Buf (Elt Ideal) ((c.tc : Thread Cert.Kernel6Ideal.nD Cert.Kernel6Ideal.τ).loc Cert.Kernel6Ideal.main_v2_0)) (v7 : (c : Dev Cert.Kernel6Ideal.nD) → Buf (Elt Ideal) ((c.tc : Thread Cert.Kernel6Ideal.nD Cert.Kernel6Ideal.τ).loc Cert.Kernel6Ideal.main_v2_1)) (v8 : (c : Dev Cert.Kernel6Ideal.nD) → Buf (Elt Ideal) ((c.tc : Thread Cert.Kernel6Ideal.nD Cert.Kernel6Ideal.τ).loc Cert.Kernel6Ideal.main_v2_2)) (v9 : (c : Dev Cert.Kernel6Ideal.nD) → Buf (Elt Ideal) ((c.tc : Thread Cert.Kernel6Ideal.nD Cert.Kernel6Ideal.τ).loc Cert.Kernel6Ideal.main_v3_0)) (v10 : (c : Dev Cert.Kernel6Ideal.nD) → Buf (Elt Ideal) ((c.tc : Thread Cert.Kernel6Ideal.nD Cert.Kernel6Ideal.τ).loc Cert.Kernel6Ideal.main_v3_1)) (v11 : (c : Dev Cert.Kernel6Ideal.nD) → Buf (Elt Ideal) ((c.tc : Thread Cert.Kernel6Ideal.nD Cert.Kernel6Ideal.τ).loc Cert.Kernel6Ideal.main_v3_2)) (v12 : (c : Dev Cert.Kernel6Ideal.nD) → Buf (Elt Ideal) ((c.tc : Thread Cert.Kernel6Ideal.nD Cert.Kernel6Ideal.τ).loc Cert.Kernel6Ideal.main_v4_0)) (v13 : (c : Dev Cert.Kernel6Ideal.nD) → Buf (Elt Ideal) ((c.tc : Thread Cert.Kernel6Ideal.nD Cert.Kernel6Ideal.τ).loc Cert.Kernel6Ideal.main_v4_1)) (v14 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v1_0) = v3 c
          ∧ r.2.mem ((c.tc : Thread Cert.Kernel6Ideal.nD Cert.Kernel6Ideal.τ).loc Cert.Kernel6Ideal.main_v1_1) = v4 c
          ∧ r.2.mem ((c.tc : Thread Cert.Kernel6Ideal.nD Cert.Kernel6Ideal.τ).loc Cert.Kernel6Ideal.main_v1_2) = v5 c
          ∧ r.2.mem ((c.tc : Thread Cert.Kernel6Ideal.nD Cert.Kernel6Ideal.τ).loc Cert.Kernel6Ideal.main_v2_0) = v6 c
          ∧ r.2.mem ((c.tc : Thread Cert.Kernel6Ideal.nD Cert.Kernel6Ideal.τ).loc Cert.Kernel6Ideal.main_v2_1) = v7 c
          ∧ r.2.mem ((c.tc : Thread Cert.Kernel6Ideal.nD Cert.Kernel6Ideal.τ).loc Cert.Kernel6Ideal.main_v2_2) = v8 c
          ∧ r.2.mem ((c.tc : Thread Cert.Kernel6Ideal.nD Cert.Kernel6Ideal.τ).loc Cert.Kernel6Ideal.main_v3_0) = v9 c
          ∧ r.2.mem ((c.tc : Thread Cert.Kernel6Ideal.nD Cert.Kernel6Ideal.τ).loc Cert.Kernel6Ideal.main_v3_1) = v10 c
          ∧ r.2.mem ((c.tc : Thread Cert.Kernel6Ideal.nD Cert.Kernel6Ideal.τ).loc Cert.Kernel6Ideal.main_v3_2) = v11 c
          ∧ r.2.mem ((c.tc : Thread Cert.Kernel6Ideal.nD Cert.Kernel6Ideal.τ).loc Cert.Kernel6Ideal.main_v4_0) = v12 c
          ∧ r.2.mem ((c.tc : Thread Cert.Kernel6Ideal.nD Cert.Kernel6Ideal.τ).loc Cert.Kernel6Ideal.main_v4_1) = v13 c
          ∧ r.2.mem ((c.tc : Thread Cert.Kernel6Ideal.nD Cert.Kernel6Ideal.τ).loc Cert.Kernel6Ideal.main_v4_2) = v14 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_v47) = v3 c
          ∧ r.2.mem ((c.tc : Thread Cert.Reference6Ideal.nD Cert.Reference6Ideal.τ).loc Cert.Reference6Ideal.main_v28) = v4 c
          ∧ r.2.mem ((c.tc : Thread Cert.Reference6Ideal.nD Cert.Reference6Ideal.τ).loc Cert.Reference6Ideal.main_v34) = v5 c
          ∧ r.2.mem ((c.tc : Thread Cert.Reference6Ideal.nD Cert.Reference6Ideal.τ).loc Cert.Reference6Ideal.main_v71) = v6 c
          ∧ r.2.mem ((c.tc : Thread Cert.Reference6Ideal.nD Cert.Reference6Ideal.τ).loc Cert.Reference6Ideal.main_v52) = v7 c
          ∧ r.2.mem ((c.tc : Thread Cert.Reference6Ideal.nD Cert.Reference6Ideal.τ).loc Cert.Reference6Ideal.main_v58) = v8 c
          ∧ r.2.mem ((c.tc : Thread Cert.Reference6Ideal.nD Cert.Reference6Ideal.τ).loc Cert.Reference6Ideal.main_v95) = v9 c
          ∧ r.2.mem ((c.tc : Thread Cert.Reference6Ideal.nD Cert.Reference6Ideal.τ).loc Cert.Reference6Ideal.main_v76) = v10 c
          ∧ r.2.mem ((c.tc : Thread Cert.Reference6Ideal.nD Cert.Reference6Ideal.τ).loc Cert.Reference6Ideal.main_v82) = v11 c
          ∧ r.2.mem ((c.tc : Thread Cert.Reference6Ideal.nD Cert.Reference6Ideal.τ).loc Cert.Reference6Ideal.main_v119) = v12 c
          ∧ r.2.mem ((c.tc : Thread Cert.Reference6Ideal.nD Cert.Reference6Ideal.τ).loc Cert.Reference6Ideal.main_v100) = v13 c
          ∧ r.2.mem ((c.tc : Thread Cert.Reference6Ideal.nD Cert.Reference6Ideal.τ).loc Cert.Reference6Ideal.main_v106) = v14 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] [hPre_shard_of_four : Cert.Pre_shard_of_four.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal_on_own_columns [hKernel9Ideal : Cert.Kernel9Ideal.Facts] [hReference9Ideal : Cert.Reference9Ideal.Facts] [hPre_own_of_four : Cert.Pre_own_of_four.Facts] [hOn_own_columns : Cert.On_own_columns.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          (∀ i : (⟨2, ![2048, 7168]⟩ : Shape).Idx, (Cert.On_own_columns.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) i = 1#1 → r.2.mem ((c.tc : Thread Cert.Kernel9Ideal.nD Cert.Kernel9Ideal.τ).loc Cert.Kernel9Ideal.main_v0) i = v0 c i)
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          (∀ i : (⟨2, ![2048, 7168]⟩ : Shape).Idx, (Cert.On_own_columns.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) i = 1#1 → r.2.mem ((c.tc : Thread Cert.Reference9Ideal.nD Cert.Reference9Ideal.τ).loc Cert.Reference9Ideal.main_v0) i = v0 c i)
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite1 : Cert.Pre_finite1.Facts) (hPre_finite2 : Cert.Pre_finite2.Facts) (hPre_shard_of_four : Cert.Pre_shard_of_four.Facts) (hPre_own_of_four : Cert.Pre_own_of_four.Facts) (hOn_own_columns : Cert.On_own_columns.Facts),
    quiescent_Kernel (hKernel := hKernel)
    ∧ quiescent_KernelIdeal (hKernelIdeal := hKernelIdeal)
    ∧ quiescent_KernelIdeal_pre_finite1 (hKernelIdeal := hKernelIdeal) (hPre_finite1 := hPre_finite1)
    ∧ quiescent_ReferenceIdeal (hReferenceIdeal := hReferenceIdeal)
    ∧ quiescent_ReferenceIdeal_pre_finite1 (hReferenceIdeal := hReferenceIdeal) (hPre_finite1 := hPre_finite1)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8) (hPre_shard_of_four := hPre_shard_of_four)
    ∧ quiescent_Kernel8Ideal (hKernel8Ideal := hKernel8Ideal) (hPre_shard_of_four := hPre_shard_of_four)
    ∧ quiescent_Reference8Ideal (hReference8Ideal := hReference8Ideal)
    ∧ quiescent_Reference8Ideal_pre_shard_of_four (hReference8Ideal := hReference8Ideal) (hPre_shard_of_four := hPre_shard_of_four)
    ∧ quiescent_Kernel9 (hKernel9 := hKernel9) (hPre_own_of_four := hPre_own_of_four)
    ∧ quiescent_Kernel9Ideal (hKernel9Ideal := hKernel9Ideal) (hPre_own_of_four := hPre_own_of_four)
    ∧ quiescent_Reference9Ideal (hReference9Ideal := hReference9Ideal)
    ∧ quiescent_Reference9Ideal_pre_own_of_four (hReference9Ideal := hReference9Ideal) (hPre_own_of_four := hPre_own_of_four)
    ∧ preserves_Kernel_KernelIdeal
    ∧ algebraic_KernelIdeal_ReferenceIdeal_pre_finite1 (hKernelIdeal := hKernelIdeal) (hReferenceIdeal := hReferenceIdeal) (hPre_finite1 := hPre_finite1)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal) (hPre_shard_of_four := hPre_shard_of_four)
    ∧ preserves_Kernel9_Kernel9Ideal
    ∧ algebraic_Kernel9Ideal_Reference9Ideal_on_own_columns (hKernel9Ideal := hKernel9Ideal) (hReference9Ideal := hReference9Ideal) (hPre_own_of_four := hPre_own_of_four) (hOn_own_columns := hOn_own_columns)
-- ==== On_own_columns.lean ====
abbrev S2048x2048 : Shape := ⟨2, ![2048, 2048]⟩
abbrev S2048x7168 : Shape := ⟨2, ![2048, 7168]⟩
abbrev S1 : Shape := ⟨1, ![1]⟩
abbrev S4 : Shape := ⟨1, ![4]⟩
abbrev S_ : Shape := ⟨0, ![]⟩
abbrev S1x4x1 : Shape := ⟨3, ![1, 4, 1]⟩
abbrev S2048x4x1792 : Shape := ⟨3, ![2048, 4, 1792]⟩

class Facts : Prop where
  shapeCasts_S1_S_ : S1.ShapeCasts S_
  bcast_S_S4 : S_.BroadcastsInDim S4 (![] : Fin 0 → Fin S4.rank)
  bcast_S4_S1x4x1_1 : S4.BroadcastsInDim S1x4x1 (![1] : Fin 1 → Fin S1x4x1.rank)
  bcast_S1x4x1_S2048x4x1792_0_1_2 : S1x4x1.BroadcastsInDim S2048x4x1792 (![0, 1, 2] : Fin 3 → Fin S2048x4x1792.rank)
  shapeCasts_S2048x4x1792_S2048x7168 : S2048x4x1792.ShapeCasts S2048x7168

variable [Facts]

def fn {F : FTy → Type} [FloatOps F] (main_arg0 : FVec F S2048x2048 .bf16) (main_arg1 : FVec F S2048x7168 .bf16) (main_arg2 : IVec S1 32) : IVec S2048x7168 1 :=
  let main_v0 : IVec S4 32 := iotaInDim S4 32 0
  let main_v1 : IVec S_ 32 := shapeCast S_ main_arg2 shapeCasts_S1_S_
  let main_v2 : IVec S4 32 := broadcastInDim S4 ![] bcast_S_S4 main_v1
  let main_v3 : IVec S4 1 := cmpi .eq main_v0 main_v2
  let main_v4 : IVec S1x4x1 1 := broadcastInDim S1x4x1 ![1] bcast_S4_S1x4x1_1 main_v3
  let main_v5 : IVec S2048x4x1792 1 := broadcastInDim S2048x4x1792 ![0, 1, 2] bcast_S1x4x1_S2048x4x1792_0_1_2 main_v4
  let main_v6 : IVec S2048x7168 1 := shapeCast S2048x7168 main_v5 shapeCasts_S2048x4x1792_S2048x7168
  main_v6
-- ==== Pre_finite1.lean ====
abbrev S2048x7168 : Shape := ⟨2, ![2048, 7168]⟩
abbrev S2048x2048 : Shape := ⟨2, ![2048, 2048]⟩
abbrev S2x2048x1024 : Shape := ⟨3, ![2, 2048, 1024]⟩
abbrev S8x2048x1024 : Shape := ⟨3, ![8, 2048, 1024]⟩
abbrev S_ : Shape := ⟨0, ![]⟩

class Facts : Prop where
  bcast_S_S2048x7168 : S_.BroadcastsInDim S2048x7168 (![] : Fin 0 → Fin S2048x7168.rank)
  reducesTo_S2048x7168_S_d0_1 : S2048x7168.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x7168 .f32) (main_arg1 : FVec F S2048x2048 .f32) (main_arg2 : FVec F S2x2048x1024 .bf16) (main_arg3 : FVec F S8x2048x1024 .bf16) : IVec S_ 1 :=
  let main_v0 : FVec F S2048x7168 .f32 := Host.absf main_arg0
  let main_cst : FVec F S_ .f32 := constant S_ .f32 0x7F800000#32
  let main_v1 : FVec F S2048x7168 .f32 := broadcastInDim S2048x7168 ![] bcast_S_S2048x7168 main_cst
  let main_v2 : IVec S2048x7168 1 := cmpf .olt main_v0 main_v1
  let main_c : IVec S_ 1 := constantI S_ 1 1#1
  let main_v3 : IVec S_ 1 := (fun x v => Host.reduce IntOp.andi x v reducesTo_S2048x7168_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Pre_finite2.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg5 : FVec F S2048x2048 .bf16) (main_v4 : IVec S_ 1) (main_v9 : IVec S_ 1) (main_v14 : IVec S_ 1) (main_v16 : FVec F S5632x2048 .f32) (main_cst_4 : FVec F S_ .f32) : IVec S_ 1 :=
  let main_v17 : FVec F S5632x2048 .f32 := broadcastInDim S5632x2048 ![] bcast_S_S5632x2048 main_cst_4
  let main_v18 : IVec S5632x2048 1 := cmpf .olt main_v16 main_v17
  let main_c_5 : IVec S_ 1 := constantI S_ 1 1#1
  let main_v19 : IVec S_ 1 := (fun x v => Host.reduce IntOp.andi x v reducesTo_S5632x2048_S_d0_1 h_S_) main_v18 main_c_5
  let main_v20 : FVec F S2048x2048 .f32 := (extf .f32 · bitsLt_bf16_f32) main_arg5
  let main_v21 : FVec F S2048x2048 .f32 := Host.absf main_v20
  let main_cst_6 : FVec F S_ .f32 := constant S_ .f32 0x7F800000#32
  let main_v22 : FVec F S2048x2048 .f32 := broadcastInDim S2048x2048 ![] bcast_S_S2048x2048 main_cst_6
  let main_v23 : IVec S2048x2048 1 := cmpf .olt main_v21 main_v22
  let main_c_7 : IVec S_ 1 := constantI S_ 1 1#1
  let main_v24 : IVec S_ 1 := (fun x v => Host.reduce IntOp.andi x v reducesTo_S2048x2048_S_d0_1 h_S_) main_v23 main_c_7
  let main_v25 : IVec S_ 1 := andi main_v4 main_v9
  let main_v26 : IVec S_ 1 := andi main_v25 main_v14
  let main_v27 : IVec S_ 1 := andi main_v26 main_v19
  let main_v28 : IVec S_ 1 := andi main_v27 main_v24
  main_v28

def fn {F : FTy → Type} [FloatOps F] (main_arg0 : FVec F S2048x2048 .f32) (main_arg1 : FVec F S2048x2048 .bf16) (main_arg2 : FVec F S2048x5632 .bf16) (main_arg3 : FVec F S2048x5632 .bf16) (main_arg4 : FVec F S5632x2048 .bf16) (main_arg5 : FVec F S2048x2048 .bf16) : IVec S_ 1 :=
  let main_v0 : FVec F S2048x2048 .f32 := (extf .f32 · bitsLt_bf16_f32) main_arg1
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S2048x5632 .f32 := (extf .f32 · bitsLt_bf16_f32) main_arg2
  let main_v6 : FVec F S2048x5632 .f32 := Host.absf main_v5
  let main_cst_0 : FVec F S_ .f32 := constant S_ .f32 0x7F800000#32
  let main_v7 : FVec F S2048x5632 .f32 := broadcastInDim S2048x5632 ![] bcast_S_S2048x5632 main_cst_0
  let main_v8 : IVec S2048x5632 1 := cmpf .olt main_v6 main_v7
  let main_c_1 : IVec S_ 1 := constantI S_ 1 1#1
  let main_v9 : IVec S_ 1 := (fun x v => Host.reduce IntOp.andi x v reducesTo_S2048x5632_S_d0_1 h_S_) main_v8 main_c_1
  let main_v10 : FVec F S2048x5632 .f32 := (extf .f32 · bitsLt_bf16_f32) main_arg3
  let main_v11 : FVec F S2048x5632 .f32 := Host.absf main_v10
  let main_cst_2 : FVec F S_ .f32 := constant S_ .f32 0x7F800000#32
  let main_v12 : FVec F S2048x5632 .f32 := broadcastInDim S2048x5632 ![] bcast_S_S2048x5632 main_cst_2
  let main_v13 : IVec S2048x5632 1 := cmpf .olt main_v11 main_v12
  let main_c_3 : IVec S_ 1 := constantI S_ 1 1#1
  let main_v14 : IVec S_ 1 := (fun x v => Host.reduce IntOp.andi x v reducesTo_S2048x5632_S_d0_1 h_S_) main_v13 main_c_3
  let main_v15 : FVec F S5632x2048 .f32 := (extf .f32 · bitsLt_bf16_f32) main_arg4
  let main_v16 : FVec F S5632x2048 .f32 := Host.absf main_v15
  let main_cst_4 : FVec F S_ .f32 := constant S_ .f32 0x7F800000#32
  fn_part1 (F := F) main_arg5 main_v4 main_v9 main_v14 main_v16 main_cst_4
-- ==== Pre_own_of_four.lean ====
abbrev S2048x2048 : Shape := ⟨2, ![2048, 2048]⟩
abbrev S2048x7168 : Shape := ⟨2, ![2048, 7168]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2048x2048 .bf16) (main_arg1 : FVec F S2048x7168 .bf16) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 4#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_shard_of_four.lean ====
abbrev S2048x2048 : Shape := ⟨2, ![2048, 2048]⟩
abbrev S2048x7168 : Shape := ⟨2, ![2048, 7168]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2048x2048 .bf16) (main_arg1 : FVec F S2048x7168 .bf16) (main_arg2 : FVec F S2048x7168 .f32) (main_arg3 : IVec S1 32) : IVec S1 1 :=
  let main_c : IVec S_ 32 := constantI S_ 32 0#32
  let main_v0 : IVec S1 32 := broadcastInDim S1 ![] bcast_S_S1 main_c
  let main_v1 : IVec S1 1 := cmpi .sge main_arg3 main_v0
  let main_c_0 : IVec S_ 32 := constantI S_ 32 4#32
  let main_v2 : IVec S1 32 := broadcastInDim S1 ![] bcast_S_S1 main_c_0
  let main_v3 : IVec S1 1 := cmpi .slt main_arg3 main_v2
  let main_v4 : IVec S1 1 := andi main_v1 main_v3
  main_v4
-- ==== Kernel.lean ====
abbrev S2048x7168 : Shape := ⟨2, ![2048, 7168]⟩
abbrev S2048x2048 : Shape := ⟨2, ![2048, 2048]⟩
abbrev S2x2048x1024 : Shape := ⟨3, ![2, 2048, 1024]⟩
abbrev S8x2048x1024 : Shape := ⟨3, ![8, 2048, 1024]⟩
abbrev S2048x1024 : Shape := ⟨2, ![2048, 1024]⟩
abbrev S512x256 : Shape := ⟨2, ![512, 256]⟩
abbrev S2048x256 : Shape := ⟨2, ![2048, 256]⟩
abbrev S1x512x256 : Shape := ⟨3, ![1, 512, 256]⟩
abbrev S4x512x512 : Shape := ⟨3, ![4, 512, 512]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S4x2048x256 : Shape := ⟨3, ![4, 2048, 256]⟩
abbrev S2048 : Shape := ⟨1, ![2048]⟩
abbrev S2048x1 : Shape := ⟨2, ![2048, 1]⟩
abbrev S1x2048x256 : Shape := ⟨3, ![1, 2048, 256]⟩

abbrev nBuf : Space → Nat
  | .hbm => 7
  | .vmem => 35
  | .smem => 0
  | _ => 0

abbrev bufTy : (tb : Table) → Fin (tcTables nBuf tb) → BufTy
  | .hbm, ⟨0, _⟩ => ⟨S2048x7168, .f32⟩
  | .hbm, ⟨1, _⟩ => ⟨S2048x2048, .f32⟩
  | .hbm, ⟨2, _⟩ => ⟨S2x2048x1024, .bf16⟩
  | .hbm, ⟨3, _⟩ => ⟨S8x2048x1024, .bf16⟩
  | .hbm, ⟨4, _⟩ => ⟨S2x2048x1024, .bf16⟩
  | .hbm, ⟨5, _⟩ => ⟨S2048x1024, .f32⟩
  | .hbm, ⟨6, _⟩ => ⟨S8x2048x1024, .bf16⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S512x256, .f32⟩
  | .local _ .vmem, ⟨7, _⟩ => ⟨S512x256, .f32⟩
  | .local _ .vmem, ⟨8, _⟩ => ⟨S1x512x256, .bf16⟩
  | .local _ .vmem, ⟨9, _⟩ => ⟨S1x512x256, .bf16⟩
  | .local _ .vmem, ⟨10, _⟩ => ⟨S512x256, .f32⟩
  | .local _ .vmem, ⟨11, _⟩ => ⟨S512x256, .f32⟩
  | .local _ .vmem, ⟨12, _⟩ => ⟨S2048x256, .bf16⟩
  | .local _ .vmem, ⟨13, _⟩ => ⟨S2048x256, .bf16⟩
  | .local _ .vmem, ⟨14, _⟩ => ⟨S4x512x512, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .vmem, ⟨23, _⟩ => ⟨S2048x256, .f32⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | .local _ .vmem, ⟨27, _⟩ => ⟨S4x2048x256, .bf16⟩
  | .local _ .vmem, ⟨28, _⟩ => ⟨S4x2048x256, .bf16⟩
  | .local _ .vmem, ⟨29, _⟩ => ⟨S2048x256, .bf16⟩
  | .local _ .vmem, ⟨30, _⟩ => ⟨S2048x256, .bf16⟩
  | .local _ .vmem, ⟨31, _⟩ => ⟨S2048x256, .bf16⟩
  | .local _ .vmem, ⟨32, _⟩ => ⟨S2048x256, .bf16⟩
  | .local _ .vmem, ⟨33, _⟩ => ⟨S2048x256, .f32⟩
  | .local _ .vmem, ⟨34, _⟩ => ⟨S4x512x512, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc1_scratch3 : Ref sig .tc := ⟨.vmem, 32, rfl⟩
abbrev cc1_scratch4 : Ref sig .tc := ⟨.vmem, 33, rfl⟩
abbrev cc1_scratch5 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_2 : BitVec 32 := 0#32
  let arg1 : BitVec 32 := BitVec.ofNat 32 (i 1).val
  let c1_i32 : BitVec 32 := 1#32
  let v5 : BitVec 32 := Scalar.addi arg1 c1_i32
  let v7 : BitVec 32 := Scalar.subi v5 c0_i32_2
  let c1_i32_3 : BitVec 32 := 1#32
  let v9 : BitVec 32 := Scalar.divsi v7 c1_i32_3
  let v10 : BitVec 32 := Scalar.muli v9 c1_i32_3
  let v11 : BitVec 32 := Scalar.addi c0_i32_2 v10
  let c1_i32_4 : BitVec 32 := 1#32
  ⟨c0_i32_2, v11, c1_i32_4⟩
def k0_mult1 (i : grid0.Coords) (k0_t1 : Fin (k0_t1_loop i).trips) : BitVec 32 :=
  let c0_i32_2 : BitVec 32 := 0#32
  let c1_i32_4 : BitVec 32 := 1#32
  let arg12 : BitVec 32 := Scf.iv c0_i32_2 c1_i32_4 k0_t1
  let c512_i32 : BitVec 32 := 512#32
  let v39 : BitVec 32 := Scalar.muli arg12 c512_i32
  v39
def k0_off1 (i : grid0.Coords) (k0_t1 : Fin (k0_t1_loop i).trips) : Fin 2 → Nat :=
  let c0_i32_2 : BitVec 32 := 0#32
  let c1_i32_4 : BitVec 32 := 1#32
  let arg12 : BitVec 32 := Scf.iv c0_i32_2 c1_i32_4 k0_t1
  let c512_i32 : BitVec 32 := 512#32
  let v39 : BitVec 32 := Scalar.muli arg12 c512_i32
  let v40 : BitVec 32 := v39
  let v41 : Index := Scalar.indexCast v40
  let c0_19 : Index := 0#32
  ![v41.toNat, 0]
def k0_off2 (i : grid0.Coords) (k0_t1 : Fin (k0_t1_loop i).trips) : Fin 3 → Nat :=
  let arg1 : BitVec 32 := BitVec.ofNat 32 (i 1).val
  let c0_i32_2 : BitVec 32 := 0#32
  let c1_i32_4 : BitVec 32 := 1#32
  let arg12 : BitVec 32 := Scf.iv c0_i32_2 c1_i32_4 k0_t1
  let v44 : BitVec 32 := Scalar.subi arg1 arg12
  let v45 : Index := Scalar.indexCast v44
  let c0_21 : Index := 0#32
  let c0_22 : Index := 0#32
  ![v45.toNat, 0, 0]
@[reducible] def k0_t2_loop (i : grid0.Coords) : Scf.Loop 32 :=
  let c0_i32_2 : BitVec 32 := 0#32
  let arg1 : BitVec 32 := BitVec.ofNat 32 (i 1).val
  let c1_i32 : BitVec 32 := 1#32
  let v5 : BitVec 32 := Scalar.addi arg1 c1_i32
  let v7 : BitVec 32 := Scalar.subi v5 c0_i32_2
  let c1_i32_3 : BitVec 32 := 1#32
  let v9 : BitVec 32 := Scalar.divsi v7 c1_i32_3
  let v10 : BitVec 32 := Scalar.muli v9 c1_i32_3
  let v11 : BitVec 32 := Scalar.addi c0_i32_2 v10
  let v8 : BitVec 32 := Scalar.addi c0_i32_2 v7
  let c1_i32_5 : BitVec 32 := 1#32
  ⟨v11, v8, c1_i32_5⟩
def k0_mult2 (i : grid0.Coords) (k0_t2 : Fin (k0_t2_loop i).trips) : BitVec 32 :=
  let c0_i32_2 : BitVec 32 := 0#32
  let arg1 : BitVec 32 := BitVec.ofNat 32 (i 1).val
  let c1_i32 : BitVec 32 := 1#32
  let v5 : BitVec 32 := Scalar.addi arg1 c1_i32
  let v7 : BitVec 32 := Scalar.subi v5 c0_i32_2
  let c1_i32_3 : BitVec 32 := 1#32
  let v9 : BitVec 32 := Scalar.divsi v7 c1_i32_3
  let v10 : BitVec 32 := Scalar.muli v9 c1_i32_3
  let v11 : BitVec 32 := Scalar.addi c0_i32_2 v10
  let c1_i32_5 : BitVec 32 := 1#32
  let arg12 : BitVec 32 := Scf.iv v11 c1_i32_5 k0_t2
  let c512_i32 : BitVec 32 := 512#32
  let v39 : BitVec 32 := Scalar.muli arg12 c512_i32
  v39
def k0_off3 (i : grid0.Coords) (k0_t2 : Fin (k0_t2_loop i).trips) : Fin 2 → Nat :=
  let c0_i32_2 : BitVec 32 := 0#32
  let arg1 : BitVec 32 := BitVec.ofNat 32 (i 1).val
  let c1_i32 : BitVec 32 := 1#32
  let v5 : BitVec 32 := Scalar.addi arg1 c1_i32
  let v7 : BitVec 32 := Scalar.subi v5 c0_i32_2
  let c1_i32_3 : BitVec 32 := 1#32
  let v9 : BitVec 32 := Scalar.divsi v7 c1_i32_3
  let v10 : BitVec 32 := Scalar.muli v9 c1_i32_3
  let v11 : BitVec 32 := Scalar.addi c0_i32_2 v10
  let c1_i32_5 : BitVec 32 := 1#32
  let arg12 : BitVec 32 := Scf.iv v11 c1_i32_5 k0_t2
  let c512_i32 : BitVec 32 := 512#32
  let v39 : BitVec 32 := Scalar.muli arg12 c512_i32
  let v40 : BitVec 32 := v39
  let v41 : Index := Scalar.indexCast v40
  let c0_19 : Index := 0#32
  ![v41.toNat, 0]
def k0_off4 (i : grid0.Coords) (k0_t2 : Fin (k0_t2_loop i).trips) : Fin 3 → Nat :=
  let arg1 : BitVec 32 := BitVec.ofNat 32 (i 1).val
  let c0_i32_2 : BitVec 32 := 0#32
  let c1_i32 : BitVec 32 := 1#32
  let v5 : BitVec 32 := Scalar.addi arg1 c1_i32
  let v7 : BitVec 32 := Scalar.subi v5 c0_i32_2
  let c1_i32_3 : BitVec 32 := 1#32
  let v9 : BitVec 32 := Scalar.divsi v7 c1_i32_3
  let v10 : BitVec 32 := Scalar.muli v9 c1_i32_3
  let v11 : BitVec 32 := Scalar.addi c0_i32_2 v10
  let c1_i32_5 : BitVec 32 := 1#32
  let arg12 : BitVec 32 := Scf.iv v11 c1_i32_5 k0_t2
  let v44 : BitVec 32 := Scalar.subi arg1 arg12
  let v45 : Index := Scalar.indexCast v44
  let c0_21 : Index := 0#32
  let c0_22 : Index := 0#32
  ![v45.toNat, 0, 0]
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![4], ![false]⟩

@[reducible] def k1_t1_loop : Scf.Loop 32 :=
  let c0_i32_60 : BitVec 32 := 0#32
  let c4_i32 : BitVec 32 := 4#32
  let v137 : BitVec 32 := Scalar.addi c0_i32_60 c4_i32
  let c1_i32_61 : BitVec 32 := 1#32
  ⟨c0_i32_60, v137, c1_i32_61⟩
def k1_mult1 (k1_t1 : Fin k1_t1_loop.trips) : BitVec 32 :=
  let c0_i32_60 : BitVec 32 := 0#32
  let c1_i32_61 : BitVec 32 := 1#32
  let arg15 : BitVec 32 := Scf.iv c0_i32_60 c1_i32_61 k1_t1
  let c512_i32_68 : BitVec 32 := 512#32
  let v143 : BitVec 32 := Scalar.muli arg15 c512_i32_68
  v143
def k1_off1 (k1_t1 : Fin k1_t1_loop.trips) : Fin 2 → Nat :=
  let c0_i32_60 : BitVec 32 := 0#32
  let c1_i32_61 : BitVec 32 := 1#32
  let arg15 : BitVec 32 := Scf.iv c0_i32_60 c1_i32_61 k1_t1
  let c512_i32_68 : BitVec 32 := 512#32
  let v143 : BitVec 32 := Scalar.muli arg15 c512_i32_68
  let v144 : BitVec 32 := v143
  let v145 : Index := Scalar.indexCast v144
  let c0_69 : Index := 0#32
  ![v145.toNat, 0]
@[reducible] def k1_t2_loop (k1_t1 : Fin k1_t1_loop.trips) : Scf.Loop 32 :=
  let c0_i32_60 : BitVec 32 := 0#32
  let c1_i32_61 : BitVec 32 := 1#32
  let arg15 : BitVec 32 := Scf.iv c0_i32_60 c1_i32_61 k1_t1
  let c4_i32_72 : BitVec 32 := 4#32
  let v150 : BitVec 32 := Scalar.subi c4_i32_72 arg15
  let c1_i32_73 : BitVec 32 := 1#32
  let v152 : BitVec 32 := Scalar.divsi v150 c1_i32_73
  let v153 : BitVec 32 := Scalar.muli v152 c1_i32_73
  let v154 : BitVec 32 := Scalar.addi arg15 v153
  let c1_i32_74 : BitVec 32 := 1#32
  ⟨arg15, v154, c1_i32_74⟩
def k1_mult2 (k1_t1 : Fin k1_t1_loop.trips) (k1_t2 : Fin (k1_t2_loop k1_t1).trips) : BitVec 32 :=
  let c0_i32_60 : BitVec 32 := 0#32
  let c1_i32_61 : BitVec 32 := 1#32
  let arg15 : BitVec 32 := Scf.iv c0_i32_60 c1_i32_61 k1_t1
  let c1_i32_74 : BitVec 32 := 1#32
  let arg16 : BitVec 32 := Scf.iv arg15 c1_i32_74 k1_t2
  let c512_i32_80 : BitVec 32 := 512#32
  let v167 : BitVec 32 := Scalar.muli arg16 c512_i32_80
  v167
def k1_off2 (k1_t1 : Fin k1_t1_loop.trips) (k1_t2 : Fin (k1_t2_loop k1_t1).trips) : Fin 2 → Nat :=
  let c0_i32_60 : BitVec 32 := 0#32
  let c1_i32_61 : BitVec 32 := 1#32
  let arg15 : BitVec 32 := Scf.iv c0_i32_60 c1_i32_61 k1_t1
  let c1_i32_74 : BitVec 32 := 1#32
  let arg16 : BitVec 32 := Scf.iv arg15 c1_i32_74 k1_t2
  let c512_i32_80 : BitVec 32 := 512#32
  let v167 : BitVec 32 := Scalar.muli arg16 c512_i32_80
  let v168 : BitVec 32 := v167
  let v169 : Index := Scalar.indexCast v168
  let c0_81 : Index := 0#32
  ![v169.toNat, 0]
def k1_off3 (k1_t1 : Fin k1_t1_loop.trips) (k1_t2 : Fin (k1_t2_loop k1_t1).trips) : Fin 3 → Nat :=
  let c0_i32_60 : BitVec 32 := 0#32
  let c1_i32_61 : BitVec 32 := 1#32
  let arg15 : BitVec 32 := Scf.iv c0_i32_60 c1_i32_61 k1_t1
  let c1_i32_74 : BitVec 32 := 1#32
  let arg16 : BitVec 32 := Scf.iv arg15 c1_i32_74 k1_t2
  let v173 : BitVec 32 := Scalar.subi arg16 arg15
  let v174 : Index := Scalar.indexCast v173
  let c0_83 : Index := 0#32
  let c0_84 : Index := 0#32
  ![v174.toNat, 0, 0]
@[reducible] def k1_t3_loop (k1_t1 : Fin k1_t1_loop.trips) : Scf.Loop 32 :=
  let c0_i32_60 : BitVec 32 := 0#32
  let c1_i32_61 : BitVec 32 := 1#32
  let arg15 : BitVec 32 := Scf.iv c0_i32_60 c1_i32_61 k1_t1
  let c4_i32_72 : BitVec 32 := 4#32
  let v150 : BitVec 32 := Scalar.subi c4_i32_72 arg15
  let c1_i32_73 : BitVec 32 := 1#32
  let v152 : BitVec 32 := Scalar.divsi v150 c1_i32_73
  let v153 : BitVec 32 := Scalar.muli v152 c1_i32_73
  let v154 : BitVec 32 := Scalar.addi arg15 v153
  let v151 : BitVec 32 := Scalar.addi arg15 v150
  let c1_i32_75 : BitVec 32 := 1#32
  ⟨v154, v151, c1_i32_75⟩
def k1_mult3 (k1_t1 : Fin k1_t1_loop.trips) (k1_t3 : Fin (k1_t3_loop k1_t1).trips) : BitVec 32 :=
  let c0_i32_60 : BitVec 32 := 0#32
  let c1_i32_61 : BitVec 32 := 1#32
  let arg15 : BitVec 32 := Scf.iv c0_i32_60 c1_i32_61 k1_t1
  let c4_i32_72 : BitVec 32 := 4#32
  let v150 : BitVec 32 := Scalar.subi c4_i32_72 arg15
  let c1_i32_73 : BitVec 32 := 1#32
  let v152 : BitVec 32 := Scalar.divsi v150 c1_i32_73
  let v153 : BitVec 32 := Scalar.muli v152 c1_i32_73
  let v154 : BitVec 32 := Scalar.addi arg15 v153
  let c1_i32_75 : BitVec 32 := 1#32
  let arg16 : BitVec 32 := Scf.iv v154 c1_i32_75 k1_t3
  let c512_i32_80 : BitVec 32 := 512#32
  let v167 : BitVec 32 := Scalar.muli arg16 c512_i32_80
  v167
def k1_off4 (k1_t1 : Fin k1_t1_loop.trips) (k1_t3 : Fin (k1_t3_loop k1_t1).trips) : Fin 2 → Nat :=
  let c0_i32_60 : BitVec 32 := 0#32
  let c1_i32_61 : BitVec 32 := 1#32
  let arg15 : BitVec 32 := Scf.iv c0_i32_60 c1_i32_61 k1_t1
  let c4_i32_72 : BitVec 32 := 4#32
  let v150 : BitVec 32 := Scalar.subi c4_i32_72 arg15
  let c1_i32_73 : BitVec 32 := 1#32
  let v152 : BitVec 32 := Scalar.divsi v150 c1_i32_73
  let v153 : BitVec 32 := Scalar.muli v152 c1_i32_73
  let v154 : BitVec 32 := Scalar.addi arg15 v153
  let c1_i32_75 : BitVec 32 := 1#32
  let arg16 : BitVec 32 := Scf.iv v154 c1_i32_75 k1_t3
  let c512_i32_80 : BitVec 32 := 512#32
  let v167 : BitVec 32 := Scalar.muli arg16 c512_i32_80
  let v168 : BitVec 32 := v167
  let v169 : Index := Scalar.indexCast v168
  let c0_81 : Index := 0#32
  ![v169.toNat, 0]
def k1_off5 (k1_t1 : Fin k1_t1_loop.trips) (k1_t3 : Fin (k1_t3_loop k1_t1).trips) : Fin 3 → Nat :=
  let c0_i32_60 : BitVec 32 := 0#32
  let c1_i32_61 : BitVec 32 := 1#32
  let arg15 : BitVec 32 := Scf.iv c0_i32_60 c1_i32_61 k1_t1
  let c4_i32_72 : BitVec 32 := 4#32
  let v150 : BitVec 32 := Scalar.subi c4_i32_72 arg15
  let c1_i32_73 : BitVec 32 := 1#32
  let v152 : BitVec 32 := Scalar.divsi v150 c1_i32_73
  let v153 : BitVec 32 := Scalar.muli v152 c1_i32_73
  let v154 : BitVec 32 := Scalar.addi arg15 v153
  let c1_i32_75 : BitVec 32 := 1#32
  let arg16 : BitVec 32 := Scf.iv v154 c1_i32_75 k1_t3
  let v173 : BitVec 32 := Scalar.subi arg16 arg15
  let v174 : Index := Scalar.indexCast v173
  let c0_83 : Index := 0#32
  let c0_84 : Index := 0#32
  ![v174.toNat, 0, 0]
def k1_off6 (k1_t1 : Fin k1_t1_loop.trips) : Fin 3 → Nat :=
  let c1_76 : Index := 1#32
  let c0_i32_60 : BitVec 32 := 0#32
  let c1_i32_61 : BitVec 32 := 1#32
  let arg15 : BitVec 32 := Scf.iv c0_i32_60 c1_i32_61 k1_t1
  let c512_i32_68 : BitVec 32 := 512#32
  let v143 : BitVec 32 := Scalar.muli arg15 c512_i32_68
  let v144 : BitVec 32 := v143
  let v158 : Index := Scalar.indexCast v144
  let c0_77 : Index := 0#32
  ![1, v158.toNat, 0]
def k1_off7 (k1_t1 : Fin k1_t1_loop.trips) : Fin 3 → Nat :=
  let c2_78 : Index := 2#32
  let c0_i32_60 : BitVec 32 := 0#32
  let c1_i32_61 : BitVec 32 := 1#32
  let arg15 : BitVec 32 := Scf.iv c0_i32_60 c1_i32_61 k1_t1
  let c512_i32_68 : BitVec 32 := 512#32
  let v143 : BitVec 32 := Scalar.muli arg15 c512_i32_68
  let v144 : BitVec 32 := v143
  let v163 : Index := Scalar.indexCast v144
  let c0_79 : Index := 0#32
  ![2, v163.toNat, 0]
def cc1_transform_0 (i : grid1.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_5 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_7 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4x2048x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "log_gamma0" => some ((Real.log (31 / 32) : ℝ) : EReal)
  | "log_gamma1" => some ((Real.log (63 / 64) : ℝ) : EReal)
  | "log_gamma2" => some ((Real.log (127 / 128) : ℝ) : EReal)
  | "log_gamma3" => some ((Real.log (255 / 256) : ℝ) : EReal)
  | _ => none
-- ==== ReferenceIdeal.lean ====
abbrev S2048x7168 : Shape := ⟨2, ![2048, 7168]⟩
abbrev S2048x2048 : Shape := ⟨2, ![2048, 2048]⟩
abbrev S2x2048x1024 : Shape := ⟨3, ![2, 2048, 1024]⟩
abbrev S8x2048x1024 : Shape := ⟨3, ![8, 2048, 1024]⟩
abbrev S2048x1024 : Shape := ⟨2, ![2048, 1024]⟩
abbrev S1x2048x1024 : Shape := ⟨3, ![1, 2048, 1024]⟩
abbrev S1x2048x4x256 : Shape := ⟨4, ![1, 2048, 4, 256]⟩
abbrev S1x4x2048x256 : Shape := ⟨4, ![1, 4, 2048, 256]⟩
abbrev S4 : Shape := ⟨1, ![4]⟩
abbrev S_ : Shape := ⟨0, ![]⟩
abbrev S1x4x16x128x256 : Shape := ⟨5, ![1, 4, 16, 128, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4x16x128x128 : Shape := ⟨5, ![1, 4, 16, 128, 128]⟩
abbrev S1x4x1x128x128 : Shape := ⟨5, ![1, 4, 1, 128, 128]⟩
abbrev S4x1 : Shape := ⟨2, ![4, 1]⟩
abbrev S4x128 : Shape := ⟨2, ![4, 128]⟩
abbrev S1x4x1x128x1 : Shape := ⟨5, ![1, 4, 1, 128, 1]⟩
abbrev S1x4x16x256x256 : Shape := ⟨5, ![1, 4, 16, 256, 256]⟩
abbrev S1x4x1x1 : Shape := ⟨4, ![1, 4, 1, 1]⟩
abbrev S1x4x256x256 : Shape := ⟨4, ![1, 4, 256, 256]⟩
abbrev S16x1x4x256x256 : Shape := ⟨5, ![16, 1, 4, 256, 256]⟩
abbrev S0x1x4x256x256 : Shape := ⟨5, ![0, 1, 4, 256, 256]⟩
abbrev S1x1x4x256x256 : Shape := ⟨5, ![1, 1, 4, 256, 256]⟩
abbrev S1x4x2048 : Shape := ⟨3, ![1, 4, 2048]⟩
abbrev S1x4x2048x1 : Shape := ⟨4, ![1, 4, 2048, 1]⟩
abbrev S4x2048 : Shape := ⟨2, ![4, 2048]⟩
abbrev S1x4x16x256x128 : Shape := ⟨5, ![1, 4, 16, 256, 128]⟩
abbrev S4x2048x1024 : Shape := ⟨3, ![4, 2048, 1024]⟩

abbrev nBuf : Space → Nat
  | .hbm => 414
  | .vmem => 0
  | .smem => 0
  | _ => 0

abbrev hbmTy0_0 (i : Nat) : BufTy := match i % 128 with
  | 0 => ⟨S2048x7168, .f32⟩
  | 1 => ⟨S2048x2048, .f32⟩
  | 2 => ⟨S2x2048x1024, .bf16⟩
  | 3 => ⟨S8x2048x1024, .bf16⟩
  | 4 => ⟨S2048x1024, .f32⟩
  | 5 => ⟨S1x2048x1024, .f32⟩
  | 6 => ⟨S2048x1024, .f32⟩
  | 7 => ⟨S1x2048x1024, .f32⟩
  | 8 => ⟨S2048x1024, .f32⟩
  | 9 => ⟨S1x2048x1024, .f32⟩
  | 10 => ⟨S2048x1024, .f32⟩
  | 11 => ⟨S1x2048x1024, .f32⟩
  | 12 => ⟨S1x2048x4x256, .f32⟩
  | 13 => ⟨S1x4x2048x256, .f32⟩
  | 14 => ⟨S1x2048x4x256, .f32⟩
  | 15 => ⟨S1x4x2048x256, .f32⟩
  | 16 => ⟨S1x2048x4x256, .f32⟩
  | 17 => ⟨S1x4x2048x256, .f32⟩
  | 18 => ⟨S4, .f32⟩
  | 19 => ⟨S_, .f32⟩
  | 20 => ⟨S4, .f32⟩
  | 21 => ⟨S4, .f32⟩
  | 22 => ⟨S_, .f32⟩
  | 23 => ⟨S4, .f32⟩
  | 24 => ⟨S4, .f32⟩
  | 25 => ⟨S_, .f32⟩
  | 26 => ⟨S4, .f32⟩
  | 27 => ⟨S4, .f32⟩
  | 28 => ⟨S4, .f32⟩
  | 29 => ⟨S_, .f32⟩
  | 30 => ⟨S1x4x2048x256, .f32⟩
  | 31 => ⟨S1x4x2048x256, .f32⟩
  | 32 => ⟨S1x4x16x128x256, .f32⟩
  | 33 => ⟨S1x4x16x128x256, .f32⟩
  | 34 => ⟨S1x4x16x128x256, .f32⟩
  | 35 => ⟨S128, .f32⟩
  | 36 => ⟨S128x1, .f32⟩
  | 37 => ⟨S1x128, .f32⟩
  | 38 => ⟨S128x128, .f32⟩
  | 39 => ⟨S128x128, .f32⟩
  | 40 => ⟨S128x128, .f32⟩
  | 41 => ⟨S_, .f32⟩
  | 42 => ⟨S128x128, .f32⟩
  | 43 => ⟨S128x128, .i1⟩
  | 44 => ⟨S4x1x1, .f32⟩
  | 45 => ⟨S_, .f32⟩
  | 46 => ⟨S128x128, .f32⟩
  | 47 => ⟨S128x128, .f32⟩
  | 48 => ⟨S1x128x128, .f32⟩
  | 49 => ⟨S4x128x128, .f32⟩
  | 50 => ⟨S4x128x128, .f32⟩
  | 51 => ⟨S4x128x128, .f32⟩
  | 52 => ⟨S4x128x128, .f32⟩
  | 53 => ⟨S_, .f32⟩
  | 54 => ⟨S_, .f32⟩
  | 55 => ⟨S4x128x128, .i1⟩
  | 56 => ⟨S4x128x128, .f32⟩
  | 57 => ⟨S4x128x128, .f32⟩
  | 58 => ⟨S1x4x16x128x128, .f32⟩
  | 59 => ⟨S1x4x1x128x128, .f32⟩
  | 60 => ⟨S1x4x16x128x128, .f32⟩
  | 61 => ⟨S1x4x16x128x128, .f32⟩
  | 62 => ⟨S1x4x16x128x256, .f32⟩
  | 63 => ⟨S4x1, .f32⟩
  | 64 => ⟨S_, .f32⟩
  | 65 => ⟨S128, .f32⟩
  | 66 => ⟨S128, .f32⟩
  | 67 => ⟨S1x128, .f32⟩
  | 68 => ⟨S4x128, .f32⟩
  | 69 => ⟨S4x128, .f32⟩
  | 70 => ⟨S4x128, .f32⟩
  | 71 => ⟨S4x128, .f32⟩
  | 72 => ⟨S1x4x1x128x1, .f32⟩
  | 73 => ⟨S1x4x16x128x256, .f32⟩
  | 74 => ⟨S1x4x16x128x256, .f32⟩
  | 75 => ⟨S1x4x16x256x256, .f32⟩
  | 76 => ⟨S_, .f32⟩
  | 77 => ⟨S4, .f32⟩
  | 78 => ⟨S4, .f32⟩
  | 79 => ⟨S4, .f32⟩
  | 80 => ⟨S1x4x1x1, .f32⟩
  | 81 => ⟨S_, .f32⟩
  | 82 => ⟨S1x4x256x256, .f32⟩
  | 83 => ⟨S16x1x4x256x256, .f32⟩
  | 84 => ⟨S0x1x4x256x256, .f32⟩
  | 85 => ⟨S16x1x4x256x256, .f32⟩
  | 86 => ⟨S_, .f32⟩
  | 87 => ⟨S0x1x4x256x256, .f32⟩
  | 88 => ⟨S1x1x4x256x256, .f32⟩
  | 89 => ⟨S1x4x256x256, .f32⟩
  | 90 => ⟨S1x4x256x256, .f32⟩
  | 91 => ⟨S1x4x256x256, .f32⟩
  | 92 => ⟨S1x4x256x256, .f32⟩
  | 93 => ⟨S1x1x4x256x256, .f32⟩
  | 94 => ⟨S1x4x256x256, .f32⟩
  | 95 => ⟨S1x4x256x256, .f32⟩
  | 96 => ⟨S1x4x256x256, .f32⟩
  | 97 => ⟨S1x4x256x256, .f32⟩
  | 98 => ⟨S1x1x4x256x256, .f32⟩
  | 99 => ⟨S1x4x256x256, .f32⟩
  | 100 => ⟨S1x4x256x256, .f32⟩
  | 101 => ⟨S1x4x256x256, .f32⟩
  | 102 => ⟨S1x4x256x256, .f32⟩
  | 103 => ⟨S1x1x4x256x256, .f32⟩
  | 104 => ⟨S1x4x256x256, .f32⟩
  | 105 => ⟨S1x4x256x256, .f32⟩
  | 106 => ⟨S1x4x256x256, .f32⟩
  | 107 => ⟨S1x4x256x256, .f32⟩
  | 108 => ⟨S1x1x4x256x256, .f32⟩
  | 109 => ⟨S1x4x256x256, .f32⟩
  | 110 => ⟨S1x4x256x256, .f32⟩
  | 111 => ⟨S1x4x256x256, .f32⟩
  | 112 => ⟨S1x4x256x256, .f32⟩
  | 113 => ⟨S1x1x4x256x256, .f32⟩
  | 114 => ⟨S1x4x256x256, .f32⟩
  | 115 => ⟨S1x4x256x256, .f32⟩
  | 116 => ⟨S1x4x256x256, .f32⟩
  | 117 => ⟨S1x4x256x256, .f32⟩
  | 118 => ⟨S1x1x4x256x256, .f32⟩
  | 119 => ⟨S1x4x256x256, .f32⟩
  | 120 => ⟨S1x4x256x256, .f32⟩
  | 121 => ⟨S1x4x256x256, .f32⟩
  | 122 => ⟨S1x4x256x256, .f32⟩
  | 123 => ⟨S1x1x4x256x256, .f32⟩
  | 124 => ⟨S1x4x256x256, .f32⟩
  | 125 => ⟨S1x4x256x256, .f32⟩
  | 126 => ⟨S1x4x256x256, .f32⟩
  | 127 => ⟨S1x4x256x256, .f32⟩
  | _ => ⟨S2048x7168, .f32⟩

abbrev hbmTy0_1 (i : Nat) : BufTy := match i % 128 with
  | 0 => ⟨S1x1x4x256x256, .f32⟩
  | 1 => ⟨S1x4x256x256, .f32⟩
  | 2 => ⟨S1x4x256x256, .f32⟩
  | 3 => ⟨S1x4x256x256, .f32⟩
  | 4 => ⟨S1x4x256x256, .f32⟩
  | 5 => ⟨S1x1x4x256x256, .f32⟩
  | 6 => ⟨S1x4x256x256, .f32⟩
  | 7 => ⟨S1x4x256x256, .f32⟩
  | 8 => ⟨S1x4x256x256, .f32⟩
  | 9 => ⟨S1x4x256x256, .f32⟩
  | 10 => ⟨S1x1x4x256x256, .f32⟩
  | 11 => ⟨S1x4x256x256, .f32⟩
  | 12 => ⟨S1x4x256x256, .f32⟩
  | 13 => ⟨S1x4x256x256, .f32⟩
  | 14 => ⟨S1x4x256x256, .f32⟩
  | 15 => ⟨S1x1x4x256x256, .f32⟩
  | 16 => ⟨S1x4x256x256, .f32⟩
  | 17 => ⟨S1x4x256x256, .f32⟩
  | 18 => ⟨S1x4x256x256, .f32⟩
  | 19 => ⟨S1x4x256x256, .f32⟩
  | 20 => ⟨S1x1x4x256x256, .f32⟩
  | 21 => ⟨S1x4x256x256, .f32⟩
  | 22 => ⟨S1x4x256x256, .f32⟩
  | 23 => ⟨S1x4x256x256, .f32⟩
  | 24 => ⟨S1x4x256x256, .f32⟩
  | 25 => ⟨S1x1x4x256x256, .f32⟩
  | 26 => ⟨S1x4x256x256, .f32⟩
  | 27 => ⟨S1x4x256x256, .f32⟩
  | 28 => ⟨S1x4x256x256, .f32⟩
  | 29 => ⟨S1x4x256x256, .f32⟩
  | 30 => ⟨S1x1x4x256x256, .f32⟩
  | 31 => ⟨S1x4x256x256, .f32⟩
  | 32 => ⟨S1x4x256x256, .f32⟩
  | 33 => ⟨S1x4x256x256, .f32⟩
  | 34 => ⟨S1x4x256x256, .f32⟩
  | 35 => ⟨S1x1x4x256x256, .f32⟩
  | 36 => ⟨S1x4x256x256, .f32⟩
  | 37 => ⟨S1x4x256x256, .f32⟩
  | 38 => ⟨S1x4x256x256, .f32⟩
  | 39 => ⟨S1x4x256x256, .f32⟩
  | 40 => ⟨S1x1x4x256x256, .f32⟩
  | 41 => ⟨S1x1x4x256x256, .f32⟩
  | 42 => ⟨S1x1x4x256x256, .f32⟩
  | 43 => ⟨S1x1x4x256x256, .f32⟩
  | 44 => ⟨S1x1x4x256x256, .f32⟩
  | 45 => ⟨S1x1x4x256x256, .f32⟩
  | 46 => ⟨S1x1x4x256x256, .f32⟩
  | 47 => ⟨S1x1x4x256x256, .f32⟩
  | 48 => ⟨S1x1x4x256x256, .f32⟩
  | 49 => ⟨S1x1x4x256x256, .f32⟩
  | 50 => ⟨S1x1x4x256x256, .f32⟩
  | 51 => ⟨S1x1x4x256x256, .f32⟩
  | 52 => ⟨S1x1x4x256x256, .f32⟩
  | 53 => ⟨S1x1x4x256x256, .f32⟩
  | 54 => ⟨S1x1x4x256x256, .f32⟩
  | 55 => ⟨S1x1x4x256x256, .f32⟩
  | 56 => ⟨S16x1x4x256x256, .f32⟩
  | 57 => ⟨S16x1x4x256x256, .f32⟩
  | 58 => ⟨S1x4x16x256x256, .f32⟩
  | 59 => ⟨S4x1, .f32⟩
  | 60 => ⟨S_, .f32⟩
  | 61 => ⟨S128, .f32⟩
  | 62 => ⟨S128, .f32⟩
  | 63 => ⟨S1x128, .f32⟩
  | 64 => ⟨S4x128, .f32⟩
  | 65 => ⟨S4x128, .f32⟩
  | 66 => ⟨S4x128, .f32⟩
  | 67 => ⟨S4x128, .f32⟩
  | 68 => ⟨S1x4x16x128x256, .f32⟩
  | 69 => ⟨S1x4x1x128x1, .f32⟩
  | 70 => ⟨S1x4x16x128x256, .f32⟩
  | 71 => ⟨S1x4x16x128x256, .f32⟩
  | 72 => ⟨S1x4x16x128x256, .f32⟩
  | 73 => ⟨S1x4x2048x256, .f32⟩
  | 74 => ⟨S1x4x2048x256, .f32⟩
  | 75 => ⟨S_, .f32⟩
  | 76 => ⟨S1x4x2048, .f32⟩
  | 77 => ⟨S1x4x2048x1, .f32⟩
  | 78 => ⟨S_, .f32⟩
  | 79 => ⟨S1x4x2048x1, .f32⟩
  | 80 => ⟨S1x4x2048x1, .f32⟩
  | 81 => ⟨S_, .f32⟩
  | 82 => ⟨S1x4x2048x1, .f32⟩
  | 83 => ⟨S1x4x2048x1, .f32⟩
  | 84 => ⟨S1x4x2048x1, .f32⟩
  | 85 => ⟨S1x4x2048x1, .f32⟩
  | 86 => ⟨S_, .f32⟩
  | 87 => ⟨S1x4x2048x1, .f32⟩
  | 88 => ⟨S1x4x2048x1, .f32⟩
  | 89 => ⟨S1x4x2048x256, .f32⟩
  | 90 => ⟨S1x4x2048x256, .f32⟩
  | 91 => ⟨S1x2048x1024, .f32⟩
  | 92 => ⟨S1x2048x1024, .f32⟩
  | 93 => ⟨S_, .f32⟩
  | 94 => ⟨S1x2048x1024, .f32⟩
  | 95 => ⟨S1x2048x1024, .f32⟩
  | 96 => ⟨S_, .f32⟩
  | 97 => ⟨S1x2048x1024, .f32⟩
  | 98 => ⟨S1x2048x1024, .f32⟩
  | 99 => ⟨S_, .f32⟩
  | 100 => ⟨S1x2048x1024, .f32⟩
  | 101 => ⟨S1x2048x1024, .f32⟩
  | 102 => ⟨S1x2048x1024, .f32⟩
  | 103 => ⟨S1x2048x1024, .f32⟩
  | 104 => ⟨S1x2048x4x256, .f32⟩
  | 105 => ⟨S1x2048x1024, .f32⟩
  | 106 => ⟨S1x2048x1024, .f32⟩
  | 107 => ⟨S2048x1024, .f32⟩
  | 108 => ⟨S1x2048x1024, .f32⟩
  | 109 => ⟨S_, .f32⟩
  | 110 => ⟨S1x4x256x256, .f32⟩
  | 111 => ⟨S1x2048x1024, .f32⟩
  | 112 => ⟨S1x2048x1024, .f32⟩
  | 113 => ⟨S1x2048x4x256, .f32⟩
  | 114 => ⟨S1x4x2048x256, .f32⟩
  | 115 => ⟨S1x2048x1024, .f32⟩
  | 116 => ⟨S1x2048x1024, .f32⟩
  | 117 => ⟨S1x2048x1024, .f32⟩
  | 118 => ⟨S1x2048x1024, .f32⟩
  | 119 => ⟨S1x4x2048x256, .f32⟩
  | 120 => ⟨S_, .f32⟩
  | 121 => ⟨S1x4x2048, .f32⟩
  | 122 => ⟨S1x4x2048x1, .f32⟩
  | 123 => ⟨S1x4x2048x256, .f32⟩
  | 124 => ⟨S1x4x2048x256, .f32⟩
  | 125 => ⟨S1x4x2048x1, .f32⟩
  | 126 => ⟨S_, .f32⟩
  | 127 => ⟨S1x4x2048x1, .f32⟩
  | _ => ⟨S2048x7168, .f32⟩

abbrev hbmTy0_2 (i : Nat) : BufTy := match i % 128 with
  | 0 => ⟨S1x4x2048x1, .f32⟩
  | 1 => ⟨S_, .f32⟩
  | 2 => ⟨S4x2048, .f32⟩
  | 3 => ⟨S1x4x2048, .f32⟩
  | 4 => ⟨S1x4x2048x256, .f32⟩
  | 5 => ⟨S1x4x2048x256, .f32⟩
  | 6 => ⟨S1x4x2048x256, .f32⟩
  | 7 => ⟨S1x4x2048x256, .f32⟩
  | 8 => ⟨S1x4x2048x256, .f32⟩
  | 9 => ⟨S1x4x16x128x256, .f32⟩
  | 10 => ⟨S1x4x16x128x256, .f32⟩
  | 11 => ⟨S1x4x16x128x256, .f32⟩
  | 12 => ⟨S1x4x16x256x256, .f32⟩
  | 13 => ⟨S1x4x16x256x256, .f32⟩
  | 14 => ⟨S1x4x16x128x256, .f32⟩
  | 15 => ⟨S16x1x4x256x256, .f32⟩
  | 16 => ⟨S_, .f32⟩
  | 17 => ⟨S1x4x256x256, .f32⟩
  | 18 => ⟨S16x1x4x256x256, .f32⟩
  | 19 => ⟨S0x1x4x256x256, .f32⟩
  | 20 => ⟨S_, .f32⟩
  | 21 => ⟨S0x1x4x256x256, .f32⟩
  | 22 => ⟨S1x1x4x256x256, .f32⟩
  | 23 => ⟨S1x4x256x256, .f32⟩
  | 24 => ⟨S1x4x256x256, .f32⟩
  | 25 => ⟨S1x4x256x256, .f32⟩
  | 26 => ⟨S1x4x256x256, .f32⟩
  | 27 => ⟨S1x1x4x256x256, .f32⟩
  | 28 => ⟨S1x4x256x256, .f32⟩
  | 29 => ⟨S1x4x256x256, .f32⟩
  | 30 => ⟨S1x4x256x256, .f32⟩
  | 31 => ⟨S1x4x256x256, .f32⟩
  | 32 => ⟨S1x1x4x256x256, .f32⟩
  | 33 => ⟨S1x4x256x256, .f32⟩
  | 34 => ⟨S1x4x256x256, .f32⟩
  | 35 => ⟨S1x4x256x256, .f32⟩
  | 36 => ⟨S1x4x256x256, .f32⟩
  | 37 => ⟨S1x1x4x256x256, .f32⟩
  | 38 => ⟨S1x4x256x256, .f32⟩
  | 39 => ⟨S1x4x256x256, .f32⟩
  | 40 => ⟨S1x4x256x256, .f32⟩
  | 41 => ⟨S1x4x256x256, .f32⟩
  | 42 => ⟨S1x1x4x256x256, .f32⟩
  | 43 => ⟨S1x4x256x256, .f32⟩
  | 44 => ⟨S1x4x256x256, .f32⟩
  | 45 => ⟨S1x4x256x256, .f32⟩
  | 46 => ⟨S1x4x256x256, .f32⟩
  | 47 => ⟨S1x1x4x256x256, .f32⟩
  | 48 => ⟨S1x4x256x256, .f32⟩
  | 49 => ⟨S1x4x256x256, .f32⟩
  | 50 => ⟨S1x4x256x256, .f32⟩
  | 51 => ⟨S1x4x256x256, .f32⟩
  | 52 => ⟨S1x1x4x256x256, .f32⟩
  | 53 => ⟨S1x4x256x256, .f32⟩
  | 54 => ⟨S1x4x256x256, .f32⟩
  | 55 => ⟨S1x4x256x256, .f32⟩
  | 56 => ⟨S1x4x256x256, .f32⟩
  | 57 => ⟨S1x1x4x256x256, .f32⟩
  | 58 => ⟨S1x4x256x256, .f32⟩
  | 59 => ⟨S1x4x256x256, .f32⟩
  | 60 => ⟨S1x4x256x256, .f32⟩
  | 61 => ⟨S1x4x256x256, .f32⟩
  | 62 => ⟨S1x1x4x256x256, .f32⟩
  | 63 => ⟨S1x4x256x256, .f32⟩
  | 64 => ⟨S1x4x256x256, .f32⟩
  | 65 => ⟨S1x4x256x256, .f32⟩
  | 66 => ⟨S1x4x256x256, .f32⟩
  | 67 => ⟨S1x1x4x256x256, .f32⟩
  | 68 => ⟨S1x4x256x256, .f32⟩
  | 69 => ⟨S1x4x256x256, .f32⟩
  | 70 => ⟨S1x4x256x256, .f32⟩
  | 71 => ⟨S1x4x256x256, .f32⟩
  | 72 => ⟨S1x1x4x256x256, .f32⟩
  | 73 => ⟨S1x4x256x256, .f32⟩
  | 74 => ⟨S1x4x256x256, .f32⟩
  | 75 => ⟨S1x4x256x256, .f32⟩
  | 76 => ⟨S1x4x256x256, .f32⟩
  | 77 => ⟨S1x1x4x256x256, .f32⟩
  | 78 => ⟨S1x4x256x256, .f32⟩
  | 79 => ⟨S1x4x256x256, .f32⟩
  | 80 => ⟨S1x4x256x256, .f32⟩
  | 81 => ⟨S1x4x256x256, .f32⟩
  | 82 => ⟨S1x1x4x256x256, .f32⟩
  | 83 => ⟨S1x4x256x256, .f32⟩
  | 84 => ⟨S1x4x256x256, .f32⟩
  | 85 => ⟨S1x4x256x256, .f32⟩
  | 86 => ⟨S1x4x256x256, .f32⟩
  | 87 => ⟨S1x1x4x256x256, .f32⟩
  | 88 => ⟨S1x4x256x256, .f32⟩
  | 89 => ⟨S1x4x256x256, .f32⟩
  | 90 => ⟨S1x4x256x256, .f32⟩
  | 91 => ⟨S1x4x256x256, .f32⟩
  | 92 => ⟨S1x1x4x256x256, .f32⟩
  | 93 => ⟨S1x4x256x256, .f32⟩
  | 94 => ⟨S1x4x256x256, .f32⟩
  | 95 => ⟨S1x4x256x256, .f32⟩
  | 96 => ⟨S1x4x256x256, .f32⟩
  | 97 => ⟨S1x1x4x256x256, .f32⟩
  | 98 => ⟨S1x4x256x256, .f32⟩
  | 99 => ⟨S1x4x256x256, .f32⟩
  | 100 => ⟨S1x4x256x256, .f32⟩
  | 101 => ⟨S1x4x256x256, .f32⟩
  | 102 => ⟨S1x1x4x256x256, .f32⟩
  | 103 => ⟨S1x1x4x256x256, .f32⟩
  | 104 => ⟨S1x1x4x256x256, .f32⟩
  | 105 => ⟨S1x1x4x256x256, .f32⟩
  | 106 => ⟨S1x1x4x256x256, .f32⟩
  | 107 => ⟨S1x1x4x256x256, .f32⟩
  | 108 => ⟨S1x1x4x256x256, .f32⟩
  | 109 => ⟨S1x1x4x256x256, .f32⟩
  | 110 => ⟨S1x1x4x256x256, .f32⟩
  | 111 => ⟨S1x1x4x256x256, .f32⟩
  | 112 => ⟨S1x1x4x256x256, .f32⟩
  | 113 => ⟨S1x1x4x256x256, .f32⟩
  | 114 => ⟨S1x1x4x256x256, .f32⟩
  | 115 => ⟨S1x1x4x256x256, .f32⟩
  | 116 => ⟨S1x1x4x256x256, .f32⟩
  | 117 => ⟨S1x1x4x256x256, .f32⟩
  | 118 => ⟨S16x1x4x256x256, .f32⟩
  | 119 => ⟨S16x1x4x256x256, .f32⟩
  | 120 => ⟨S1x4x16x256x256, .f32⟩
  | 121 => ⟨S1x4x16x256x128, .f32⟩
  | 122 => ⟨S1x4x16x128x256, .f32⟩
  | 123 => ⟨S1x4x16x256x128, .f32⟩
  | 124 => ⟨S1x4x16x128x256, .f32⟩
  | 125 => ⟨S1x4x16x128x256, .f32⟩
  | 126 => ⟨S1x4x16x128x256, .f32⟩
  | 127 => ⟨S1x4x16x256x128, .f32⟩
  | _ => ⟨S2048x7168, .f32⟩

abbrev hbmTy0_3 (i : Nat) : BufTy := match i % 128 with
  | 0 => ⟨S1x4x16x128x256, .f32⟩
  | 1 => ⟨S1x4x16x128x256, .f32⟩
  | 2 => ⟨S1x4x16x128x128, .f32⟩
  | 3 => ⟨S1x4x16x128x128, .f32⟩
  | 4 => ⟨S1x4x16x128x128, .f32⟩
  | 5 => ⟨S1x4x16x128x256, .f32⟩
  | 6 => ⟨S1x4x16x128x256, .f32⟩
  | 7 => ⟨S1x4x16x128x256, .f32⟩
  | 8 => ⟨S1x4x16x128x256, .f32⟩
  | 9 => ⟨S1x4x2048x256, .f32⟩
  | 10 => ⟨S1x4x2048x256, .f32⟩
  | 11 => ⟨S1x4x2048x256, .f32⟩
  | 12 => ⟨S_, .f32⟩
  | 13 => ⟨S1x4x2048x256, .f32⟩
  | 14 => ⟨S1x4x2048x256, .f32⟩
  | 15 => ⟨S1x2048x4x256, .f32⟩
  | 16 => ⟨S1x2048x1024, .f32⟩
  | 17 => ⟨S1x2048x4x256, .f32⟩
  | 18 => ⟨S1x2048x1024, .f32⟩
  | 19 => ⟨S1x2048x4x256, .f32⟩
  | 20 => ⟨S1x2048x1024, .f32⟩
  | 21 => ⟨S1x2048x1024, .bf16⟩
  | 22 => ⟨S1x2048x1024, .bf16⟩
  | 23 => ⟨S2x2048x1024, .bf16⟩
  | 24 => ⟨S4x2048x1024, .bf16⟩
  | 25 => ⟨S1x2048x1024, .bf16⟩
  | 26 => ⟨S1x2048x1024, .bf16⟩
  | 27 => ⟨S1x2048x1024, .bf16⟩
  | 28 => ⟨S1x2048x1024, .bf16⟩
  | 29 => ⟨S8x2048x1024, .bf16⟩
  | _ => ⟨S2048x7168, .f32⟩

abbrev hbmTy (i : Nat) : BufTy := match i / 128 with
  | 0 => hbmTy0_0 i
  | 1 => hbmTy0_1 i
  | 2 => hbmTy0_2 i
  | 3 => hbmTy0_3 i
  | _ => ⟨S2048x7168, .f32⟩

abbrev bufTy : (tb : Table) → Fin (tcTables nBuf tb) → BufTy
  | .hbm, ⟨i, _⟩ => hbmTy i
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_8 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_9 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_cst_10 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_cst_11 : Ref sig .tc := ⟨.hbm, 203, rfl⟩
abbrev main_v184 : Ref sig .tc := ⟨.hbm, 204, rfl⟩
abbrev main_v185 : Ref sig .tc := ⟨.hbm, 205, rfl⟩
abbrev main_cst_12 : Ref sig .tc := ⟨.hbm, 206, rfl⟩
abbrev main_v186 : Ref sig .tc := ⟨.hbm, 207, rfl⟩
abbrev main_v187 : Ref sig .tc := ⟨.hbm, 208, rfl⟩
abbrev main_cst_13 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_cst_14 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_call1_v0 : Ref sig .tc := ⟨.hbm, 219, rfl⟩
abbrev main_call1_v1 : Ref sig .tc := ⟨.hbm, 220, rfl⟩
abbrev main_call1_cst : Ref sig .tc := ⟨.hbm, 221, rfl⟩
abbrev main_call1_v2 : Ref sig .tc := ⟨.hbm, 222, rfl⟩
abbrev main_call1_v3 : Ref sig .tc := ⟨.hbm, 223, rfl⟩
abbrev main_call1_cst_0 : Ref sig .tc := ⟨.hbm, 224, rfl⟩
abbrev main_call1_v4 : Ref sig .tc := ⟨.hbm, 225, rfl⟩
abbrev main_v196_2 : Ref sig .tc := ⟨.hbm, 226, rfl⟩
abbrev main_call1_cst_1 : Ref sig .tc := ⟨.hbm, 227, rfl⟩
abbrev main_call1_v6 : Ref sig .tc := ⟨.hbm, 228, rfl⟩
abbrev main_call1_v7 : Ref sig .tc := ⟨.hbm, 229, rfl⟩
abbrev main_v196_1 : Ref sig .tc := ⟨.hbm, 230, rfl⟩
abbrev main_v196_0 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_cst_15 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_call2_v0 : Ref sig .tc := ⟨.hbm, 243, rfl⟩
abbrev main_call2_v1 : Ref sig .tc := ⟨.hbm, 244, rfl⟩
abbrev main_call2_v2 : Ref sig .tc := ⟨.hbm, 245, rfl⟩
abbrev main_v207 : Ref sig .tc := ⟨.hbm, 246, rfl⟩
abbrev main_v208 : Ref sig .tc := ⟨.hbm, 247, rfl⟩
abbrev main_cst_16 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_cst_17 : Ref sig .tc := ⟨.hbm, 254, rfl⟩
abbrev main_v214 : Ref sig .tc := ⟨.hbm, 255, rfl⟩
abbrev main_v215 : Ref sig .tc := ⟨.hbm, 256, rfl⟩
abbrev main_cst_18 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_cst_19 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_cst_20 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_v297 : Ref sig .tc := ⟨.hbm, 341, rfl⟩
abbrev main_v298 : Ref sig .tc := ⟨.hbm, 342, rfl⟩
abbrev main_v299 : Ref sig .tc := ⟨.hbm, 343, rfl⟩
abbrev main_v300 : Ref sig .tc := ⟨.hbm, 344, rfl⟩
abbrev main_v301 : Ref sig .tc := ⟨.hbm, 345, rfl⟩
abbrev main_v302 : Ref sig .tc := ⟨.hbm, 346, rfl⟩
abbrev main_v303 : Ref sig .tc := ⟨.hbm, 347, rfl⟩
abbrev main_v304 : Ref sig .tc := ⟨.hbm, 348, rfl⟩
abbrev main_v305 : Ref sig .tc := ⟨.hbm, 349, rfl⟩
abbrev main_v306 : Ref sig .tc := ⟨.hbm, 350, rfl⟩
abbrev main_v307 : Ref sig .tc := ⟨.hbm, 351, rfl⟩
abbrev main_v308 : Ref sig .tc := ⟨.hbm, 352, rfl⟩
abbrev main_v309 : Ref sig .tc := ⟨.hbm, 353, rfl⟩
abbrev main_v310 : Ref sig .tc := ⟨.hbm, 354, rfl⟩
abbrev main_v311 : Ref sig .tc := ⟨.hbm, 355, rfl⟩
abbrev main_v312 : Ref sig .tc := ⟨.hbm, 356, rfl⟩
abbrev main_v313 : Ref sig .tc := ⟨.hbm, 357, rfl⟩
abbrev main_v314 : Ref sig .tc := ⟨.hbm, 358, rfl⟩
abbrev main_v315 : Ref sig .tc := ⟨.hbm, 359, rfl⟩
abbrev main_v316 : Ref sig .tc := ⟨.hbm, 360, rfl⟩
abbrev main_v317 : Ref sig .tc := ⟨.hbm, 361, rfl⟩
abbrev main_v318 : Ref sig .tc := ⟨.hbm, 362, rfl⟩
abbrev main_v319 : Ref sig .tc := ⟨.hbm, 363, rfl⟩
abbrev main_v320 : Ref sig .tc := ⟨.hbm, 364, rfl⟩
abbrev main_v321 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_v331 : Ref sig .tc := ⟨.hbm, 375, rfl⟩
abbrev main_v332 : Ref sig .tc := ⟨.hbm, 376, rfl⟩
abbrev main_v333 : Ref sig .tc := ⟨.hbm, 377, rfl⟩
abbrev main_v334 : Ref sig .tc := ⟨.hbm, 378, rfl⟩
abbrev main_v335 : Ref sig .tc := ⟨.hbm, 379, rfl⟩
abbrev main_v336 : Ref sig .tc := ⟨.hbm, 380, rfl⟩
abbrev main_v337 : Ref sig .tc := ⟨.hbm, 381, rfl⟩
abbrev main_v338 : Ref sig .tc := ⟨.hbm, 382, rfl⟩
abbrev main_v339 : Ref sig .tc := ⟨.hbm, 383, rfl⟩
abbrev main_v340 : Ref sig .tc := ⟨.hbm, 384, rfl⟩
abbrev main_v341 : Ref sig .tc := ⟨.hbm, 385, rfl⟩
abbrev main_v342 : Ref sig .tc := ⟨.hbm, 386, rfl⟩
abbrev main_v343 : Ref sig .tc := ⟨.hbm, 387, rfl⟩
abbrev main_v344 : Ref sig .tc := ⟨.hbm, 388, rfl⟩
abbrev main_v345 : Ref sig .tc := ⟨.hbm, 389, rfl⟩
abbrev main_v346 : Ref sig .tc := ⟨.hbm, 390, rfl⟩
abbrev main_v347 : Ref sig .tc := ⟨.hbm, 391, rfl⟩
abbrev main_v348 : Ref sig .tc := ⟨.hbm, 392, rfl⟩
abbrev main_v349 : Ref sig .tc := ⟨.hbm, 393, rfl⟩
abbrev main_v350 : Ref sig .tc := ⟨.hbm, 394, rfl⟩
abbrev main_v351 : Ref sig .tc := ⟨.hbm, 395, rfl⟩
abbrev main_cst_21 : Ref sig .tc := ⟨.hbm, 396, rfl⟩
abbrev main_v352 : Ref sig .tc := ⟨.hbm, 397, rfl⟩
abbrev main_v353 : Ref sig .tc := ⟨.hbm, 398, rfl⟩
abbrev main_v354 : Ref sig .tc := ⟨.hbm, 399, rfl⟩
abbrev main_v355 : Ref sig .tc := ⟨.hbm, 400, rfl⟩
abbrev main_v356 : Ref sig .tc := ⟨.hbm, 401, rfl⟩
abbrev main_v357 : Ref sig .tc := ⟨.hbm, 402, rfl⟩
abbrev main_v358 : Ref sig .tc := ⟨.hbm, 403, rfl⟩
abbrev main_v359 : Ref sig .tc := ⟨.hbm, 404, rfl⟩
abbrev main_v360 : Ref sig .tc := ⟨.hbm, 405, rfl⟩
abbrev main_v361 : Ref sig .tc := ⟨.hbm, 406, rfl⟩
abbrev main_v362 : Ref sig .tc := ⟨.hbm, 407, rfl⟩
abbrev main_v363 : Ref sig .tc := ⟨.hbm, 408, rfl⟩
abbrev main_v364 : Ref sig .tc := ⟨.hbm, 409, rfl⟩
abbrev main_v365 : Ref sig .tc := ⟨.hbm, 410, rfl⟩
abbrev main_v366 : Ref sig .tc := ⟨.hbm, 411, rfl⟩
abbrev main_v367 : Ref sig .tc := ⟨.hbm, 412, rfl⟩
abbrev main_v368 : Ref sig .tc := ⟨.hbm, 413, rfl⟩

abbrev nD : Nat := 1
abbrev τ : Topo := Topo.v7x

variable {F : FTy → Type} [FloatOps F]
-- ==== Kernel2.lean ====
abbrev S2048x2048 : Shape := ⟨2, ![2048, 2048]⟩
abbrev S2048x5632 : Shape := ⟨2, ![2048, 5632]⟩
abbrev S5632x2048 : Shape := ⟨2, ![5632, 2048]⟩
abbrev S2048x512 : Shape := ⟨2, ![2048, 512]⟩
abbrev S1024x5632 : Shape := ⟨2, ![1024, 5632]⟩
abbrev S5632x512 : Shape := ⟨2, ![5632, 512]⟩
abbrev S1024x512 : Shape := ⟨2, ![1024, 512]⟩
abbrev S512x2048 : Shape := ⟨2, ![512, 2048]⟩
abbrev S2048x1024 : Shape := ⟨2, ![2048, 1024]⟩

abbrev nBuf : Space → Nat
  | .hbm => 15
  | .vmem => 48
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048x2048, .bf16⟩
  | .hbm, ⟨6, _⟩ => ⟨S2048x5632, .bf16⟩
  | .hbm, ⟨7, _⟩ => ⟨S2048x5632, .bf16⟩
  | .hbm, ⟨8, _⟩ => ⟨S2048x5632, .bf16⟩
  | .hbm, ⟨9, _⟩ => ⟨S2048x2048, .f32⟩
  | .hbm, ⟨10, _⟩ => ⟨S2048x5632, .bf16⟩
  | .hbm, ⟨11, _⟩ => ⟨S2048x5632, .bf16⟩
  | .hbm, ⟨12, _⟩ => ⟨S5632x2048, .bf16⟩
  | .hbm, ⟨13, _⟩ => ⟨S2048x5632, .bf16⟩
  | .hbm, ⟨14, _⟩ => ⟨S2048x5632, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S1024x5632, .bf16⟩
  | .local _ .vmem, ⟨13, _⟩ => ⟨S1024x5632, .bf16⟩
  | .local _ .vmem, ⟨14, _⟩ => ⟨S5632x512, .bf16⟩
  | .local _ .vmem, ⟨15, _⟩ => ⟨S5632x512, .bf16⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S2048x2048, .bf16⟩
  | .local _ .vmem, ⟨21, _⟩ => ⟨S512x2048, .bf16⟩
  | .local _ .vmem, ⟨22, _⟩ => ⟨S512x2048, .bf16⟩
  | .local _ .vmem, ⟨23, _⟩ => ⟨S2048x512, .bf16⟩
  | .local _ .vmem, ⟨24, _⟩ => ⟨S2048x512, .bf16⟩
  | .local _ .vmem, ⟨25, _⟩ => ⟨S2048x512, .bf16⟩
  | .local _ .vmem, ⟨26, _⟩ => ⟨S2048x512, .bf16⟩
  | .local _ .vmem, ⟨27, _⟩ => ⟨S2048x512, .bf16⟩
  | .local _ .vmem, ⟨28, _⟩ => ⟨S2048x512, .bf16⟩
  | .local _ .vmem, ⟨29, _⟩ => ⟨S2048x512, .bf16⟩
  | .local _ .vmem, ⟨30, _⟩ => ⟨S2048x512, .bf16⟩
  | .local _ .vmem, ⟨31, _⟩ => ⟨S2048x512, .bf16⟩
  | .local _ .vmem, ⟨32, _⟩ => ⟨S2048x512, .bf16⟩
  | .local _ .vmem, ⟨33, _⟩ => ⟨S2048x2048, .bf16⟩
  | .local _ .vmem, ⟨34, _⟩ => ⟨S512x2048, .bf16⟩
  | .local _ .vmem, ⟨35, _⟩ => ⟨S512x2048, .bf16⟩
  | .local _ .vmem, ⟨36, _⟩ => ⟨S2048x1024, .bf16⟩
  | .local _ .vmem, ⟨37, _⟩ => ⟨S2048x1024, .bf16⟩
  | .local _ .vmem, ⟨38, _⟩ => ⟨S2048x1024, .bf16⟩
  | .local _ .vmem, ⟨39, _⟩ => ⟨S2048x1024, .bf16⟩
  | .local _ .vmem, ⟨40, _⟩ => ⟨S2048x512, .bf16⟩
  | .local _ .vmem, ⟨41, _⟩ => ⟨S2048x512, .bf16⟩
  | .local _ .vmem, ⟨42, _⟩ => ⟨S2048x512, .bf16⟩
  | .local _ .vmem, ⟨43, _⟩ => ⟨S2048x512, .bf16⟩
  | .local _ .vmem, ⟨44, _⟩ => ⟨S1024x512, .bf16⟩
  | .local _ .vmem, ⟨45, _⟩ => ⟨S1024x512, .bf16⟩
  | .local _ .vmem, ⟨46, _⟩ => ⟨S1024x512, .bf16⟩
  | .local _ .vmem, ⟨47, _⟩ => ⟨S1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg4_1 : Ref sig .tc := ⟨.vmem, 45, rfl⟩
abbrev cc4_stg5_0 : Ref sig .tc := ⟨.vmem, 46, rfl⟩
abbrev cc4_stg5_1 : Ref sig .tc := ⟨.vmem, 47, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc4_sem4_0 : DmaSem sig := 44
abbrev cc4_sem4_1 : DmaSem sig := 45
abbrev cc4_sem5_0 : DmaSem sig := 46
abbrev cc4_sem5_1 : DmaSem sig := 47

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S5632x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![1, 11, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S2048x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S2048x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev grid3 : Pipeline.Grid := ⟨3, ![11, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 11, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc4_transform_4 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S2048x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, true]

abbrev stage4_3 : Fin 2 → Memref sig .tc .vmem S2048x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true, true]

abbrev stage4_4 : Fin 2 → Memref sig .tc .vmem S1024x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true, false]

abbrev stage4_5 : Fin 2 → Memref sig .tc .vmem S1024x512 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true, false]
-- ==== Reference2Ideal.lean ====
abbrev S2048x2048 : Shape := ⟨2, ![2048, 2048]⟩
abbrev S2048x5632 : Shape := ⟨2, ![2048, 5632]⟩
abbrev S5632x2048 : Shape := ⟨2, ![5632, 2048]⟩
abbrev S1x2048x2048 : Shape := ⟨3, ![1, 2048, 2048]⟩
abbrev S1x2048x5632 : Shape := ⟨3, ![1, 2048, 5632]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048x2048, .bf16⟩
  | .hbm, ⟨6, _⟩ => ⟨S1x2048x2048, .bf16⟩
  | .hbm, ⟨7, _⟩ => ⟨S1x2048x2048, .f32⟩
  | .hbm, ⟨8, _⟩ => ⟨S2048x5632, .f32⟩
  | .hbm, ⟨9, _⟩ => ⟨S2048x5632, .f32⟩
  | .hbm, ⟨10, _⟩ => ⟨S5632x2048, .f32⟩
  | .hbm, ⟨11, _⟩ => ⟨S1x2048x5632, .f32⟩
  | .hbm, ⟨12, _⟩ => ⟨S1x2048x5632, .f32⟩
  | .hbm, ⟨13, _⟩ => ⟨S1x2048x5632, .f32⟩
  | .hbm, ⟨14, _⟩ => ⟨S1x2048x5632, .f32⟩
  | .hbm, ⟨15, _⟩ => ⟨S_, .f32⟩
  | .hbm, ⟨16, _⟩ => ⟨S1x2048x5632, .f32⟩
  | .hbm, ⟨17, _⟩ => ⟨S1x2048x5632, .f32⟩
  | .hbm, ⟨18, _⟩ => ⟨S_, .f32⟩
  | .hbm, ⟨19, _⟩ => ⟨S1x2048x5632, .f32⟩
  | .hbm, ⟨20, _⟩ => ⟨S1x2048x5632, .f32⟩
  | .hbm, ⟨21, _⟩ => ⟨S_, .f32⟩
  | .hbm, ⟨22, _⟩ => ⟨S1x2048x5632, .f32⟩
  | .hbm, ⟨23, _⟩ => ⟨S1x2048x5632, .f32⟩
  | .hbm, ⟨24, _⟩ => ⟨S1x2048x5632, .f32⟩
  | .hbm, ⟨25, _⟩ => ⟨S1x2048x5632, .f32⟩
  | .hbm, ⟨26, _⟩ => ⟨S1x2048x5632, .f32⟩
  | .hbm, ⟨27, _⟩ => ⟨S1x2048x2048, .f32⟩
  | .hbm, ⟨28, _⟩ => ⟨S1x2048x2048, .bf16⟩
  | .hbm, ⟨29, _⟩ => ⟨S1x2048x2048, .f32⟩
  | .hbm, ⟨30, _⟩ => ⟨S2048x5632, .f32⟩
  | .hbm, ⟨31, _⟩ => ⟨S5632x2048, .f32⟩
  | .hbm, ⟨32, _⟩ => ⟨S1x2048x5632, .f32⟩
  | .hbm, ⟨33, _⟩ => ⟨S1x2048x5632, .f32⟩
  | .hbm, ⟨34, _⟩ => ⟨S1x2048x5632, .f32⟩
  | .hbm, ⟨35, _⟩ => ⟨S1x2048x5632, .f32⟩
  | .hbm, ⟨36, _⟩ => ⟨S1x2048x5632, .f32⟩
  | .hbm, ⟨37, _⟩ => ⟨S1x2048x5632, .f32⟩
  | .hbm, ⟨38, _⟩ => ⟨S1x2048x5632, .f32⟩
  | .hbm, ⟨39, _⟩ => ⟨S5632x2048, .f32⟩
  | .hbm, ⟨40, _⟩ => ⟨S2048x5632, .f32⟩
  | .hbm, ⟨41, _⟩ => ⟨S5632x2048, .f32⟩
  | .hbm, ⟨42, _⟩ => ⟨S2048x5632, .f32⟩
  | .hbm, ⟨43, _⟩ => ⟨S2048x2048, .f32⟩
  | .hbm, ⟨44, _⟩ => ⟨S2048x2048, .f32⟩
  | .hbm, ⟨45, _⟩ => ⟨S2048x5632, .bf16⟩
  | .hbm, ⟨46, _⟩ => ⟨S2048x5632, .bf16⟩
  | .hbm, ⟨47, _⟩ => ⟨S5632x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v7_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v7_1 : Ref sig .tc := ⟨.hbm, 24, rfl⟩
abbrev main_v7_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]
-- ==== Kernel3.lean ====
abbrev S2048x2048 : Shape := ⟨2, ![2048, 2048]⟩
abbrev S2048x7168 : Shape := ⟨2, ![2048, 7168]⟩
abbrev S2x2048x1024 : Shape := ⟨3, ![2, 2048, 1024]⟩
abbrev S8x2048x1024 : Shape := ⟨3, ![8, 2048, 1024]⟩
abbrev S1x1024x1024 : Shape := ⟨3, ![1, 1024, 1024]⟩
abbrev S1024x512 : Shape := ⟨2, ![1024, 512]⟩
abbrev S1024x1024 : Shape := ⟨2, ![1024, 1024]⟩
abbrev S1024x2048 : Shape := ⟨2, ![1024, 2048]⟩
abbrev S512x2048 : Shape := ⟨2, ![512, 2048]⟩
abbrev S1x2048x512 : Shape := ⟨3, ![1, 2048, 512]⟩
abbrev S2048x512 : Shape := ⟨2, ![2048, 512]⟩
abbrev S2048x1024 : Shape := ⟨2, ![2048, 1024]⟩
abbrev S1x2048x1024 : Shape := ⟨3, ![1, 2048, 1024]⟩
abbrev S256x1024 : Shape := ⟨2, ![256, 1024]⟩
abbrev S1024x256 : Shape := ⟨2, ![1024, 256]⟩

abbrev nBuf : Space → Nat
  | .hbm => 12
  | .vmem => 59
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x7168, .bf16⟩
  | .hbm, ⟨3, _⟩ => ⟨S2048x2048, .bf16⟩
  | .hbm, ⟨4, _⟩ => ⟨S2x2048x1024, .bf16⟩
  | .hbm, ⟨5, _⟩ => ⟨S8x2048x1024, .bf16⟩
  | .hbm, ⟨6, _⟩ => ⟨S2048x2048, .bf16⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S2048x7168, .bf16⟩
  | .hbm, ⟨11, _⟩ => ⟨S2048x2048, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x2048, .bf16⟩
  | .local _ .vmem, ⟨13, _⟩ => ⟨S1024x2048, .bf16⟩
  | .local _ .vmem, ⟨14, _⟩ => ⟨S512x2048, .bf16⟩
  | .local _ .vmem, ⟨15, _⟩ => ⟨S512x2048, .bf16⟩
  | .local _ .vmem, ⟨16, _⟩ => ⟨S1024x512, .f32⟩
  | .local _ .vmem, ⟨17, _⟩ => ⟨S1024x512, .f32⟩
  | .local _ .vmem, ⟨18, _⟩ => ⟨S1x2048x512, .bf16⟩
  | .local _ .vmem, ⟨19, _⟩ => ⟨S1x2048x512, .bf16⟩
  | .local _ .vmem, ⟨20, _⟩ => ⟨S2048x2048, .bf16⟩
  | .local _ .vmem, ⟨21, _⟩ => ⟨S512x2048, .bf16⟩
  | .local _ .vmem, ⟨22, _⟩ => ⟨S512x2048, .bf16⟩
  | .local _ .vmem, ⟨23, _⟩ => ⟨S2048x1024, .bf16⟩
  | .local _ .vmem, ⟨24, _⟩ => ⟨S2048x1024, .bf16⟩
  | .local _ .vmem, ⟨25, _⟩ => ⟨S1x2048x1024, .bf16⟩
  | .local _ .vmem, ⟨26, _⟩ => ⟨S1x2048x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1x1024x1024, .bf16⟩
  | .local _ .vmem, ⟨30, _⟩ => ⟨S1x1024x1024, .bf16⟩
  | .local _ .vmem, ⟨31, _⟩ => ⟨S1x1024x1024, .bf16⟩
  | .local _ .vmem, ⟨32, _⟩ => ⟨S1x1024x1024, .bf16⟩
  | .local _ .vmem, ⟨33, _⟩ => ⟨S1x1024x1024, .bf16⟩
  | .local _ .vmem, ⟨34, _⟩ => ⟨S1x1024x1024, .bf16⟩
  | .local _ .vmem, ⟨35, _⟩ => ⟨S1x1024x1024, .bf16⟩
  | .local _ .vmem, ⟨36, _⟩ => ⟨S1x1024x1024, .bf16⟩
  | .local _ .vmem, ⟨37, _⟩ => ⟨S1x1024x1024, .bf16⟩
  | .local _ .vmem, ⟨38, _⟩ => ⟨S1x1024x1024, .bf16⟩
  | .local _ .vmem, ⟨39, _⟩ => ⟨S1x1024x1024, .bf16⟩
  | .local _ .vmem, ⟨40, _⟩ => ⟨S1x1024x1024, .bf16⟩
  | .local _ .vmem, ⟨41, _⟩ => ⟨S1x1024x1024, .bf16⟩
  | .local _ .vmem, ⟨42, _⟩ => ⟨S1x1024x1024, .bf16⟩
  | .local _ .vmem, ⟨43, _⟩ => ⟨S256x1024, .bf16⟩
  | .local _ .vmem, ⟨44, _⟩ => ⟨S256x1024, .bf16⟩
  | .local _ .vmem, ⟨45, _⟩ => ⟨S256x1024, .bf16⟩
  | .local _ .vmem, ⟨46, _⟩ => ⟨S256x1024, .bf16⟩
  | .local _ .vmem, ⟨47, _⟩ => ⟨S256x1024, .bf16⟩
  | .local _ .vmem, ⟨48, _⟩ => ⟨S256x1024, .bf16⟩
  | .local _ .vmem, ⟨49, _⟩ => ⟨S256x1024, .bf16⟩
  | .local _ .vmem, ⟨50, _⟩ => ⟨S256x1024, .bf16⟩
  | .local _ .vmem, ⟨51, _⟩ => ⟨S256x1024, .bf16⟩
  | .local _ .vmem, ⟨52, _⟩ => ⟨S256x1024, .bf16⟩
  | .local _ .vmem, ⟨53, _⟩ => ⟨S256x1024, .bf16⟩
  | .local _ .vmem, ⟨54, _⟩ => ⟨S256x1024, .bf16⟩
  | .local _ .vmem, ⟨55, _⟩ => ⟨S256x1024, .bf16⟩
  | .local _ .vmem, ⟨56, _⟩ => ⟨S256x1024, .bf16⟩
  | .local _ .vmem, ⟨57, _⟩ => ⟨S1024x256, .f32⟩
  | .local _ .vmem, ⟨58, _⟩ => ⟨S1024x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg4_1 : Ref sig .tc := ⟨.vmem, 38, rfl⟩
abbrev cc4_stg5_0 : Ref sig .tc := ⟨.vmem, 39, rfl⟩
abbrev cc4_stg5_1 : Ref sig .tc := ⟨.vmem, 40, rfl⟩
abbrev cc4_stg6_0 : Ref sig .tc := ⟨.vmem, 41, rfl⟩
abbrev cc4_stg6_1 : Ref sig .tc := ⟨.vmem, 42, rfl⟩
abbrev cc4_stg7_0 : Ref sig .tc := ⟨.vmem, 43, rfl⟩
abbrev cc4_stg7_1 : Ref sig .tc := ⟨.vmem, 44, rfl⟩
abbrev cc4_stg8_0 : Ref sig .tc := ⟨.vmem, 45, rfl⟩
abbrev cc4_stg8_1 : Ref sig .tc := ⟨.vmem, 46, rfl⟩
abbrev cc4_stg9_0 : Ref sig .tc := ⟨.vmem, 47, rfl⟩
abbrev cc4_stg9_1 : Ref sig .tc := ⟨.vmem, 48, rfl⟩
abbrev cc4_stg10_0 : Ref sig .tc := ⟨.vmem, 49, rfl⟩
abbrev cc4_stg10_1 : Ref sig .tc := ⟨.vmem, 50, rfl⟩
abbrev cc4_stg11_0 : Ref sig .tc := ⟨.vmem, 51, rfl⟩
abbrev cc4_stg11_1 : Ref sig .tc := ⟨.vmem, 52, rfl⟩
abbrev cc4_stg12_0 : Ref sig .tc := ⟨.vmem, 53, rfl⟩
abbrev cc4_stg12_1 : Ref sig .tc := ⟨.vmem, 54, rfl⟩
abbrev cc4_stg13_0 : Ref sig .tc := ⟨.vmem, 55, rfl⟩
abbrev cc4_stg13_1 : Ref sig .tc := ⟨.vmem, 56, rfl⟩
abbrev cc4_stg14_0 : Ref sig .tc := ⟨.vmem, 57, rfl⟩
abbrev cc4_stg14_1 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc4_sem4_0 : DmaSem sig := 37
abbrev cc4_sem4_1 : DmaSem sig := 38
abbrev cc4_sem5_0 : DmaSem sig := 39
abbrev cc4_sem5_1 : DmaSem sig := 40
abbrev cc4_sem6_0 : DmaSem sig := 41
abbrev cc4_sem6_1 : DmaSem sig := 42
abbrev cc4_sem7_0 : DmaSem sig := 43
abbrev cc4_sem7_1 : DmaSem sig := 44
abbrev cc4_sem8_0 : DmaSem sig := 45
abbrev cc4_sem8_1 : DmaSem sig := 46
abbrev cc4_sem9_0 : DmaSem sig := 47
abbrev cc4_sem9_1 : DmaSem sig := 48
abbrev cc4_sem10_0 : DmaSem sig := 49
abbrev cc4_sem10_1 : DmaSem sig := 50
abbrev cc4_sem11_0 : DmaSem sig := 51
abbrev cc4_sem11_1 : DmaSem sig := 52
abbrev cc4_sem12_0 : DmaSem sig := 53
abbrev cc4_sem12_1 : DmaSem sig := 54
abbrev cc4_sem13_0 : DmaSem sig := 55
abbrev cc4_sem13_1 : DmaSem sig := 56
abbrev cc4_sem14_0 : DmaSem sig := 57
abbrev cc4_sem14_1 : DmaSem sig := 58

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1x2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, false]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 7, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .sge arg1 c3_i32
  let v1 : BitVec 32 := Scalar.extui v0
  let v2 : BitVec 32 := Scalar.addi arg1 v1
  let c0_i32 : BitVec 32 := 0#32
  let c0_i32_0 : BitVec 32 := 0#32
  let c0_i32_1 : BitVec 32 := 0#32
  ![v2.toNat, c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, false]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 8, 1], ![false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg0.toNat, c0_i32.toNat]

def cc4_transform_3 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let c0_i32_0 : BitVec 32 := 0#32
  ![c4_i32.toNat, arg0.toNat, c0_i32.toNat]

def cc4_transform_4 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  let c0_i32_0 : BitVec 32 := 0#32
  ![c5_i32.toNat, arg0.toNat, c0_i32.toNat]

def cc4_transform_5 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  let c0_i32_0 : BitVec 32 := 0#32
  ![c6_i32.toNat, arg0.toNat, c0_i32.toNat]

def cc4_transform_6 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let c0_i32 : BitVec 32 := 0#32
  let c0_i32_0 : BitVec 32 := 0#32
  ![c7_i32.toNat, arg0.toNat, c0_i32.toNat]

def cc4_transform_7 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc4_transform_8 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg1.toNat, v0.toNat]

def cc4_transform_9 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg1.toNat, v0.toNat]

def cc4_transform_10 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg2 c3_i32
  let c0_i32 : BitVec 32 := 0#32
  ![arg1.toNat, v0.toNat]

def cc4_transform_11 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  ![arg1.toNat, v0.toNat]

def cc4_transform_12 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg2 c5_i32
  let c0_i32 : BitVec 32 := 0#32
  ![arg1.toNat, v0.toNat]

def cc4_transform_13 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg2 c6_i32
  let c0_i32 : BitVec 32 := 0#32
  ![arg1.toNat, v0.toNat]

def cc4_transform_14 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1x1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, false]

abbrev stage4_1 : Fin 2 → Memref sig .tc .vmem S1x1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, false]

abbrev stage4_2 : Fin 2 → Memref sig .tc .vmem S1x1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false, false]

abbrev stage4_3 : Fin 2 → Memref sig .tc .vmem S1x1024x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false, false]

abbrev stage4_4 : Fin 2 → Memref sig .tc .vmem S1x1024x1024 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false, false]

abbrev stage4_5 : Fin 2 → Memref sig .tc .vmem S1x1024x1024 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false, false]

abbrev stage4_6 : Fin 2 → Memref sig .tc .vmem S1x1024x1024 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false, false]

abbrev stage4_7 : Fin 2 → Memref sig .tc .vmem S256x1024 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![false, true, true]

abbrev stage4_8 : Fin 2 → Memref sig .tc .vmem S256x1024 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![false, true, true]

abbrev stage4_9 : Fin 2 → Memref sig .tc .vmem S256x1024 .bf16 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![false, true, true]

abbrev stage4_10 : Fin 2 → Memref sig .tc .vmem S256x1024 .bf16 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![false, true, true]

abbrev stage4_11 : Fin 2 → Memref sig .tc .vmem S256x1024 .bf16 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![false, true, true]

abbrev stage4_12 : Fin 2 → Memref sig .tc .vmem S256x1024 .bf16 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![false, true, true]

abbrev stage4_13 : Fin 2 → Memref sig .tc .vmem S256x1024 .bf16 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![false, true, true]

abbrev stage4_14 : Fin 2 → Memref sig .tc .vmem S1024x256 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true, true, false]
-- ==== Reference3Ideal.lean ====
abbrev S2048x2048 : Shape := ⟨2, ![2048, 2048]⟩
abbrev S2048x7168 : Shape := ⟨2, ![2048, 7168]⟩
abbrev S2x2048x1024 : Shape := ⟨3, ![2, 2048, 1024]⟩
abbrev S8x2048x1024 : Shape := ⟨3, ![8, 2048, 1024]⟩
abbrev S2048x2x1024 : Shape := ⟨3, ![2048, 2, 1024]⟩
abbrev S1x2048x2048 : Shape := ⟨3, ![1, 2048, 2048]⟩
abbrev S3x2048x1024 : Shape := ⟨3, ![3, 2048, 1024]⟩
abbrev S4x2048x1024 : Shape := ⟨3, ![4, 2048, 1024]⟩
abbrev S7x2048x1024 : Shape := ⟨3, ![7, 2048, 1024]⟩
abbrev S2048x7x1024 : Shape := ⟨3, ![2048, 7, 1024]⟩
abbrev S1x2048x7168 : Shape := ⟨3, ![1, 2048, 7168]⟩
abbrev S7168x2048 : Shape := ⟨2, ![7168, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x7168, .bf16⟩
  | .hbm, ⟨3, _⟩ => ⟨S2048x2048, .bf16⟩
  | .hbm, ⟨4, _⟩ => ⟨S2x2048x1024, .bf16⟩
  | .hbm, ⟨5, _⟩ => ⟨S8x2048x1024, .bf16⟩
  | .hbm, ⟨6, _⟩ => ⟨S2048x2048, .bf16⟩
  | .hbm, ⟨7, _⟩ => ⟨S2x2048x1024, .f32⟩
  | .hbm, ⟨8, _⟩ => ⟨S2048x2x1024, .f32⟩
  | .hbm, ⟨9, _⟩ => ⟨S1x2048x2048, .f32⟩
  | .hbm, ⟨10, _⟩ => ⟨S2048x2048, .f32⟩
  | .hbm, ⟨11, _⟩ => ⟨S1x2048x2048, .f32⟩
  | .hbm, ⟨12, _⟩ => ⟨S1x2048x2048, .bf16⟩
  | .hbm, ⟨13, _⟩ => ⟨S1x2048x2048, .f32⟩
  | .hbm, ⟨14, _⟩ => ⟨S2048x2048, .f32⟩
  | .hbm, ⟨15, _⟩ => ⟨S2048x2048, .f32⟩
  | .hbm, ⟨16, _⟩ => ⟨S1x2048x2048, .f32⟩
  | .hbm, ⟨17, _⟩ => ⟨S3x2048x1024, .bf16⟩
  | .hbm, ⟨18, _⟩ => ⟨S4x2048x1024, .bf16⟩
  | .hbm, ⟨19, _⟩ => ⟨S7x2048x1024, .bf16⟩
  | .hbm, ⟨20, _⟩ => ⟨S7x2048x1024, .f32⟩
  | .hbm, ⟨21, _⟩ => ⟨S2048x7x1024, .f32⟩
  | .hbm, ⟨22, _⟩ => ⟨S1x2048x7168, .f32⟩
  | .hbm, ⟨23, _⟩ => ⟨S1x2048x2048, .bf16⟩
  | .hbm, ⟨24, _⟩ => ⟨S1x2048x2048, .f32⟩
  | .hbm, ⟨25, _⟩ => ⟨S2048x7168, .f32⟩
  | .hbm, ⟨26, _⟩ => ⟨S1x2048x7168, .f32⟩
  | .hbm, ⟨27, _⟩ => ⟨S7168x2048, .f32⟩
  | .hbm, ⟨28, _⟩ => ⟨S2048x7168, .f32⟩
  | .hbm, ⟨29, _⟩ => ⟨S1x2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .bf16⟩
  | .hbm, ⟨34, _⟩ => ⟨S2048x7168, .bf16⟩
  | .hbm, ⟨35, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel4.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .ne arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .bf16⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel5.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S1x128, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_19 : BitVec 32 := 0#32
  let v49 : BitVec 1 := Scalar.cmpi .ne v48 c0_i32_19
  v49

def k0_cond2 (i : grid0.Coords) : BitVec 1 :=
  let arg0 : BitVec 32 := BitVec.ofNat 32 (i 0).val
  let c0_i32_20 : BitVec 32 := 0#32
  let v50 : BitVec 1 := Scalar.cmpi .ne arg0 c0_i32_20
  let v51 : BitVec 32 := Scalar.extui v50
  let c0_i32_21 : BitVec 32 := 0#32
  let v52 : BitVec 1 := Scalar.cmpi .ne v51 c0_i32_21
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x2048, .f32⟩
  | .hbm, ⟨60, _⟩ => ⟨S2048x2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S1x128, .f32⟩
  | .hbm, ⟨73, _⟩ => ⟨S2048x2048, .bf16⟩
  | .hbm, ⟨74, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel6.lean ====
abbrev S2048x1792 : Shape := ⟨2, ![2048, 1792]⟩
abbrev S512x2048 : Shape := ⟨2, ![512, 2048]⟩
abbrev S2048x1408 : Shape := ⟨2, ![2048, 1408]⟩
abbrev S1408x2048 : Shape := ⟨2, ![1408, 2048]⟩
abbrev S256x1792 : Shape := ⟨2, ![256, 1792]⟩
abbrev S256x2048 : Shape := ⟨2, ![256, 2048]⟩
abbrev S256x1408 : Shape := ⟨2, ![256, 1408]⟩
abbrev S176x2048 : Shape := ⟨2, ![176, 2048]⟩

abbrev nBuf : Space → Nat
  | .hbm => 40
  | .vmem => 80
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S2048x1408, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S1408x2048, .f32⟩
  | .hbm, ⟨20, _⟩ => ⟨S2048x1792, .f32⟩
  | .hbm, ⟨21, _⟩ => ⟨S2048x1792, .f32⟩
  | .hbm, ⟨22, _⟩ => ⟨S2048x1792, .f32⟩
  | .hbm, ⟨23, _⟩ => ⟨S2048x1792, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S2048x1408, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S1408x2048, .f32⟩
  | .hbm, ⟨37, _⟩ => ⟨S1408x2048, .f32⟩
  | .hbm, ⟨38, _⟩ => ⟨S1408x2048, .f32⟩
  | .hbm, ⟨39, _⟩ => ⟨S1408x2048, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | .local _ .vmem, ⟨14, _⟩ => ⟨S256x1792, .f32⟩
  | .local _ .vmem, ⟨15, _⟩ => ⟨S256x1792, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S256x1408, .f32⟩
  | .local _ .vmem, ⟨33, _⟩ => ⟨S256x1408, .f32⟩
  | .local _ .vmem, ⟨34, _⟩ => ⟨S256x1408, .f32⟩
  | .local _ .vmem, ⟨35, _⟩ => ⟨S256x1408, .f32⟩
  | .local _ .vmem, ⟨36, _⟩ => ⟨S256x1408, .f32⟩
  | .local _ .vmem, ⟨37, _⟩ => ⟨S256x1408, .f32⟩
  | .local _ .vmem, ⟨38, _⟩ => ⟨S256x1408, .f32⟩
  | .local _ .vmem, ⟨39, _⟩ => ⟨S256x1408, .f32⟩
  | .local _ .vmem, ⟨40, _⟩ => ⟨S256x1408, .f32⟩
  | .local _ .vmem, ⟨41, _⟩ => ⟨S256x1408, .f32⟩
  | .local _ .vmem, ⟨42, _⟩ => ⟨S256x1408, .f32⟩
  | .local _ .vmem, ⟨43, _⟩ => ⟨S256x1408, .f32⟩
  | .local _ .vmem, ⟨44, _⟩ => ⟨S256x1408, .f32⟩
  | .local _ .vmem, ⟨45, _⟩ => ⟨S256x1408, .f32⟩
  | .local _ .vmem, ⟨46, _⟩ => ⟨S256x1408, .f32⟩
  | .local _ .vmem, ⟨47, _⟩ => ⟨S256x1408, .f32⟩
  | .local _ .vmem, ⟨48, _⟩ => ⟨S256x1408, .f32⟩
  | .local _ .vmem, ⟨49, _⟩ => ⟨S256x1408, .f32⟩
  | .local _ .vmem, ⟨50, _⟩ => ⟨S256x1408, .f32⟩
  | .local _ .vmem, ⟨51, _⟩ => ⟨S256x1408, .f32⟩
  | .local _ .vmem, ⟨52, _⟩ => ⟨S256x1408, .f32⟩
  | .local _ .vmem, ⟨53, _⟩ => ⟨S256x1408, .f32⟩
  | .local _ .vmem, ⟨54, _⟩ => ⟨S256x1408, .f32⟩
  | .local _ .vmem, ⟨55, _⟩ => ⟨S256x1408, .f32⟩
  | .local _ .vmem, ⟨56, _⟩ => ⟨S256x1408, .f32⟩
  | .local _ .vmem, ⟨57, _⟩ => ⟨S256x1408, .f32⟩
  | .local _ .vmem, ⟨58, _⟩ => ⟨S256x1408, .f32⟩
  | .local _ .vmem, ⟨59, _⟩ => ⟨S256x1408, .f32⟩
  | .local _ .vmem, ⟨60, _⟩ => ⟨S256x1408, .f32⟩
  | .local _ .vmem, ⟨61, _⟩ => ⟨S256x1408, .f32⟩
  | .local _ .vmem, ⟨62, _⟩ => ⟨S256x1408, .f32⟩
  | .local _ .vmem, ⟨63, _⟩ => ⟨S256x1408, .f32⟩
  | .local _ .vmem, ⟨64, _⟩ => ⟨S176x2048, .f32⟩
  | .local _ .vmem, ⟨65, _⟩ => ⟨S176x2048, .f32⟩
  | .local _ .vmem, ⟨66, _⟩ => ⟨S176x2048, .f32⟩
  | .local _ .vmem, ⟨67, _⟩ => ⟨S176x2048, .f32⟩
  | .local _ .vmem, ⟨68, _⟩ => ⟨S176x2048, .f32⟩
  | .local _ .vmem, ⟨69, _⟩ => ⟨S176x2048, .f32⟩
  | .local _ .vmem, ⟨70, _⟩ => ⟨S176x2048, .f32⟩
  | .local _ .vmem, ⟨71, _⟩ => ⟨S176x2048, .f32⟩
  | .local _ .vmem, ⟨72, _⟩ => ⟨S176x2048, .f32⟩
  | .local _ .vmem, ⟨73, _⟩ => ⟨S176x2048, .f32⟩
  | .local _ .vmem, ⟨74, _⟩ => ⟨S176x2048, .f32⟩
  | .local _ .vmem, ⟨75, _⟩ => ⟨S176x2048, .f32⟩
  | .local _ .vmem, ⟨76, _⟩ => ⟨S176x2048, .f32⟩
  | .local _ .vmem, ⟨77, _⟩ => ⟨S176x2048, .f32⟩
  | .local _ .vmem, ⟨78, _⟩ => ⟨S176x2048, .f32⟩
  | .local _ .vmem, ⟨79, _⟩ => ⟨S176x2048, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_v1_0 : Ref sig .tc := ⟨.hbm, 24, rfl⟩
abbrev main_v1_1 : Ref sig .tc := ⟨.hbm, 25, rfl⟩
abbrev main_v1_2 : Ref sig .tc := ⟨.hbm, 26, rfl⟩
abbrev main_v1_3 : Ref sig .tc := ⟨.hbm, 27, rfl⟩
abbrev main_v2_0 : Ref sig .tc := ⟨.hbm, 28, rfl⟩
abbrev main_v2_1 : Ref sig .tc := ⟨.hbm, 29, rfl⟩
abbrev main_v2_2 : Ref sig .tc := ⟨.hbm, 30, rfl⟩
abbrev main_v2_3 : Ref sig .tc := ⟨.hbm, 31, rfl⟩
abbrev main_v3_0 : Ref sig .tc := ⟨.hbm, 32, rfl⟩
abbrev main_v3_1 : Ref sig .tc := ⟨.hbm, 33, rfl⟩
abbrev main_v3_2 : Ref sig .tc := ⟨.hbm, 34, rfl⟩
abbrev main_v3_3 : Ref sig .tc := ⟨.hbm, 35, rfl⟩
abbrev main_v4_0 : Ref sig .tc := ⟨.hbm, 36, rfl⟩
abbrev main_v4_1 : Ref sig .tc := ⟨.hbm, 37, rfl⟩
abbrev main_v4_2 : Ref sig .tc := ⟨.hbm, 38, rfl⟩
abbrev main_v4_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg1_1 : Ref sig .tc := ⟨.vmem, 67, rfl⟩
abbrev cc4_stg2_0 : Ref sig .tc := ⟨.vmem, 68, rfl⟩
abbrev cc4_stg2_1 : Ref sig .tc := ⟨.vmem, 69, rfl⟩
abbrev cc4_stg3_0 : Ref sig .tc := ⟨.vmem, 70, rfl⟩
abbrev cc4_stg3_1 : Ref sig .tc := ⟨.vmem, 71, rfl⟩
abbrev cc4_stg4_0 : Ref sig .tc := ⟨.vmem, 72, rfl⟩
abbrev cc4_stg4_1 : Ref sig .tc := ⟨.vmem, 73, rfl⟩
abbrev cc4_stg5_0 : Ref sig .tc := ⟨.vmem, 74, rfl⟩
abbrev cc4_stg5_1 : Ref sig .tc := ⟨.vmem, 75, rfl⟩
abbrev cc4_stg6_0 : Ref sig .tc := ⟨.vmem, 76, rfl⟩
abbrev cc4_stg6_1 : Ref sig .tc := ⟨.vmem, 77, rfl⟩
abbrev cc4_stg7_0 : Ref sig .tc := ⟨.vmem, 78, rfl⟩
abbrev cc4_stg7_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63
abbrev cc4_sem0_0 : DmaSem sig := 64
abbrev cc4_sem0_1 : DmaSem sig := 65
abbrev cc4_sem1_0 : DmaSem sig := 66
abbrev cc4_sem1_1 : DmaSem sig := 67
abbrev cc4_sem2_0 : DmaSem sig := 68
abbrev cc4_sem2_1 : DmaSem sig := 69
abbrev cc4_sem3_0 : DmaSem sig := 70
abbrev cc4_sem3_1 : DmaSem sig := 71
abbrev cc4_sem4_0 : DmaSem sig := 72
abbrev cc4_sem4_1 : DmaSem sig := 73
abbrev cc4_sem5_0 : DmaSem sig := 74
abbrev cc4_sem5_1 : DmaSem sig := 75
abbrev cc4_sem6_0 : DmaSem sig := 76
abbrev cc4_sem6_1 : DmaSem sig := 77
abbrev cc4_sem7_0 : DmaSem sig := 78
abbrev cc4_sem7_1 : DmaSem sig := 79

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1408 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1408 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1408 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1408 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x1408 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1408 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1408 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1408 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1408 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1408 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x1408 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x1408 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1408 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x1408 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S176x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S176x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S176x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S176x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S176x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S176x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S176x2048 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S176x2048 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]
-- ==== Reference6Ideal.lean ====
abbrev S2048x1792 : Shape := ⟨2, ![2048, 1792]⟩
abbrev S512x2048 : Shape := ⟨2, ![512, 2048]⟩
abbrev S2048x1408 : Shape := ⟨2, ![2048, 1408]⟩
abbrev S1408x2048 : Shape := ⟨2, ![1408, 2048]⟩
abbrev S_ : Shape := ⟨0, ![]⟩

abbrev nBuf : Space → Nat
  | .hbm => 185
  | .vmem => 0
  | .smem => 0
  | _ => 0

abbrev hbmTy0_0 (i : Nat) : BufTy := match i % 128 with
  | 0 => ⟨S2048x1792, .f32⟩
  | 1 => ⟨S2048x1792, .f32⟩
  | 2 => ⟨S2048x1792, .f32⟩
  | 3 => ⟨S2048x1792, .f32⟩
  | 4 => ⟨S512x2048, .f32⟩
  | 5 => ⟨S512x2048, .f32⟩
  | 6 => ⟨S512x2048, .f32⟩
  | 7 => ⟨S512x2048, .f32⟩
  | 8 => ⟨S2048x1408, .f32⟩
  | 9 => ⟨S2048x1408, .f32⟩
  | 10 => ⟨S2048x1408, .f32⟩
  | 11 => ⟨S2048x1408, .f32⟩
  | 12 => ⟨S2048x1408, .f32⟩
  | 13 => ⟨S2048x1408, .f32⟩
  | 14 => ⟨S2048x1408, .f32⟩
  | 15 => ⟨S2048x1408, .f32⟩
  | 16 => ⟨S1408x2048, .f32⟩
  | 17 => ⟨S1408x2048, .f32⟩
  | 18 => ⟨S1408x2048, .f32⟩
  | 19 => ⟨S1408x2048, .f32⟩
  | 20 => ⟨S_, .f32⟩
  | 21 => ⟨S2048x1792, .f32⟩
  | 22 => ⟨S2048x1792, .f32⟩
  | 23 => ⟨S_, .f32⟩
  | 24 => ⟨S2048x1792, .f32⟩
  | 25 => ⟨S2048x1792, .f32⟩
  | 26 => ⟨S2048x1792, .f32⟩
  | 27 => ⟨S_, .f32⟩
  | 28 => ⟨S2048x1792, .f32⟩
  | 29 => ⟨S2048x1792, .f32⟩
  | 30 => ⟨S2048x1792, .f32⟩
  | 31 => ⟨S_, .f32⟩
  | 32 => ⟨S2048x1792, .f32⟩
  | 33 => ⟨S2048x1792, .f32⟩
  | 34 => ⟨S2048x1792, .f32⟩
  | 35 => ⟨S_, .f32⟩
  | 36 => ⟨S2048x1792, .f32⟩
  | 37 => ⟨S2048x1792, .f32⟩
  | 38 => ⟨S_, .f32⟩
  | 39 => ⟨S2048x1792, .f32⟩
  | 40 => ⟨S2048x1792, .f32⟩
  | 41 => ⟨S2048x1792, .f32⟩
  | 42 => ⟨S_, .f32⟩
  | 43 => ⟨S2048x1792, .f32⟩
  | 44 => ⟨S2048x1792, .f32⟩
  | 45 => ⟨S2048x1792, .f32⟩
  | 46 => ⟨S_, .f32⟩
  | 47 => ⟨S2048x1792, .f32⟩
  | 48 => ⟨S2048x1792, .f32⟩
  | 49 => ⟨S2048x1792, .f32⟩
  | 50 => ⟨S_, .f32⟩
  | 51 => ⟨S2048x1792, .f32⟩
  | 52 => ⟨S2048x1792, .f32⟩
  | 53 => ⟨S_, .f32⟩
  | 54 => ⟨S512x2048, .f32⟩
  | 55 => ⟨S512x2048, .f32⟩
  | 56 => ⟨S_, .f32⟩
  | 57 => ⟨S512x2048, .f32⟩
  | 58 => ⟨S512x2048, .f32⟩
  | 59 => ⟨S512x2048, .f32⟩
  | 60 => ⟨S_, .f32⟩
  | 61 => ⟨S512x2048, .f32⟩
  | 62 => ⟨S512x2048, .f32⟩
  | 63 => ⟨S512x2048, .f32⟩
  | 64 => ⟨S_, .f32⟩
  | 65 => ⟨S512x2048, .f32⟩
  | 66 => ⟨S512x2048, .f32⟩
  | 67 => ⟨S512x2048, .f32⟩
  | 68 => ⟨S_, .f32⟩
  | 69 => ⟨S512x2048, .f32⟩
  | 70 => ⟨S512x2048, .f32⟩
  | 71 => ⟨S_, .f32⟩
  | 72 => ⟨S512x2048, .f32⟩
  | 73 => ⟨S512x2048, .f32⟩
  | 74 => ⟨S512x2048, .f32⟩
  | 75 => ⟨S_, .f32⟩
  | 76 => ⟨S512x2048, .f32⟩
  | 77 => ⟨S512x2048, .f32⟩
  | 78 => ⟨S512x2048, .f32⟩
  | 79 => ⟨S_, .f32⟩
  | 80 => ⟨S512x2048, .f32⟩
  | 81 => ⟨S512x2048, .f32⟩
  | 82 => ⟨S512x2048, .f32⟩
  | 83 => ⟨S_, .f32⟩
  | 84 => ⟨S512x2048, .f32⟩
  | 85 => ⟨S512x2048, .f32⟩
  | 86 => ⟨S_, .f32⟩
  | 87 => ⟨S2048x1408, .f32⟩
  | 88 => ⟨S2048x1408, .f32⟩
  | 89 => ⟨S_, .f32⟩
  | 90 => ⟨S2048x1408, .f32⟩
  | 91 => ⟨S2048x1408, .f32⟩
  | 92 => ⟨S2048x1408, .f32⟩
  | 93 => ⟨S_, .f32⟩
  | 94 => ⟨S2048x1408, .f32⟩
  | 95 => ⟨S2048x1408, .f32⟩
  | 96 => ⟨S2048x1408, .f32⟩
  | 97 => ⟨S_, .f32⟩
  | 98 => ⟨S2048x1408, .f32⟩
  | 99 => ⟨S2048x1408, .f32⟩
  | 100 => ⟨S2048x1408, .f32⟩
  | 101 => ⟨S_, .f32⟩
  | 102 => ⟨S2048x1408, .f32⟩
  | 103 => ⟨S2048x1408, .f32⟩
  | 104 => ⟨S_, .f32⟩
  | 105 => ⟨S2048x1408, .f32⟩
  | 106 => ⟨S2048x1408, .f32⟩
  | 107 => ⟨S2048x1408, .f32⟩
  | 108 => ⟨S_, .f32⟩
  | 109 => ⟨S2048x1408, .f32⟩
  | 110 => ⟨S2048x1408, .f32⟩
  | 111 => ⟨S2048x1408, .f32⟩
  | 112 => ⟨S_, .f32⟩
  | 113 => ⟨S2048x1408, .f32⟩
  | 114 => ⟨S2048x1408, .f32⟩
  | 115 => ⟨S2048x1408, .f32⟩
  | 116 => ⟨S_, .f32⟩
  | 117 => ⟨S2048x1408, .f32⟩
  | 118 => ⟨S2048x1408, .f32⟩
  | 119 => ⟨S_, .f32⟩
  | 120 => ⟨S2048x1408, .f32⟩
  | 121 => ⟨S2048x1408, .f32⟩
  | 122 => ⟨S_, .f32⟩
  | 123 => ⟨S2048x1408, .f32⟩
  | 124 => ⟨S2048x1408, .f32⟩
  | 125 => ⟨S2048x1408, .f32⟩
  | 126 => ⟨S_, .f32⟩
  | 127 => ⟨S2048x1408, .f32⟩
  | _ => ⟨S2048x1792, .f32⟩

abbrev hbmTy0_1 (i : Nat) : BufTy := match i % 128 with
  | 0 => ⟨S2048x1408, .f32⟩
  | 1 => ⟨S2048x1408, .f32⟩
  | 2 => ⟨S_, .f32⟩
  | 3 => ⟨S2048x1408, .f32⟩
  | 4 => ⟨S2048x1408, .f32⟩
  | 5 => ⟨S2048x1408, .f32⟩
  | 6 => ⟨S_, .f32⟩
  | 7 => ⟨S2048x1408, .f32⟩
  | 8 => ⟨S2048x1408, .f32⟩
  | 9 => ⟨S_, .f32⟩
  | 10 => ⟨S2048x1408, .f32⟩
  | 11 => ⟨S2048x1408, .f32⟩
  | 12 => ⟨S2048x1408, .f32⟩
  | 13 => ⟨S_, .f32⟩
  | 14 => ⟨S2048x1408, .f32⟩
  | 15 => ⟨S2048x1408, .f32⟩
  | 16 => ⟨S2048x1408, .f32⟩
  | 17 => ⟨S_, .f32⟩
  | 18 => ⟨S2048x1408, .f32⟩
  | 19 => ⟨S2048x1408, .f32⟩
  | 20 => ⟨S2048x1408, .f32⟩
  | 21 => ⟨S_, .f32⟩
  | 22 => ⟨S2048x1408, .f32⟩
  | 23 => ⟨S2048x1408, .f32⟩
  | 24 => ⟨S_, .f32⟩
  | 25 => ⟨S1408x2048, .f32⟩
  | 26 => ⟨S1408x2048, .f32⟩
  | 27 => ⟨S_, .f32⟩
  | 28 => ⟨S1408x2048, .f32⟩
  | 29 => ⟨S1408x2048, .f32⟩
  | 30 => ⟨S1408x2048, .f32⟩
  | 31 => ⟨S_, .f32⟩
  | 32 => ⟨S1408x2048, .f32⟩
  | 33 => ⟨S1408x2048, .f32⟩
  | 34 => ⟨S1408x2048, .f32⟩
  | 35 => ⟨S_, .f32⟩
  | 36 => ⟨S1408x2048, .f32⟩
  | 37 => ⟨S1408x2048, .f32⟩
  | 38 => ⟨S1408x2048, .f32⟩
  | 39 => ⟨S_, .f32⟩
  | 40 => ⟨S1408x2048, .f32⟩
  | 41 => ⟨S1408x2048, .f32⟩
  | 42 => ⟨S_, .f32⟩
  | 43 => ⟨S1408x2048, .f32⟩
  | 44 => ⟨S1408x2048, .f32⟩
  | 45 => ⟨S1408x2048, .f32⟩
  | 46 => ⟨S_, .f32⟩
  | 47 => ⟨S1408x2048, .f32⟩
  | 48 => ⟨S1408x2048, .f32⟩
  | 49 => ⟨S1408x2048, .f32⟩
  | 50 => ⟨S_, .f32⟩
  | 51 => ⟨S1408x2048, .f32⟩
  | 52 => ⟨S1408x2048, .f32⟩
  | 53 => ⟨S1408x2048, .f32⟩
  | 54 => ⟨S_, .f32⟩
  | 55 => ⟨S1408x2048, .f32⟩
  | 56 => ⟨S1408x2048, .f32⟩
  | _ => ⟨S2048x1792, .f32⟩

abbrev hbmTy (i : Nat) : BufTy := match i / 128 with
  | 0 => hbmTy0_0 i
  | 1 => hbmTy0_1 i
  | _ => ⟨S2048x1792, .f32⟩

abbrev bufTy : (tb : Table) → Fin (tcTables nBuf tb) → BufTy
  | .hbm, ⟨i, _⟩ => hbmTy i
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_v23 : Ref sig .tc := ⟨.hbm, 52, rfl⟩
abbrev main_cst_8 : Ref sig .tc := ⟨.hbm, 53, rfl⟩
abbrev main_v24 : Ref sig .tc := ⟨.hbm, 54, rfl⟩
abbrev main_v25 : Ref sig .tc := ⟨.hbm, 55, rfl⟩
abbrev main_cst_9 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_10 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_11 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_12 : Ref sig .tc := ⟨.hbm, 68, rfl⟩
abbrev main_v35 : Ref sig .tc := ⟨.hbm, 69, rfl⟩
abbrev main_v36 : Ref sig .tc := ⟨.hbm, 70, rfl⟩
abbrev main_cst_13 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_14 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_15 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_16 : Ref sig .tc := ⟨.hbm, 83, rfl⟩
abbrev main_v46 : Ref sig .tc := ⟨.hbm, 84, rfl⟩
abbrev main_v47 : Ref sig .tc := ⟨.hbm, 85, rfl⟩
abbrev main_cst_17 : Ref sig .tc := ⟨.hbm, 86, rfl⟩
abbrev main_v48 : Ref sig .tc := ⟨.hbm, 87, rfl⟩
abbrev main_v49 : Ref sig .tc := ⟨.hbm, 88, rfl⟩
abbrev main_cst_18 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_19 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_20 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_21 : Ref sig .tc := ⟨.hbm, 101, rfl⟩
abbrev main_v59 : Ref sig .tc := ⟨.hbm, 102, rfl⟩
abbrev main_v60 : Ref sig .tc := ⟨.hbm, 103, rfl⟩
abbrev main_cst_22 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_23 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_24 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_25 : Ref sig .tc := ⟨.hbm, 116, rfl⟩
abbrev main_v70 : Ref sig .tc := ⟨.hbm, 117, rfl⟩
abbrev main_v71 : Ref sig .tc := ⟨.hbm, 118, rfl⟩
abbrev main_cst_26 : Ref sig .tc := ⟨.hbm, 119, rfl⟩
abbrev main_v72 : Ref sig .tc := ⟨.hbm, 120, rfl⟩
abbrev main_v73 : Ref sig .tc := ⟨.hbm, 121, rfl⟩
abbrev main_cst_27 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_28 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_29 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_30 : Ref sig .tc := ⟨.hbm, 134, rfl⟩
abbrev main_v83 : Ref sig .tc := ⟨.hbm, 135, rfl⟩
abbrev main_v84 : Ref sig .tc := ⟨.hbm, 136, rfl⟩
abbrev main_cst_31 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_32 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_33 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_34 : Ref sig .tc := ⟨.hbm, 149, rfl⟩
abbrev main_v94 : Ref sig .tc := ⟨.hbm, 150, rfl⟩
abbrev main_v95 : Ref sig .tc := ⟨.hbm, 151, rfl⟩
abbrev main_cst_35 : Ref sig .tc := ⟨.hbm, 152, rfl⟩
abbrev main_v96 : Ref sig .tc := ⟨.hbm, 153, rfl⟩
abbrev main_v97 : Ref sig .tc := ⟨.hbm, 154, rfl⟩
abbrev main_cst_36 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_37 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_38 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_39 : Ref sig .tc := ⟨.hbm, 167, rfl⟩
abbrev main_v107 : Ref sig .tc := ⟨.hbm, 168, rfl⟩
abbrev main_v108 : Ref sig .tc := ⟨.hbm, 169, rfl⟩
abbrev main_cst_40 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_41 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_cst_42 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_43 : Ref sig .tc := ⟨.hbm, 182, rfl⟩
abbrev main_v118 : Ref sig .tc := ⟨.hbm, 183, rfl⟩
abbrev main_v119 : Ref sig .tc := ⟨.hbm, 184, rfl⟩

abbrev nD : Nat := 1
abbrev τ : Topo := Topo.v7x

variable {F : FTy → Type} [FloatOps F]
-- ==== Kernel7.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel8.lean ====
abbrev S2048x2048 : Shape := ⟨2, ![2048, 2048]⟩
abbrev S2048x7168 : Shape := ⟨2, ![2048, 7168]⟩
abbrev S1 : Shape := ⟨1, ![1]⟩
abbrev S2048x256 : Shape := ⟨2, ![2048, 256]⟩

abbrev nBuf : Space → Nat
  | .hbm => 4
  | .vmem => 5
  | .smem => 1
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S2048x7168, .f32⟩
  | .hbm, ⟨3, _⟩ => ⟨S2048x7168, .f32⟩
  | .local _ .vmem, ⟨0, _⟩ => ⟨S2048x2048, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .f32⟩
  | .local _ .vmem, ⟨4, _⟩ => ⟨S2048x256, .f32⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.muli v0 c7_i32
  let v2 : BitVec 32 := Scalar.addi v1 arg0
  let c0_i32 : BitVec 32 := 0#32
  let c0_i32_0 : BitVec 32 := 0#32
  ![c0_i32.toNat, v2.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.muli v0 c7_i32
  let v2 : BitVec 32 := Scalar.addi v1 arg0
  let c0_i32 : BitVec 32 := 0#32
  let c0_i32_0 : BitVec 32 := 0#32
  ![c0_i32.toNat, v2.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S2048x2048 : Shape := ⟨2, ![2048, 2048]⟩
abbrev S2048x7168 : Shape := ⟨2, ![2048, 7168]⟩
abbrev S1 : Shape := ⟨1, ![1]⟩
abbrev S4 : Shape := ⟨1, ![4]⟩
abbrev S_ : Shape := ⟨0, ![]⟩
abbrev S4x1 : Shape := ⟨2, ![4, 1]⟩
abbrev S4x1792 : Shape := ⟨2, ![4, 1792]⟩
abbrev S7168 : Shape := ⟨1, ![7168]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S2048x7168, .f32⟩
  | .hbm, ⟨3, _⟩ => ⟨S1, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S4x1, .i1⟩
  | .hbm, ⟨9, _⟩ => ⟨S4x1792, .i1⟩
  | .hbm, ⟨10, _⟩ => ⟨S7168, .i1⟩
  | .hbm, ⟨11, _⟩ => ⟨S2048x7168, .f32⟩
  | .hbm, ⟨12, _⟩ => ⟨S2048x7168, .i1⟩
  | .hbm, ⟨13, _⟩ => ⟨S2048x7168, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel9.lean ====
abbrev S2048x2048 : Shape := ⟨2, ![2048, 2048]⟩
abbrev S2048x7168 : Shape := ⟨2, ![2048, 7168]⟩
abbrev S1 : Shape := ⟨1, ![1]⟩
abbrev S2048x256 : Shape := ⟨2, ![2048, 256]⟩

abbrev nBuf : Space → Nat
  | .hbm => 3
  | .vmem => 5
  | .smem => 1
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S2048x7168, .f32⟩
  | .local _ .vmem, ⟨0, _⟩ => ⟨S2048x2048, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .f32⟩
  | .local _ .vmem, ⟨4, _⟩ => ⟨S2048x256, .f32⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.muli v0 c7_i32
  let v2 : BitVec 32 := Scalar.addi v1 arg0
  let c0_i32 : BitVec 32 := 0#32
  let c0_i32_0 : BitVec 32 := 0#32
  ![c0_i32.toNat, v2.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.muli v0 c7_i32
  let v2 : BitVec 32 := Scalar.addi v1 arg0
  let c0_i32 : BitVec 32 := 0#32
  let c0_i32_0 : BitVec 32 := 0#32
  ![c0_i32.toNat, v2.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S2048x2048 : Shape := ⟨2, ![2048, 2048]⟩
abbrev S2048x7168 : Shape := ⟨2, ![2048, 7168]⟩
abbrev S1 : Shape := ⟨1, ![1]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S1, .i32⟩
  | .hbm, ⟨3, _⟩ => ⟨S2048x7168, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Mlp.Run.lean ====
/- The five calls run one after the other: the program ends with its four results at the contents of the last
   boundary and its arguments as launched. -/
module

public import proofs.«01_k».proof.Proof.Gen.Kernel2Ideal.Frame

@[expose] public section

set_option maxRecDepth 16384

noncomputable section

namespace Cert.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the results at the last boundary's contents, the arguments unchanged. -/
theorem run_main : θ_run defs (onTc (τ := τ) (main (F := F))) ⟨m, fun _ => 0, ρ⟩ (fun r => ∀ c : Dev nD,
      r.2.mem ((c.tc : Thread nD τ).loc main_v1) = W5 m ρ c (Proc.devRef .tc main_v1)
      ∧ r.2.mem ((c.tc : Thread nD τ).loc main_v4_0) = W5 m ρ c (Proc.devRef .tc main_v4_0)
      ∧ r.2.mem ((c.tc : Thread nD τ).loc main_v4_1) = W5 m ρ c (Proc.devRef .tc main_v4_1)
      ∧ r.2.mem ((c.tc : Thread nD τ).loc main_v3) = W5 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v1 (by decide)),
       h c _ (mem_uc main_v4_0 (by decide)),
       h c _ (mem_uc main_v4_1 (by decide)),
       h c _ (mem_uc main_v3 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.Mlp

end
-- ==== Proof.Mlp.Blocks.lean ====
/- What each of the five calls of the feed-forward layer leaves in its output arrays: the plain formula of the
   arrays it reads, at every element. -/
module

public import proofs.«01_k».proof.Proof.Gen.Kernel2Ideal.Frame
public import Idealize.ShloMosaic.Lib.Pipeline.ValueKit

@[expose] public section

set_option maxRecDepth 16384

noncomputable section

namespace Cert.Mlp

open Cert.Kernel2Ideal Cert.Kernel2Ideal.Gen
open Idealize.ShloMosaic Idealize.ShloMosaic.TcCoe Idealize.SL.Sem
open Idealize.ShloMosaic.Pipeline (Dat)

/-- The product of two matrices. -/
def mm {a b c : ℕ} (X : FVec Ideal ⟨2, ![a, b]⟩ .bf16) (Y : FVec Ideal ⟨2, ![b, c]⟩ .bf16) : FVec Ideal ⟨2, ![a, c]⟩ .bf16 :=
  fun i => ∑ k : Fin b, X (ix2 (i 0) k) * Y (ix2 k (i 1))

/-- The product of a matrix with a transposed one. -/
def mmNT {a b c : ℕ} (X : FVec Ideal ⟨2, ![a, b]⟩ .bf16) (Y : FVec Ideal ⟨2, ![c, b]⟩ .bf16) : FVec Ideal ⟨2, ![a, c]⟩ .bf16 :=
  fun i => ∑ k : Fin b, X (ix2 (i 0) k) * Y (ix2 (i 1) k)

/-- The product of a transposed matrix with another. -/
def mmTN {a b c : ℕ} (X : FVec Ideal ⟨2, ![b, a]⟩ .bf16) (Y : FVec Ideal ⟨2, ![b, c]⟩ .bf16) : FVec Ideal ⟨2, ![a, c]⟩ .bf16 :=
  fun i => ∑ k : Fin b, X (ix2 k (i 0)) * Y (ix2 k (i 1))

/-- The sigmoid, as the kernel spells it. -/
def sig1 {S : Shape} (G : FVec Ideal S .f32) : FVec Ideal S .f32 :=
  divf (broadcast S (Scalar.ofBits .f32 0x3F800000#32)) (addf (broadcast S (Scalar.ofBits .f32 0x3F800000#32)) (exp (subf (broadcast S (Scalar.ofBits .f32 0x00000000#32)) G)))

/-- The gated activation. -/
def actOf {S : Shape} (G U : FVec Ideal S .bf16) : FVec Ideal S .bf16 :=
  truncf .bf16 (mulf (mulf (extf .f32 G bitsLt_bf16_f32) (sig1 (extf .f32 G bitsLt_bf16_f32))) (extf .f32 U bitsLt_bf16_f32)) bitsLt_bf16_f32

/-- The gate's gradient, from the activation's. -/
def dgateOf {S : Shape} (D G U : FVec Ideal S .bf16) : FVec Ideal S .bf16 :=
  truncf .bf16 (mulf (mulf (mulf (extf .f32 D bitsLt_bf16_f32) (extf .f32 U bitsLt_bf16_f32)) (sig1 (extf .f32 G bitsLt_bf16_f32)))
    (addf (broadcast S (Scalar.ofBits .f32 0x3F800000#32)) (mulf (extf .f32 G bitsLt_bf16_f32)
      (subf (broadcast S (Scalar.ofBits .f32 0x3F800000#32)) (sig1 (extf .f32 G bitsLt_bf16_f32)))))) bitsLt_bf16_f32

/-- The linear branch's gradient, from the activation's. -/
def dupOf {S : Shape} (D G : FVec Ideal S .bf16) : FVec Ideal S .bf16 :=
  truncf .bf16 (mulf (mulf (extf .f32 D bitsLt_bf16_f32) (extf .f32 G bitsLt_bf16_f32)) (sig1 (extf .f32 G bitsLt_bf16_f32))) bitsLt_bf16_f32

variable (V : (c : Dev nD) → (b : Ref sig .tc) → Buf (Elt Ideal) ((c : Thread nD τ).loc b))

theorem idx0 : ∀ t : Fin cfg0.N, win0_0.index t = ![0, 0] ∧ win0_1.index t = ![0, 0] ∧ win0_2.index t = ![0, t.val] ∧ win0_3.index t = ![0, t.val]
    ∧ win0_4.index t = ![0, t.val] ∧ win0_5.index t = ![0, t.val] ∧ win0_6.index t = ![0, t.val] :=
  (by decide +kernel : ∀ t : Fin grid0.N, _)

theorem idx1 : ∀ t : Fin cfg1.N, win1_0.index t = ![t.val / 4, 0] ∧ win1_1.index t = ![0, t.val % 4] ∧ win1_2.index t = ![t.val / 4, t.val % 4]
    ∧ win1_3.index t = ![t.val / 4, t.val % 4] :=
  (by decide +kernel : ∀ t : Fin grid1.N, _)

theorem idx2 : ∀ t : Fin cfg2.N, win2_0.index t = ![0, 0] ∧ win2_1.index t = ![t.val, 0] ∧ win2_2.index t = ![0, t.val] ∧ win2_3.index t = ![0, t.val]
    ∧ win2_4.index t = ![0, t.val] ∧ win2_5.index t = ![0, t.val] :=
  (by decide +kernel : ∀ t : Fin grid2.N, _)

theorem idx3 : ∀ t : Fin cfg3.N, win3_0.index t = ![0, t.val] ∧ win3_1.index t = ![0, 0] ∧ win3_2.index t = ![t.val, 0] :=
  (by decide +kernel : ∀ t : Fin grid3.N, _)

theorem idx4 : ∀ t : Fin cfg4.N, win4_0.index t = ![0, t.val / 11] ∧ win4_1.index t = ![0, t.val / 11] ∧ win4_2.index t = ![0, t.val % 11] ∧ win4_3.index t = ![0, t.val % 11]
    ∧ win4_4.index t = ![t.val / 11, t.val % 11] ∧ win4_5.index t = ![t.val / 11, t.val % 11] :=
  (by decide +kernel : ∀ t : Fin grid4.N, _)

/-- `gate_up` leaves the gate: the product of its inputs with the gate weights. -/
theorem gate_eq (c : Dev nD) : (dat0 V c).arrAt 4 cfg0.N = mm (V c main_arg1) (V c main_arg2) := by
  refine (dat0 V c).arrAt_eq_of_covers 4 _ (by decide +kernel) fun t _ y => ?_
  blk_simp
  rw [after0_4]
  frame_out
  pointwise [k0_pay3, k0_pay1, mm]
  blk_point [iblk0, idx0 t]

/-- `gate_up` leaves the linear branch. -/
theorem up_eq (c : Dev nD) : (dat0 V c).arrAt 5 cfg0.N = mm (V c main_arg1) (V c main_arg3) := by
  refine (dat0 V c).arrAt_eq_of_covers 5 _ (by decide +kernel) fun t _ y => ?_
  blk_simp
  rw [after0_5]
  frame_out
  pointwise [k0_pay4, k0_pay2, mm]
  blk_point [iblk0, idx0 t]

/-- `gate_up` leaves the gated activation. -/
theorem act_eq (c : Dev nD) : (dat0 V c).arrAt 6 cfg0.N = actOf (mm (V c main_arg1) (V c main_arg2)) (mm (V c main_arg1) (V c main_arg3)) := by
  refine (dat0 V c).arrAt_eq_of_covers 6 _ (by decide +kernel) fun t _ y => ?_
  blk_simp
  rw [after0_6]
  frame_out
  pointwise [k0_pay5, k0_pay1, k0_pay2, actOf, sig1, mm]
  blk_point [iblk0, idx0 t]

/-- `down_proj` leaves the product with the down weights added to the residual. -/
theorem down_eq (c : Dev nD) : (dat1 V c).arrAt 3 cfg1.N = addf (mm (V c main_v0_2) (V c main_arg4)) (V c main_arg0) := by
  refine (dat1 V c).arrAt_eq_of_covers 3 _ (by decide +kernel) fun t _ y => ?_
  blk_simp
  rw [after1_3]
  frame_out
  pointwise [k1_pay1, mm]
  blk_point [iblk1, idx1 t]

/-- `d_act` leaves the gate's gradient. -/
theorem dgate_eq (c : Dev nD) : (dat2 V c).arrAt 4 cfg2.N = dgateOf (mmNT (V c main_arg5) (V c main_arg4)) (V c main_v0_0) (V c main_v0_1) := by
  refine (dat2 V c).arrAt_eq_of_covers 4 _ (by decide +kernel) fun t _ y => ?_
  blk_simp
  rw [after2_4]
  frame_out
  pointwise [k2_pay1, k2_pay2, k2_pay3, k2_pay4, dgateOf, sig1, mmNT]
  blk_point [iblk2, idx2 t]

/-- `d_act` leaves the linear branch's gradient. -/
theorem dup_eq (c : Dev nD) : (dat2 V c).arrAt 5 cfg2.N = dupOf (mmNT (V c main_arg5) (V c main_arg4)) (V c main_v0_0) := by
  refine (dat2 V c).arrAt_eq_of_covers 5 _ (by decide +kernel) fun t _ y => ?_
  blk_simp
  rw [after2_5]
  frame_out
  pointwise [k2_pay1, k2_pay2, k2_pay3, k2_pay5, dupOf, sig1, mmNT]
  blk_point [iblk2, idx2 t]

/-- `g_w_down` leaves the down weights' gradient. -/
theorem gdown_eq (c : Dev nD) : (dat3 V c).arrAt 2 cfg3.N = mmTN (V c main_v0_2) (V c main_arg5) := by
  refine (dat3 V c).arrAt_eq_of_covers 2 _ (by decide +kernel) fun t _ y => ?_
  blk_simp
  rw [after3_2]
  frame_out
  pointwise [k3_pay1, mmTN]
  blk_point [iblk3, idx3 t]

/-- `g_w_gate_up` leaves the gate weights' gradient. -/
theorem ggate_eq (c : Dev nD) : (dat4 V c).arrAt 4 cfg4.N = mmTN (V c main_arg1) (V c main_v2_0) := by
  refine (dat4 V c).arrAt_eq_of_covers 4 _ (by decide +kernel) fun t _ y => ?_
  blk_simp
  rw [after4_4]
  frame_out
  pointwise [k4_pay1, mmTN]
  blk_point [iblk4, idx4 t]

/-- `g_w_gate_up` leaves the up weights' gradient. -/
theorem gup_eq (c : Dev nD) : (dat4 V c).arrAt 5 cfg4.N = mmTN (V c main_arg1) (V c main_v2_1) := by
  refine (dat4 V c).arrAt_eq_of_covers 5 _ (by decide +kernel) fun t _ y => ?_
  blk_simp
  rw [after4_5]
  frame_out
  pointwise [k4_pay2, mmTN]
  blk_point [iblk4, idx4 t]

end Cert.Mlp

end
-- ==== Proof.Mlp.Chain.lean ====
/- The results of the five calls as plain formulas of the program's arguments. -/
module

public import proofs.«01_k».proof.Proof.Mlp.Blocks

@[expose] public section

set_option maxRecDepth 16384

noncomputable section

namespace Cert.Mlp

open Cert.Kernel2Ideal Cert.Kernel2Ideal.Gen
open Idealize.ShloMosaic Idealize.ShloMosaic.TcCoe Idealize.SL.Sem

variable (m : (ℓ : Loc nD τ sig) → Buf (Elt Ideal) ℓ) (ρ : Dev nD → PrngReg) (c : Dev nD)

/-- The gate after the first call. -/
theorem W1_gate : W1 m ρ c (Proc.devRef .tc main_v0_0)
    = mm (m ((c : Thread nD τ).loc main_arg1)) (m ((c : Thread nD τ).loc main_arg2)) :=
  (W1_arr m ρ c 4).trans (gate_eq (V0 m ρ) c)

/-- The linear branch after the first call. -/
theorem W1_up : W1 m ρ c (Proc.devRef .tc main_v0_1)
    = mm (m ((c : Thread nD τ).loc main_arg1)) (m ((c : Thread nD τ).loc main_arg3)) :=
  (W1_arr m ρ c 5).trans (up_eq (V0 m ρ) c)

/-- The activation after the first call. -/
theorem W1_act : W1 m ρ c (Proc.devRef .tc main_v0_2)
    = actOf (mm (m ((c : Thread nD τ).loc main_arg1)) (m ((c : Thread nD τ).loc main_arg2)))
        (mm (m ((c : Thread nD τ).loc main_arg1)) (m ((c : Thread nD τ).loc main_arg3))) :=
  (W1_arr m ρ c 6).trans (act_eq (V0 m ρ) c)

/-- The gate before the third call. -/
theorem W2_gate : W2 m ρ c (Proc.devRef .tc main_v0_0)
    = mm (m ((c : Thread nD τ).loc main_arg1)) (m ((c : Thread nD τ).loc main_arg2)) :=
  (W2_of m ρ c main_v0_0 (by decide)).trans (W1_gate m ρ c)

/-- The linear branch before the third call. -/
theorem W2_up : W2 m ρ c (Proc.devRef .tc main_v0_1)
    = mm (m ((c : Thread nD τ).loc main_arg1)) (m ((c : Thread nD τ).loc main_arg3)) :=
  (W2_of m ρ c main_v0_1 (by decide)).trans (W1_up m ρ c)

/-- The activation before the fourth call. -/
theorem W3_act : W3 m ρ c (Proc.devRef .tc main_v0_2)
    = actOf (mm (m ((c : Thread nD τ).loc main_arg1)) (m ((c : Thread nD τ).loc main_arg2)))
        (mm (m ((c : Thread nD τ).loc main_arg1)) (m ((c : Thread nD τ).loc main_arg3))) :=
  ((W3_of m ρ c main_v0_2 (by decide)).trans (W2_of m ρ c main_v0_2 (by decide))).trans (W1_act m ρ c)

/-- The gate's gradient before the last call. -/
theorem W4_dgate : W4 m ρ c (Proc.devRef .tc main_v2_0)
    = dgateOf (mmNT (m ((c : Thread nD τ).loc main_arg5)) (m ((c : Thread nD τ).loc main_arg4)))
        (mm (m ((c : Thread nD τ).loc main_arg1)) (m ((c : Thread nD τ).loc main_arg2)))
        (mm (m ((c : Thread nD τ).loc main_arg1)) (m ((c : Thread nD τ).loc main_arg3))) := by
  refine (W4_of m ρ c main_v2_0 (by decide)).trans ((W3_arr m ρ c 4).trans ((dgate_eq (V2 m ρ) c).trans ?_))
  rw [show V2 m ρ c main_arg5 = _ from W2_args m ρ c main_arg5 (by decide), show V2 m ρ c main_arg4 = _ from W2_args m ρ c main_arg4 (by decide),
    show V2 m ρ c main_v0_0 = _ from W2_gate m ρ c, show V2 m ρ c main_v0_1 = _ from W2_up m ρ c]

/-- The linear branch's gradient before the last call. -/
theorem W4_dup : W4 m ρ c (Proc.devRef .tc main_v2_1)
    = dupOf (mmNT (m ((c : Thread nD τ).loc main_arg5)) (m ((c : Thread nD τ).loc main_arg4)))
        (mm (m ((c : Thread nD τ).loc main_arg1)) (m ((c : Thread nD τ).loc main_arg2))) := by
  refine (W4_of m ρ c main_v2_1 (by decide)).trans ((W3_arr m ρ c 5).trans ((dup_eq (V2 m ρ) c).trans ?_))
  rw [show V2 m ρ c main_arg5 = _ from W2_args m ρ c main_arg5 (by decide), show V2 m ρ c main_arg4 = _ from W2_args m ρ c main_arg4 (by decide),
    show V2 m ρ c main_v0_0 = _ from W2_gate m ρ c]

/-- The layer's output at the end. -/
theorem W5_out : W5 m ρ c (Proc.devRef .tc main_v1)
    = addf (mm (actOf (mm (m ((c : Thread nD τ).loc main_arg1)) (m ((c : Thread nD τ).loc main_arg2)))
        (mm (m ((c : Thread nD τ).loc main_arg1)) (m ((c : Thread nD τ).loc main_arg3)))) (m ((c : Thread nD τ).loc main_arg4)))
      (m ((c : Thread nD τ).loc main_arg0)) := by
  refine (W5_of m ρ c main_v1 (by decide)).trans ((W4_of m ρ c main_v1 (by decide)).trans ((W3_of m ρ c main_v1 (by decide)).trans
    ((W2_arr m ρ c 3).trans ((down_eq (V1 m ρ) c).trans ?_))))
  rw [show V1 m ρ c main_v0_2 = _ from W1_act m ρ c, show V1 m ρ c main_arg4 = _ from W1_args m ρ c main_arg4 (by decide),
    show V1 m ρ c main_arg0 = _ from W1_args m ρ c main_arg0 (by decide)]

/-- The down weights' gradient at the end. -/
theorem W5_gdown : W5 m ρ c (Proc.devRef .tc main_v3)
    = mmTN (actOf (mm (m ((c : Thread nD τ).loc main_arg1)) (m ((c : Thread nD τ).loc main_arg2)))
        (mm (m ((c : Thread nD τ).loc main_arg1)) (m ((c : Thread nD τ).loc main_arg3)))) (m ((c : Thread nD τ).loc main_arg5)) := by
  refine (W5_of m ρ c main_v3 (by decide)).trans ((W4_arr m ρ c 2).trans ((gdown_eq (V3 m ρ) c).trans ?_))
  rw [show V3 m ρ c main_v0_2 = _ from W3_act m ρ c, show V3 m ρ c main_arg5 = _ from W3_args m ρ c main_arg5 (by decide)]

/-- The gate weights' gradient at the end. -/
theorem W5_ggate : W5 m ρ c (Proc.devRef .tc main_v4_0)
    = mmTN (m ((c : Thread nD τ).loc main_arg1))
        (dgateOf (mmNT (m ((c : Thread nD τ).loc main_arg5)) (m ((c : Thread nD τ).loc main_arg4)))
          (mm (m ((c : Thread nD τ).loc main_arg1)) (m ((c : Thread nD τ).loc main_arg2)))
          (mm (m ((c : Thread nD τ).loc main_arg1)) (m ((c : Thread nD τ).loc main_arg3)))) := by
  refine (W5_arr m ρ c 4).trans ((ggate_eq (V4 m ρ) c).trans ?_)
  rw [show V4 m ρ c main_arg1 = _ from W4_args m ρ c main_arg1 (by decide), show V4 m ρ c main_v2_0 = _ from W4_dgate m ρ c]

/-- The up weights' gradient at the end. -/
theorem W5_gup : W5 m ρ c (Proc.devRef .tc main_v4_1)
    = mmTN (m ((c : Thread nD τ).loc main_arg1))
        (dupOf (mmNT (m ((c : Thread nD τ).loc main_arg5)) (m ((c : Thread nD τ).loc main_arg4)))
          (mm (m ((c : Thread nD τ).loc main_arg1)) (m ((c : Thread nD τ).loc main_arg2)))) := by
  refine (W5_arr m ρ c 5).trans ((gup_eq (V4 m ρ) c).trans ?_)
  rw [show V4 m ρ c main_arg1 = _ from W4_args m ρ c main_arg1 (by decide), show V4 m ρ c main_v2_1 = _ from W4_dup m ρ c]

end Cert.Mlp

end
-- ==== Proof.Mlp.Ref.lean ====
/- The reference's results as the same plain formulas: for finite arguments. -/
module

public import proofs.«01_k».proof.Proof.Mlp.Blocks
public import proofs.«01_k».proof.Proof.Gen.Reference2Ideal.Read

@[expose] public section

set_option maxRecDepth 16384

noncomputable section

namespace Cert.Mlp

open Cert.Reference2Ideal Cert.Reference2Ideal.Read
open Idealize.ShloMosaic Idealize.ShloMosaic.TcCoe Idealize.SL.Sem

/-- Every element is a real number. -/
def Finite {S : Shape} {φ : FTy} (X : FVec Ideal S φ) : Prop := ∀ i, ∃ r : ℝ, X i = (r : EReal)

/-- A finite sum of products of reals is a real. -/
theorem sum_real {n : ℕ} (f g : Fin n → EReal) (hf : ∀ k, ∃ r : ℝ, f k = (r : EReal)) (hg : ∀ k, ∃ r : ℝ, g k = (r : EReal)) :
    ∃ r : ℝ, ∑ k, f k * g k = (r : EReal) := by
  choose a ha using hf
  choose b hb using hg
  refine ⟨∑ k, a k * b k, ?_⟩
  rw [Finset.sum_congr rfl (g := fun k => ((a k * b k : ℝ) : EReal)) fun k _ => by rw [ha, hb, EReal.coe_mul]]
  exact (map_sum (⟨⟨Real.toEReal, rfl⟩, EReal.coe_add⟩ : ℝ →+ EReal) (fun k => a k * b k) Finset.univ).symm

/-- The product of two finite matrices is finite. -/
theorem mm_finite {a b c : ℕ} (X : FVec Ideal ⟨2, ![a, b]⟩ .bf16) (Y : FVec Ideal ⟨2, ![b, c]⟩ .bf16) (hX : Finite X) (hY : Finite Y) :
    Finite (mm X Y) := fun i => sum_real _ _ (fun k => hX _) (fun k => hY _)

/-- The product of a finite matrix with a finite transposed one is finite. -/
theorem mmNT_finite {a b c : ℕ} (X : FVec Ideal ⟨2, ![a, b]⟩ .bf16) (Y : FVec Ideal ⟨2, ![c, b]⟩ .bf16) (hX : Finite X) (hY : Finite Y) :
    Finite (mmNT X Y) := fun i => sum_real _ _ (fun k => hX _) (fun k => hY _)

/-- The sigmoid of a real is the real sigmoid. -/
theorem sig_real (g : ℝ) : Ideal.div 1 (1 + Ideal.exp (-(g : EReal))) = ((1 / (1 + Real.exp (-g)) : ℝ) : EReal) := by
  rw [← EReal.coe_neg, Ideal.exp_coe, ← EReal.coe_one, ← EReal.coe_add, Ideal.div_coe (by positivity), EReal.coe_one, one_mul]

/-- The gate's cotangent in the reference's two terms and in the kernel's factored form, over the reals. -/
theorem dgate_real (d u g : ℝ) :
    (d : EReal) * u * Ideal.div 1 (1 + Ideal.exp (-(g : EReal)))
        + (g : EReal) * ((d : EReal) * u) * (Ideal.div 1 (1 + Ideal.exp (-(g : EReal))) * (1 - Ideal.div 1 (1 + Ideal.exp (-(g : EReal)))))
      = (d : EReal) * u * Ideal.div 1 (1 + Ideal.exp (-(g : EReal))) * (1 + (g : EReal) * (1 - Ideal.div 1 (1 + Ideal.exp (-(g : EReal))))) := by
  rw [sig_real]
  generalize 1 / (1 + Real.exp (-g)) = s
  norm_cast
  ring

section Values
variable (x0 : FVec Ideal S2048x2048 .f32) (x1 : FVec Ideal S2048x2048 .bf16) (x2 x3 : FVec Ideal S2048x5632 .bf16) (x4 : FVec Ideal S5632x2048 .bf16) (x5 : FVec Ideal S2048x2048 .bf16)

/-- The gate, read at an element. -/
theorem v5_at (b : Fin 1) (r : Fin 2048) (f : Fin 5632) : val_main_v5 (F := Ideal) x1 x2 (ix3 b r f) = mm x1 x2 (ix2 r f) := by
  pointwise [val_main_v5, val_main_v1, val_main_v2, val_main_v0, mm]

/-- The linear branch, read at an element. -/
theorem v6_at (b : Fin 1) (r : Fin 2048) (f : Fin 5632) : val_main_v6 (F := Ideal) x1 x3 (ix3 b r f) = mm x1 x3 (ix2 r f) := by
  pointwise [val_main_v6, val_main_v1, val_main_v3, val_main_v0, mm]

/-- The output's cotangent, read at an element. -/
theorem v11_at (b : Fin 1) (r k : Fin 2048) : val_main_v11 (F := Ideal) x5 (ix3 b r k) = x5 (ix2 r k) := by
  pointwise [val_main_v11, val_main_v10]

/-- The layer's input, read at an element. -/
theorem v1_at (b : Fin 1) (r k : Fin 2048) : val_main_v1 (F := Ideal) x1 (ix3 b r k) = x1 (ix2 r k) := by
  pointwise [val_main_v1, val_main_v0]

/-- The activation's cotangent, read at an element. -/
theorem v14_at (b : Fin 1) (r : Fin 2048) (f : Fin 5632) : val_main_v14 (F := Ideal) x4 x5 (ix3 b r f) = mmNT x5 x4 (ix2 r f) := by
  pointwise [val_main_v14, val_main_v11, val_main_v10, val_main_v4, mmNT]

/-- The gated activation, read at an element. -/
theorem v8_at (b : Fin 1) (r : Fin 2048) (f : Fin 5632) : val_main_v8 (F := Ideal) x1 x2 x3 (ix3 b r f) = actOf (mm x1 x2) (mm x1 x3) (ix2 r f) := by
  pointwise [val_main_v8, val_main_v7_0, val_main_v7_2, val_main_call0_v4, val_main_call0_cst_0, val_main_call0_v3, val_main_call0_v2, val_main_call0_cst, val_main_call0_v1, val_main_call0_v0, actOf, sig1, v5_at, v6_at]
  rw [zero_sub]

/-- The linear branch's cotangent, read at an element. -/
theorem v15_at (b : Fin 1) (r : Fin 2048) (f : Fin 5632) : val_main_v15 (F := Ideal) x1 x2 x4 x5 (ix3 b r f) = dupOf (mmNT x5 x4) (mm x1 x2) (ix2 r f) := by
  pointwise [val_main_v15, val_main_v7_0, val_main_v7_2, val_main_call0_v4, val_main_call0_cst_0, val_main_call0_v3, val_main_call0_v2, val_main_call0_cst, val_main_call0_v1, val_main_call0_v0, dupOf, sig1, v5_at, v6_at, v14_at]
  rw [zero_sub, mul_comm, mul_assoc]

/-- The gate's cotangent, read at an element: the reference adds the two terms that the kernel factors. -/
theorem v17_at (hG : Finite (mm x1 x2)) (hU : Finite (mm x1 x3)) (hD : Finite (mmNT x5 x4)) (b : Fin 1) (r : Fin 2048) (f : Fin 5632) : val_main_v17 (F := Ideal) x1 x2 x3 x4 x5 (ix3 b r f) = dgateOf (mmNT x5 x4) (mm x1 x2) (mm x1 x3) (ix2 r f) := by
  obtain ⟨g, hg⟩ := hG (ix2 r f)
  obtain ⟨u, hu⟩ := hU (ix2 r f)
  obtain ⟨d, hd⟩ := hD (ix2 r f)
  pointwise [val_main_v17, val_main_call1_v0, val_main_call1_v1, val_main_call1_v2, val_main_v16, val_main_v7_1, val_main_call0_v6, val_main_call0_v7, val_main_call0_cst_1, val_main_v7_0, val_main_v7_2, val_main_call0_v4, val_main_call0_cst_0, val_main_call0_v3, val_main_call0_v2, val_main_call0_cst, val_main_call0_v1, val_main_call0_v0, dgateOf, sig1, v5_at, v6_at, v14_at]
  rw [zero_sub, hg, hu, hd]
  exact dgate_real d u g

/-- The down weights' gradient. -/
theorem v26_ref : val_main_v26 (F := Ideal) x1 x2 x3 x5 = mmTN (actOf (mm x1 x2) (mm x1 x3)) x5 := by
  funext i
  pointwise [val_main_v26, val_main_v13, val_main_v12, mmTN, v11_at, v8_at]
  rw [Fin.sum_univ_one]
  exact Finset.sum_congr rfl fun k _ => mul_comm _ _

/-- The up weights' gradient. -/
theorem v25_ref : val_main_v25 (F := Ideal) x1 x2 x4 x5 = mmTN x1 (dupOf (mmNT x5 x4) (mm x1 x2)) := by
  funext i
  pointwise [val_main_v25, val_main_v19, val_main_v18, mmTN, v1_at, v15_at]
  rw [Fin.sum_univ_one]
  exact Finset.sum_congr rfl fun k _ => mul_comm _ _

/-- The gate weights' gradient. -/
theorem v24_ref (hG : Finite (mm x1 x2)) (hU : Finite (mm x1 x3)) (hD : Finite (mmNT x5 x4)) : val_main_v24 (F := Ideal) x1 x2 x3 x4 x5 = mmTN x1 (dgateOf (mmNT x5 x4) (mm x1 x2) (mm x1 x3)) := by
  funext i
  pointwise [val_main_v24, val_main_v21, val_main_v20, mmTN, v1_at, v17_at x1 x2 x3 x4 x5 hG hU hD]
  rw [Fin.sum_univ_one]
  exact Finset.sum_congr rfl fun k _ => mul_comm _ _

/-- The layer's output. -/
theorem v23_ref : val_main_v23 (F := Ideal) x0 x1 x2 x3 x4 = addf (mm (actOf (mm x1 x2) (mm x1 x3)) x4) x0 := by
  funext i
  pointwise [val_main_v23, val_main_v22, val_main_v9, val_main_v4, mm, v8_at]
  exact add_comm _ _

end Values
end Cert.Mlp

end
-- ==== Proof.Mlp.Tame.lean ====
/- What the precondition says: the arguments it names have finite elements. -/
module

public import proofs.«01_k».proof.Proof.Mlp.Ref
public import proofs.«01_k».proof.Proof.Gen.Pre_finite2
public import Idealize.ShloMosaic.Lib.ReduceAll

@[expose] public section

set_option maxRecDepth 16384

noncomputable section

namespace Cert.Mlp

open Cert.Pre_finite2 Cert.Pre_finite2.Facts
open Idealize.ShloMosaic Idealize.ShloMosaic.TcCoe Idealize.SL.Sem

/-- A value of magnitude below infinity is a real number. -/
theorem real_of_abs_lt_top (x : EReal) (h : max x (-x) < ⊤) : ∃ r : ℝ, x = (r : EReal) := by
  induction x with
  | bot => simp at h
  | top => simp at h
  | coe r => exact ⟨r, rfl⟩

/-- The constant that the elements are compared with is infinity. -/
theorem inf_top : Ideal.ofBits .f32 0x7F800000#32 = ⊤ := by simp [Ideal.ofBits, Ideal.ieee]

/-- An array of which all elements compare below infinity in magnitude is finite. -/
theorem finite_of_all {S : Shape} {axes : List (Fin S.rank)} (X : FVec Ideal S .f32) (hb : S_.BroadcastsInDim S (![] : Fin 0 → Fin S.rank))
    (h : S.ReducesTo axes S_) (hu : 0 < S_.numel) (j : S_.Idx)
    (e : Host.reduce IntOp.andi (cmpf .olt (Host.absf X) (broadcastInDim S ![] hb (constant S_ .f32 0x7F800000#32))) (constantI S_ 1 1#1) h hu j = 1#1) :
    ∀ i, ∃ r : ℝ, X i = (r : EReal) := fun i => by
  have h1 := Host.reduce_andi_all _ _ h hu j e i
  pointwise at h1
  rw [inf_top] at h1
  have h2 : FloatOps.absf (X i) < (⊤ : EReal) := by
    by_contra hn
    rw [decide_eq_false hn] at h1
    exact absurd h1 (by decide)
  exact real_of_abs_lt_top _ h2

variable (x0 : FVec Ideal S2048x2048 .f32) (x1 : FVec Ideal S2048x2048 .bf16) (x2 x3 : FVec Ideal S2048x5632 .bf16) (x4 : FVec Ideal S5632x2048 .bf16) (x5 : FVec Ideal S2048x2048 .bf16)

/-- The two operands of a conjunction that is true everywhere. -/
theorem andi_true (a b : IVec S_ 1) (j : S_.Idx) (h : andi a b j = 1#1) : a j = 1#1 ∧ b j = 1#1 := by
  have key : ∀ p q : BitVec 1, IntOp.andi p q = 1#1 → p = 1#1 ∧ q = 1#1 := by decide
  exact key _ _ h

/-- The precondition makes the input, the three weights and the cotangent finite. -/
theorem tame [Cert.Pre_finite2.Facts] (h : Cert.Pre_finite2.fn (F := Ideal) x0 x1 x2 x3 x4 x5 = fun _ => 1#1) :
    Finite x1 ∧ Finite x2 ∧ Finite x3 ∧ Finite x4 ∧ Finite x5 := by
  have hj := congrFun h ValueIdx.ix0
  dsimp only [fn, fn_part1] at hj
  obtain ⟨hj, h5⟩ := andi_true _ _ _ hj
  obtain ⟨hj, h4⟩ := andi_true _ _ _ hj
  obtain ⟨hj, h3⟩ := andi_true _ _ _ hj
  obtain ⟨h1, h2⟩ := andi_true _ _ _ hj
  exact ⟨finite_of_all _ _ _ _ _ h1, finite_of_all _ _ _ _ _ h2, finite_of_all _ _ _ _ _ h3, finite_of_all _ _ _ _ _ h4, finite_of_all _ _ _ _ _ h5⟩

end Cert.Mlp

end
-- ==== Proof.Mlp.Agree.lean ====
/- The feed-forward layer's five calls and the reference compute the same output and the same three gradients. -/
module

public import proofs.«01_k».proof.Proof.Mlp.Run
public import proofs.«01_k».proof.Proof.Mlp.Chain
public import proofs.«01_k».proof.Proof.Mlp.Tame
public import proofs.«01_k».proof.Proof.Gen.Kernel2Ideal
public import proofs.«01_k».proof.Proof.Gen.Reference2Ideal
public import proofs.«01_k».proof.Defs
public import Idealize.ShloMosaic.Lib.Claim

@[expose] public section

set_option maxRecDepth 16384

noncomputable section

namespace Cert.Mlp

open Idealize.ShloMosaic Idealize.ShloMosaic.TcCoe Idealize.SL.Sem

/-- The value claim of the feed-forward layer, for finite arguments. -/
theorem algebraic_mlp : @Cert.algebraic_Kernel2Ideal_Reference2Ideal_pre_finite2 Cert.Kernel2Ideal.Gen.facts Cert.Reference2Ideal.Gen.facts Cert.Pre_finite2.Gen.facts := by
  intro m g m' g' hpre hagree
  refine ⟨fun c => Cert.Kernel2Ideal.Gen.W5 m g c (Proc.devRef .tc Cert.Kernel2Ideal.main_v1),
    fun c => Cert.Kernel2Ideal.Gen.W5 m g c (Proc.devRef .tc Cert.Kernel2Ideal.main_v4_0),
    fun c => Cert.Kernel2Ideal.Gen.W5 m g c (Proc.devRef .tc Cert.Kernel2Ideal.main_v4_1),
    fun c => Cert.Kernel2Ideal.Gen.W5 m g c (Proc.devRef .tc Cert.Kernel2Ideal.main_v3), ?_, ?_⟩
  · exact (θ_run _ _ _).mono (fun r h c => h c) (run_main (F := Ideal) m g)
  · refine (θ_run _ _ _).mono (fun r h c => ?_) (Cert.Reference2Ideal.Value.run (F := Ideal) m' g')
    obtain ⟨a0, a1, a2, a3, a4, a5⟩ := hagree c
    obtain ⟨f1, f2, f3, f4, f5⟩ := tame _ _ _ _ _ _ (hpre c)
    obtain ⟨e0, e1, e2, e3, hargs⟩ := h c
    refine ⟨?_, ?_, ?_, ?_, hargs⟩
    · refine e0.trans ((Cert.Reference2Ideal.Read.val_main_v23_eq _ _ _ _ _).trans ((v23_ref _ _ _ _ _).trans ?_))
      rw [a0, a1, a2, a3, a4]
      exact (W5_out m g c).symm
    · refine e1.trans ((Cert.Reference2Ideal.Read.val_main_v24_eq _ _ _ _ _).trans ?_)
      rw [a1, a2, a3, a4, a5]
      exact (v24_ref _ _ _ _ _ (mm_finite _ _ f1 f2) (mm_finite _ _ f1 f3) (mmNT_finite _ _ f5 f4)).trans (W5_ggate m g c).symm
    · refine e2.trans ((Cert.Reference2Ideal.Read.val_main_v25_eq _ _ _ _).trans ((v25_ref _ _ _ _).trans ?_))
      rw [a1, a2, a4, a5]
      exact (W5_gup m g c).symm
    · refine e3.trans ((Cert.Reference2Ideal.Read.val_main_v26_eq _ _ _ _).trans ((v26_ref _ _ _ _).trans ?_))
      rw [a1, a2, a3, a5]
      exact (W5_gdown m g c).symm

end Cert.Mlp

end
-- ==== Proof.Proj.Run.lean ====
/- The five calls run one after the other: the program ends with its five results at the contents of the last
   boundary and its arguments as launched. -/
module

public import proofs.«01_k».proof.Proof.Gen.Kernel3Ideal.Frame

@[expose] public section

set_option maxRecDepth 16384

noncomputable section

namespace Cert.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the results at the last boundary's contents, the arguments unchanged. -/
theorem run_main : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_v1) = W5 m ρ c (Proc.devRef .tc main_v1)
      ∧ r.2.mem ((c.tc : Thread nD τ).loc main_v2) = W5 m ρ c (Proc.devRef .tc main_v2)
      ∧ r.2.mem ((c.tc : Thread nD τ).loc main_v3) = W5 m ρ c (Proc.devRef .tc main_v3)
      ∧ r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v0 (by decide)),
       h c _ (mem_uc main_v1 (by decide)),
       h c _ (mem_uc main_v2 (by decide)),
       h c _ (mem_uc main_v3 (by decide)),
       h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.Proj

end
-- ==== Proof.Proj.Blocks.lean ====
/- What each of the five calls around the mixer's projections leaves in its output array: the plain formula of the
   arrays it reads, at every element. -/
module

public import proofs.«01_k».proof.Proof.Gen.Kernel3Ideal.Frame
public import Idealize.ShloMosaic.Lib.Pipeline.ValueKit

@[expose] public section

set_option maxRecDepth 16384

noncomputable section

namespace Cert.Proj

open Cert.Kernel3Ideal Cert.Kernel3Ideal.Gen
open Idealize.ShloMosaic Idealize.ShloMosaic.TcCoe Idealize.SL.Sem
open Idealize.ShloMosaic.Pipeline (Dat)

/-- The product of one section of the mixed values with its 1024 rows of the output weights. -/
def outTerm (M : FVec Ideal S2x2048x1024 .bf16) (W : FVec Ideal S2048x2048 .bf16) (p : Fin 2) (r j : Fin 2048) : EReal :=
  ∑ k : Fin 1024, M (ix3 p r k) * W (ix2 (⟨1024 * p.val + k.val, by omega⟩ : Fin 2048) j)

/-- The stream after the mixer: the product of its two sections with the output weights, and the stream before it. -/
def outProj (M : FVec Ideal S2x2048x1024 .bf16) (W : FVec Ideal S2048x2048 .bf16) (X : FVec Ideal S2048x2048 .f32) : FVec Ideal S2048x2048 .f32 :=
  fun i => outTerm M W 0 (i 0) (i 1) + outTerm M W 1 (i 0) (i 1) + X i

/-- The product of a matrix with a transposed one. -/
def mmNT (X Y : FVec Ideal S2048x2048 .bf16) : FVec Ideal S2048x2048 .f32 :=
  fun i => ∑ k : Fin 2048, X (ix2 (i 0) k) * Y (ix2 (i 1) k)

/-- The output weights' gradient: row `e` comes of column `e % 1024` of section `e / 1024` of the mixed values. -/
def gradOut (M : FVec Ideal S2x2048x1024 .bf16) (D : FVec Ideal S2048x2048 .bf16) : FVec Ideal S2048x2048 .bf16 :=
  fun i => ∑ k : Fin 2048, M (ix3 (⟨(i 0).val / 1024, by have : (i 0).val < 2048 := (i 0).isLt; omega⟩ : Fin 2) k (⟨(i 0).val % 1024, by omega⟩ : Fin 1024)) * D (ix2 k (i 1))

/-- The section of the gradient array that holds the `p`-th of the seven sections: the fourth slab is not one of them. -/
def slab (p : ℕ) : ℕ := if p < 3 then p else p + 1

/-- The input weights' gradient: column `e` comes of column `e % 1024` of the `e / 1024`-th section's gradient. -/
def gradIn (H : FVec Ideal S2048x2048 .bf16) (D : FVec Ideal S8x2048x1024 .bf16) : FVec Ideal S2048x7168 .bf16 :=
  fun i => ∑ k : Fin 2048, H (ix2 k (i 0)) * D (ix3 (⟨slab ((i 1).val / 1024), by have : (i 1).val < 7168 := (i 1).isLt; unfold slab; split <;> omega⟩ : Fin 8) k (⟨(i 1).val % 1024, by omega⟩ : Fin 1024))

/-- The product of one section's gradient with its 1024 columns of the input weights, transposed. -/
def inTerm (D : FVec Ideal S8x2048x1024 .bf16) (W : FVec Ideal S2048x7168 .bf16) (s : Fin 8) (p : Fin 7) (r j : Fin 2048) : EReal :=
  ∑ k : Fin 1024, D (ix3 s r k) * W (ix2 j (⟨1024 * p.val + k.val, by omega⟩ : Fin 7168))

/-- The gradient of the projection's input: the sum over the seven sections. -/
def gradH (D : FVec Ideal S8x2048x1024 .bf16) (W : FVec Ideal S2048x7168 .bf16) : FVec Ideal S2048x2048 .f32 :=
  fun i => inTerm D W 0 0 (i 0) (i 1) + inTerm D W 1 1 (i 0) (i 1) + inTerm D W 2 2 (i 0) (i 1) + inTerm D W 4 3 (i 0) (i 1) + inTerm D W 5 4 (i 0) (i 1) + inTerm D W 6 5 (i 0) (i 1) + inTerm D W 7 6 (i 0) (i 1)

variable (V : (c : Dev nD) → (b : Ref sig .tc) → Buf (Elt Ideal) ((c : Thread nD τ).loc b))

theorem idx0 : ∀ t : Fin cfg0.N, win0_0.index t = ![0, t.val / 4, 0] ∧ win0_1.index t = ![1, t.val / 4, 0] ∧ win0_2.index t = ![0, t.val % 4] ∧ win0_3.index t = ![1, t.val % 4]
    ∧ win0_4.index t = ![t.val / 4, t.val % 4] ∧ win0_5.index t = ![t.val / 4, t.val % 4] :=
  (by decide +kernel : ∀ t : Fin grid0.N, _)

theorem idx1 : ∀ t : Fin cfg1.N, win1_0.index t = ![t.val / 4, 0] ∧ win1_1.index t = ![t.val % 4, 0] ∧ win1_2.index t = ![t.val / 4, t.val % 4] :=
  (by decide +kernel : ∀ t : Fin grid1.N, _)

theorem idx2 : ∀ t : Fin cfg2.N, win2_0.index t = ![t.val / 2, 0, t.val % 2] ∧ win2_1.index t = ![0, 0] ∧ win2_2.index t = ![t.val, 0] :=
  (by decide +kernel : ∀ t : Fin grid2.N, _)

theorem idx3 : ∀ t : Fin cfg3.N, win3_0.index t = ![0, t.val / 7] ∧ win3_1.index t = ![slab (t.val % 7), 0, 0] ∧ win3_2.index t = ![t.val / 7, t.val % 7] :=
  (by decide +kernel : ∀ t : Fin grid3.N, _)

theorem idx4 : ∀ t : Fin cfg4.N, win4_0.index t = ![0, t.val / 8, 0] ∧ win4_1.index t = ![1, t.val / 8, 0] ∧ win4_2.index t = ![2, t.val / 8, 0] ∧ win4_3.index t = ![4, t.val / 8, 0] ∧ win4_4.index t = ![5, t.val / 8, 0] ∧ win4_5.index t = ![6, t.val / 8, 0] ∧ win4_6.index t = ![7, t.val / 8, 0]
    ∧ win4_7.index t = ![t.val % 8, 0] ∧ win4_8.index t = ![t.val % 8, 1] ∧ win4_9.index t = ![t.val % 8, 2] ∧ win4_10.index t = ![t.val % 8, 3] ∧ win4_11.index t = ![t.val % 8, 4] ∧ win4_12.index t = ![t.val % 8, 5] ∧ win4_13.index t = ![t.val % 8, 6]
    ∧ win4_14.index t = ![t.val / 8, t.val % 8] :=
  (by decide +kernel : ∀ t : Fin grid4.N, _)

/-- `out_proj` leaves the stream after the mixer. -/
theorem out_eq (c : Dev nD) : (dat0 V c).arrAt 5 cfg0.N = outProj (V c main_arg4) (V c main_arg3) (V c main_arg0) := by
  refine (dat0 V c).arrAt_eq_of_covers 5 _ (by decide +kernel) fun t _ y => ?_
  blk_simp
  rw [after0_5]
  frame_out
  pointwise [k0_pay1, outProj, outTerm]
  blk_point [iblk0, idx0 t]

/-- `d_mixed` leaves the mixed values' gradient. -/
theorem dmixed_eq (c : Dev nD) : (dat1 V c).arrAt 2 cfg1.N = mmNT (V c main_arg6) (V c main_arg3) := by
  refine (dat1 V c).arrAt_eq_of_covers 2 _ (by decide +kernel) fun t _ y => ?_
  blk_simp
  rw [after1_2]
  frame_out
  pointwise [k1_pay1, mmNT]
  blk_point [iblk1, idx1 t]

/-- `g_w_out` leaves the output weights' gradient. -/
theorem gout_eq (c : Dev nD) : (dat2 V c).arrAt 2 cfg2.N = gradOut (V c main_arg4) (V c main_arg6) := by
  refine (dat2 V c).arrAt_eq_of_covers 2 _ (by decide +kernel) fun t _ y => ?_
  blk_simp
  rw [after2_2]
  frame_out
  pointwise [k2_pay1, gradOut]
  blk_point [iblk2, idx2 t]

/-- `g_w_in` leaves the input weights' gradient. -/
theorem gin_eq (c : Dev nD) : (dat3 V c).arrAt 2 cfg3.N = gradIn (V c main_arg1) (V c main_arg5) := by
  refine (dat3 V c).arrAt_eq_of_covers 2 _ (by decide +kernel) fun t _ y => ?_
  blk_simp
  rw [after3_2]
  frame_out
  pointwise [k3_pay1, gradIn, slab]
  blk_point [iblk3, idx3 t, slab]
  rw [show (t.val % 7 * 1024 + (y 1).val) / 1024 = t.val % 7 from by omega, add_zero]

/-- `d_h1` leaves the gradient of the projection's input. -/
theorem gh_eq (c : Dev nD) : (dat4 V c).arrAt 14 cfg4.N = gradH (V c main_arg5) (V c main_arg2) := by
  refine (dat4 V c).arrAt_eq_of_covers 14 _ (by decide +kernel) fun t _ y => ?_
  blk_simp
  rw [after4_14]
  frame_out
  pointwise [k4_pay1, k4_pay2, gradH, inTerm]
  blk_point [iblk4, idx4 t]

end Cert.Proj

end
-- ==== Proof.Proj.Chain.lean ====
/- The results of the five calls as plain formulas of the program's arguments. -/
module

public import proofs.«01_k».proof.Proof.Proj.Blocks

@[expose] public section

set_option maxRecDepth 16384

noncomputable section

namespace Cert.Proj

open Cert.Kernel3Ideal Cert.Kernel3Ideal.Gen
open Idealize.ShloMosaic Idealize.ShloMosaic.TcCoe Idealize.SL.Sem

variable (m : (ℓ : Loc nD τ sig) → Buf (Elt Ideal) ℓ) (ρ : Dev nD → PrngReg) (c : Dev nD)

/-- The stream after the mixer, at the end. -/
theorem W5_out : W5 m ρ c (Proc.devRef .tc main_v0)
    = outProj (m ((c : Thread nD τ).loc main_arg4)) (m ((c : Thread nD τ).loc main_arg3)) (m ((c : Thread nD τ).loc main_arg0)) := by
  refine (W5_of m ρ c main_v0 (by decide)).trans ((W4_of m ρ c main_v0 (by decide)).trans ((W3_of m ρ c main_v0 (by decide)).trans
    ((W2_of m ρ c main_v0 (by decide)).trans ((W1_arr m ρ c 5).trans (out_eq (V0 m ρ) c)))))

/-- The mixed values' gradient, at the end. -/
theorem W5_dmixed : W5 m ρ c (Proc.devRef .tc main_v1)
    = mmNT (m ((c : Thread nD τ).loc main_arg6)) (m ((c : Thread nD τ).loc main_arg3)) := by
  refine (W5_of m ρ c main_v1 (by decide)).trans ((W4_of m ρ c main_v1 (by decide)).trans ((W3_of m ρ c main_v1 (by decide)).trans
    ((W2_arr m ρ c 2).trans ((dmixed_eq (V1 m ρ) c).trans ?_))))
  rw [show V1 m ρ c main_arg6 = _ from W1_args m ρ c main_arg6 (by decide), show V1 m ρ c main_arg3 = _ from W1_args m ρ c main_arg3 (by decide)]

/-- The output weights' gradient, at the end. -/
theorem W5_gout : W5 m ρ c (Proc.devRef .tc main_v2)
    = gradOut (m ((c : Thread nD τ).loc main_arg4)) (m ((c : Thread nD τ).loc main_arg6)) := by
  refine (W5_of m ρ c main_v2 (by decide)).trans ((W4_of m ρ c main_v2 (by decide)).trans ((W3_arr m ρ c 2).trans ((gout_eq (V2 m ρ) c).trans ?_)))
  rw [show V2 m ρ c main_arg4 = _ from W2_args m ρ c main_arg4 (by decide), show V2 m ρ c main_arg6 = _ from W2_args m ρ c main_arg6 (by decide)]

/-- The input weights' gradient, at the end. -/
theorem W5_gin : W5 m ρ c (Proc.devRef .tc main_v3)
    = gradIn (m ((c : Thread nD τ).loc main_arg1)) (m ((c : Thread nD τ).loc main_arg5)) := by
  refine (W5_of m ρ c main_v3 (by decide)).trans ((W4_arr m ρ c 2).trans ((gin_eq (V3 m ρ) c).trans ?_))
  rw [show V3 m ρ c main_arg1 = _ from W3_args m ρ c main_arg1 (by decide), show V3 m ρ c main_arg5 = _ from W3_args m ρ c main_arg5 (by decide)]

/-- The gradient of the projection's input, at the end. -/
theorem W5_gh : W5 m ρ c (Proc.devRef .tc main_v4)
    = gradH (m ((c : Thread nD τ).loc main_arg5)) (m ((c : Thread nD τ).loc main_arg2)) := by
  refine (W5_arr m ρ c 14).trans ((gh_eq (V4 m ρ) c).trans ?_)
  rw [show V4 m ρ c main_arg5 = _ from W4_args m ρ c main_arg5 (by decide), show V4 m ρ c main_arg2 = _ from W4_args m ρ c main_arg2 (by decide)]

end Cert.Proj

end
-- ==== Proof.Proj.Ref.lean ====
/- The reference's results as the same plain formulas. -/
module

public import proofs.«01_k».proof.Proof.Proj.Blocks
public import proofs.«01_k».proof.Proof.Gen.Reference3Ideal.Read

@[expose] public section

set_option maxRecDepth 16384

noncomputable section

namespace Cert.Proj

open Cert.Reference3Ideal Cert.Reference3Ideal.Read
open Idealize.ShloMosaic Idealize.ShloMosaic.TcCoe Idealize.SL.Sem

variable (x0 : FVec Ideal S2048x2048 .f32) (x1 : FVec Ideal S2048x2048 .bf16) (x2 : FVec Ideal S2048x7168 .bf16) (x3 : FVec Ideal S2048x2048 .bf16)
  (x4 : FVec Ideal S2x2048x1024 .bf16) (x5 : FVec Ideal S8x2048x1024 .bf16) (x6 : FVec Ideal S2048x2048 .bf16)

/-- The two sections of the mixed values side by side, read at an element. -/
theorem v2_at (b : Fin 1) (r e : Fin 2048) : val_main_v2 (F := Ideal) x4 (ix3 b r e)
    = x4 (ix3 (⟨e.val / 1024, by omega⟩ : Fin 2) r (⟨e.val % 1024, by omega⟩ : Fin 1024)) := by
  rw [val_main_v2_apply, val_main_v1_apply]
  refine congrArg x4 (funext fun a => Fin.ext ?_)
  match a with
  | ⟨0, _⟩ => show ((b.val * 2048 + r.val) * 2048 + e.val) / 1024 % 2 = e.val / 1024; omega
  | ⟨1, _⟩ => show ((b.val * 2048 + r.val) * 2048 + e.val) / 2048 = r.val; omega
  | ⟨2, _⟩ => show ((b.val * 2048 + r.val) * 2048 + e.val) % 1024 = e.val % 1024; omega

/-- The output's cotangent, read at an element. -/
theorem v6_at (b : Fin 1) (r k : Fin 2048) : val_main_v6 (F := Ideal) x6 (ix3 b r k) = x6 (ix2 r k) := by
  pointwise [val_main_v6, val_main_v5]

/-- The projection's input, read at an element. -/
theorem v17_at (b : Fin 1) (r k : Fin 2048) : val_main_v17 (F := Ideal) x1 (ix3 b r k) = x1 (ix2 r k) := by
  pointwise [val_main_v17, val_main_v16]

/-- The seven sections' gradients one behind the other, read at an element. -/
theorem v12_at (p : Fin 7) (r : Fin 2048) (k : Fin 1024) : val_main_v12 (F := Ideal) x5 (ix3 p r k)
    = x5 (ix3 (⟨slab p.val, by unfold slab; split <;> omega⟩ : Fin 8) r k) := by
  pointwise [val_main_v12, val_main_v10, val_main_v11, slab]
  split
  · rfl
  · exact congrArg (fun a => x5 (ix3 a r k)) (Fin.ext (by dsimp only; omega))

/-- The seven sections' gradients side by side, read at an element. -/
theorem v15_at (b : Fin 1) (r : Fin 2048) (e : Fin 7168) : val_main_v15 (F := Ideal) x5 (ix3 b r e)
    = x5 (ix3 (⟨slab (e.val / 1024), by unfold slab; split <;> omega⟩ : Fin 8) r (⟨e.val % 1024, by omega⟩ : Fin 1024)) := by
  refine ((val_main_v15_apply _ _).trans (val_main_v14_apply _ _)).trans (Eq.trans ?_ (v12_at x5 (⟨e.val / 1024, by omega⟩ : Fin 7) r (⟨e.val % 1024, by omega⟩ : Fin 1024)))
  refine congrArg (val_main_v12 (F := Ideal) x5) (funext fun a => Fin.ext ?_)
  match a with
  | ⟨0, _⟩ => show ((b.val * 2048 + r.val) * 7168 + e.val) / 1024 % 7 = e.val / 1024; omega
  | ⟨1, _⟩ => show ((b.val * 2048 + r.val) * 7168 + e.val) / 7168 = r.val; omega
  | ⟨2, _⟩ => show ((b.val * 2048 + r.val) * 7168 + e.val) % 1024 = e.val % 1024; omega

/-- A sum over 2048 columns, section by section. -/
theorem sum_two (f : Fin 2048 → EReal) : ∑ e, f e = ∑ p : Fin 2, ∑ k : Fin 1024, f ⟨1024 * p.val + k.val, by omega⟩ := by
  rw [← Fintype.sum_prod_type']
  exact (Fintype.sum_equiv (finProdFinEquiv (m := 2) (n := 1024)) _ _ fun q => congrArg f (Fin.ext (by simp [finProdFinEquiv]; omega))).symm

/-- A sum over 7168 columns, section by section. -/
theorem sum_seven (f : Fin 7168 → EReal) : ∑ e, f e = ∑ p : Fin 7, ∑ k : Fin 1024, f ⟨1024 * p.val + k.val, by omega⟩ := by
  rw [← Fintype.sum_prod_type']
  exact (Fintype.sum_equiv (finProdFinEquiv (m := 7) (n := 1024)) _ _ fun q => congrArg f (Fin.ext (by simp [finProdFinEquiv]; omega))).symm

/-- One section of the sum for the output. -/
theorem out_term (p : Fin 2) (r j : Fin 2048) :
    (∑ k : Fin 1024, x4 (ix3 (⟨(1024 * p.val + k.val) / 1024, by omega⟩ : Fin 2) r (⟨(1024 * p.val + k.val) % 1024, by omega⟩ : Fin 1024))
      * x3 (ix2 (⟨1024 * p.val + k.val, by omega⟩ : Fin 2048) j)) = outTerm x4 x3 p r j := by
  refine Finset.sum_congr rfl fun k _ => congrArg₂ (· * ·) (congrArg x4 (congrArg₂ (fun a b => ix3 a r b) (Fin.ext ?_) (Fin.ext ?_))) rfl <;> dsimp only <;> omega

/-- One section of the sum for the input's gradient. -/
theorem in_term (p : Fin 7) (s : Fin 8) (hs : s.val = slab p.val) (r j : Fin 2048) :
    (∑ k : Fin 1024, x5 (ix3 (⟨slab ((1024 * p.val + k.val) / 1024), by unfold slab; split <;> omega⟩ : Fin 8) r (⟨(1024 * p.val + k.val) % 1024, by omega⟩ : Fin 1024))
      * x2 (ix2 j (⟨1024 * p.val + k.val, by omega⟩ : Fin 7168))) = inTerm x5 x2 s p r j := by
  refine Finset.sum_congr rfl fun k _ => congrArg₂ (· * ·) (congrArg x5 (congrArg₂ (fun a b => ix3 a r b) (Fin.ext ?_) (Fin.ext ?_))) rfl
  · dsimp only
    rw [hs, show (1024 * p.val + k.val) / 1024 = p.val from by omega]
  · dsimp only; omega

/-- The stream after the mixer. -/
theorem v24_ref : val_main_v24 (F := Ideal) x0 x3 x4 = outProj x4 x3 x0 := by
  funext i
  have h : val_main_v4 (F := Ideal) x3 x4 (ix3 (0 : Fin 1) (i 0) (i 1)) = outTerm x4 x3 0 (i 0) (i 1) + outTerm x4 x3 1 (i 0) (i 1) := by
    pointwise [val_main_v4, val_main_v3, v2_at]
    rw [sum_two, Fin.sum_univ_two]
    exact congrArg₂ (· + ·) (out_term x3 x4 0 (i 0) (i 1)) (out_term x3 x4 1 (i 0) (i 1))
  pointwise [val_main_v24, val_main_v23, outProj] at h ⊢
  rw [h, add_comm]

/-- The mixed values' gradient. -/
theorem v25_ref : val_main_v25 (F := Ideal) x3 x6 = mmNT x6 x3 := by
  funext i
  pointwise [val_main_v25, val_main_v9, val_main_v3, v6_at, mmNT]

/-- The output weights' gradient. -/
theorem v26_ref : val_main_v26 (F := Ideal) x4 x6 = gradOut x4 x6 := by
  funext i
  pointwise [val_main_v26, val_main_v8, val_main_v7, v6_at, v2_at, gradOut]
  rw [Fin.sum_univ_one]
  exact Finset.sum_congr rfl fun k _ => mul_comm _ _

/-- The input weights' gradient. -/
theorem v27_ref : val_main_v27 (F := Ideal) x1 x5 = gradIn x1 x5 := by
  funext i
  pointwise [val_main_v27, val_main_v21, val_main_v20, v17_at, v15_at, gradIn]
  rw [Fin.sum_univ_one]
  exact Finset.sum_congr rfl fun k _ => mul_comm _ _

/-- The gradient of the projection's input. -/
theorem v28_ref : val_main_v28 (F := Ideal) x2 x5 = gradH x5 x2 := by
  funext i
  have h : val_main_v22 (F := Ideal) x2 x5 (ix3 (0 : Fin 1) (i 0) (i 1)) = gradH x5 x2 i := by
    pointwise [val_main_v22, val_main_v18, v15_at, gradH]
    rw [sum_seven, Fin.sum_univ_seven]
    exact congrArg₂ (· + ·) ((congrArg₂ (· + ·) ((congrArg₂ (· + ·) ((congrArg₂ (· + ·) ((congrArg₂ (· + ·) ((congrArg₂ (· + ·) (in_term x2 x5 0 0 rfl (i 0) (i 1)) (in_term x2 x5 1 1 rfl (i 0) (i 1)))) (in_term x2 x5 2 2 rfl (i 0) (i 1)))) (in_term x2 x5 3 4 rfl (i 0) (i 1)))) (in_term x2 x5 4 5 rfl (i 0) (i 1)))) (in_term x2 x5 5 6 rfl (i 0) (i 1)))) (in_term x2 x5 6 7 rfl (i 0) (i 1))
  refine Eq.trans ?_ h
  pointwise [val_main_v28]

end Cert.Proj

end
-- ==== Proof.Proj.Agree.lean ====
/- The five calls around the mixer's projections and the reference compute the same arrays. -/
module

public import proofs.«01_k».proof.Proof.Proj.Run
public import proofs.«01_k».proof.Proof.Proj.Chain
public import proofs.«01_k».proof.Proof.Proj.Ref
public import proofs.«01_k».proof.Proof.Gen.Kernel3Ideal
public import proofs.«01_k».proof.Proof.Gen.Reference3Ideal
public import proofs.«01_k».proof.Defs
public import Idealize.ShloMosaic.Lib.Claim

@[expose] public section

set_option maxRecDepth 16384

noncomputable section

namespace Cert.Proj

open Idealize.ShloMosaic Idealize.ShloMosaic.TcCoe Idealize.SL.Sem

/-- The value claim of the mixer's projections, for all arguments. -/
theorem algebraic_proj : @Cert.algebraic_Kernel3Ideal_Reference3Ideal Cert.Kernel3Ideal.Gen.facts Cert.Reference3Ideal.Gen.facts := by
  intro m g m' g' _ hagree
  refine ⟨fun c => Cert.Kernel3Ideal.Gen.W5 m g c (Proc.devRef .tc Cert.Kernel3Ideal.main_v0),
    fun c => Cert.Kernel3Ideal.Gen.W5 m g c (Proc.devRef .tc Cert.Kernel3Ideal.main_v1),
    fun c => Cert.Kernel3Ideal.Gen.W5 m g c (Proc.devRef .tc Cert.Kernel3Ideal.main_v2),
    fun c => Cert.Kernel3Ideal.Gen.W5 m g c (Proc.devRef .tc Cert.Kernel3Ideal.main_v3),
    fun c => Cert.Kernel3Ideal.Gen.W5 m g c (Proc.devRef .tc Cert.Kernel3Ideal.main_v4), ?_, ?_⟩
  · exact (θ_run _ _ _).mono (fun r h c => h c) (run_main (F := Ideal) m g)
  · refine (θ_run _ _ _).mono (fun r h c => ?_) (Cert.Reference3Ideal.Value.run (F := Ideal) m' g')
    obtain ⟨a0, a1, a2, a3, a4, a5, a6⟩ := hagree c
    obtain ⟨e0, e1, e2, e3, e4, hargs⟩ := h c
    refine ⟨?_, ?_, ?_, ?_, ?_, hargs⟩
    · refine e0.trans ((Cert.Reference3Ideal.Read.val_main_v24_eq _ _ _).trans ((v24_ref _ _ _).trans ?_))
      rw [a0, a3, a4]
      exact (W5_out m g c).symm
    · refine e1.trans ((Cert.Reference3Ideal.Read.val_main_v25_eq _ _).trans ((v25_ref _ _).trans ?_))
      rw [a3, a6]
      exact (W5_dmixed m g c).symm
    · refine e2.trans ((Cert.Reference3Ideal.Read.val_main_v26_eq _ _).trans ((v26_ref _ _).trans ?_))
      rw [a4, a6]
      exact (W5_gout m g c).symm
    · refine e3.trans ((Cert.Reference3Ideal.Read.val_main_v27_eq _ _).trans ((v27_ref _ _).trans ?_))
      rw [a1, a5]
      exact (W5_gin m g c).symm
    · refine e4.trans ((Cert.Reference3Ideal.Read.val_main_v28_eq _ _).trans ((v28_ref _ _).trans ?_))
      rw [a2, a5]
      exact (W5_gh m g c).symm

end Cert.Proj

end
-- ==== Proof.RetI.BwdLoop.lean ====
/- The backward kernel's two nested counted loops as plain functions on the values of its buffers, and the
   outer loop by an invariant over those functions. -/
module

public import proofs.«01_k».proof.Proof.Gen.KernelIdeal.Skeleton
public import proofs.«01_k».proof.Proof.Gen.KernelIdeal.Loops
public import proofs.«01_k».proof.Proof.Gen.KernelIdeal.Launch
public import Idealize.ShloMosaic.Lib.VecWindow
public import Idealize.ShloMosaic.Lib.Tactic

@[expose] public section

set_option maxRecDepth 16384

noncomputable section

namespace Cert.RetI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄G" => MT nD τ sig Unit (Elt F) ℕ (UR sig nD τ) ℕ

/-- The gradients of one key block's keys and values, and of all the queries, as the inner loop carries them. -/
abbrev BwdSt (F : FTy → Type) : Type := (FVec F S512x256 .f32 × FVec F S512x256 .f32) × Vec F S2048x256 .f32

/-- One trip of the inner loop: query block `k` of key block `j` adds its tile to the three gradients. -/
def bwdTile (Kj Vj : Vec F S512x256 .bf16) (QB DB : Vec F S2048x256 .bf16) (DT : Vec F S4x512x512 .f32)
    (j : Fin k1_t1_loop.trips) (k : Fin (k1_t2_loop j).trips) (s : BwdSt F) : BwdSt F :=
  ((k1_pay8 Vj s.1.1 (window QB (k1_off2 j k) S512x256.size (k1_off2_inb j k)) (window DB (k1_off2 j k) S512x256.size (k1_off2_inb j k)) (window DT (k1_off3 j k) S1x512x512.size (k1_off3_inb j k)),
    k1_pay7 Kj s.1.2 (window QB (k1_off2 j k) S512x256.size (k1_off2_inb j k)) (window DB (k1_off2 j k) S512x256.size (k1_off2_inb j k)) (window DT (k1_off3 j k) S1x512x512.size (k1_off3_inb j k))),
   put s.2 (k1_off2 j k) S512x256.size (k1_pay9 Kj Vj (window DB (k1_off2 j k) S512x256.size (k1_off2_inb j k)) (window DT (k1_off3 j k) S1x512x512.size (k1_off3_inb j k)) (window s.2 (k1_off2 j k) S512x256.size (k1_off2_inb j k))))

/-- The inner loop's state before trip `k`. -/
def bwdTiles (Kj Vj : Vec F S512x256 .bf16) (QB DB : Vec F S2048x256 .bf16) (DT : Vec F S4x512x512 .f32)
    (j : Fin k1_t1_loop.trips) (s : BwdSt F) : ℕ → BwdSt F
  | 0 => s
  | k + 1 => if h : k < (k1_t2_loop j).trips then bwdTile Kj Vj QB DB DT j ⟨k, h⟩ (bwdTiles Kj Vj QB DB DT j s k) else bwdTiles Kj Vj QB DB DT j s k

/-- The three gradients after key block `j`, from the queries' gradient `dq` before it. -/
def bwdCol (QB KB VB DB : Vec F S2048x256 .bf16) (DT : Vec F S4x512x512 .f32) (j : Fin k1_t1_loop.trips) (dq : Vec F S2048x256 .f32) : BwdSt F :=
  bwdTiles (window KB (k1_off1 j) S512x256.size (k1_off1_inb j)) (window VB (k1_off1 j) S512x256.size (k1_off1_inb j)) QB DB DT j
    ((k1_pay4, k1_pay4), dq) (k1_t2_loop j).trips

/-- One trip of the outer loop on the queries' gradient and the output block: key block `j` done, its keys' and
   values' gradients stored. -/
def bwdTrip (QB KB VB DB : Vec F S2048x256 .bf16) (DT : Vec F S4x512x512 .f32) (j : Fin k1_t1_loop.trips)
    (s : Vec F S2048x256 .f32 × Vec F S4x2048x256 .bf16) : Vec F S2048x256 .f32 × Vec F S4x2048x256 .bf16 :=
  ((bwdCol QB KB VB DB DT j s.1).2,
   put (put s.2 (k1_off6 j) S1x512x256.size (k1_pay15 (bwdCol QB KB VB DB DT j s.1).1.1)) (k1_off7 j) S1x512x256.size
     (k1_pay16 (bwdCol QB KB VB DB DT j s.1).1.2))

/-- The queries' gradient and the output block before trip `j` of the outer loop. -/
def bwdTrips (QB KB VB DB : Vec F S2048x256 .bf16) (DT : Vec F S4x512x512 .f32)
    (s : Vec F S2048x256 .f32 × Vec F S4x2048x256 .bf16) : ℕ → Vec F S2048x256 .f32 × Vec F S4x2048x256 .bf16
  | 0 => s
  | j + 1 => if h : j < k1_t1_loop.trips then bwdTrip QB KB VB DB DT ⟨j, h⟩ (bwdTrips QB KB VB DB DT s j) else bwdTrips QB KB VB DB DT s j

theorem bwdTiles_succ (Kj Vj : Vec F S512x256 .bf16) (QB DB : Vec F S2048x256 .bf16) (DT : Vec F S4x512x512 .f32)
    (j : Fin k1_t1_loop.trips) (s : BwdSt F) (k : Fin (k1_t2_loop j).trips) :
    bwdTiles Kj Vj QB DB DT j s (k.val + 1) = bwdTile Kj Vj QB DB DT j k (bwdTiles Kj Vj QB DB DT j s k.val) := by
  rw [bwdTiles.eq_2]; exact dif_pos k.isLt

theorem bwdTrips_succ (QB KB VB DB : Vec F S2048x256 .bf16) (DT : Vec F S4x512x512 .f32)
    (s : Vec F S2048x256 .f32 × Vec F S4x2048x256 .bf16) (j : Fin k1_t1_loop.trips) :
    bwdTrips QB KB VB DB DT s (j.val + 1) = bwdTrip QB KB VB DB DT j (bwdTrips QB KB VB DB DT s j.val) := by
  rw [bwdTrips.eq_2]; exact dif_pos j.isLt

/-- What one trip of the inner loop yields, and the tile that it stores, as terms over its loads. -/
theorem trip_k1_t2_eq (𝒱 : Variants) (c : Dev nD) (bd : Option 𝒱.V) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .hbm S8x2048x1024 .bf16) (harg7 : arg7.IsWhole) (arg8 : Memref sig .tc .vmem S4x2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .f32) (harg13 : arg13.IsWhole) (arg14 : Memref sig .tc .vmem S4x512x512 .f32) (harg14 : arg14.IsWhole)
    (j : Fin k1_t1_loop.trips) (Kj Vj : Vec F S512x256 .bf16)
    (X9 : BufTy.Contents (Elt F) arg9.view.ty) (X12 : BufTy.Contents (Elt F) arg12.view.ty) (X14 : BufTy.Contents (Elt F) arg14.view.ty)
    (k : Fin (k1_t2_loop j).trips) (acc : FVec F S512x256 .f32 × FVec F S512x256 .f32) (f : BufTy.Contents (Elt F) arg13.view.ty) :
    tripR_k1_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 j Kj Vj X9 X12 X14 k acc f
        = (bwdTile Kj Vj (arg9.view.read (Elt F) X9) (arg12.view.read (Elt F) X12) (arg14.view.read (Elt F) X14) j k (acc, arg13.view.read (Elt F) f)).1
      ∧ tripL_k1_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 j Kj Vj X9 X12 X14 k acc f
        = [⟨Rect.unit (s := S2048x256) (k1_off2 j k) S512x256.size (k1_off2_inb j k),
            k1_pay9 Kj Vj (window (arg12.view.read (Elt F) X12) (k1_off2 j k) S512x256.size (k1_off2_inb j k)) (window (arg14.view.read (Elt F) X14) (k1_off3 j k) S1x512x512.size (k1_off3_inb j k)) (window (arg13.view.read (Elt F) f) (k1_off2 j k) S512x256.size (k1_off2_inb j k))⟩] := by
  unfold tripR_k1_t2 tripL_k1_t2 trip_k1_t2
  exact ⟨rfl, rfl⟩

/-- What the inner loop's recursion leaves, read off its buffers: the plain function's state. -/
theorem st_k1_t2_eq (𝒱 : Variants) (c : Dev nD) (bd : Option 𝒱.V) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .hbm S8x2048x1024 .bf16) (harg7 : arg7.IsWhole) (arg8 : Memref sig .tc .vmem S4x2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .f32) (harg13 : arg13.IsWhole) (arg14 : Memref sig .tc .vmem S4x512x512 .f32) (harg14 : arg14.IsWhole)
    (j : Fin k1_t1_loop.trips) (Kj Vj : Vec F S512x256 .bf16)
    (X9 : BufTy.Contents (Elt F) arg9.view.ty) (X12 : BufTy.Contents (Elt F) arg12.view.ty) (X14 : BufTy.Contents (Elt F) arg14.view.ty)
    (G : BufTy.Contents (Elt F) arg13.view.ty) (init : FVec F S512x256 .f32 × FVec F S512x256 .f32) (k : ℕ) (hk : k ≤ (k1_t2_loop j).trips) :
    (st_k1_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 j Kj Vj X9 X12 X14 G init k).1
        = (bwdTiles Kj Vj (arg9.view.read (Elt F) X9) (arg12.view.read (Elt F) X12) (arg14.view.read (Elt F) X14) j (init, arg13.view.read (Elt F) G) k).1
      ∧ arg13.view.read (Elt F) (arg13.view.writes (Elt F) G (st_k1_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 j Kj Vj X9 X12 X14 G init k).2)
        = (bwdTiles Kj Vj (arg9.view.read (Elt F) X9) (arg12.view.read (Elt F) X12) (arg14.view.read (Elt F) X14) j (init, arg13.view.read (Elt F) G) k).2 := by
  induction k with
  | zero => exact ⟨rfl, rfl⟩
  | succ k ih =>
    obtain ⟨h1, h2⟩ := ih (Nat.le_of_succ_le hk)
    have e := st_k1_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 j Kj Vj X9 X12 X14 G init ⟨k, hk⟩
    have e' := bwdTiles_succ (F := F) Kj Vj (arg9.view.read (Elt F) X9) (arg12.view.read (Elt F) X12) (arg14.view.read (Elt F) X14) j (init, arg13.view.read (Elt F) G) ⟨k, hk⟩
    rw [show k + 1 = (⟨k, hk⟩ : Fin (k1_t2_loop j).trips).val + 1 from rfl, e, e']
    obtain ⟨eR, eL⟩ := trip_k1_t2_eq (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 j Kj Vj X9 X12 X14 ⟨k, hk⟩
      (st_k1_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 j Kj Vj X9 X12 X14 G init k).1
      (arg13.view.writes (Elt F) G (st_k1_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 j Kj Vj X9 X12 X14 G init k).2)
    rw [h1, h2] at eR
    rw [h1, h2] at eL
    dsimp only
    rw [h1, eR, eL, List.singleton_append, View.read_writes_cons_put _ _ _ _ _ rfl, h2]
    exact ⟨rfl, rfl⟩

end Cert.RetI

end
-- ==== Proof.RetI.BwdOuter.lean ====
/- The backward kernel's outer loop: its trip run once at a symbolic key block, over the plain functions of
   `BwdLoop`, and the invariant made of it. -/
module

public import proofs.«01_k».proof.Proof.RetI.BwdLoop

@[expose] public section

set_option maxRecDepth 16384

noncomputable section

namespace Cert.RetI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄G" => MT nD τ sig Unit (Elt F) ℕ (UR sig nD τ) ℕ

/-- The remainder loop of a trip makes no trips. -/
theorem k1_t3_trips (j : Fin k1_t1_loop.trips) : (k1_t3_loop j).trips = 0 := Nat.le_zero.1 (k1_t3_abs j).2.1

/-- What the outer loop holds: the five buffers it reads, at their contents, and the two it writes. -/
abbrev Outer (c : Dev nD) (arg8 : Memref sig .tc .vmem S4x2048x256 .bf16) (arg9 arg10 arg11 arg12 : Memref sig .tc .vmem S2048x256 .bf16)
    (arg13 : Memref sig .tc .vmem S2048x256 .f32) (arg14 : Memref sig .tc .vmem S4x512x512 .f32)
    (X9 : BufTy.Contents (Elt F) arg9.view.ty) (X10 : BufTy.Contents (Elt F) arg10.view.ty) (X11 : BufTy.Contents (Elt F) arg11.view.ty)
    (X12 : BufTy.Contents (Elt F) arg12.view.ty) (X14 : BufTy.Contents (Elt F) arg14.view.ty)
    (f13 : BufTy.Contents (Elt F) arg13.view.ty) (f8 : BufTy.Contents (Elt F) arg8.view.ty) : sProp 𝕄G :=
  iprop((arg9.view.loc (c : Thread nD τ) ↦[arg9.view.set]{fullShare} X9) ∗ (arg10.view.loc (c : Thread nD τ) ↦[arg10.view.set]{fullShare} X10)
    ∗ (arg11.view.loc (c : Thread nD τ) ↦[arg11.view.set]{fullShare} X11) ∗ (arg12.view.loc (c : Thread nD τ) ↦[arg12.view.set]{fullShare} X12)
    ∗ (arg14.view.loc (c : Thread nD τ) ↦[arg14.view.set]{fullShare} X14) ∗ (arg13.view.loc (c : Thread nD τ) ↦[arg13.view.set]{fullShare} f13)
    ∗ (arg8.view.loc (c : Thread nD τ) ↦[arg8.view.set]{fullShare} f8))

/-- One trip of the outer loop, from any contents of the two buffers it writes: they are left reading what
   `bwdTrip` says. -/
theorem outer_trip (c : Dev nD) (E : Set ℕ) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .hbm S8x2048x1024 .bf16) (harg7 : arg7.IsWhole) (arg8 : Memref sig .tc .vmem S4x2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .f32) (harg13 : arg13.IsWhole) (arg14 : Memref sig .tc .vmem S4x512x512 .f32) (harg14 : arg14.IsWhole)
    (X9 : BufTy.Contents (Elt F) arg9.view.ty) (X10 : BufTy.Contents (Elt F) arg10.view.ty) (X11 : BufTy.Contents (Elt F) arg11.view.ty)
    (X12 : BufTy.Contents (Elt F) arg12.view.ty) (X14 : BufTy.Contents (Elt F) arg14.view.ty)
    (f13 : BufTy.Contents (Elt F) arg13.view.ty) (f8 : BufTy.Contents (Elt F) arg8.view.ty) (j : Fin k1_t1_loop.trips) :
    Outer (F := F) c arg8 arg9 arg10 arg11 arg12 arg13 arg14 X9 X10 X11 X12 X14 f13 f8
    ⊢ wp frame (wpE (defs₀ (F := F)) Variants.none (c : Thread nD τ) none) E (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 j ())
        (fun _ => iprop(∃ g13 g8, Outer (F := F) c arg8 arg9 arg10 arg11 arg12 arg13 arg14 X9 X10 X11 X12 X14 g13 g8
          ∗ ⌜(arg13.view.read (Elt F) g13, arg8.view.read (Elt F) g8)
              = bwdTrip (arg9.view.read (Elt F) X9) (arg10.view.read (Elt F) X10) (arg11.view.read (Elt F) X11) (arg12.view.read (Elt F) X12)
                  (arg14.view.read (Elt F) X14) j (arg13.view.read (Elt F) f13, arg8.view.read (Elt F) f8)⌝)) := by
  unfold k1_t1_body
  iintro ⟨H9, H10, H11, H12, H14, H13, H8⟩
  sl_exec
  sl_step
  iexists _, _
  isplitl [H9 H10 H11 H12 H14 H13 H8]
  · isplitl [H9]; · iexact H9
    isplitl [H10]; · iexact H10
    isplitl [H11]; · iexact H11
    isplitl [H12]; · iexact H12
    isplitl [H14]; · iexact H14
    isplitl [H13]; · iexact H13
    iexact H8
  · ipureintro
    have e3 : Scf.trips (k1_t3_loop j).lb (k1_t3_loop j).ub (k1_t3_loop j).st = 0 := k1_t3_trips j
    rw [e3]
    simp only [st_k1_t3.eq_1, List.nil_append]
    obtain ⟨h1, h2⟩ := st_k1_t2_eq (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 j
      (window (arg10.view.read (Elt F) X10) (k1_off1 j) S512x256.size (k1_off1_inb j))
      (window (arg11.view.read (Elt F) X11) (k1_off1 j) S512x256.size (k1_off1_inb j)) X9 X12 X14 f13 (k1_pay4, k1_pay4) (k1_t2_loop j).trips le_rfl
    refine Prod.ext h2 ?_
    refine (View.read_writes_cons_put _ _ _ _ _ rfl).trans ?_
    rw [View.read_writes_cons_put _ _ _ _ _ rfl, View.writes_nil]
    exact congrArg (fun s : FVec F S512x256 .f32 × FVec F S512x256 .f32 =>
      put (put (arg8.view.read (Elt F) f8) (k1_off6 j) S1x512x256.size (k1_pay15 s.1)) (k1_off7 j) S1x512x256.size (k1_pay16 s.2)) h1

set_option warn.classDefReducibility false in
/-- The outer loop by its invariant: before trip `j` the two buffers it writes read `bwdTrips … j` of what they read
   at the loop's entry. -/
@[sl_loop] def outerInv (c : Dev nD) (E : Set ℕ) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .hbm S8x2048x1024 .bf16) (harg7 : arg7.IsWhole) (arg8 : Memref sig .tc .vmem S4x2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .f32) (harg13 : arg13.IsWhole) (arg14 : Memref sig .tc .vmem S4x512x512 .f32) (harg14 : arg14.IsWhole)
    (X9 : BufTy.Contents (Elt F) arg9.view.ty) (X10 : BufTy.Contents (Elt F) arg10.view.ty) (X11 : BufTy.Contents (Elt F) arg11.view.ty)
    (X12 : BufTy.Contents (Elt F) arg12.view.ty) (X14 : BufTy.Contents (Elt F) arg14.view.ty)
    (G13 : BufTy.Contents (Elt F) arg13.view.ty) (G8 : BufTy.Contents (Elt F) arg8.view.ty) :
    LoopInvTy_k1_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 where
  inv k _ := iprop((arg9.view.loc (c : Thread nD τ) ↦[arg9.view.set]{fullShare} X9) ∗ (arg10.view.loc (c : Thread nD τ) ↦[arg10.view.set]{fullShare} X10)
    ∗ (arg11.view.loc (c : Thread nD τ) ↦[arg11.view.set]{fullShare} X11) ∗ (arg12.view.loc (c : Thread nD τ) ↦[arg12.view.set]{fullShare} X12)
    ∗ (arg14.view.loc (c : Thread nD τ) ↦[arg14.view.set]{fullShare} X14)
    ∗ (∃ f13 f8, (arg13.view.loc (c : Thread nD τ) ↦[arg13.view.set]{fullShare} f13) ∗ (arg8.view.loc (c : Thread nD τ) ↦[arg8.view.set]{fullShare} f8)
      ∗ ⌜(arg13.view.read (Elt F) f13, arg8.view.read (Elt F) f8)
          = bwdTrips (arg9.view.read (Elt F) X9) (arg10.view.read (Elt F) X10) (arg11.view.read (Elt F) X11) (arg12.view.read (Elt F) X12)
              (arg14.view.read (Elt F) X14) (arg13.view.read (Elt F) G13, arg8.view.read (Elt F) G8) k⌝))
  step k acc := by
    iintro ⟨H9, H10, H11, H12, H14, ⟨%f13, %f8, H13, H8, %h⟩⟩
    iapply (wp_wand_r Idealize.ShloMosaic.frame (wpE (defs₀ (F := F)) Variants.none (c : Thread nD τ) none) E)
    isplitl [H9 H10 H11 H12 H14 H13 H8]
    · iapply (outer_trip (F := F) c E i arg1 harg1 arg2 harg2 arg3 harg3 arg4 harg4 arg5 harg5 arg6 harg6 arg7 harg7 arg8 harg8 arg9 harg9 arg10 harg10 arg11 harg11 arg12 harg12 arg13 harg13 arg14 harg14 X9 X10 X11 X12 X14 f13 f8 k)
      isplitl [H9]; · iexact H9
      isplitl [H10]; · iexact H10
      isplitl [H11]; · iexact H11
      isplitl [H12]; · iexact H12
      isplitl [H14]; · iexact H14
      isplitl [H13]; · iexact H13
      iexact H8
    · iintro %yld ⟨%g13, %g8, ⟨H9, H10, H11, H12, H14, H13, H8⟩, %hg⟩
      isplitl [H9]; · iexact H9
      isplitl [H10]; · iexact H10
      isplitl [H11]; · iexact H11
      isplitl [H12]; · iexact H12
      isplitl [H14]; · iexact H14
      iexists g13, g8
      isplitl [H13]; · iexact H13
      isplitl [H8]; · iexact H8
      ipureintro
      rw [bwdTrips_succ, ← h, hg]

end Cert.RetI

end
-- ==== Proof.RetI.BwdModel.lean ====
/- What the backward kernel computes, as plain functions of the blocks it is given. -/
module

public import proofs.«01_k».proof.Proof.RetI.BwdOuter

@[expose] public section

set_option maxRecDepth 16384

noncomputable section

namespace Cert.RetI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄G" => MT nD τ sig Unit (Elt F) ℕ (UR sig nD τ) ℕ

/-- Two puts of one payload over one window agree once what lies under them agrees off the window. -/
theorem put_congr {α : Type} {s : Shape} {x x' : s.Idx → α} {off size : Fin s.rank → ℕ} {w : ((a : Fin s.rank) → Fin (size a)) → α}
    (y : s.Idx) (h : ¬ (∀ a, off a ≤ (y a).val ∧ (y a).val < off a + size a) → x y = x' y) : put x off size w y = put x' off size w y := by
  unfold put
  by_cases hy : ∀ a, off a ≤ (y a).val ∧ (y a).val < off a + size a
  · rw [dif_pos hy, dif_pos hy]
  · rw [dif_neg hy, dif_neg hy, h hy]

/-- The four tables of decay factors put into a scratch of contents `o`, slab by slab. -/
def slabs (o : Vec F S4x512x512 .f32) (w0 w1 w2 w3 : FVec F S1x512x512 .f32) : Vec F S4x512x512 .f32 :=
  put (put (put (put o ![0, 0, 0] S1x512x512.size w0) ![1, 0, 0] S1x512x512.size w1) ![2, 0, 0] S1x512x512.size w2) ![3, 0, 0] S1x512x512.size w3

/-- The four slabs cover the scratch: nothing of what it held is left. -/
theorem slabs_congr (o o' : Vec F S4x512x512 .f32) (w0 w1 w2 w3 : FVec F S1x512x512 .f32) :
    slabs o w0 w1 w2 w3 = slabs o' w0 w1 w2 w3 := by
  funext y
  refine put_congr y fun h3 => put_congr y fun h2 => put_congr y fun h1 => put_congr y fun h0 => ?_
  exfalso
  have e0 : (y 0).val < 4 := (y 0).isLt
  have e1 : (y 1).val < 512 := (y 1).isLt
  have e2 : (y 2).val < 512 := (y 2).isLt
  have key : ∀ n : ℕ, (¬ ∀ a : Fin 3, (![n, 0, 0] : Fin 3 → ℕ) a ≤ (y a).val ∧ (y a).val < (![n, 0, 0] : Fin 3 → ℕ) a + S1x512x512.size a) → (y 0).val ≠ n := by
    intro n hn e
    refine hn fun a => ?_
    match a with
    | ⟨0, _⟩ => show n ≤ (y 0).val ∧ (y 0).val < n + 1; omega
    | ⟨1, _⟩ => show 0 ≤ (y 1).val ∧ (y 1).val < 0 + 512; omega
    | ⟨2, _⟩ => show 0 ≤ (y 2).val ∧ (y 2).val < 0 + 512; omega
  have := key 0 h0; have := key 1 h1; have := key 2 h2; have := key 3 h3
  omega

/-- A vector of zeros, where only some contents are asked for. -/
def someTab : Vec F S4x512x512 .f32 := fun _ => Scalar.ofBits (F := F) .f32 0x00000000#32

/-- The decay table of the backward kernel's head. -/
def bwdTab (i : grid1.Coords) : Vec F S4x512x512 .f32 :=
  slabs someTab (k1_pay20 i) (k1_pay22 (k1_pay21 i)) (k1_pay23 (k1_pay18 i) k1_pay19) (k1_pay24 (k1_pay18 i) k1_pay19)

/-- The rounded gradient of the un-normalised output, from the blocks of that output, of the gate and of the gradient above. -/
def bwdDret (G RAW DOUT : Vec F S2048x256 .f32) : Vec F S2048x256 .bf16 := k1_pay2 (k1_pay29 RAW) (k1_pay30 RAW) G (k1_pay31 G) DOUT

/-- The queries' gradient before trip `j` of the outer loop. -/
def bwdDq (QB KB VB DB : Vec F S2048x256 .bf16) (DT : Vec F S4x512x512 .f32) : ℕ → Vec F S2048x256 .f32
  | 0 => k1_pay3
  | j + 1 => if h : j < k1_t1_loop.trips then (bwdCol QB KB VB DB DT ⟨j, h⟩ (bwdDq QB KB VB DB DT j)).2 else bwdDq QB KB VB DB DT j

/-- The gradients of the keys and values of key block `j`. -/
def bwdDkv (QB KB VB DB : Vec F S2048x256 .bf16) (DT : Vec F S4x512x512 .f32) (j : Fin k1_t1_loop.trips) : FVec F S512x256 .f32 × FVec F S512x256 .f32 :=
  (bwdCol QB KB VB DB DT j (bwdDq QB KB VB DB DT j.val)).1

theorem k1_t1_trips4 : k1_t1_loop.trips = 4 := by decide

/-- Row `r` lies in key block `r / 512`. -/
def rowBlock (r : Fin 2048) : Fin k1_t1_loop.trips := ⟨r.val / 512, by rw [k1_t1_trips4]; omega⟩

/-- Row `r`, column `d` within its key block, as an index of a one-slab block. -/
def inBlock (r : Fin 2048) (d : Fin 256) : S1x512x256.Idx := fun | ⟨0, _⟩ => (0 : Fin 1) | ⟨1, _⟩ => (⟨r.val % 512, Nat.mod_lt _ (by decide)⟩ : Fin 512) | ⟨2, _⟩ => d

/-- Row `r`, column `d` as an index of a one-slab block of all the rows. -/
def inSlab (r : Fin 2048) (d : Fin 256) : S1x2048x256.Idx := fun | ⟨0, _⟩ => (0 : Fin 1) | ⟨1, _⟩ => r | ⟨2, _⟩ => d

/-- What the backward kernel leaves in its output block: the four gradients, slab by slab. -/
def bwdOut (i : grid1.Coords) (Q K V G RAW DOUT : Vec F S2048x256 .f32) : Vec F S4x2048x256 .bf16 := fun y =>
  if (y 0).val = 0 then k1_pay17 (bwdDq (k1_pay25 Q) (k1_pay26 K) (k1_pay27 V) (bwdDret G RAW DOUT) (bwdTab i) 4) (inSlab (y 1) (y 2))
  else if (y 0).val = 1 then k1_pay15 (bwdDkv (k1_pay25 Q) (k1_pay26 K) (k1_pay27 V) (bwdDret G RAW DOUT) (bwdTab i) (rowBlock (y 1))).1 (inBlock (y 1) (y 2))
  else if (y 0).val = 2 then k1_pay16 (bwdDkv (k1_pay25 Q) (k1_pay26 K) (k1_pay27 V) (bwdDret G RAW DOUT) (bwdTab i) (rowBlock (y 1))).2 (inBlock (y 1) (y 2))
  else k1_pay1 (k1_pay32 RAW G DOUT) (k1_pay33 G) k1_pay34 (inSlab (y 1) (y 2))

/-- The queries' gradient in the outer loop does not depend on the output block. -/
theorem bwdTrips_fst (QB KB VB DB : Vec F S2048x256 .bf16) (DT : Vec F S4x512x512 .f32) (o : Vec F S4x2048x256 .bf16) :
    ∀ k, (bwdTrips QB KB VB DB DT (k1_pay3, o) k).1 = bwdDq QB KB VB DB DT k
  | 0 => rfl
  | k + 1 => by
    rw [bwdTrips.eq_2, bwdDq.eq_2]
    by_cases h : k < k1_t1_loop.trips
    · rw [dif_pos h, dif_pos h, ← bwdTrips_fst QB KB VB DB DT o k]; rfl
    · rw [dif_neg h, dif_neg h, bwdTrips_fst QB KB VB DB DT o k]

/-- One slab of one row block, put: its rows read the payload, every other index what was there. -/
theorem put_rows (x : Vec F S4x2048x256 .bf16) (off : Fin 3 → ℕ) (n j : ℕ) (hoff : off = ![n, 512 * j, 0]) (w : FVec F S1x512x256 .bf16) (y : S4x2048x256.Idx) :
    put x off S1x512x256.size w y = if (y 0).val = n ∧ (y 1).val / 512 = j then w (inBlock (y 1) (y 2)) else x y := by
  subst hoff
  have e1 : (y 1).val < 2048 := (y 1).isLt
  have e2 : (y 2).val < 256 := (y 2).isLt
  unfold put
  by_cases h : (y 0).val = n ∧ (y 1).val / 512 = j
  · have hy : ∀ a : Fin 3, (![n, 512 * j, 0] : Fin 3 → ℕ) a ≤ (y a).val ∧ (y a).val < (![n, 512 * j, 0] : Fin 3 → ℕ) a + S1x512x256.size a := fun a => by
      match a with
      | ⟨0, _⟩ => show n ≤ (y 0).val ∧ (y 0).val < n + 1; omega
      | ⟨1, _⟩ => show 512 * j ≤ (y 1).val ∧ (y 1).val < 512 * j + 512; omega
      | ⟨2, _⟩ => show 0 ≤ (y 2).val ∧ (y 2).val < 0 + 256; omega
    rw [if_pos h]
    refine (dif_pos hy).trans (congrArg w (funext fun a => Fin.ext ?_))
    match a with
    | ⟨0, _⟩ => show (y 0).val - n = 0; omega
    | ⟨1, _⟩ => show (y 1).val - 512 * j = (y 1).val % 512; omega
    | ⟨2, _⟩ => show (y 2).val - 0 = (y 2).val; omega
  · rw [if_neg h]
    refine dif_neg fun hy => h ?_
    have a0 : n ≤ (y 0).val ∧ (y 0).val < n + 1 := hy 0
    have a1 : 512 * j ≤ (y 1).val ∧ (y 1).val < 512 * j + 512 := hy 1
    omega

/-- One whole slab put. -/
theorem put_slab (x : Vec F S4x2048x256 .bf16) (n : ℕ) (w : FVec F S1x2048x256 .bf16) (y : S4x2048x256.Idx) :
    put x ![n, 0, 0] S1x2048x256.size w y = if (y 0).val = n then w (inSlab (y 1) (y 2)) else x y := by
  have e1 : (y 1).val < 2048 := (y 1).isLt
  have e2 : (y 2).val < 256 := (y 2).isLt
  unfold put
  by_cases h : (y 0).val = n
  · have hy : ∀ a : Fin 3, (![n, 0, 0] : Fin 3 → ℕ) a ≤ (y a).val ∧ (y a).val < (![n, 0, 0] : Fin 3 → ℕ) a + S1x2048x256.size a := fun a => by
      match a with
      | ⟨0, _⟩ => show n ≤ (y 0).val ∧ (y 0).val < n + 1; omega
      | ⟨1, _⟩ => show 0 ≤ (y 1).val ∧ (y 1).val < 0 + 2048; omega
      | ⟨2, _⟩ => show 0 ≤ (y 2).val ∧ (y 2).val < 0 + 256; omega
    rw [if_pos h]
    refine (dif_pos hy).trans (congrArg w (funext fun a => Fin.ext ?_))
    match a with
    | ⟨0, _⟩ => show (y 0).val - n = 0; omega
    | ⟨1, _⟩ => show (y 1).val - 0 = (y 1).val; omega
    | ⟨2, _⟩ => show (y 2).val - 0 = (y 2).val; omega
  · rw [if_neg h]
    refine dif_neg fun hy => h ?_
    have a0 : n ≤ (y 0).val ∧ (y 0).val < n + 1 := hy 0
    omega

/-- The output block after `k` trips of the outer loop: the first `k` row blocks of the keys' and values' slabs written. -/
theorem bwdTrips_snd (QB KB VB DB : Vec F S2048x256 .bf16) (DT : Vec F S4x512x512 .f32) (o : Vec F S4x2048x256 .bf16) (y : S4x2048x256.Idx) :
    ∀ k, k ≤ 4 → (bwdTrips QB KB VB DB DT (k1_pay3, o) k).2 y
      = if (y 1).val / 512 < k then
          (if (y 0).val = 1 then k1_pay15 (bwdDkv QB KB VB DB DT (rowBlock (y 1))).1 (inBlock (y 1) (y 2))
           else if (y 0).val = 2 then k1_pay16 (bwdDkv QB KB VB DB DT (rowBlock (y 1))).2 (inBlock (y 1) (y 2)) else o y)
        else o y
  | 0, _ => by rw [if_neg (Nat.not_lt_zero _)]; rfl
  | k + 1, hk => by
    have ih := bwdTrips_snd QB KB VB DB DT o y k (Nat.le_of_succ_le hk)
    have h : k < k1_t1_loop.trips := by rw [k1_t1_trips4]; omega
    have e : bwdTrips QB KB VB DB DT (k1_pay3, o) (k + 1) = bwdTrip QB KB VB DB DT ⟨k, h⟩ (bwdTrips QB KB VB DB DT (k1_pay3, o) k) := by
      rw [bwdTrips.eq_2]; exact dif_pos h
    rw [e]
    unfold bwdTrip
    dsimp only
    rw [put_rows _ _ 2 k (k1_off7_eq ⟨k, h⟩), put_rows _ _ 1 k (k1_off6_eq ⟨k, h⟩), bwdTrips_fst, ih]
    by_cases hb : (y 1).val / 512 = k
    · have er : rowBlock (y 1) = ⟨k, h⟩ := Fin.ext hb
      rw [er, if_neg (show ¬ (y 1).val / 512 < k by omega), if_pos (show (y 1).val / 512 < k + 1 by omega)]
      by_cases h2 : (y 0).val = 2
      · rw [if_pos ⟨h2, hb⟩, if_neg (show ¬ (y 0).val = 1 by omega), if_pos h2]; rfl
      · rw [if_neg (fun c => h2 c.1), if_neg h2]
        by_cases h1 : (y 0).val = 1
        · rw [if_pos ⟨h1, hb⟩, if_pos h1]; rfl
        · rw [if_neg (fun c => h1 c.1), if_neg h1]
    · rw [if_neg (fun c => hb c.2), if_neg (fun c => hb c.2)]
      by_cases hlt : (y 1).val / 512 < k
      · rw [if_pos hlt, if_pos (show (y 1).val / 512 < k + 1 by omega)]
      · rw [if_neg hlt, if_neg (show ¬ (y 1).val / 512 < k + 1 by omega)]

/-- All the stores into the output block together leave the four gradients, whatever it held. -/
theorem bwdOut_eq (i : grid1.Coords) (Q K V G RAW DOUT : Vec F S2048x256 .f32) (o : Vec F S4x2048x256 .bf16) :
    put (bwdTrips (k1_pay25 Q) (k1_pay26 K) (k1_pay27 V) (bwdDret G RAW DOUT) (bwdTab i)
        (k1_pay3, put o ![3, 0, 0] S1x2048x256.size (k1_pay1 (k1_pay32 RAW G DOUT) (k1_pay33 G) k1_pay34)) 4).2 ![0, 0, 0] S1x2048x256.size
      (k1_pay17 (bwdTrips (k1_pay25 Q) (k1_pay26 K) (k1_pay27 V) (bwdDret G RAW DOUT) (bwdTab i)
        (k1_pay3, put o ![3, 0, 0] S1x2048x256.size (k1_pay1 (k1_pay32 RAW G DOUT) (k1_pay33 G) k1_pay34)) 4).1)
      = bwdOut i Q K V G RAW DOUT := by
  funext y
  have e0 : (y 0).val < 4 := (y 0).isLt
  have e1 : (y 1).val < 2048 := (y 1).isLt
  rw [put_slab, bwdTrips_fst, bwdTrips_snd _ _ _ _ _ _ _ 4 le_rfl, put_slab, if_pos (show (y 1).val / 512 < 4 by omega)]
  unfold bwdOut
  by_cases h0 : (y 0).val = 0
  · rw [if_pos h0, if_pos h0]
  · rw [if_neg h0, if_neg h0]
    by_cases h1 : (y 0).val = 1
    · rw [if_pos h1, if_pos h1]
    · rw [if_neg h1, if_neg h1]
      by_cases h2 : (y 0).val = 2
      · rw [if_pos h2, if_pos h2]
      · rw [if_neg h2, if_neg h2, if_pos (show (y 0).val = 3 by omega)]

end Cert.RetI

end
-- ==== Proof.RetI.BwdBody.lean ====
/- The backward kernel's body, run once on symbolic blocks. -/
module

public import proofs.«01_k».proof.Proof.RetI.BwdModel

@[expose] public section

set_option maxRecDepth 16384
set_option maxHeartbeats 1000000

noncomputable section

namespace Cert.RetI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄G" => MT nD τ sig Unit (Elt F) ℕ (UR sig nD τ) ℕ

/-- The last store of the block, after a run of the loops whose end is known: the block the model names. -/
theorem bwd_fin (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .hbm S8x2048x1024 .bf16) (harg7 : arg7.IsWhole) (arg8 : Memref sig .tc .vmem S4x2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .f32) (harg13 : arg13.IsWhole) (arg14 : Memref sig .tc .vmem S4x512x512 .f32) (harg14 : arg14.IsWhole) (Q K V G RAW DOUT : Vec F S2048x256 .f32) (f8 f8' : arg8.view.ty.Contents (Elt F))
    (qb kb vb db : Vec F S2048x256 .bf16) (dt : Vec F S4x512x512 .f32) (a z : Vec F S2048x256 .f32) (P : FVec F S1x2048x256 .bf16)
    (hr : (a, arg8.view.read (Elt F) f8') = bwdTrips qb kb vb db dt
      (z, arg8.view.read (Elt F) (arg8.view.writes (Elt F) f8 [⟨Rect.unit ![3, 0, 0] S1x2048x256.size inb_S4x2048x256_S1x2048x256_3_0_0, P⟩]))
      (Scf.trips k1_t1_loop.lb k1_t1_loop.ub k1_t1_loop.st))
    (h9 : qb = k1_pay25 Q) (h10 : kb = k1_pay26 K) (h11 : vb = k1_pay27 V) (h12 : db = bwdDret G RAW DOUT) (h14 : dt = bwdTab i) (h13 : z = k1_pay3)
    (hP : P = k1_pay1 (k1_pay32 RAW G DOUT) (k1_pay33 G) k1_pay34) :
    arg8.view.read (Elt F) (arg8.view.writes (Elt F) f8' [⟨Rect.unit ![0, 0, 0] S1x2048x256.size inb_S4x2048x256_S1x2048x256_0_0_0, k1_pay17 a⟩])
      = bwdOut i Q K V G RAW DOUT := by
  subst h9 h10 h11 h12 h14 h13 hP
  rw [View.read_writes_cons_put _ _ _ _ _ rfl, View.writes_nil]
  rw [View.read_writes_cons_put _ _ _ _ _ rfl, View.writes_nil, show Scf.trips k1_t1_loop.lb k1_t1_loop.ub k1_t1_loop.st = 4 from k1_t1_trips4] at hr
  rw [← bwdOut_eq i Q K V G RAW DOUT (arg8.view.read (Elt F) f8), ← hr]

/-- The backward kernel's body run on whole blocks: from the six input blocks at their values, the output block and the
   scratches at anything, it returns with the inputs as they were and the output block at `bwdOut` of them. -/
theorem bwd_run (c : Dev nD) (E : Set ℕ) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .hbm S8x2048x1024 .bf16) (harg7 : arg7.IsWhole) (arg8 : Memref sig .tc .vmem S4x2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .f32) (harg13 : arg13.IsWhole) (arg14 : Memref sig .tc .vmem S4x512x512 .f32) (harg14 : arg14.IsWhole) (Q K V G RAW DOUT : Vec F S2048x256 .f32) (Φ : PUnit → sProp 𝕄G) :
    iprop(owns (c : Thread nD τ) arg1 fullShare Q ∗ owns (c : Thread nD τ) arg2 fullShare K ∗ owns (c : Thread nD τ) arg3 fullShare V ∗ owns (c : Thread nD τ) arg4 fullShare G ∗ owns (c : Thread nD τ) arg5 fullShare RAW ∗ owns (c : Thread nD τ) arg6 fullShare DOUT ∗ (∃ d, owns (c : Thread nD τ) arg8 fullShare d) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)
      ∗ (iprop(owns (c : Thread nD τ) arg1 fullShare Q ∗ owns (c : Thread nD τ) arg2 fullShare K ∗ owns (c : Thread nD τ) arg3 fullShare V ∗ owns (c : Thread nD τ) arg4 fullShare G ∗ owns (c : Thread nD τ) arg5 fullShare RAW ∗ owns (c : Thread nD τ) arg6 fullShare DOUT ∗ owns (c : Thread nD τ) arg8 fullShare (bwdOut i Q K V G RAW DOUT) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)) -∗ Φ ⟨⟩))
    ⊢ wp frame (wpE (defs₀ (F := F)) Variants.none (c : Thread nD τ) none) E (cc1_ret_bwd (F := F) i arg1 harg1 arg2 harg2 arg3 harg3 arg4 harg4 arg5 harg5 arg6 harg6 arg7 harg7 arg8 harg8 arg9 harg9 arg10 harg10 arg11 harg11 arg12 harg12 arg13 harg13 arg14 harg14) Φ := by
  simp only [cc1_ret_bwd_eq_skeleton]
  unfold cc1_ret_bwd_skel
  simp only [k1_part1_eq_skeleton, k1_part2_eq_skeleton, k1_part3_eq_skeleton]
  unfold k1_part1_skel k1_part2_skel k1_part3_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%f9, H9⟩, ⟨%f10, H10⟩, ⟨%f11, H11⟩, ⟨%f12, H12⟩, ⟨%f13, H13⟩, ⟨%f14, H14⟩, Hk⟩
  subst hf1 hf2 hf3 hf4 hf5 hf6
  sl_exec
  have e9 : arg9.view.read (Elt F) (arg9.view.writes (Elt F) arg9.view.junk (bwd_run.sl.H9_1 c arg1 f1)) = k1_pay25 (arg1.view.read (Elt F) f1) := by
    delta bwd_run.sl.H9_1; rw [View.read_writes_full, View.readAt_full]
  have e10 : arg10.view.read (Elt F) (arg10.view.writes (Elt F) arg10.view.junk (bwd_run.sl.H10_1 c arg2 f2)) = k1_pay26 (arg2.view.read (Elt F) f2) := by
    delta bwd_run.sl.H10_1; rw [View.read_writes_full, View.readAt_full]
  have e11 : arg11.view.read (Elt F) (arg11.view.writes (Elt F) arg11.view.junk (bwd_run.sl.H11_1 c arg3 f3)) = k1_pay27 (arg3.view.read (Elt F) f3) := by
    delta bwd_run.sl.H11_1; rw [View.read_writes_full, View.readAt_full]
  have e12 : arg12.view.read (Elt F) (arg12.view.writes (Elt F) arg12.view.junk (bwd_run.sl.H12_1 c arg4 arg5 arg6 f4 f5 f6))
      = bwdDret (arg4.view.read (Elt F) f4) (arg5.view.read (Elt F) f5) (arg6.view.read (Elt F) f6) := by
    delta bwd_run.sl.H12_1; rw [View.read_writes_full, View.readAt_full, View.readAt_full, View.readAt_full]; rfl
  have e14 : arg14.view.read (Elt F) (arg14.view.writes (Elt F) arg14.view.junk (bwd_run.sl.H14_4 c i arg14 f14)) = bwdTab i := by
    delta bwd_run.sl.H14_4
    dsimp only
    rw [View.read_writes_cons_put _ _ _ _ _ rfl, View.read_writes_cons_put _ _ _ _ _ rfl,
      View.read_writes_cons_put _ _ _ _ _ rfl, View.read_writes_cons_put _ _ _ _ _ rfl, View.writes_nil]
    exact slabs_congr _ _ _ _ _ _
  have e13 : arg13.view.read (Elt F) (arg13.view.writes (Elt F) arg13.view.junk (bwd_run.sl.H13_1 (F := F))) = k1_pay3 := by
    delta bwd_run.sl.H13_1; rw [View.read_writes_full]
  have p8 : k1_pay1 (k1_pay32 (arg5.view.readAt (Elt F) (Rect.unit ![0, 0] S2048x256.size inb_S2048x256_S2048x256_0_0).toLoadRect f5)
        (arg4.view.readAt (Elt F) (Rect.unit ![0, 0] S2048x256.size inb_S2048x256_S2048x256_0_0).toLoadRect f4)
        (arg6.view.readAt (Elt F) (Rect.unit ![0, 0] S2048x256.size inb_S2048x256_S2048x256_0_0).toLoadRect f6))
        (k1_pay33 (arg4.view.readAt (Elt F) (Rect.unit ![0, 0] S2048x256.size inb_S2048x256_S2048x256_0_0).toLoadRect f4)) k1_pay34
      = k1_pay1 (k1_pay32 (arg5.view.read (Elt F) f5) (arg4.view.read (Elt F) f4) (arg6.view.read (Elt F) f6)) (k1_pay33 (arg4.view.read (Elt F) f4)) k1_pay34 := by
    rw [View.readAt_full, View.readAt_full, View.readAt_full]
  have hr := ‹_ = bwdTrips _ _ _ _ _ _ _›
  dsimp only at hr
  have hq : k1_pay17 (arg13.view.readAt (Elt F) (Rect.unit ![0, 0] S2048x256.size inb_S2048x256_S2048x256_0_0).toLoadRect f13L0) = k1_pay17 (arg13.view.read (Elt F) f13L0) := by rw [View.readAt_full]
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H8]
  · iexists _; isplitr; swap; (· iexact H8)
    ipureintro
    refine Eq.trans (congrArg (fun w => arg8.view.read (Elt F) (arg8.view.writes (Elt F) f8L1 [⟨Rect.unit ![0, 0, 0] S1x2048x256.size inb_S4x2048x256_S1x2048x256_0_0_0, w⟩])) hq) ?_
    exact bwd_fin i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ f8 f8L1 _ _ _ _ _ _ _ _ hr e9 e10 e11 e12 e14 e13 p8
  isplitl [H9]; · iexists _; iexact H9
  isplitl [H10]; · iexists _; iexact H10
  isplitl [H11]; · iexists _; iexact H11
  isplitl [H12]; · iexists _; iexact H12
  isplitl [H13]; · iexists _; iexact H13
  iexists _; iexact H14

end Cert.RetI

end
-- ==== Proof.RetI.FwdModel.lean ====
/- What the forward kernel computes, as plain functions of the blocks it is given. -/
module

public import proofs.«01_k».proof.Proof.RetI.BwdModel

@[expose] public section

set_option maxRecDepth 16384

noncomputable section

namespace Cert.RetI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄G" => MT nD τ sig Unit (Elt F) ℕ (UR sig nD τ) ℕ

/-- Key block `k` of the forward loop added to the raw output of the query tile `Q`. -/
def fwdTile (i : grid0.Coords) (Q : Vec F S512x256 .f32) (KB VB : Vec F S2048x256 .bf16) (DT : Vec F S4x512x512 .f32)
    (k : Fin (k0_t1_loop i).trips) (acc : FVec F S512x256 .f32) : FVec F S512x256 .f32 :=
  k0_pay16 Q acc (window KB (k0_off1 i k) S512x256.size (k0_off1_inb i k)) (window DT (k0_off2 i k) S1x512x512.size (k0_off2_inb i k))
    (window VB (k0_off1 i k) S512x256.size (k0_off1_inb i k))

/-- The raw output after `k` key blocks. -/
def fwdTiles (i : grid0.Coords) (Q : Vec F S512x256 .f32) (KB VB : Vec F S2048x256 .bf16) (DT : Vec F S4x512x512 .f32)
    (acc : FVec F S512x256 .f32) : ℕ → FVec F S512x256 .f32
  | 0 => acc
  | k + 1 => if h : k < (k0_t1_loop i).trips then fwdTile i Q KB VB DT ⟨k, h⟩ (fwdTiles i Q KB VB DT acc k) else fwdTiles i Q KB VB DT acc k

theorem fwdTiles_succ (i : grid0.Coords) (Q : Vec F S512x256 .f32) (KB VB : Vec F S2048x256 .bf16) (DT : Vec F S4x512x512 .f32)
    (acc : FVec F S512x256 .f32) (k : Fin (k0_t1_loop i).trips) :
    fwdTiles i Q KB VB DT acc (k.val + 1) = fwdTile i Q KB VB DT k (fwdTiles i Q KB VB DT acc k.val) := by
  rw [fwdTiles.eq_2]; exact dif_pos k.isLt

/-- The decay tables of head `h`. -/
def fwdTab (h : ℕ) : Vec F S4x512x512 .f32 :=
  slabs someTab (k0_pay6 (BitVec.ofNat 32 h)) (k0_pay7 (k0_pay4 (BitVec.ofNat 32 h)) k0_pay5 512#32) (k0_pay8 (k0_pay4 (BitVec.ofNat 32 h)) k0_pay5)
    (k0_pay13 (k0_pay10 (k0_pay4 (BitVec.ofNat 32 h)) k0_pay5) (k0_pay11 k0_pay5) k0_pay12)

/-- The raw output of a query tile. -/
def fwdRaw (i : grid0.Coords) (Q : Vec F S512x256 .f32) (K V : Vec F S2048x256 .f32) : FVec F S512x256 .f32 :=
  fwdTiles i Q (k0_pay2 K) (k0_pay3 V) (fwdTab (i 0).val) k0_pay15 (k0_t1_loop i).trips

/-- The remainder loop makes no trips. -/
theorem k0_t2_trips (i : grid0.Coords) : (k0_t2_loop i).trips = 0 := Nat.le_zero.1 (k0_t2_abs i).2.1

/-- One trip of the loop yields the plain function's tile. -/
theorem trip_k0_t1_eq (𝒱 : Variants) (c : Dev nD) (bd : Option 𝒱.V) (i : grid0.Coords) (arg2 : Memref sig .tc .vmem S512x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .hbm S2x2048x1024 .bf16) (harg6 : arg6.IsWhole) (arg7 : Memref sig .tc .vmem S1x512x256 .bf16) (harg7 : arg7.IsWhole) (arg8 : Memref sig .tc .vmem S512x256 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4x512x512 .f32) (harg11 : arg11.IsWhole) (Q : Vec F S512x256 .f32)
    (X9 : BufTy.Contents (Elt F) arg9.view.ty) (X10 : BufTy.Contents (Elt F) arg10.view.ty) (X11 : BufTy.Contents (Elt F) arg11.view.ty)
    (k : Fin (k0_t1_loop i).trips) (acc : FVec F S512x256 .f32) :
    tripR_k0_t1 (F := F) 𝒱 c bd i arg2 harg2 arg3 harg3 arg4 harg4 arg5 harg5 arg6 harg6 arg7 harg7 arg8 harg8 arg9 harg9 arg10 harg10 arg11 harg11 Q X9 X10 X11 k acc
      = fwdTile i Q (arg9.view.read (Elt F) X9) (arg10.view.read (Elt F) X10) (arg11.view.read (Elt F) X11) k acc := by
  unfold tripR_k0_t1 trip_k0_t1
  rfl

/-- What the loop carries before trip `k` is the plain function's value. -/
theorem st_k0_t1_eq (𝒱 : Variants) (c : Dev nD) (bd : Option 𝒱.V) (i : grid0.Coords) (arg2 : Memref sig .tc .vmem S512x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .hbm S2x2048x1024 .bf16) (harg6 : arg6.IsWhole) (arg7 : Memref sig .tc .vmem S1x512x256 .bf16) (harg7 : arg7.IsWhole) (arg8 : Memref sig .tc .vmem S512x256 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4x512x512 .f32) (harg11 : arg11.IsWhole) (Q : Vec F S512x256 .f32)
    (X9 : BufTy.Contents (Elt F) arg9.view.ty) (X10 : BufTy.Contents (Elt F) arg10.view.ty) (X11 : BufTy.Contents (Elt F) arg11.view.ty)
    (init : FVec F S512x256 .f32) (k : ℕ) (hk : k ≤ (k0_t1_loop i).trips) :
    st_k0_t1 (F := F) 𝒱 c bd i arg2 harg2 arg3 harg3 arg4 harg4 arg5 harg5 arg6 harg6 arg7 harg7 arg8 harg8 arg9 harg9 arg10 harg10 arg11 harg11 Q X9 X10 X11 init k
      = fwdTiles i Q (arg9.view.read (Elt F) X9) (arg10.view.read (Elt F) X10) (arg11.view.read (Elt F) X11) init k := by
  induction k with
  | zero => rfl
  | succ k ih =>
    have e := st_k0_t1_succ (F := F) 𝒱 c bd i arg2 harg2 arg3 harg3 arg4 harg4 arg5 harg5 arg6 harg6 arg7 harg7 arg8 harg8 arg9 harg9 arg10 harg10 arg11 harg11 Q X9 X10 X11 init ⟨k, hk⟩
    have e' := fwdTiles_succ (F := F) i Q (arg9.view.read (Elt F) X9) (arg10.view.read (Elt F) X10) (arg11.view.read (Elt F) X11) init ⟨k, hk⟩
    rw [show k + 1 = (⟨k, hk⟩ : Fin (k0_t1_loop i).trips).val + 1 from rfl, e, e', trip_k0_t1_eq, ih (Nat.le_of_succ_le hk)]

end Cert.RetI

end
-- ==== Proof.RetI.FwdBody.lean ====
/- The forward kernel's body, run once for each of its two cases: the tile that fills the scratch, and the tiles
   that find it filled. -/
module

public import proofs.«01_k».proof.Proof.RetI.FwdModel

@[expose] public section

set_option maxRecDepth 16384

noncomputable section

namespace Cert.RetI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄G" => MT nD τ sig Unit (Elt F) ℕ (UR sig nD τ) ℕ

/-- What the body finds and leaves of its inputs. -/
abbrev FwdIn (c : Dev nD) (arg2 : Memref sig .tc .vmem S512x256 .f32) (arg3 arg4 : Memref sig .tc .vmem S2048x256 .f32) (arg5 : Memref sig .tc .vmem S512x256 .f32)
    (Q : Vec F S512x256 .f32) (K V : Vec F S2048x256 .f32) (G : Vec F S512x256 .f32) : sProp 𝕄G :=
  iprop(owns (c : Thread nD τ) arg2 fullShare Q ∗ owns (c : Thread nD τ) arg3 fullShare K ∗ owns (c : Thread nD τ) arg4 fullShare V ∗ owns (c : Thread nD τ) arg5 fullShare G)

/-- The scratch filled from a head's keys and values. -/
abbrev FwdScr (c : Dev nD) (arg9 arg10 : Memref sig .tc .vmem S2048x256 .bf16) (arg11 : Memref sig .tc .vmem S4x512x512 .f32)
    (K V : Vec F S2048x256 .f32) (h : ℕ) : sProp 𝕄G :=
  iprop(owns (c : Thread nD τ) arg9 fullShare (k0_pay2 (F := F) K) ∗ owns (c : Thread nD τ) arg10 fullShare (k0_pay3 (F := F) V)
    ∗ owns (c : Thread nD τ) arg11 fullShare (fwdTab (F := F) h))

/-- What the body leaves. -/
abbrev FwdPost (c : Dev nD) (i : grid0.Coords) (arg2 : Memref sig .tc .vmem S512x256 .f32) (arg3 arg4 : Memref sig .tc .vmem S2048x256 .f32) (arg5 : Memref sig .tc .vmem S512x256 .f32)
    (arg7 : Memref sig .tc .vmem S1x512x256 .bf16) (arg8 : Memref sig .tc .vmem S512x256 .f32)
    (arg9 arg10 : Memref sig .tc .vmem S2048x256 .bf16) (arg11 : Memref sig .tc .vmem S4x512x512 .f32)
    (Q : Vec F S512x256 .f32) (K V : Vec F S2048x256 .f32) (G : Vec F S512x256 .f32) : sProp 𝕄G :=
  iprop(FwdIn (F := F) c arg2 arg3 arg4 arg5 Q K V G ∗ owns (c : Thread nD τ) arg7 fullShare (k0_pay1 (F := F) (k0_pay18 (fwdRaw i Q K V) G))
    ∗ owns (c : Thread nD τ) arg8 fullShare (fwdRaw (F := F) i Q K V) ∗ FwdScr (F := F) c arg9 arg10 arg11 K V (i 0).val)

/-- The condition on which the body fills the scratch: the head's first query tile. -/
abbrev FwdFirst (i : grid0.Coords) : Prop :=
  Scalar.cmpi .ne (Scalar.extui (Scalar.cmpi .eq (BitVec.ofNat 32 (i 1).val) 0#32) : BitVec 32) 0#32 = 1#1

/-- The keys' scratch after the branch. -/
theorem fwd_keys (arg9 : Memref sig .tc .vmem S2048x256 .bf16) (arg3 : Memref sig .tc .vmem S2048x256 .f32) (f9 : BufTy.Contents (Elt F) arg9.view.ty)
    (f3 : BufTy.Contents (Elt F) arg3.view.ty) (P : Prop) [Decidable P] (h : ¬ P → arg9.view.read (Elt F) f9 = k0_pay2 (arg3.view.read (Elt F) f3)) :
    arg9.view.read (Elt F) (if _ : P then arg9.view.writes (Elt F) f9 [⟨Rect.unit ![0, 0] S2048x256.size inb_S2048x256_S2048x256_0_0,
      k0_pay2 (arg3.view.readAt (Elt F) (Rect.unit ![0, 0] S2048x256.size inb_S2048x256_S2048x256_0_0).toLoadRect f3)⟩] else f9) = k0_pay2 (arg3.view.read (Elt F) f3) := by
  by_cases hP : P
  · rw [dif_pos hP, View.read_writes_full, View.readAt_full]
  · rw [dif_neg hP, h hP]

/-- The values' scratch after the branch. -/
theorem fwd_vals (arg9 : Memref sig .tc .vmem S2048x256 .bf16) (arg3 : Memref sig .tc .vmem S2048x256 .f32) (f9 : BufTy.Contents (Elt F) arg9.view.ty)
    (f3 : BufTy.Contents (Elt F) arg3.view.ty) (P : Prop) [Decidable P] (h : ¬ P → arg9.view.read (Elt F) f9 = k0_pay3 (arg3.view.read (Elt F) f3)) :
    arg9.view.read (Elt F) (if _ : P then arg9.view.writes (Elt F) f9 [⟨Rect.unit ![0, 0] S2048x256.size inb_S2048x256_S2048x256_0_0,
      k0_pay3 (arg3.view.readAt (Elt F) (Rect.unit ![0, 0] S2048x256.size inb_S2048x256_S2048x256_0_0).toLoadRect f3)⟩] else f9) = k0_pay3 (arg3.view.read (Elt F) f3) := by
  by_cases hP : P
  · rw [dif_pos hP, View.read_writes_full, View.readAt_full]
  · rw [dif_neg hP, h hP]

/-- The tables' scratch after the branch. -/
theorem fwd_tab (arg11 : Memref sig .tc .vmem S4x512x512 .f32) (f11 : BufTy.Contents (Elt F) arg11.view.ty)
    (P : Prop) [Decidable P] {n : ℕ} (h : ¬ P → arg11.view.read (Elt F) f11 = fwdTab n) :
    arg11.view.read (Elt F) (if _ : P then arg11.view.writes (Elt F) f11
      [⟨Rect.unit ![3, 0, 0] S1x512x512.size inb_S4x512x512_S1x512x512_3_0_0, k0_pay13 (k0_pay10 (k0_pay4 (BitVec.ofNat 32 n)) k0_pay5) (k0_pay11 k0_pay5) k0_pay12⟩,
       ⟨Rect.unit ![2, 0, 0] S1x512x512.size inb_S4x512x512_S1x512x512_2_0_0, k0_pay8 (k0_pay4 (BitVec.ofNat 32 n)) k0_pay5⟩,
       ⟨Rect.unit ![1, 0, 0] S1x512x512.size inb_S4x512x512_S1x512x512_1_0_0, k0_pay7 (k0_pay4 (BitVec.ofNat 32 n)) k0_pay5 512#32⟩,
       ⟨Rect.unit ![0, 0, 0] S1x512x512.size inb_S4x512x512_S1x512x512_0_0_0, k0_pay6 (BitVec.ofNat 32 n)⟩] else f11) = fwdTab n := by
  by_cases hP : P
  · rw [dif_pos hP, View.read_writes_cons_put _ _ _ _ _ rfl, View.read_writes_cons_put _ _ _ _ _ rfl,
      View.read_writes_cons_put _ _ _ _ _ rfl, View.read_writes_cons_put _ _ _ _ _ rfl, View.writes_nil]
    exact slabs_congr _ _ _ _ _ _
  · rw [dif_neg hP, h hP]

/-- The two loops from a filled scratch yield the model's raw tile. -/
theorem fwd_val (𝒱 : Variants) (c : Dev nD) (bd : Option 𝒱.V) (i : grid0.Coords) (arg2 : Memref sig .tc .vmem S512x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .hbm S2x2048x1024 .bf16) (harg6 : arg6.IsWhole) (arg7 : Memref sig .tc .vmem S1x512x256 .bf16) (harg7 : arg7.IsWhole) (arg8 : Memref sig .tc .vmem S512x256 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4x512x512 .f32) (harg11 : arg11.IsWhole) (Q Q' : Vec F S512x256 .f32) (K V : Vec F S2048x256 .f32)
    (X9 : BufTy.Contents (Elt F) arg9.view.ty) (X10 : BufTy.Contents (Elt F) arg10.view.ty) (X11 : BufTy.Contents (Elt F) arg11.view.ty)
    (hQ : Q' = Q) (e9 : arg9.view.read (Elt F) X9 = k0_pay2 K) (e10 : arg10.view.read (Elt F) X10 = k0_pay3 V) (e11 : arg11.view.read (Elt F) X11 = fwdTab (i 0).val) :
    st_k0_t2 (F := F) 𝒱 c bd i arg2 harg2 arg3 harg3 arg4 harg4 arg5 harg5 arg6 harg6 arg7 harg7 arg8 harg8 arg9 harg9 arg10 harg10 arg11 harg11 Q' X9 X10 X11
      (st_k0_t1 (F := F) 𝒱 c bd i arg2 harg2 arg3 harg3 arg4 harg4 arg5 harg5 arg6 harg6 arg7 harg7 arg8 harg8 arg9 harg9 arg10 harg10 arg11 harg11 Q' X9 X10 X11 k0_pay15 (Scf.trips (k0_t1_loop i).lb (k0_t1_loop i).ub (k0_t1_loop i).st))
      (Scf.trips (k0_t2_loop i).lb (k0_t2_loop i).ub (k0_t2_loop i).st) = fwdRaw i Q K V := by
  subst hQ
  rw [show Scf.trips (k0_t2_loop i).lb (k0_t2_loop i).ub (k0_t2_loop i).st = 0 from k0_t2_trips i, st_k0_t2_zero,
    st_k0_t1_eq 𝒱 c bd i arg2 harg2 arg3 harg3 arg4 harg4 arg5 harg5 arg6 harg6 arg7 harg7 arg8 harg8 arg9 harg9 arg10 harg10 arg11 harg11 Q' X9 X10 X11 k0_pay15 _ (le_refl _), e9, e10, e11]
  rfl

/-- The body on symbolic blocks: from a scratch that reads as a head's, unless this tile fills it. -/
theorem fwd_run (c : Dev nD) (E : Set ℕ) (i : grid0.Coords) (arg2 : Memref sig .tc .vmem S512x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S512x256 .f32) (harg5 : arg5.IsWhole) (arg6 : Memref sig .tc .hbm S2x2048x1024 .bf16) (harg6 : arg6.IsWhole) (arg7 : Memref sig .tc .vmem S1x512x256 .bf16) (harg7 : arg7.IsWhole) (arg8 : Memref sig .tc .vmem S512x256 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4x512x512 .f32) (harg11 : arg11.IsWhole) (Q : Vec F S512x256 .f32) (K V : Vec F S2048x256 .f32) (G : Vec F S512x256 .f32) (Φ : PUnit → sProp 𝕄G)
    (S9 S10 : Vec F S2048x256 .bf16) (S11 : Vec F S4x512x512 .f32)
    (hS : ¬ FwdFirst i → S9 = k0_pay2 K ∧ S10 = k0_pay3 V ∧ S11 = fwdTab (i 0).val) :
    iprop(FwdIn (F := F) c arg2 arg3 arg4 arg5 Q K V G ∗ (∃ d, owns (c : Thread nD τ) arg7 fullShare d) ∗ (∃ d, owns (c : Thread nD τ) arg8 fullShare d)
      ∗ owns (c : Thread nD τ) arg9 fullShare S9 ∗ owns (c : Thread nD τ) arg10 fullShare S10 ∗ owns (c : Thread nD τ) arg11 fullShare S11
      ∗ (FwdPost (F := F) c i arg2 arg3 arg4 arg5 arg7 arg8 arg9 arg10 arg11 Q K V G -∗ Φ ⟨⟩))
    ⊢ wp frame (wpE (defs₀ (F := F)) Variants.none (c : Thread nD τ) none) E (cc0_ret_fwd (F := F) i arg2 harg2 arg3 harg3 arg4 harg4 arg5 harg5 arg6 harg6 arg7 harg7 arg8 harg8 arg9 harg9 arg10 harg10 arg11 harg11) Φ := by
  simp only [cc0_ret_fwd_eq_skeleton]
  unfold cc0_ret_fwd_skel
  simp only [k0_part3_eq_skeleton]
  unfold k0_part3_skel
  simp only [k0_part1_eq_skeleton, k0_part2_eq_skeleton]
  unfold k0_part1_skel k0_part2_skel
  unfold FwdPost FwdScr FwdIn owns
  iintro ⟨⟨⟨%f2, %hf2, H2⟩, ⟨%f3, %hf3, H3⟩, ⟨%f4, %hf4, H4⟩, ⟨%f5, %hf5, H5⟩⟩, ⟨%d7, %f7, -, H7⟩, ⟨%d8, %f8, -, H8⟩, ⟨%f9, %hf9, H9⟩, ⟨%f10, %hf10, H10⟩, ⟨%f11, %hf11, H11⟩, Hk⟩
  subst hf2 hf3 hf4 hf5 hf9 hf10 hf11
  sl_exec
  sl_step
  iapply Hk
  isplitl [H2 H3 H4 H5]
  · isplitl [H2]; · iexists _; isplitr; swap; (· iexact H2); ipureintro; rfl
    isplitl [H3]; · iexists _; isplitr; swap; (· iexact H3); ipureintro; rfl
    isplitl [H4]; · iexists _; isplitr; swap; (· iexact H4); ipureintro; rfl
    iexists _; isplitr; swap; (· iexact H5); ipureintro; rfl
  isplitl [H7]
  · iexists _; isplitr; swap; (· iexact H7)
    ipureintro
    rw [View.read_writes_full]
    delta fwd_run.sl.r
    dsimp only
    rw [View.readAt_full arg5.view]
    refine congrArg (fun v => k0_pay1 (k0_pay18 v _)) (fwd_val _ c _ i arg2 harg2 arg3 harg3 arg4 harg4 arg5 harg5 arg6 harg6 arg7 harg7 arg8 harg8 arg9 harg9 arg10 harg10 arg11 harg11 _ _ _ _ _ _ _ (View.readAt_full _ _ _) ?_ ?_ ?_)
    · exact fwd_keys arg9 arg3 _ _ _ fun h => (hS h).1
    · exact fwd_vals arg10 arg4 _ _ _ fun h => (hS h).2.1
    · exact fwd_tab arg11 _ _ fun h => (hS h).2.2
  isplitl [H8]
  · iexists _; isplitr; swap; (· iexact H8)
    ipureintro
    rw [View.read_writes_full]
    dsimp only
    refine fwd_val _ c _ i arg2 harg2 arg3 harg3 arg4 harg4 arg5 harg5 arg6 harg6 arg7 harg7 arg8 harg8 arg9 harg9 arg10 harg10 arg11 harg11 _ _ _ _ _ _ _ (View.readAt_full _ _ _) ?_ ?_ ?_
    · exact fwd_keys arg9 arg3 _ _ _ fun h => (hS h).1
    · exact fwd_vals arg10 arg4 _ _ _ fun h => (hS h).2.1
    · exact fwd_tab arg11 _ _ fun h => (hS h).2.2
  isplitl [H9]
  · iexists _; isplitr; swap; (· iexact H9)
    ipureintro
    exact fwd_keys arg9 arg3 _ _ _ fun h => (hS h).1
  isplitl [H10]
  · iexists _; isplitr; swap; (· iexact H10)
    ipureintro
    exact fwd_vals arg10 arg4 _ _ _ fun h => (hS h).2.1
  iexists _; isplitr; swap; (· iexact H11)
  ipureintro
  dsimp only
  exact fwd_tab arg11 _ _ fun h => (hS h).2.2

end Cert.RetI

end
-- ==== Proof.RetI.FwdRegion.lean ====
/- The forward kernel over its grid: what it finds and leaves at every point, from any contents of the arrays. -/
module

public import proofs.«01_k».proof.Proof.RetI.FwdBody
public import proofs.«01_k».proof.Proof.Gen.KernelIdeal.Points
public import proofs.«01_k».proof.Proof.Gen.KernelIdeal.Regions

@[expose] public section

set_option maxRecDepth 16384

noncomputable section

namespace Cert.RetI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄G" => MT nD τ sig Unit (Elt F) ℕ (UR sig nD τ) ℕ

/-- The unscoped buffers' contents, per core. -/
abbrev Vals (F : FTy → Type) : Type := (c : Dev nD) → (b : Ref sig .tc) → Buf (Elt F) ((c : Thread nD τ).loc b)

variable (V : Vals F)

/-- The block of window `w`'s array at point `t`. -/
abbrev inBlk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The head's keys, and values, staged at point `t`. -/
abbrev keys0 (c : Dev nD) (t : Fin cfg0.N) : Vec F S2048x256 .f32 := inBlk0 V c 1 t
abbrev vals0 (c : Dev nD) (t : Fin cfg0.N) : Vec F S2048x256 .f32 := inBlk0 V c 2 t

/-- The retention of the tile at point `t`, before its norm and gate. -/
abbrev raw0 (c : Dev nD) (t : Fin cfg0.N) : Vec F S512x256 .f32 :=
  fwdRaw (grid0.coords t) (inBlk0 V c 0 t : Vec F S512x256 .f32) (keys0 V c t) (vals0 V c t)

/-- The three scratch buffers filled from the head's keys and values. -/
def Filled (c : Dev nD) (t : Fin cfg0.N) (S9 S10 : Vec F S2048x256 .bf16) (S11 : Vec F S4x512x512 .f32) : Prop :=
  S9 = k0_pay2 (keys0 V c t) ∧ S10 = k0_pay3 (vals0 V c t) ∧ S11 = fwdTab (F := F) (grid0.coords t 0).val

/-- The scratch at any contents. -/
abbrev Scr0 (c : Dev nD) : sProp 𝕄G :=
  iprop((∃ f, owns (c : Thread nD τ) (Memref.whole cc0_scratch0) fullShare f) ∗ (∃ f, owns (c : Thread nD τ) (Memref.whole cc0_scratch1) fullShare f)
    ∗ (∃ f, owns (c : Thread nD τ) (Memref.whole cc0_scratch2) fullShare f))

/-- The invariant: after a point the scratch is filled from that point's head. -/
def Inv0 (c : Dev nD) (n : ℕ) : sProp 𝕄G :=
  iprop((∃ S9 S10 S11, owns (c : Thread nD τ) (Memref.whole cc0_scratch0) fullShare S9 ∗ owns (c : Thread nD τ) (Memref.whole cc0_scratch1) fullShare S10
      ∗ owns (c : Thread nD τ) (Memref.whole cc0_scratch2) fullShare S11 ∗ ⌜∀ t : Fin cfg0.N, t.val + 1 = n → Filled V c t S9 S10 S11⌝)
    ∗ (Scr0 (F := F) c -∗ Pipeline.scopedRest (Ix := Unit) (Name := ℕ) (U := UR sig nD τ) (Lvl := ℕ) (Val := Elt F) spec0 c))

/-- The forward kernel's proof data. -/
def dat0 (c : Dev nD) : Dat τ (Elt F) Unit ℕ (UR sig nD τ) ℕ cfg0 c where
  A w := V c (Pipeline.arrRef spec0 w)
  after w t := match w with
    | ⟨0, _⟩ => inBlk0 V c 0 t
    | ⟨1, _⟩ => inBlk0 V c 1 t
    | ⟨2, _⟩ => inBlk0 V c 2 t
    | ⟨3, _⟩ => inBlk0 V c 3 t
    | ⟨4, _⟩ => k0_pay1 (k0_pay18 (raw0 V c t) (inBlk0 V c 3 t : Vec F S512x256 .f32))
    | ⟨5, _⟩ => raw0 V c t
  Φ t := Inv0 V c t.val
  q w := Pipeline.shareOf spec0 w
  owed _ := 0

/-- An input window's buffer holds its array's block. -/
theorem before0_0 (c : Dev nD) (t : Fin cfg0.N) (d) : (dat0 V c).before 0 t d = inBlk0 V c 0 t :=
  (dat0 V c).before_in_eq_fetched 0 rfl (fun _ => rfl) (fun _ _ _ => rfl) (fun _ => rfl) t d
theorem before0_1 (c : Dev nD) (t : Fin cfg0.N) (d) : (dat0 V c).before 1 t d = inBlk0 V c 1 t :=
  (dat0 V c).before_in_eq_fetched 1 rfl (fun _ => rfl) (fun _ _ _ => rfl) (fun _ => rfl) t d
theorem before0_2 (c : Dev nD) (t : Fin cfg0.N) (d) : (dat0 V c).before 2 t d = inBlk0 V c 2 t :=
  (dat0 V c).before_in_eq_fetched 2 rfl (fun _ => rfl) (fun _ _ _ => rfl) (fun _ => rfl) t d
theorem before0_3 (c : Dev nD) (t : Fin cfg0.N) (d) : (dat0 V c).before 3 t d = inBlk0 V c 3 t :=
  (dat0 V c).before_in_eq_fetched 3 rfl (fun _ => rfl) (fun _ _ _ => rfl) (fun _ => rfl) t d

/-- The tile that fills the scratch is each head's first. -/
theorem fwdFirst_iff : ∀ t : Fin cfg0.N, FwdFirst (grid0.coords t) ↔ t.val % 4 = 0 := by decide +kernel

/-- Two consecutive points of one head read the same head. -/
theorem head_prev : ∀ t : Fin cfg0.N, t.val % 4 ≠ 0 → (grid0.coords t 0).val = (grid0.coords ⟨t.val - 1, Nat.lt_of_le_of_lt (Nat.sub_le _ _) t.isLt⟩ 0).val := by
  decide +kernel

theorem Filled.step {c : Dev nD} {t : Fin cfg0.N} {S9 S10 : Vec F S2048x256 .bf16} {S11 : Vec F S4x512x512 .f32}
    (h : ∀ t' : Fin cfg0.N, t'.val + 1 = t.val → Filled V c t' S9 S10 S11) (hf : ¬ FwdFirst (grid0.coords t)) : Filled V c t S9 S10 S11 := by
  have ht : t.val % 4 ≠ 0 := fun e => hf ((fwdFirst_iff t).2 e)
  obtain ⟨h1, h2, h3⟩ := h ⟨t.val - 1, Nat.lt_of_le_of_lt (Nat.sub_le _ _) t.isLt⟩ (show t.val - 1 + 1 = t.val by omega)
  have hk : inBlk0 V c 1 t = inBlk0 V c 1 ⟨t.val - 1, Nat.lt_of_le_of_lt (Nat.sub_le _ _) t.isLt⟩ :=
    (dat0 V c).fetched_congr 1 ((cfg0.win 1).index_eq_of_fetch rfl t (Bool.eq_false_iff.2 fun e => ht ((fetch0_1 t).1 e))).2 rfl (fun _ => Classical.arbitrary _)
  have hv : inBlk0 V c 2 t = inBlk0 V c 2 ⟨t.val - 1, Nat.lt_of_le_of_lt (Nat.sub_le _ _) t.isLt⟩ :=
    (dat0 V c).fetched_congr 2 ((cfg0.win 2).index_eq_of_fetch rfl t (Bool.eq_false_iff.2 fun e => ht ((fetch0_2 t).1 e))).2 rfl (fun _ => Classical.arbitrary _)
  refine ⟨h1.trans (congrArg k0_pay2 hk.symm), h2.trans (congrArg k0_pay3 hv.symm), h3.trans (congrArg fwdTab (head_prev t ht).symm)⟩

/-- The body at every point: from the input blocks to the two output blocks, the invariant kept. -/
theorem body0 (c : Dev nD) : BodyObligation (dat0 V c) (defs₀ (F := F)) Variants.none () Set.univ := fun t => by
  rw [bigSep_W0, bigSep_W0]
  rw [show (dat0 V c).Φ t.castSucc = Inv0 V c t.val from rfl, show (dat0 V c).Φ t.succ = Inv0 V c (t.val + 1) from rfl,
    show (dat0 V c).owesAt () t.succ = (dat0 V c).owesAt () t.castSucc from rfl]
  iintro ⟨HΦ, Howes, ⟨%d0, H0⟩, ⟨%d1, H1⟩, ⟨%d2, H2⟩, ⟨%d3, H3⟩, ⟨%d4, H4⟩, ⟨%d5, H5⟩⟩
  rw [before0_0, before0_1, before0_2, before0_3]
  unfold Inv0
  icases HΦ with ⟨⟨%S9, %S10, %S11, H9, H10, H11, %hS⟩, Hr⟩
  iapply (fwd_run (F := F) c Set.univ (grid0.coords t) (st0_0 t) (hstage0_0 _) (st0_1 t) (hstage0_1 _) (st0_2 t) (hstage0_2 _) (st0_3 t) (hstage0_3 _)
    (Memref.whole main_arg2) _ (st0_4 t) (hstage0_4 _) (st0_5 t) (hstage0_5 _) (Memref.whole cc0_scratch0) _ (Memref.whole cc0_scratch1) _ (Memref.whole cc0_scratch2) _
    (inBlk0 V c 0 t) (keys0 V c t) (vals0 V c t) (inBlk0 V c 3 t) _ S9 S10 S11 (fun hf => Filled.step V hS hf))
  isplitl [H0 H1 H2 H3]
  · isplitl [H0]; · iexact H0
    isplitl [H1]; · iexact H1
    isplitl [H2]; · iexact H2
    iexact H3
  isplitl [H4]; · iexists _; iexact H4
  isplitl [H5]; · iexists _; iexact H5
  isplitl [H9]; · iexact H9
  isplitl [H10]; · iexact H10
  isplitl [H11]; · iexact H11
  iintro ⟨⟨H0, H1, H2, H3⟩, H4, H5, H9, H10, H11⟩
  isplitl [H9 H10 H11 Hr]
  · isplitl [H9 H10 H11]
    · iexists _, _, _
      isplitl [H9]; · iexact H9
      isplitl [H10]; · iexact H10
      isplitl [H11]; · iexact H11
      ipureintro
      intro t' ht'
      obtain rfl : t' = t := Fin.ext (Nat.succ.inj ht')
      exact ⟨rfl, rfl, rfl⟩
    iexact Hr
  isplitl [Howes]; · iexact Howes
  isplitl [H0]; · iexact H0
  isplitl [H1]; · iexact H1
  isplitl [H2]; · iexact H2
  isplitl [H3]; · iexact H3
  isplitl [H4]; · iexact H4
  iexact H5

/-- A scratch buffer held whole is its memref owned. -/
theorem own_scr0 (c : Dev nD) (f : Vec F S2048x256 .bf16) :
    ((((c : Thread nD τ).loc cc0_scratch0) ↦{fullShare} f : sProp 𝕄G)) = owns (c : Thread nD τ) (Memref.whole cc0_scratch0) fullShare f := (owns_whole (c : Thread nD τ) cc0_scratch0 fullShare f).symm
theorem own_scr1 (c : Dev nD) (f : Vec F S2048x256 .bf16) :
    ((((c : Thread nD τ).loc cc0_scratch1) ↦{fullShare} f : sProp 𝕄G)) = owns (c : Thread nD τ) (Memref.whole cc0_scratch1) fullShare f := (owns_whole (c : Thread nD τ) cc0_scratch1 fullShare f).symm
theorem own_scr2 (c : Dev nD) (f : Vec F S4x512x512 .f32) :
    ((((c : Thread nD τ).loc cc0_scratch2) ↦{fullShare} f : sProp 𝕄G)) = owns (c : Thread nD τ) (Memref.whole cc0_scratch2) fullShare f := (owns_whole (c : Thread nD τ) cc0_scratch2 fullShare f).symm

/-- The invariant at entry. -/
theorem inv0_in (c : Dev nD) :
    (Pipeline.scopedRest (Ix := Unit) (Name := ℕ) (U := UR sig nD τ) (Lvl := ℕ) (Val := Elt F) spec0 c : sProp 𝕄G) ⊢ Inv0 V c 0 := by
  unfold Inv0
  rw [scopedRest0_eq]
  iintro ⟨⟨%f0, H0⟩, ⟨%f1, H1⟩, ⟨%f2, H2⟩, Hr⟩
  isplitl [H0 H1 H2]
  · iexists f0, f1, f2
    isplitl [H0]; · iapply (Entails.of_eq (own_scr0 (F := F) c f0)); iexact H0
    isplitl [H1]; · iapply (Entails.of_eq (own_scr1 (F := F) c f1)); iexact H1
    isplitl [H2]; · iapply (Entails.of_eq (own_scr2 (F := F) c f2)); iexact H2
    ipureintro
    intro t ht; exact absurd ht (Nat.succ_ne_zero _)
  iintro ⟨⟨%g0, H0⟩, ⟨%g1, H1⟩, ⟨%g2, H2⟩⟩
  isplitl [H0]; · iexists g0; iapply (Entails.of_eq (own_scr0 (F := F) c g0).symm); iexact H0
  isplitl [H1]; · iexists g1; iapply (Entails.of_eq (own_scr1 (F := F) c g1).symm); iexact H1
  isplitl [H2]; · iexists g2; iapply (Entails.of_eq (own_scr2 (F := F) c g2).symm); iexact H2
  iexact Hr

/-- The invariant at exit. -/
theorem inv0_out (c : Dev nD) (n : ℕ) :
    Inv0 V c n ⊢ (Pipeline.scopedRest (Ix := Unit) (Name := ℕ) (U := UR sig nD τ) (Lvl := ℕ) (Val := Elt F) spec0 c : sProp 𝕄G) := by
  unfold Inv0
  iintro ⟨⟨%S9, %S10, %S11, H9, H10, H11, %hS⟩, Hr⟩
  iapply Hr
  isplitl [H9]; · iexists _; iexact H9
  isplitl [H10]; · iexists _; iexact H10
  iexists _; iexact H11

end Cert.RetI

end
-- ==== Proof.RetI.BwdRegion.lean ====
/- The backward kernel over its grid: what it finds and leaves at every head, from any contents of the arrays. -/
module

public import proofs.«01_k».proof.Proof.RetI.BwdBody
public import proofs.«01_k».proof.Proof.RetI.FwdRegion

@[expose] public section

set_option maxRecDepth 16384

noncomputable section

namespace Cert.RetI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄G" => MT nD τ sig Unit (Elt F) ℕ (UR sig nD τ) ℕ

variable (V : Vals F)

/-- The block of window `w`'s array at head `t`. -/
abbrev inBlk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four gradients of the head at point `t`. -/
abbrev grads1 (c : Dev nD) (t : Fin cfg1.N) : Vec F S4x2048x256 .bf16 :=
  bwdOut (grid1.coords t) (inBlk1 V c 0 t : Vec F S2048x256 .f32) (inBlk1 V c 1 t : Vec F S2048x256 .f32) (inBlk1 V c 2 t : Vec F S2048x256 .f32)
    (inBlk1 V c 3 t : Vec F S2048x256 .f32) (inBlk1 V c 4 t : Vec F S2048x256 .f32) (inBlk1 V c 5 t : Vec F S2048x256 .f32)

/-- The backward kernel's proof data. -/
def dat1 (c : Dev nD) : Dat τ (Elt F) Unit ℕ (UR sig nD τ) ℕ cfg1 c where
  A w := V c (Pipeline.arrRef spec1 w)
  after w t := match w with
    | ⟨0, _⟩ => inBlk1 V c 0 t
    | ⟨1, _⟩ => inBlk1 V c 1 t
    | ⟨2, _⟩ => inBlk1 V c 2 t
    | ⟨3, _⟩ => inBlk1 V c 3 t
    | ⟨4, _⟩ => inBlk1 V c 4 t
    | ⟨5, _⟩ => inBlk1 V c 5 t
    | ⟨6, _⟩ => grads1 V c t
  Φ _ := Pipeline.scopedRest (Ix := Unit) (Name := ℕ) (U := UR sig nD τ) (Lvl := ℕ) (Val := Elt F) spec1 c
  q w := Pipeline.shareOf spec1 w
  owed _ := 0

/-- An input window's buffer holds its array's block. -/
theorem before1_0 (c : Dev nD) (t : Fin cfg1.N) (d) : (dat1 V c).before 0 t d = inBlk1 V c 0 t :=
  (dat1 V c).before_in_eq_fetched 0 rfl (fun _ => rfl) (fun _ _ _ => rfl) (fun _ => rfl) t d
theorem before1_1 (c : Dev nD) (t : Fin cfg1.N) (d) : (dat1 V c).before 1 t d = inBlk1 V c 1 t :=
  (dat1 V c).before_in_eq_fetched 1 rfl (fun _ => rfl) (fun _ _ _ => rfl) (fun _ => rfl) t d
theorem before1_2 (c : Dev nD) (t : Fin cfg1.N) (d) : (dat1 V c).before 2 t d = inBlk1 V c 2 t :=
  (dat1 V c).before_in_eq_fetched 2 rfl (fun _ => rfl) (fun _ _ _ => rfl) (fun _ => rfl) t d
theorem before1_3 (c : Dev nD) (t : Fin cfg1.N) (d) : (dat1 V c).before 3 t d = inBlk1 V c 3 t :=
  (dat1 V c).before_in_eq_fetched 3 rfl (fun _ => rfl) (fun _ _ _ => rfl) (fun _ => rfl) t d
theorem before1_4 (c : Dev nD) (t : Fin cfg1.N) (d) : (dat1 V c).before 4 t d = inBlk1 V c 4 t :=
  (dat1 V c).before_in_eq_fetched 4 rfl (fun _ => rfl) (fun _ _ _ => rfl) (fun _ => rfl) t d
theorem before1_5 (c : Dev nD) (t : Fin cfg1.N) (d) : (dat1 V c).before 5 t d = inBlk1 V c 5 t :=
  (dat1 V c).before_in_eq_fetched 5 rfl (fun _ => rfl) (fun _ _ _ => rfl) (fun _ => rfl) t d

/-- A buffer held whole at something, as its whole memref's elements. -/
theorem whole_any (c : Dev nD) (b : Ref sig .tc) :
    (iprop(∃ f : Buf (Elt F) ((c : Thread nD τ).loc b), ((c : Thread nD τ).loc b) ↦{fullShare} f) : sProp 𝕄G)
      = iprop(∃ f, (Memref.whole b).view.loc (c : Thread nD τ) ↦[(Memref.whole b).view.set]{fullShare} f) := by
  simp only [Memref.view_whole, View.set_whole]

set_option maxHeartbeats 2000000 in
/-- The body at every head: from the input blocks to the gradients' block. -/
theorem body1 (c : Dev nD) : BodyObligation (dat1 V c) (defs₀ (F := F)) Variants.none () Set.univ := fun t => by
  rw [bigSep_W1, bigSep_W1]
  rw [show (dat1 V c).Φ t.castSucc = Pipeline.scopedRest (Ix := Unit) (Name := ℕ) (U := UR sig nD τ) (Lvl := ℕ) (Val := Elt F) spec1 c from rfl,
    show (dat1 V c).Φ t.succ = Pipeline.scopedRest (Ix := Unit) (Name := ℕ) (U := UR sig nD τ) (Lvl := ℕ) (Val := Elt F) spec1 c from rfl,
    show (dat1 V c).owesAt () t.succ = (dat1 V c).owesAt () t.castSucc from rfl, scopedRest1_eq]
  iintro ⟨⟨A0, A1, A2, A3, A4, A5, A6, A7, A8, A9, A10, A11, B0, B1, B2, H9, H10, H11, H12, H13, H14⟩, Howes,
    ⟨%d0, H0⟩, ⟨%d1, H1⟩, ⟨%d2, H2⟩, ⟨%d3, H3⟩, ⟨%d4, H4⟩, ⟨%d5, H5⟩, ⟨%d6, H6⟩⟩
  rw [before1_0, before1_1, before1_2, before1_3, before1_4, before1_5]
  iapply (bwd_run (F := F) c Set.univ (grid1.coords t) (st1_0 t) (hstage1_0 _) (st1_1 t) (hstage1_1 _) (st1_2 t) (hstage1_2 _) (st1_3 t) (hstage1_3 _)
    (st1_4 t) (hstage1_4 _) (st1_5 t) (hstage1_5 _) (Memref.whole main_arg3) _ (st1_6 t) (hstage1_6 _)
    (Memref.whole cc1_scratch0) _ (Memref.whole cc1_scratch1) _ (Memref.whole cc1_scratch2) _ (Memref.whole cc1_scratch3) _ (Memref.whole cc1_scratch4) _ (Memref.whole cc1_scratch5) _
    (inBlk1 V c 0 t) (inBlk1 V c 1 t) (inBlk1 V c 2 t) (inBlk1 V c 3 t) (inBlk1 V c 4 t) (inBlk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H9]; · iapply (Entails.of_eq (whole_any (F := F) c cc1_scratch0)); iexact H9
  isplitl [H10]; · iapply (Entails.of_eq (whole_any (F := F) c cc1_scratch1)); iexact H10
  isplitl [H11]; · iapply (Entails.of_eq (whole_any (F := F) c cc1_scratch2)); iexact H11
  isplitl [H12]; · iapply (Entails.of_eq (whole_any (F := F) c cc1_scratch3)); iexact H12
  isplitl [H13]; · iapply (Entails.of_eq (whole_any (F := F) c cc1_scratch4)); iexact H13
  isplitl [H14]; · iapply (Entails.of_eq (whole_any (F := F) c cc1_scratch5)); iexact H14
  iintro ⟨H0, H1, H2, H3, H4, H5, H6, H9, H10, H11, H12, H13, H14⟩
  isplitl [A0 A1 A2 A3 A4 A5 A6 A7 A8 A9 A10 A11 B0 B1 B2 H9 H10 H11 H12 H13 H14]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [B0]; · iexact B0
    isplitl [B1]; · iexact B1
    isplitl [B2]; · iexact B2
    isplitl [H9]; · iapply (Entails.of_eq (whole_any (F := F) c cc1_scratch0).symm); iexact H9
    isplitl [H10]; · iapply (Entails.of_eq (whole_any (F := F) c cc1_scratch1).symm); iexact H10
    isplitl [H11]; · iapply (Entails.of_eq (whole_any (F := F) c cc1_scratch2).symm); iexact H11
    isplitl [H12]; · iapply (Entails.of_eq (whole_any (F := F) c cc1_scratch3).symm); iexact H12
    isplitl [H13]; · iapply (Entails.of_eq (whole_any (F := F) c cc1_scratch4).symm); iexact H13
    iapply (Entails.of_eq (whole_any (F := F) c cc1_scratch5).symm); iexact H14
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

end Cert.RetI

end
-- ==== Proof.RetI.Run.lean ====
/- The whole program: the two kernels entered in turn from the contents the host's copies leave, its arguments read back
   and its two results as the kernels' arrays. -/
module

public import proofs.«01_k».proof.Proof.RetI.BwdRegion
public import Idealize.ShloMosaic.Lib.Pipeline.RegionsLoop

@[expose] public section

set_option maxRecDepth 16384

noncomputable section

namespace Cert.RetI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄G" => MT nD τ sig Unit (Elt F) ℕ (UR sig nD τ) ℕ

variable (m : (ℓ : Loc nD τ sig) → Buf (Elt F) ℓ)

/-- The arrays' contents when the forward kernel is entered. -/
abbrev in0 : Vals F := fun c b => V1 m c b

/-- What the forward kernel leaves in its two results. -/
def mid : Outs (F := F) := fun _ =>
  Function.update (Function.update (fun r c => V1 m c r) main_v0_0 (fun c => (dat0 (in0 m) c).arrAt 4 cfg0.N))
    main_v0_1 (fun c => (dat0 (in0 m) c).arrAt 5 cfg0.N)

theorem mid_mixed (n : ℕ) (c : Dev nD) : mid m n main_v0_0 c = (dat0 (in0 m) c).arrAt 4 cfg0.N := by
  unfold mid
  rw [Function.update_of_ne (by decide), Function.update_self]
theorem mid_raw (n : ℕ) (c : Dev nD) : mid m n main_v0_1 c = (dat0 (in0 m) c).arrAt 5 cfg0.N := by
  unfold mid
  rw [Function.update_self]

/-- The arrays' contents when the backward kernel is entered. -/
abbrev in1 : Vals F := fun c b => V3 m (mid m) c b

/-- What the two kernels leave in their results. -/
def outs : Outs (F := F) := fun j =>
  Function.update (mid m j) main_v1 (fun c => (dat1 (in1 m) c).arrAt 6 cfg1.N)

theorem outs_grads (n : ℕ) (c : Dev nD) : outs m n main_v1 c = (dat1 (in1 m) c).arrAt 6 cfg1.N := by
  unfold outs
  rw [Function.update_self]
theorem outs_mixed (n : ℕ) (c : Dev nD) : outs m n main_v0_0 c = mid m n main_v0_0 c := by
  unfold outs
  rw [Function.update_of_ne (by decide)]
theorem outs_raw (n : ℕ) (c : Dev nD) : outs m n main_v0_1 c = mid m n main_v0_1 c := by
  unfold outs
  rw [Function.update_of_ne (by decide)]
theorem V2_outs (c : Dev nD) : V2 m (outs m) c = V2 m (mid m) c := by
  unfold V2
  rw [outs_mixed, outs_raw]
theorem V3_outs (c : Dev nD) : V3 m (outs m) c = V3 m (mid m) c := by
  unfold V3
  rw [V2_outs]

/-- The forward kernel's two results, in the contents it leaves. -/
theorem V2_mixed (c : Dev nD) : V2 m (outs m) c main_v0_0 = (dat0 (in0 m) c).arrAt 4 cfg0.N := by
  rw [V2_outs, ← mid_mixed m 2 c]
  exact (Function.update_of_ne (StableHlo.devRef_ne_of_ne (by decide)) _ _).trans (Function.update_self _ _ _)
theorem V2_raw (c : Dev nD) : V2 m (outs m) c main_v0_1 = (dat0 (in0 m) c).arrAt 5 cfg0.N := by
  rw [V2_outs, ← mid_raw m 2 c]
  exact Function.update_self _ _ _

/-- The mixed activations' array at the end: what the forward kernel wrote. -/
theorem end_mixed (c : Dev nD) : V4 m (outs m) c main_v0_0 = (dat0 (in0 m) c).arrAt 4 cfg0.N :=
  (V4_of m (outs m) c main_v0_0 (by decide)).trans ((V3_of m (outs m) c main_v0_0 (by decide)).trans (V2_mixed m c))

/-- The gradients' array at the end: what the backward kernel wrote. -/
theorem end_grads (c : Dev nD) : V4 m (outs m) c main_v1 = (dat1 (in1 m) c).arrAt 6 cfg1.N :=
  (show V4 m (outs m) c main_v1 = outs m 4 main_v1 c from Function.update_self _ _ _).trans (outs_grads m 4 c)

/-- The proof data of the two kernels. -/
abbrev pdats : (p : Fin 2) → (c : Dev nD) → Dat τ (Elt F) Unit ℕ (UR sig nD τ) ℕ (Pipeline.pin (pcfgs (F := F)) adm p) c
  | ⟨0, _⟩ => fun c => dat0 (in0 m) c
  | ⟨1, _⟩ => fun c => dat1 (in1 m) c

abbrev L : GSem nD τ sig → Finset Unit := fun _ => ∅
abbrev lv : GSem nD τ sig → Unit → ℕ := fun _ _ => 0

/-- The core owes nothing. -/
abbrev Idle (c : Dev nD) : sProp 𝕄G := iprop(∃ W, owes (c : Thread nD τ) (0 : CellTallies nD τ sig Unit) W)

set_option backward.isDefEq.respectTransparency.types false in
/-- The forward kernel as a step of the program. -/
def reg0 : RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (body0 (in0 m) c).loose
  hwaits := Pipeline.hwaits_of_owed_zero _ _ _ _ L lv 0 fun _ _ => rfl
  pre c := iprop(StableHlo.held (c : Thread nD τ) (Pipeline.ucRefs τ sig) (V1 m c) ∗ Idle c)
  post c := iprop(StableHlo.held (c : Thread nD τ) (Pipeline.ucRefs τ sig) (V2 m (outs m) c) ∗ Idle c)
  X _ := BI.emp
  Y _ := BI.emp
  Z c := Pipeline.unscopedRest (Ix := Unit) (Name := ℕ) (U := UR sig nD τ) (Lvl := ℕ) spec0 c (in0 m c)
  hentry c := by
    rw [Pipeline.ownSems0_none, ← Pipeline.unscopedBufs_held (Ix := Unit) (Name := ℕ) (U := UR sig nD τ) (Lvl := ℕ) c (V1 m c)]
    have hsplit := Pipeline.arrays_of_unscopedBufs_shared (p := 0) (pcfgs (F := F)) adm (pdats m) winFacts₀0 sharedIn0 arr_whole0 c
      (fun _ _ => rfl) (in0 m c) (fun _ => rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Inv0 (in0 m) c 0 from rfl]
    iintro ⟨-, -, Hr⟩
    iapply (inv0_in (in0 m) c); iexact Hr
  hout c := by
    rw [Pipeline.ownSems0_none, show (pdats m 0 c).Φ (Fin.last _) = Inv0 (in0 m) c cfg0.N from rfl]
    iintro Hr
    isplitr; · iempintro
    isplitr; · iempintro
    iapply (inv0_out (in0 m) c _); iexact Hr
  hexit c := by
    rw [← Pipeline.unscopedBufs_held (Ix := Unit) (Name := ℕ) (U := UR sig nD τ) (Lvl := ℕ) c (V2 m (outs m) c)]
    have hjoin := Pipeline.unscopedBufs_of_arrays_shared (p := 0) (pcfgs (F := F)) adm (Ix := Unit) (Name := ℕ) (U := UR sig nD τ) (Lvl := ℕ)
      winFacts₀0 sharedIn0 arr_whole0 c (pdats m) (fun _ _ => rfl) (in0 m c) (fun b => V2 m (outs m) c b) ((pdats m 0 c).arrAt · cfg0.N)
      (fun w => by
        fin_cases w
        · exact ((pdats m 0 c).arrAt_in 0 rfl _).trans (V2_of m (outs m) c main_arg0 (by decide)).symm
        · exact ((pdats m 0 c).arrAt_in 1 rfl _).trans (V2_of m (outs m) c main_arg0 (by decide)).symm
        · exact ((pdats m 0 c).arrAt_in 2 rfl _).trans (V2_of m (outs m) c main_arg0 (by decide)).symm
        · exact ((pdats m 0 c).arrAt_in 3 rfl _).trans (V2_of m (outs m) c main_arg0 (by decide)).symm
        · exact (V2_mixed m c).symm
        · exact (V2_raw m c).symm)
      (fun b hb => V2_of m (outs m) c b fun h => hb (by
        simp only [List.mem_cons, List.not_mem_nil, _root_.or_false] at h
        rcases h with rfl | rfl
        · exact Finset.mem_image.mpr ⟨4, Finset.mem_univ _, rfl⟩
        · exact Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The backward kernel as a step of the program. -/
def reg1 : RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (body1 (in1 m) c).loose
  hwaits := Pipeline.hwaits_of_owed_zero _ _ _ _ L lv 1 fun _ _ => rfl
  pre c := iprop(StableHlo.held (c : Thread nD τ) (Pipeline.ucRefs τ sig) (V3 m (outs m) c) ∗ Idle c)
  post c := iprop(StableHlo.held (c : Thread nD τ) (Pipeline.ucRefs τ sig) (V4 m (outs m) c) ∗ Idle c)
  X _ := BI.emp
  Y _ := BI.emp
  Z c := Pipeline.unscopedRest (Ix := Unit) (Name := ℕ) (U := UR sig nD τ) (Lvl := ℕ) spec1 c (in1 m c)
  hentry c := by
    rw [Pipeline.ownSems0_none, V3_outs, ← Pipeline.unscopedBufs_held (Ix := Unit) (Name := ℕ) (U := UR sig nD τ) (Lvl := ℕ) c (V3 m (mid m) c)]
    have hsplit := Pipeline.arrays_of_unscopedBufs_shared (p := 1) (pcfgs (F := F)) adm (pdats m) winFacts₀1 sharedIn1 arr_whole1 c
      (fun _ _ => rfl) (in1 m c) (fun _ => rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest (Ix := Unit) (Name := ℕ) (U := UR sig nD τ) (Lvl := ℕ) (Val := Elt F) spec1 c from rfl]
    iintro ⟨-, -, Hr⟩
    iexact Hr
  hout c := by
    rw [Pipeline.ownSems0_none, show (pdats m 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    rw [← Pipeline.unscopedBufs_held (Ix := Unit) (Name := ℕ) (U := UR sig nD τ) (Lvl := ℕ) c (V4 m (outs m) c)]
    have hin : ∀ r : Ref sig .tc, r ∉ ([main_v1] : List (Ref sig .tc)) → V4 m (outs m) c r = in1 m c r := fun r h =>
      (V4_of m (outs m) c r h).trans (congrFun (V3_outs m c) _)
    have hjoin := Pipeline.unscopedBufs_of_arrays_shared (p := 1) (pcfgs (F := F)) adm (Ix := Unit) (Name := ℕ) (U := UR sig nD τ) (Lvl := ℕ)
      winFacts₀1 sharedIn1 arr_whole1 c (pdats m) (fun _ _ => rfl) (in1 m c) (fun b => V4 m (outs m) c b) ((pdats m 1 c).arrAt · cfg1.N)
      (fun w => by
        fin_cases w
        · exact ((pdats m 1 c).arrAt_in 0 rfl _).trans (hin main_arg0 (by decide)).symm
        · exact ((pdats m 1 c).arrAt_in 1 rfl _).trans (hin main_arg0 (by decide)).symm
        · exact ((pdats m 1 c).arrAt_in 2 rfl _).trans (hin main_arg0 (by decide)).symm
        · exact ((pdats m 1 c).arrAt_in 3 rfl _).trans (hin main_arg0 (by decide)).symm
        · exact ((pdats m 1 c).arrAt_in 4 rfl _).trans (hin main_v0_1 (by decide)).symm
        · exact ((pdats m 1 c).arrAt_in 5 rfl _).trans (hin main_arg1 (by decide)).symm
        · exact (end_grads m c).symm)
      (fun b hb => hin b fun h => hb (by
        simp only [List.mem_cons, List.not_mem_nil, _root_.or_false] at h
        rcases h with rfl
        exact Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

variable (ρ : Dev nD → PrngReg)

set_option backward.isDefEq.respectTransparency.types false in
/-- From any memory with zero counters every execution of the program terminates; the arguments end as they were, every
    counter is zero, and the two results are the arrays the kernels leave. -/
theorem run_main : θ_run defs (onTc (τ := τ) (main (F := F))) ⟨m, fun _ => 0, ρ⟩ (fun r => (∀ c : Dev nD,
      (r.2.mem ((c.tc : Thread nD τ).loc main_v0_0) = (dat0 (in0 m) c).arrAt 4 cfg0.N
      ∧ r.2.mem ((c.tc : Thread nD τ).loc main_v1) = (dat1 (in1 m) c).arrAt 6 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.θ_run_regions_kit_dev_sems (pcfgs (F := F)) adm (pdats m) () cellOf_inj emb₁ defs₀ Variants.none L lv m ρ main
    (segs m (outs m) Variants.none L lv (fun _ => Idle) () (pdats m) (reg0 m) (reg1 m))
    (fun c Q => by
      rewrite [main_chain c, Seg.run_eq_chain,
        show (segs m (outs m) Variants.none L lv (fun _ => Idle) () (pdats m) (reg0 m) (reg1 m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) (by
      iintro Hu; imodintro
      isplitl [Hu]; · iapply (show (ownU _ : sProp 𝕄G) ⊢ BI.own (emb₁ (initOf (Pipeline.cells cfgs cellOf_inj) (Pipeline.launchToks cfgs cellOf_inj))) from .rfl); iexact Hu
      iapply (show (BI.emp : sProp 𝕄G) ⊢ bigSep Finset.univ (fun _ : Dev nD => (BI.emp : sProp 𝕄G)) from by rw [BI.bigSep_emp_const])
      iempintro)
    (T₀ := fun c => iprop(StableHlo.held (c : Thread nD τ) (Pipeline.ucRefs τ sig) (V0 m c) ∗ Idle c))
    (Tₙ := fun c => StableHlo.held (c : Thread nD τ) (Pipeline.ucRefs τ sig) (V4 m (outs m) c))
    (hch := fun c => ⟨.rfl, .rfl, .rfl, .rfl, .rfl⟩)
    (hinit := ?_) (QY := fun c s => (s.mem ((c.tc : Thread nD τ).loc main_v0_0) = (dat0 (in0 m) c).arrAt 4 cfg0.N
        ∧ s.mem ((c.tc : Thread nD τ).loc main_v1) = (dat1 (in1 m) c).arrAt 6 cfg1.N)
      ∧ s.mem ((c.tc : Thread nD τ).loc main_arg0) = m ((c.tc : Thread nD τ).loc main_arg0) ∧ s.mem ((c.tc : Thread nD τ).loc main_arg1) = m ((c.tc : Thread nD τ).loc main_arg1)
      ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h hz => ⟨h, funext fun g => hz g (.inr (regions_no_unscoped g.2))⟩)
  · refine Pipeline.initEach L lv fun c => ?_
    rw [Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      have hr := fun (r : Ref sig .tc) (hr : ¬ r.isScoped) =>
        h (Proc.devRef .tc r) (Finset.mem_filter.mpr ⟨StableHlo.devRef_mem_tcRefs r, hr⟩)
      exact ⟨⟨(hr main_v0_0 (by decide)).trans (end_mixed m c), (hr main_v1 (by decide)).trans (end_grads m c)⟩,
        (hr main_arg0 (by decide)).trans (V4_main_arg0 m (outs m) c), (hr main_arg1 (by decide)).trans (V4_main_arg1 m (outs m) c),
        (hr main_arg2 (by decide)).trans (V4_main_arg2 m (outs m) c), (hr main_arg3 (by decide)).trans (V4_main_arg3 m (outs m) c)⟩
    · iexact HSI

end Cert.RetI

end
-- ==== Proof.RetV.Sums.lean ====
/- Sums weighted with a decay that is causal: over all positions, over tiles of 512 and over chunks of 128 with a carried state. -/
module

public import Mathlib.Analysis.SpecialFunctions.Log.Basic
public import Mathlib.Algebra.BigOperators.Intervals

@[expose] public section

noncomputable section

namespace Cert.RetV

open Finset

/-- The decay from position `j` to position `i`: `exp (l * (i - j))` where `j ≤ i`, and zero before. -/
def dcy (l : ℝ) (i j : ℕ) : ℝ := if j ≤ i then Real.exp (l * ((i : ℝ) - (j : ℝ))) else 0

theorem dcy_of_lt (l : ℝ) {i j : ℕ} (h : i < j) : dcy l i j = 0 := if_neg (by omega)

/-- The decay depends on the distance only. -/
theorem dcy_add (l : ℝ) (s i j : ℕ) : dcy l (s + i) (s + j) = dcy l i j := by
  unfold dcy
  by_cases h : j ≤ i
  · rw [if_pos h, if_pos (by omega)]; push_cast; ring_nf
  · rw [if_neg h, if_neg (by omega)]

/-- A sum over `a * n` positions, read block by block. -/
theorem sum_blocks (a n : ℕ) (f : ℕ → ℝ) : ∑ j ∈ range (a * n), f j = ∑ k ∈ range n, ∑ b ∈ range a, f (a * k + b) := by
  induction n with
  | zero => simp
  | succ n ih => rw [Nat.mul_succ, sum_range_add, ih, sum_range_succ]

/-- A causal sum at a position of tile `t` runs over the tiles up to `t`. -/
theorem row_tiles (l : ℝ) (F : ℕ → ℝ) (t a : ℕ) (ht : t < 4) (ha : a < 512) :
    ∑ j ∈ range 2048, dcy l (512 * t + a) j * F j = ∑ k ∈ range (t + 1), ∑ b ∈ range 512, dcy l (512 * t + a) (512 * k + b) * F (512 * k + b) := by
  rw [← sum_blocks 512 (t + 1) (fun j => dcy l (512 * t + a) j * F j), show 2048 = 512 * (t + 1) + 512 * (3 - t) from by omega, sum_range_add]
  refine (congrArg _ (sum_eq_zero fun x _ => ?_)).trans (add_zero _)
  rw [dcy_of_lt l (by omega), zero_mul]

/-- An anticausal sum at a position of tile `t` runs over the tiles from `t` on. -/
theorem col_tiles (l : ℝ) (F : ℕ → ℝ) (t b : ℕ) (ht : t < 4) :
    ∑ i ∈ range 2048, dcy l i (512 * t + b) * F i
      = ∑ k ∈ range (4 - t), ∑ a ∈ range 512, dcy l (512 * (t + k) + a) (512 * t + b) * F (512 * (t + k) + a) := by
  have e := sum_blocks 512 (4 - t) (fun i => dcy l (512 * t + i) (512 * t + b) * F (512 * t + i))
  simp only [Nat.mul_add, Nat.add_assoc] at e ⊢
  rw [← e, show 2048 = 512 * t + 512 * (4 - t) from by omega, sum_range_add]
  refine (congrArg (· + _) (sum_eq_zero fun x hx => ?_)).trans (zero_add _)
  rw [dcy_of_lt l (by have := mem_range.1 hx; omega), zero_mul]

/-- A causal sum at a position of chunk `n`: the chunk itself, and the chunks before it through their decayed sum. -/
theorem row_chunks (l : ℝ) (F : ℕ → ℝ) (n a : ℕ) (hn : n < 16) (ha : a < 128) :
    ∑ j ∈ range 2048, dcy l (128 * n + a) j * F j
      = ∑ b ∈ range 128, dcy l a b * F (128 * n + b)
        + Real.exp (l * ((a : ℝ) + 1)) * ∑ j ∈ range (128 * n), Real.exp (l * (128 * (n : ℝ) - 1 - (j : ℝ))) * F j := by
  rw [show 2048 = 128 * n + (128 + 128 * (15 - n)) from by omega, sum_range_add, sum_range_add, add_comm, mul_sum]
  refine congrArg₂ (· + ·) ?_ (sum_congr rfl fun j hj => ?_)
  · refine (congrArg₂ (· + ·) (sum_congr rfl fun b _ => by rw [dcy_add]) (sum_eq_zero fun x _ => ?_)).trans (add_zero _)
    rw [dcy_of_lt l (by omega), zero_mul]
  · have := mem_range.1 hj
    rw [dcy, if_pos (by omega), ← mul_assoc, ← Real.exp_add]
    push_cast
    ring_nf

/-- An anticausal sum at a position of chunk `n`: the chunk itself, and the chunks after it through their decayed sum. -/
theorem col_chunks (l : ℝ) (F : ℕ → ℝ) (n b : ℕ) (hn : n < 16) (hb : b < 128) :
    ∑ i ∈ range 2048, dcy l i (128 * n + b) * F i
      = ∑ a ∈ range 128, dcy l a b * F (128 * n + a)
        + Real.exp (l * (127 - (b : ℝ))) * ∑ i ∈ range (128 * (15 - n)), Real.exp (l * ((i : ℝ) + 1)) * F (128 * (n + 1) + i) := by
  rw [show 2048 = 128 * n + (128 + 128 * (15 - n)) from by omega, sum_range_add, sum_range_add, mul_sum]
  refine (congrArg (· + _) (sum_eq_zero fun x hx => ?_)).trans ((zero_add _).trans (congrArg₂ (· + ·) (sum_congr rfl fun a _ => by rw [dcy_add]) (sum_congr rfl fun i hi => ?_)))
  · rw [dcy_of_lt l (by have := mem_range.1 hx; omega), zero_mul]
  · rw [show 128 * n + (128 + i) = 128 * (n + 1) + i from by omega, dcy, if_pos (by omega), ← mul_assoc, ← Real.exp_add]
    push_cast
    ring_nf

/-- The state carried from chunk to chunk: decayed over a chunk, and the chunk's products added. -/
def St (l : ℝ) (B C : ℕ → ℕ → ℝ) : ℕ → ℕ → ℕ → ℝ
  | 0, _, _ => 0
  | n + 1, d, e => St l B C n d e * Real.exp (l * 128) + ∑ b ∈ range 128, B (128 * n + b) d * (1 / 16) * Real.exp (l * (127 - (b : ℝ))) * C (128 * n + b) e

theorem St_eq (l : ℝ) (B C : ℕ → ℕ → ℝ) (n d e : ℕ) :
    St l B C n d e = ∑ j ∈ range (128 * n), Real.exp (l * (128 * (n : ℝ) - 1 - (j : ℝ))) * (B j d * (1 / 16) * C j e) := by
  induction n with
  | zero => simp [St]
  | succ n ih =>
    rw [St, ih, Nat.mul_succ, sum_range_add, sum_mul]
    refine congrArg₂ (· + ·) (sum_congr rfl fun j _ => ?_) (sum_congr rfl fun b _ => ?_)
    · rw [show l * (128 * ((n + 1 : ℕ) : ℝ) - 1 - (j : ℝ)) = l * (128 * (n : ℝ) - 1 - (j : ℝ)) + l * 128 from by push_cast; ring, Real.exp_add]
      ring
    · rw [show l * (128 * ((n + 1 : ℕ) : ℝ) - 1 - ((128 * n + b : ℕ) : ℝ)) = l * (127 - (b : ℝ)) from by push_cast; ring]
      ring

/-- The cotangent carried from chunk to chunk, from the last chunk down: after `m` chunks. -/
def Tt (l : ℝ) (X Q : ℕ → ℕ → ℝ) : ℕ → ℕ → ℕ → ℝ
  | 0, _, _ => 0
  | m + 1, d, e => ∑ b ∈ range 128, X (128 * (15 - m) + b) e * Real.exp (l * ((b : ℝ) + 1)) * Q (128 * (15 - m) + b) d + Tt l X Q m d e * Real.exp (l * 128)

theorem Tt_eq (l : ℝ) (X Q : ℕ → ℕ → ℝ) (m d e : ℕ) (hm : m ≤ 16) :
    Tt l X Q m d e = ∑ i ∈ range (128 * m), Real.exp (l * ((i : ℝ) + 1)) * (X (128 * (16 - m) + i) e * Q (128 * (16 - m) + i) d) := by
  induction m with
  | zero => simp [Tt]
  | succ m ih =>
    rw [Tt, ih (by omega), Nat.mul_succ, add_comm (128 * m), sum_range_add, sum_mul]
    refine congrArg₂ (· + ·) (sum_congr rfl fun b _ => ?_) (sum_congr rfl fun i _ => ?_)
    · rw [show 128 * (16 - (m + 1)) + b = 128 * (15 - m) + b from by omega]
      ring
    · rw [show 128 * (16 - (m + 1)) + (128 + i) = 128 * (16 - m) + i from by omega,
        show l * (((128 + i : ℕ) : ℝ) + 1) = l * ((i : ℝ) + 1) + l * 128 from by push_cast; ring, Real.exp_add]
      ring

/-- The score of row `i` of `A` with row `j` of `B`. -/
def sc (A B : ℕ → ℕ → ℝ) (i j : ℕ) : ℝ := ∑ d ∈ range 256, A i d * B j d

/-- The causal sum of the rows of `C`, weighted with the decayed scores of `A` with `B`. -/
def fsum (l : ℝ) (A B C : ℕ → ℕ → ℝ) (i e : ℕ) : ℝ := ∑ j ∈ range 2048, dcy l i j * (sc A B i j * (1 / 16) * C j e)

/-- The anticausal sum of the rows of `C`, weighted with the same decayed scores. -/
def bsum (l : ℝ) (A B C : ℕ → ℕ → ℝ) (j e : ℕ) : ℝ := ∑ i ∈ range 2048, dcy l i j * (sc A B i j * (1 / 16) * C i e)

/-- Scores times a row, summed with weights: the inner sum moved out. -/
theorem weigh_sc (s : Finset ℕ) (w : ℕ → ℝ) (x : ℕ → ℝ) (y : ℕ → ℕ → ℝ) (z : ℕ → ℝ) :
    ∑ j ∈ s, w j * ((∑ d ∈ range 256, x d * y j d) * (1 / 16) * z j) = ∑ d ∈ range 256, x d * ∑ j ∈ s, w j * (y j d * (1 / 16) * z j) := by
  simp only [sum_mul, mul_sum]
  rw [sum_comm]
  exact sum_congr rfl fun d _ => sum_congr rfl fun j _ => by ring

/-- The causal sum by chunks, the keys scaled: the chunk's own scores and the state carried into it. -/
theorem fsum_chunk (l : ℝ) (A B C : ℕ → ℕ → ℝ) (n a e : ℕ) (hn : n < 16) (ha : a < 128) :
    fsum l A B C (128 * n + a) e
      = ∑ b ∈ range 128, (∑ d ∈ range 256, A (128 * n + a) d * (B (128 * n + b) d * (1 / 16))) * dcy l a b * C (128 * n + b) e
        + (∑ d ∈ range 256, A (128 * n + a) d * St l B C n d e) * Real.exp (l * ((a : ℝ) + 1)) := by
  rw [fsum, row_chunks l _ n a hn ha, mul_comm (Real.exp _)]
  refine congrArg₂ (· + ·) (sum_congr rfl fun b _ => ?_) (congrArg (· * _) ?_)
  · simp only [sc, sum_mul, mul_sum]
    exact sum_congr rfl fun d _ => by ring
  · simp only [St_eq, sc]
    exact weigh_sc _ _ _ _ _

/-- The causal sum by chunks, the rows that are summed scaled: the form of the queries' cotangent. -/
theorem fsum_chunk' (l : ℝ) (A B C : ℕ → ℕ → ℝ) (n a d : ℕ) (hn : n < 16) (ha : a < 128) :
    fsum l A B C (128 * n + a) d
      = (∑ e ∈ range 256, A (128 * n + a) e * Real.exp (l * ((a : ℝ) + 1)) * St l C B n d e)
        + ∑ b ∈ range 128, (∑ e ∈ range 256, A (128 * n + a) e * B (128 * n + b) e) * dcy l a b * (C (128 * n + b) d * (1 / 16)) := by
  rw [fsum, row_chunks l _ n a hn ha, add_comm]
  refine congrArg₂ (· + ·) ?_ (sum_congr rfl fun b _ => ?_)
  · simp only [St_eq, sc]
    rw [weigh_sc, mul_sum]
    refine sum_congr rfl fun e _ => ?_
    rw [← mul_assoc, mul_comm (Real.exp _)]
    exact congrArg (_ * ·) (sum_congr rfl fun j _ => by ring)
  · simp only [sc]; ring

/-- The anticausal sum by chunks, the keys scaled: the form of the values' cotangent. -/
theorem bsum_chunk (l : ℝ) (A B C : ℕ → ℕ → ℝ) (n b e : ℕ) (hn : n < 16) (hb : b < 128) :
    bsum l A B C (128 * n + b) e
      = (∑ d ∈ range 256, Tt l C A (15 - n) d e * (B (128 * n + b) d * (1 / 16) * Real.exp (l * (127 - (b : ℝ)))))
        + ∑ a ∈ range 128, C (128 * n + a) e * ((∑ d ∈ range 256, A (128 * n + a) d * (B (128 * n + b) d * (1 / 16))) * dcy l a b) := by
  rw [bsum, col_chunks l _ n b hn hb, add_comm]
  refine congrArg₂ (· + ·) ?_ (sum_congr rfl fun a _ => ?_)
  · simp only [Tt_eq _ _ _ _ _ _ (show 15 - n ≤ 16 by omega), sc, show 16 - (15 - n) = n + 1 by omega]
    simp only [sum_mul, mul_sum]
    rw [sum_comm]
    exact sum_congr rfl fun d _ => sum_congr rfl fun j _ => by ring
  · simp only [sc, sum_mul, mul_sum]
    exact sum_congr rfl fun d _ => by ring

/-- The anticausal sum by chunks, scaled in the end: the form of the keys' cotangent. -/
theorem bsum_chunk' (l : ℝ) (A B C : ℕ → ℕ → ℝ) (n b d : ℕ) (hn : n < 16) (hb : b < 128) :
    bsum l A B C (128 * n + b) d
      = ((∑ e ∈ range 256, Tt l A C (15 - n) d e * B (128 * n + b) e) * Real.exp (l * (127 - (b : ℝ)))
        + ∑ a ∈ range 128, (∑ e ∈ range 256, A (128 * n + a) e * B (128 * n + b) e) * dcy l a b * C (128 * n + a) d) * (1 / 16) := by
  rw [bsum, col_chunks l _ n b hn hb, add_comm, add_mul]
  refine congrArg₂ (· + ·) ?_ ?_
  · simp only [Tt_eq _ _ _ _ _ _ (show 15 - n ≤ 16 by omega), sc, show 16 - (15 - n) = n + 1 by omega]
    simp only [sum_mul, mul_sum]
    rw [sum_comm]
    exact sum_congr rfl fun d _ => sum_congr rfl fun j _ => by ring
  · rw [sum_mul]
    exact sum_congr rfl fun a _ => by simp only [sc]; ring

/-- The causal sum by tiles. -/
theorem fsum_tiles (l : ℝ) (A B C : ℕ → ℕ → ℝ) (t a e : ℕ) (ht : t < 4) (ha : a < 512) :
    fsum l A B C (512 * t + a) e
      = ∑ k ∈ range (t + 1), ∑ b ∈ range 512, sc A B (512 * t + a) (512 * k + b) * (dcy l (512 * t + a) (512 * k + b) * (1 / 16)) * C (512 * k + b) e := by
  rw [fsum, row_tiles l _ t a ht ha]
  exact sum_congr rfl fun k _ => sum_congr rfl fun b _ => by ring

/-- The anticausal sum by tiles. -/
theorem bsum_tiles (l : ℝ) (A B C : ℕ → ℕ → ℝ) (t b e : ℕ) (ht : t < 4) :
    bsum l A B C (512 * t + b) e
      = ∑ k ∈ range (4 - t), ∑ a ∈ range 512, sc A B (512 * (t + k) + a) (512 * t + b) * (dcy l (512 * (t + k) + a) (512 * t + b) * (1 / 16)) * C (512 * (t + k) + a) e := by
  rw [bsum, col_tiles l _ t b ht]
  exact sum_congr rfl fun k _ => sum_congr rfl fun b _ => by ring

end Cert.RetV

end
-- ==== Proof.RetV.Tab.lean ====
/- The decay tables that both kernels keep, entry by entry: a sixteenth of the decay between two positions. -/
module

public import proofs.«01_k».proof.Proof.RetI.FwdModel
public import proofs.«01_k».proof.Proof.RetV.Sums
public import Idealize.ShloMosaic.Lib.Pipeline.ValueKit

@[expose] public section

set_option maxRecDepth 16384

noncomputable section

namespace Cert.RetV

open Cert.KernelIdeal Cert.KernelIdeal.Gen Cert.RetI
open Idealize.ShloMosaic Idealize.ShloMosaic.TcCoe Idealize.SL.Sem
open Idealize.ShloMosaic.VecWindow

/-- The logarithm of head `h`'s decay factor. -/
def lam (h : ℕ) : ℝ := Real.log (1 - (1 / 2) ^ (5 + h))

/-- The named logarithm that the forward kernel picks by head is that head's. -/
theorem k0_pay4_lam (h : ℕ) (hh : h < 4) : k0_pay4 (F := Ideal) (BitVec.ofNat 32 h) = ((lam h : ℝ) : EReal) := by
  unfold k0_pay4 lam
  dsimp only
  interval_cases h
  · refine (if_pos (by decide)).trans ?_
    refine Eq.trans (b := ((Real.log (31 / 32) : ℝ) : EReal)) rfl ?_
    norm_num
  · refine (if_neg (by decide)).trans ((if_pos (by decide)).trans ?_)
    refine Eq.trans (b := ((Real.log (63 / 64) : ℝ) : EReal)) rfl ?_
    norm_num
  · refine (if_neg (by decide)).trans ((if_neg (by decide)).trans ((if_pos (by decide)).trans ?_))
    refine Eq.trans (b := ((Real.log (127 / 128) : ℝ) : EReal)) rfl ?_
    norm_num
  · refine (if_neg (by decide)).trans ((if_neg (by decide)).trans ((if_neg (by decide)).trans ?_))
    refine Eq.trans (b := ((Real.log (255 / 256) : ℝ) : EReal)) rfl ?_
    norm_num

/-- So does the backward kernel. -/
theorem k1_pay18_lam (i : grid1.Coords) : k1_pay18 (F := Ideal) i = ((lam (i 0).val : ℝ) : EReal) :=
  k0_pay4_lam (i 0).val (i 0).isLt

/-- The word of a sixteenth. -/
theorem sixteenth : Ideal.ofBits .f32 0x3D800000#32 = ((1 / 16 : ℝ) : EReal) := by
  simp [Ideal.ofBits, Ideal.ieee]
  rw [← EReal.coe_mul]
  norm_num

/-- One entry of a table, from the words of the row, the column and the table's offset. -/
theorem entry (l : ℝ) (t a b : ℕ) (ht : t < 4) (ha : a < 512) (hb : b < 512) :
    Scalar.select (IntOp.cmpi .sge (IntOp.addi (IntOp.subi (BitVec.ofNat 32 a) (BitVec.ofNat 32 b)) (BitVec.ofNat 32 (512 * t))) 0#32)
      (Ideal.exp (FloatOps.sitofp (F := Ideal) .f32 (IntOp.addi (IntOp.subi (BitVec.ofNat 32 a) (BitVec.ofNat 32 b)) (BitVec.ofNat 32 (512 * t))) * (l : EReal))
        * Ideal.ofBits .f32 0x3D800000#32) 0
      = ((dcy l (512 * t + a) b * (1 / 16) : ℝ) : EReal) := by
  have e : (IntOp.addi (IntOp.subi (BitVec.ofNat 32 a) (BitVec.ofNat 32 b)) (BitVec.ofNat 32 (512 * t))).toInt = ((512 * t + a : ℕ) : ℤ) - (b : ℤ) := by
    show (BitVec.ofNat 32 a - BitVec.ofNat 32 b + BitVec.ofNat 32 (512 * t)).toInt = _
    rw [BitVec.toInt_eq_toNat_cond]
    simp only [BitVec.toNat_add, BitVec.toNat_sub, BitVec.toNat_ofNat]
    split <;> omega
  generalize hx : IntOp.addi (IntOp.subi (BitVec.ofNat 32 a) (BitVec.ofNat 32 b)) (BitVec.ofNat 32 (512 * t)) = x at e ⊢
  have hs : FloatOps.sitofp (F := Ideal) .f32 x = ((x.toInt : ℝ) : EReal) := rfl
  have hc : IntOp.cmpi .sge x 0#32 = if b ≤ 512 * t + a then 1#1 else 0#1 := by
    show BitVec.ofBool (BitVec.sle 0#32 x) = _
    rw [BitVec.sle, e]
    by_cases h : b ≤ 512 * t + a
    · rw [if_pos h, decide_eq_true (by simp; omega)]; rfl
    · rw [if_neg h, decide_eq_false (by simp; omega)]; rfl
  rw [hc, hs, e, sixteenth, dcy]
  by_cases h : b ≤ 512 * t + a
  · rw [if_pos h, if_pos h, ← EReal.coe_mul, Ideal.exp_coe, ← EReal.coe_mul]
    refine (if_pos rfl).trans (congrArg _ (congrArg (· * _) (congrArg Real.exp ?_)))
    push_cast
    ring
  · rw [if_neg h, if_neg h]
    refine (if_neg (by decide)).trans ?_
    norm_num

section Backward
variable (i : grid1.Coords) (z : S1x512x512.Idx)

/-- The table of the diagonal tiles. -/
theorem tab0 : k1_pay20 (F := Ideal) i z = ((dcy (lam (i 0).val) (512 * 0 + (z 1).val) (z 2).val * (1 / 16) : ℝ) : EReal) := by
  rw [← entry _ 0 _ _ (by omega) (z 1).isLt (z 2).isLt]
  pointwise [k1_pay20, k1_pay19]
  rw [k1_pay18_lam]

/-- The table of the tiles next to the diagonal. -/
theorem tab1 : k1_pay22 (k1_pay21 (F := Ideal) i) z = ((dcy (lam (i 0).val) (512 * 1 + (z 1).val) (z 2).val * (1 / 16) : ℝ) : EReal) := by
  rw [← entry _ 1 _ _ (by omega) (z 1).isLt (z 2).isLt]
  pointwise [k1_pay22, k1_pay21, k1_pay19]
  rw [k1_pay18_lam]

/-- The table two tiles away from the diagonal. -/
theorem tab2 : k1_pay23 (F := Ideal) (k1_pay18 i) k1_pay19 z = ((dcy (lam (i 0).val) (512 * 2 + (z 1).val) (z 2).val * (1 / 16) : ℝ) : EReal) := by
  rw [← entry _ 2 _ _ (by omega) (z 1).isLt (z 2).isLt]
  pointwise [k1_pay23, k1_pay19]
  rw [k1_pay18_lam]

/-- The table three tiles away from the diagonal. -/
theorem tab3 : k1_pay24 (F := Ideal) (k1_pay18 i) k1_pay19 z = ((dcy (lam (i 0).val) (512 * 3 + (z 1).val) (z 2).val * (1 / 16) : ℝ) : EReal) := by
  rw [← entry _ 3 _ _ (by omega) (z 1).isLt (z 2).isLt]
  pointwise [k1_pay24, k1_pay19]
  rw [k1_pay18_lam]

end Backward

/-- Four slabs, read at an entry of slab `t`. -/
theorem slabs_at (o : Vec Ideal S4x512x512 .f32) (w0 w1 w2 w3 : FVec Ideal S1x512x512 .f32) (f : ℕ → ℕ → ℕ → EReal)
    (h0 : ∀ z, w0 z = f 0 (z 1).val (z 2).val) (h1 : ∀ z, w1 z = f 1 (z 1).val (z 2).val)
    (h2 : ∀ z, w2 z = f 2 (z 1).val (z 2).val) (h3 : ∀ z, w3 z = f 3 (z 1).val (z 2).val) (y : S4x512x512.Idx) :
    slabs o w0 w1 w2 w3 y = f (y 0).val (y 1).val (y 2).val := by
  have e0 : (y 0).val < 4 := (y 0).isLt
  have e1 : (y 1).val < 512 := (y 1).isLt
  have e2 : (y 2).val < 512 := (y 2).isLt
  have step : ∀ (x : Vec Ideal S4x512x512 .f32) (n : ℕ) (w : FVec Ideal S1x512x512 .f32), (∀ z, w z = f n (z 1).val (z 2).val) →
      put x ![n, 0, 0] S1x512x512.size w y = if (y 0).val = n then f (y 0).val (y 1).val (y 2).val else x y := by
    intro x n w hw
    unfold put
    by_cases h : (y 0).val = n
    · have hy : ∀ a : Fin 3, (![n, 0, 0] : Fin 3 → ℕ) a ≤ (y a).val ∧ (y a).val < (![n, 0, 0] : Fin 3 → ℕ) a + S1x512x512.size a := fun a => by
        match a with
        | ⟨0, _⟩ => show n ≤ (y 0).val ∧ (y 0).val < n + 1; omega
        | ⟨1, _⟩ => show 0 ≤ (y 1).val ∧ (y 1).val < 0 + 512; omega
        | ⟨2, _⟩ => show 0 ≤ (y 2).val ∧ (y 2).val < 0 + 512; omega
      rw [if_pos h]
      refine (dif_pos hy).trans ((hw _).trans ?_)
      rw [h]
      exact congrArg₂ (f n) (show (y 1).val - 0 = _ from rfl) (show (y 2).val - 0 = _ from rfl)
    · rw [if_neg h]
      refine dif_neg fun hy => h ?_
      have a0 : n ≤ (y 0).val ∧ (y 0).val < n + 1 := hy 0
      omega
  unfold slabs
  rw [step _ 3 w3 h3, step _ 2 w2 h2, step _ 1 w1 h1, step _ 0 w0 h0]
  by_cases c3 : (y 0).val = 3
  · rw [if_pos c3]
  · rw [if_neg c3]
    by_cases c2 : (y 0).val = 2
    · rw [if_pos c2]
    · rw [if_neg c2]
      by_cases c1 : (y 0).val = 1
      · rw [if_pos c1]
      · rw [if_neg c1, if_pos (by omega)]

/-- The backward kernel's tables. -/
theorem bwdTab_at (i : grid1.Coords) (y : S4x512x512.Idx) :
    bwdTab (F := Ideal) i y = ((dcy (lam (i 0).val) (512 * (y 0).val + (y 1).val) (y 2).val * (1 / 16) : ℝ) : EReal) :=
  slabs_at _ _ _ _ _ (fun t a b => ((dcy (lam (i 0).val) (512 * t + a) b * (1 / 16) : ℝ) : EReal)) (tab0 i) (tab1 i) (tab2 i) (tab3 i) y

/-- The forward kernel's tables. -/
theorem fwdTab_at (h : ℕ) (hh : h < 4) (y : S4x512x512.Idx) :
    fwdTab (F := Ideal) h y = ((dcy (lam h) (512 * (y 0).val + (y 1).val) (y 2).val * (1 / 16) : ℝ) : EReal) := by
  refine slabs_at _ _ _ _ _ (fun t a b => ((dcy (lam h) (512 * t + a) b * (1 / 16) : ℝ) : EReal)) (fun z => ?_) (fun z => ?_) (fun z => ?_) (fun z => ?_) y
  · rw [← entry _ 0 _ _ (by omega) (z 1).isLt (z 2).isLt, ← k0_pay4_lam h hh]
    pointwise [k0_pay6, k0_pay5]
  · rw [← entry _ 1 _ _ (by omega) (z 1).isLt (z 2).isLt, ← k0_pay4_lam h hh]
    pointwise [k0_pay7, k0_pay5]
  · rw [← entry _ 2 _ _ (by omega) (z 1).isLt (z 2).isLt, ← k0_pay4_lam h hh]
    pointwise [k0_pay8, k0_pay5]
  · rw [← entry _ 3 _ _ (by omega) (z 1).isLt (z 2).isLt, ← k0_pay4_lam h hh]
    pointwise [k0_pay13, k0_pay12, k0_pay11, k0_pay10, k0_pay9, k0_pay5]

end Cert.RetV

end
-- ==== Proof.RetV.Model.lean ====
/- Tools to read vectors as real numbers: sums over an axis, and windows. -/
module

public import proofs.«01_k».proof.Proof.RetV.Tab

@[expose] public section

noncomputable section

namespace Cert.RetV

open Idealize.ShloMosaic
open Idealize.ShloMosaic.VecWindow

/-- A sum over an axis of terms that are reals. -/
theorem sum_to {n : ℕ} (g : Fin n → EReal) (f : ℕ → ℝ) (h : ∀ k, g k = ((f k.val : ℝ) : EReal)) :
    ∑ k, g k = ((∑ k ∈ Finset.range n, f k : ℝ) : EReal) := by
  rw [Finset.sum_range, Finset.sum_congr rfl fun k _ => h k]
  exact (map_sum (⟨⟨Real.toEReal, EReal.coe_zero⟩, EReal.coe_add⟩ : ℝ →+ EReal) (fun k : Fin n => f k.val) Finset.univ).symm

/-- `x` holds the reals `A`, by its two coordinates. -/
def Holds {s0 s1 : ℕ} (x : (⟨2, ![s0, s1]⟩ : Shape).Idx → EReal) (A : ℕ → ℕ → ℝ) : Prop := ∀ i, x i = ((A (i 0).val (i 1).val : ℝ) : EReal)

/-- A window of whole rows, from row `r` on. -/
theorem holds_window {s0 s1 n : ℕ} {x : (⟨2, ![s0, s1]⟩ : Shape).Idx → EReal} {A : ℕ → ℕ → ℝ} (hx : Holds x A) (r : ℕ) (off : Fin 2 → ℕ) (hoff : off = ![r, 0])
    (inb : ∀ a : Fin 2, off a + (![n, s1] : Fin 2 → ℕ) a ≤ (⟨2, ![s0, s1]⟩ : Shape).size a) :
    Holds (s0 := n) (s1 := s1) (window (s := (⟨2, ![s0, s1]⟩ : Shape)) x off ![n, s1] inb) (fun a d => A (r + a) d) := by
  subst hoff
  intro z
  refine (hx _).trans ?_
  have e0 : ((Rect.unit (s := (⟨2, ![s0, s1]⟩ : Shape)) ![r, 0] ![n, s1] inb).emb z 0).val = r + 1 * (z 0).val := rfl
  have e1 : ((Rect.unit (s := (⟨2, ![s0, s1]⟩ : Shape)) ![r, 0] ![n, s1] inb).emb z 1).val = 0 + 1 * (z 1).val := rfl
  rw [e0, e1, one_mul, one_mul, zero_add]

/-- Whole rows put, from row `r` on. -/
theorem holds_put {s0 s1 n : ℕ} {x : (⟨2, ![s0, s1]⟩ : Shape).Idx → EReal} {A B : ℕ → ℕ → ℝ} (hx : Holds x A) (r : ℕ) (off : Fin 2 → ℕ) (hoff : off = ![r, 0])
    {w : (⟨2, ![n, s1]⟩ : Shape).Idx → EReal} (hw : Holds w B) :
    Holds (s0 := s0) (s1 := s1) (put (s := (⟨2, ![s0, s1]⟩ : Shape)) x off ![n, s1] w) (fun s e => if r ≤ s ∧ s < r + n then B (s - r) e else A s e) := by
  subst hoff
  intro y
  have e1 : (y 1).val < s1 := (y 1).isLt
  unfold put
  dsimp only
  by_cases h : r ≤ (y 0).val ∧ (y 0).val < r + n
  · have hy : ∀ a : Fin 2, (![r, 0] : Fin 2 → ℕ) a ≤ (y a).val ∧ (y a).val < (![r, 0] : Fin 2 → ℕ) a + (![n, s1] : Fin 2 → ℕ) a := fun a => by
      match a with
      | ⟨0, _⟩ => exact h
      | ⟨1, _⟩ => show 0 ≤ (y 1).val ∧ (y 1).val < 0 + s1; omega
    rw [if_pos h]
    exact (dif_pos hy).trans (hw _)
  · rw [if_neg h]
    exact (dif_neg fun hy => h (hy 0)).trans (hx y)

/-- The word of the small constant under the root. -/
def eps : ℝ := 8796093 / 8796093022208

theorem ofBits_eps : Ideal.ofBits .f32 0x358637BD#32 = ((eps : ℝ) : EReal) := by
  unfold eps
  simp [Ideal.ofBits, Ideal.ieee]
  rw [← EReal.coe_mul]
  norm_num

theorem ofBits_256 : Ideal.ofBits .f32 0x43800000#32 = ((256 : ℝ) : EReal) := by
  simp [Ideal.ofBits, Ideal.ieee]
  rw [← EReal.coe_mul]
  norm_num

/-- The mean square of row `s`, and the small constant. -/
def ms (X : ℕ → ℕ → ℝ) (s : ℕ) : ℝ := (∑ e ∈ Finset.range 256, X s e * X s e) * (1 / 256) + eps

theorem ms_pos (X : ℕ → ℕ → ℝ) (s : ℕ) : 0 < ms X s :=
  add_pos_of_nonneg_of_pos (mul_nonneg (Finset.sum_nonneg fun e _ => mul_self_nonneg _) (by norm_num)) (by unfold eps; norm_num)

/-- The inverse root of the mean square. -/
def rinv (X : ℕ → ℕ → ℝ) (s : ℕ) : ℝ := (√(ms X s))⁻¹

/-- The inverse root over the reals, from the extended reals' operations. -/
theorem rsqrt_ms (X : ℕ → ℕ → ℝ) (s : ℕ) : Ideal.rsqrt ((ms X s : ℝ) : EReal) = ((rinv X s : ℝ) : EReal) := by
  have h := ms_pos X s
  rw [Ideal.rsqrt_coe, if_neg (not_lt.2 h.le), if_neg h.ne']
  rfl

/-- The mean square as the kernel and the reference take it. -/
theorem ms_real (X : ℕ → ℕ → ℝ) (s : ℕ) (g : Fin 256 → EReal) (hg : ∀ k, g k = ((X s k.val : ℝ) : EReal)) :
    Ideal.div (∑ k, g k * g k) (Ideal.ofBits .f32 0x43800000#32) + Ideal.ofBits .f32 0x358637BD#32 = ((ms X s : ℝ) : EReal) := by
  rw [sum_to _ (fun e => X s e * X s e) fun k => by rw [hg k, EReal.coe_mul], ofBits_256, Ideal.div_coe (by norm_num), ofBits_eps, ← EReal.coe_mul, ← EReal.coe_add]
  rfl

/-- The logistic function. -/
def sig (g : ℝ) : ℝ := 1 / (1 + Real.exp (-g))

theorem sig_of (g : ℝ) : Ideal.div 1 (1 + Ideal.exp (-(g : EReal))) = ((sig g : ℝ) : EReal) := by
  have h : (1 : EReal) + Ideal.exp (-(g : EReal)) = ((1 + Real.exp (-g) : ℝ) : EReal) := by
    rw [← EReal.coe_neg, Ideal.exp_coe, EReal.coe_add, EReal.coe_one]
  rw [h, Ideal.div_coe (by positivity), one_mul]
  rfl

/-- The gated and normed output. -/
def outM (X G : ℕ → ℕ → ℝ) (s e : ℕ) : ℝ := G s e * sig (G s e) * (X s e * rinv X s)

section Cotangents
variable (X G Y : ℕ → ℕ → ℝ)

/-- The normed rows. -/
def normM (s e : ℕ) : ℝ := X s e * rinv X s

/-- The normed rows' cotangent. -/
def dnM (s e : ℕ) : ℝ := Y s e * G s e * sig (G s e)

/-- The raw output's cotangent. -/
def dretM (s e : ℕ) : ℝ := rinv X s * (dnM G Y s e - normM X s e * ((∑ d ∈ Finset.range 256, dnM G Y s d * normM X s d) * (1 / 256)))

/-- The gate's cotangent. -/
def dgateM (s e : ℕ) : ℝ := Y s e * normM X s e * sig (G s e) * (1 + G s e * (1 - sig (G s e)))

end Cotangents

end Cert.RetV

end
-- ==== Proof.RetV.Fwd.lean ====
/- The forward kernel's loop over the key blocks, over the reals: the causal sum with decay. -/
module

public import proofs.«01_k».proof.Proof.RetV.Model

@[expose] public section

set_option maxRecDepth 16384

noncomputable section

namespace Cert.RetV

open Cert.KernelIdeal Cert.KernelIdeal.Gen Cert.RetI
open Idealize.ShloMosaic Idealize.ShloMosaic.TcCoe Idealize.SL.Sem
open Idealize.ShloMosaic.VecWindow

/-- One key block, added. -/
theorem fwd_step (Q : Vec Ideal S512x256 .f32) (acc : FVec Ideal S512x256 .f32) (Kk Vk : Vec Ideal S512x256 .bf16) (D : Vec Ideal S1x512x512 .f32)
    (q k v s w : ℕ → ℕ → ℝ) (hq : Holds Q q) (hk : Holds Kk k) (hv : Holds Vk v) (hs : Holds acc s)
    (hD : ∀ z, D z = ((w (z 1).val (z 2).val : ℝ) : EReal)) :
    Holds (k0_pay16 Q acc Kk D Vk) (fun a e => s a e + ∑ b ∈ Finset.range 512, sc q k a b * w a b * v b e) := by
  intro z
  dsimp only
  rw [EReal.coe_add, ← sum_to (n := 512) _ _ (fun b => rfl)]
  pointwise [k0_pay16, k0_pay14]
  refine congrArg₂ (· + ·) (hs _) (Finset.sum_congr rfl fun b _ => ?_)
  rw [EReal.coe_mul, EReal.coe_mul]
  refine congrArg₂ (· * ·) (congrArg₂ (· * ·) ?_ (hD _)) (hv _)
  exact sum_to _ _ fun d => by rw [EReal.coe_mul]; exact congrArg₂ (· * ·) (hq _) (hk _)

/-- Where the forward loop's table window lies. -/
theorem k0_off2_is : ∀ (i : grid0.Coords) (k : Fin (k0_t1_loop i).trips), k0_off2 i k = ![(i 1).val - k.val, 0, 0] := by decide +kernel

/-- The forward loop runs over the key blocks up to the query tile's own. -/
theorem k0_t1_trips : ∀ i : grid0.Coords, (k0_t1_loop i).trips = (i 1).val + 1 := by decide +kernel

/-- The raw output after `n` key blocks. -/
theorem fwd_tiles (i : grid0.Coords) (Q : Vec Ideal S512x256 .f32) (KB VB : Vec Ideal S2048x256 .bf16) (DT : Vec Ideal S4x512x512 .f32)
    (l : ℝ) (A B C : ℕ → ℕ → ℝ) (hq : Holds Q (fun a d => A (512 * (i 1).val + a) d)) (hk : Holds KB B) (hv : Holds VB C)
    (hD : ∀ y, DT y = ((dcy l (512 * (y 0).val + (y 1).val) (y 2).val * (1 / 16) : ℝ) : EReal)) :
    ∀ n, n ≤ (k0_t1_loop i).trips → Holds (fwdTiles i Q KB VB DT k0_pay15 n) (fun a e => ∑ k ∈ Finset.range n, ∑ b ∈ Finset.range 512,
      sc A B (512 * (i 1).val + a) (512 * k + b) * (dcy l (512 * (i 1).val + a) (512 * k + b) * (1 / 16)) * C (512 * k + b) e) := by
  intro n
  induction n with
  | zero =>
    intro _ z
    show k0_pay15 (F := Ideal) z = _
    pointwise [k0_pay15]
    simp
  | succ n ih =>
    intro hn z
    have hlt : n < (k0_t1_loop i).trips := hn
    have hni : n ≤ (i 1).val := by rw [k0_t1_trips] at hlt; omega
    rw [show n + 1 = (⟨n, hlt⟩ : Fin (k0_t1_loop i).trips).val + 1 from rfl, fwdTiles_succ]
    refine (fwd_step _ _ _ _ _ _ _ _ _ (fun a b => dcy l (512 * (i 1).val + a) (512 * n + b) * (1 / 16)) hq
      (holds_window hk (512 * n) _ (k0_off1_eq i ⟨n, hlt⟩) (k0_off1_inb i ⟨n, hlt⟩)) (holds_window hv (512 * n) _ (k0_off1_eq i ⟨n, hlt⟩) (k0_off1_inb i ⟨n, hlt⟩))
      (ih hlt.le) (fun y => ?_) z).trans ?_
    · refine (hD _).trans (congrArg _ (congrArg (· * _) ?_))
      have e0 : (y 0).val = 0 := by have := (y 0).isLt; exact Nat.lt_one_iff.1 this
      have e : ∀ a : Fin 3, ((Rect.unit (s := S4x512x512) (k0_off2 i ⟨n, hlt⟩) S1x512x512.size (k0_off2_inb i ⟨n, hlt⟩)).emb y a).val
          = (![(i 1).val - n, 0, 0] : Fin 3 → ℕ) a + 1 * (y a).val := fun a => by
        rw [← k0_off2_is i ⟨n, hlt⟩]; rfl
      rw [e 0, e 1, e 2, ← dcy_add l (512 * n)]
      show dcy l (512 * n + (512 * ((i 1).val - n + 1 * (y 0).val) + (0 + 1 * (y 1).val))) (512 * n + (0 + 1 * (y 2).val)) = _
      congr 1 <;> omega
    · exact congrArg Real.toEReal (Finset.sum_range_succ (fun k => ∑ b ∈ Finset.range 512,
        sc A B (512 * (i 1).val + (z 0).val) (512 * k + b) * (dcy l (512 * (i 1).val + (z 0).val) (512 * k + b) * (1 / 16)) * C (512 * k + b) (z 1).val) n).symm

/-- The raw output of a query tile is the causal sum with decay. -/
theorem fwd_raw (i : grid0.Coords) (Q : Vec Ideal S512x256 .f32) (K V : Vec Ideal S2048x256 .f32) (A B C : ℕ → ℕ → ℝ)
    (hq : Holds Q (fun a d => A (512 * (i 1).val + a) d)) (hk : Holds K B) (hv : Holds V C) :
    Holds (fwdRaw i Q K V) (fun a e => fsum (lam (i 0).val) A B C (512 * (i 1).val + a) e) := by
  intro z
  have hk' : Holds (k0_pay2 K) B := fun y => by
    refine Eq.trans ?_ (hk y)
    pointwise [k0_pay2]
  have hv' : Holds (k0_pay3 V) C := fun y => by
    refine Eq.trans ?_ (hv y)
    pointwise [k0_pay3]
  refine (fwd_tiles i Q _ _ _ _ A B C hq hk' hv' (fwdTab_at (i 0).val (i 0).isLt) _ le_rfl z).trans ?_
  dsimp only
  rw [fsum_tiles _ _ _ _ _ _ _ (i 1).isLt (z 0).isLt, k0_t1_trips]

/-- The gated and normed output of a query tile. -/
theorem fwd_out (X : FVec Ideal S512x256 .f32) (G : Vec Ideal S512x256 .f32) (x g : ℕ → ℕ → ℝ) (hx : Holds X x) (hg : Holds G g) :
    Holds (k0_pay18 X G) (outM x g) := by
  intro z
  have hm := ms_real x (z 0).val (fun k => X (ix2 (z 0) k)) fun k => hx _
  pointwise [k0_pay18]
  rw [hm, rsqrt_ms, hx z, hg z, zero_sub, sig_of, ← EReal.coe_mul, ← EReal.coe_mul, ← EReal.coe_mul]
  rfl

end Cert.RetV

end
-- ==== Proof.RetV.Bwd.lean ====
/- The backward kernel's loops over key and query blocks, over the reals: the three sums with decay. -/
module

public import proofs.«01_k».proof.Proof.RetV.Model
public import proofs.«01_k».proof.Proof.RetI.BwdModel

@[expose] public section

set_option maxRecDepth 16384

noncomputable section

namespace Cert.RetV

open Cert.KernelIdeal Cert.KernelIdeal.Gen Cert.RetI
open Idealize.ShloMosaic Idealize.ShloMosaic.TcCoe Idealize.SL.Sem
open Idealize.ShloMosaic.VecWindow

section Steps
variable (Kj Vj Qk Dk : Vec Ideal S512x256 .bf16) (D : Vec Ideal S1x512x512 .f32) (acc : FVec Ideal S512x256 .f32)
  (kj vj q u s w : ℕ → ℕ → ℝ)

/-- One tile of the keys' gradient, added. -/
theorem dk_step (hv : Holds Vj vj) (hq : Holds Qk q) (hu : Holds Dk u) (hs : Holds acc s) (hD : ∀ z, D z = ((w (z 1).val (z 2).val : ℝ) : EReal)) :
    Holds (k1_pay8 Vj acc Qk Dk D) (fun b e => s b e + ∑ a ∈ Finset.range 512, sc u vj a b * w a b * q a e) := by
  intro z
  dsimp only
  rw [EReal.coe_add, ← sum_to (n := 512) _ _ (fun b => rfl)]
  pointwise [k1_pay8, k1_pay6, k1_pay5]
  refine congrArg₂ (· + ·) (hs _) (Finset.sum_congr rfl fun b _ => ?_)
  rw [EReal.coe_mul, EReal.coe_mul]
  refine congrArg₂ (· * ·) (congrArg₂ (· * ·) ?_ (hD _)) (hq _)
  exact sum_to _ _ fun d => by rw [EReal.coe_mul]; exact congrArg₂ (· * ·) (hu _) (hv _)

/-- One tile of the values' gradient, added. -/
theorem dv_step (hk : Holds Kj kj) (hq : Holds Qk q) (hu : Holds Dk u) (hs : Holds acc s) (hD : ∀ z, D z = ((w (z 1).val (z 2).val : ℝ) : EReal)) :
    Holds (k1_pay7 Kj acc Qk Dk D) (fun b e => s b e + ∑ a ∈ Finset.range 512, sc q kj a b * w a b * u a e) := by
  intro z
  dsimp only
  rw [EReal.coe_add, ← sum_to (n := 512) _ _ (fun b => rfl)]
  pointwise [k1_pay7, k1_pay5]
  refine congrArg₂ (· + ·) (hs _) (Finset.sum_congr rfl fun b _ => ?_)
  rw [EReal.coe_mul, EReal.coe_mul]
  refine congrArg₂ (· * ·) (congrArg₂ (· * ·) ?_ (hD _)) (hu _)
  exact sum_to _ _ fun d => by rw [EReal.coe_mul]; exact congrArg₂ (· * ·) (hq _) (hk _)

/-- One tile of the queries' gradient, added. -/
theorem dq_step (hk : Holds Kj kj) (hv : Holds Vj vj) (hu : Holds Dk u) (hs : Holds acc s) (hD : ∀ z, D z = ((w (z 1).val (z 2).val : ℝ) : EReal)) :
    Holds (k1_pay9 Kj Vj Dk D acc) (fun a e => s a e + ∑ b ∈ Finset.range 512, sc u vj a b * w a b * kj b e) := by
  intro z
  dsimp only
  rw [EReal.coe_add, ← sum_to (n := 512) _ _ (fun b => rfl)]
  pointwise [k1_pay9, k1_pay6, k1_pay5]
  refine congrArg₂ (· + ·) (hs _) (Finset.sum_congr rfl fun b _ => ?_)
  rw [EReal.coe_mul, EReal.coe_mul]
  refine congrArg₂ (· * ·) (congrArg₂ (· * ·) ?_ (hD _)) (hk _)
  exact sum_to _ _ fun d => by rw [EReal.coe_mul]; exact congrArg₂ (· * ·) (hu _) (hv _)

end Steps

/-- Where the inner loop's table window lies. -/
theorem k1_off3_is : ∀ (j : Fin k1_t1_loop.trips) (k : Fin (k1_t2_loop j).trips), k1_off3 j k = ![k.val, 0, 0] := by decide +kernel

/-- The inner loop runs over the query blocks from the key block's own on. -/
theorem k1_t2_trips : ∀ j : Fin k1_t1_loop.trips, (k1_t2_loop j).trips = 4 - j.val := by decide +kernel

/-- What key block `j` gives to row `s` of the queries' gradient. -/
def dqT (l : ℝ) (U V K : ℕ → ℕ → ℝ) (j s e : ℕ) : ℝ :=
  ∑ b ∈ Finset.range 512, sc U V s (512 * j + b) * (dcy l s (512 * j + b) * (1 / 16)) * K (512 * j + b) e

/-- Nothing to the rows before it. -/
theorem dqT_of_lt (l : ℝ) (U V K : ℕ → ℕ → ℝ) (j s e : ℕ) (h : s < 512 * j) : dqT l U V K j s e = 0 :=
  Finset.sum_eq_zero fun b _ => by rw [dcy_of_lt l (by omega)]; ring

/-- The first `n` query blocks' part of the anticausal sum at row `b` of block `j`. -/
def colT (l : ℝ) (A B C : ℕ → ℕ → ℝ) (j n b e : ℕ) : ℝ :=
  ∑ k ∈ Finset.range n, ∑ a ∈ Finset.range 512, sc A B (512 * (j + k) + a) (512 * j + b) * (dcy l (512 * (j + k) + a) (512 * j + b) * (1 / 16)) * C (512 * (j + k) + a) e

section Loop
variable (QB KB VB DB : Vec Ideal S2048x256 .bf16) (DT : Vec Ideal S4x512x512 .f32) (l : ℝ) (Q K V U : ℕ → ℕ → ℝ)

/-- The inner loop's state after `n` query blocks. -/
theorem bwd_tiles (hQ : Holds QB Q) (hK : Holds KB K) (hV : Holds VB V) (hU : Holds DB U)
    (hD : ∀ y, DT y = ((dcy l (512 * (y 0).val + (y 1).val) (y 2).val * (1 / 16) : ℝ) : EReal))
    (j : Fin k1_t1_loop.trips) (dq : Vec Ideal S2048x256 .f32) (P : ℕ → ℕ → ℝ) (hP : Holds dq P) :
    ∀ n, n ≤ (k1_t2_loop j).trips →
      Holds (bwdTiles (window KB (k1_off1 j) S512x256.size (k1_off1_inb j)) (window VB (k1_off1 j) S512x256.size (k1_off1_inb j)) QB DB DT j ((k1_pay4, k1_pay4), dq) n).1.1 (colT l U V Q j.val n)
      ∧ Holds (bwdTiles (window KB (k1_off1 j) S512x256.size (k1_off1_inb j)) (window VB (k1_off1 j) S512x256.size (k1_off1_inb j)) QB DB DT j ((k1_pay4, k1_pay4), dq) n).1.2 (colT l Q K U j.val n)
      ∧ Holds (bwdTiles (window KB (k1_off1 j) S512x256.size (k1_off1_inb j)) (window VB (k1_off1 j) S512x256.size (k1_off1_inb j)) QB DB DT j ((k1_pay4, k1_pay4), dq) n).2
          (fun s e => P s e + if 512 * j.val ≤ s ∧ s < 512 * (j.val + n) then dqT l U V K j.val s e else 0) := by
  have hKj := holds_window hK (512 * j.val) _ (k1_off1_eq j) (k1_off1_inb j)
  have hVj := holds_window hV (512 * j.val) _ (k1_off1_eq j) (k1_off1_inb j)
  intro n
  induction n with
  | zero =>
    intro _
    have z4 : Holds (k1_pay4 (F := Ideal)) (fun _ _ => 0) := fun z => by pointwise [k1_pay4]; rfl
    refine ⟨fun z => (z4 z).trans (congrArg _ ?_), fun z => (z4 z).trans (congrArg _ ?_), fun z => (hP z).trans (congrArg _ ?_)⟩
    · simp [colT]
    · simp [colT]
    · dsimp only
      rw [if_neg (by omega), add_zero]
  | succ n ih =>
    intro hn
    have hlt : n < (k1_t2_loop j).trips := hn
    obtain ⟨ih1, ih2, ih3⟩ := ih hlt.le
    rw [show n + 1 = (⟨n, hlt⟩ : Fin (k1_t2_loop j).trips).val + 1 from rfl, bwdTiles_succ]
    generalize bwdTiles (window KB (k1_off1 j) S512x256.size (k1_off1_inb j)) (window VB (k1_off1 j) S512x256.size (k1_off1_inb j)) QB DB DT j ((k1_pay4, k1_pay4), dq) n = st at ih1 ih2 ih3 ⊢
    unfold bwdTile
    dsimp only
    have hoff : k1_off2 j ⟨n, hlt⟩ = ![512 * (j.val + n), 0] := by rw [k1_off2_eq j ⟨n, hlt⟩, Nat.mul_add]
    have hQk := holds_window hQ (512 * (j.val + n)) _ hoff (k1_off2_inb j ⟨n, hlt⟩)
    have hUk := holds_window hU (512 * (j.val + n)) _ hoff (k1_off2_inb j ⟨n, hlt⟩)
    have hTk : ∀ y, window DT (k1_off3 j ⟨n, hlt⟩) S1x512x512.size (k1_off3_inb j ⟨n, hlt⟩) y
        = ((dcy l (512 * (j.val + n) + (y 1).val) (512 * j.val + (y 2).val) * (1 / 16) : ℝ) : EReal) := fun y => by
      refine (hD _).trans (congrArg _ (congrArg (· * _) ?_))
      have e0 : (y 0).val = 0 := by have := (y 0).isLt; exact Nat.lt_one_iff.1 this
      have e : ∀ a : Fin 3, ((Rect.unit (s := S4x512x512) (k1_off3 j ⟨n, hlt⟩) S1x512x512.size (k1_off3_inb j ⟨n, hlt⟩)).emb y a).val
          = (![n, 0, 0] : Fin 3 → ℕ) a + 1 * (y a).val := fun a => by
        rw [← k1_off3_is j ⟨n, hlt⟩]; rfl
      rw [e 0, e 1, e 2, ← dcy_add l (512 * j.val)]
      show dcy l (512 * j.val + (512 * (n + 1 * (y 0).val) + (0 + 1 * (y 1).val))) (512 * j.val + (0 + 1 * (y 2).val)) = _
      congr 1 <;> omega
    refine ⟨fun z => ?_, fun z => ?_, fun z => ?_⟩
    · refine (dk_step _ _ _ _ _ _ _ _ _ (fun a b => dcy l (512 * (j.val + n) + a) (512 * j.val + b) * (1 / 16)) hVj hQk hUk ih1 hTk z).trans (congrArg Real.toEReal ?_)
      exact (Finset.sum_range_succ _ n).symm
    · refine (dv_step _ _ _ _ _ _ _ _ _ (fun a b => dcy l (512 * (j.val + n) + a) (512 * j.val + b) * (1 / 16)) hKj hQk hUk ih2 hTk z).trans (congrArg Real.toEReal ?_)
      exact (Finset.sum_range_succ _ n).symm
    · refine (holds_put ih3 (512 * (j.val + n)) _ hoff (dq_step _ _ _ _ _ _ _ _ _ (fun a b => dcy l (512 * (j.val + n) + a) (512 * j.val + b) * (1 / 16)) hKj hVj hUk
        (holds_window ih3 (512 * (j.val + n)) _ hoff (k1_off2_inb j ⟨n, hlt⟩)) hTk) z).trans (congrArg Real.toEReal ?_)
      dsimp only
      generalize (z 0).val = s
      generalize (z 1).val = e
      by_cases h : 512 * (j.val + n) ≤ s ∧ s < 512 * (j.val + n) + 512
      · obtain ⟨a, rfl⟩ : ∃ a, s = 512 * (j.val + n) + a := ⟨s - 512 * (j.val + n), by omega⟩
        rw [if_pos h, if_neg (by omega), if_pos (by omega), add_zero, Nat.add_sub_cancel_left]
        rfl
      · rw [if_neg h]
        by_cases h' : 512 * j.val ≤ s ∧ s < 512 * (j.val + n)
        · rw [if_pos h', if_pos (by omega)]
        · rw [if_neg h', if_neg (by omega)]

/-- The queries' gradient after `j` key blocks. -/
theorem bwd_dq (hQ : Holds QB Q) (hK : Holds KB K) (hV : Holds VB V) (hU : Holds DB U)
    (hD : ∀ y, DT y = ((dcy l (512 * (y 0).val + (y 1).val) (y 2).val * (1 / 16) : ℝ) : EReal)) :
    ∀ j, j ≤ 4 → Holds (bwdDq QB KB VB DB DT j) (fun s e => ∑ j' ∈ Finset.range j, dqT l U V K j' s e) := by
  intro j
  induction j with
  | zero =>
    intro _ z
    show k1_pay3 (F := Ideal) z = _
    pointwise [k1_pay3]
    simp
  | succ j ih =>
    intro hj z
    have h : j < k1_t1_loop.trips := by rw [k1_t1_trips4]; omega
    have hz : (z 0).val < 2048 := (z 0).isLt
    rw [bwdDq.eq_2, dif_pos h]
    unfold bwdCol
    refine ((bwd_tiles QB KB VB DB DT l Q K V U hQ hK hV hU hD ⟨j, h⟩ _ _ (ih (by omega)) _ le_rfl).2.2 z).trans (congrArg Real.toEReal ?_)
    dsimp only
    rw [Finset.sum_range_succ, k1_t2_trips]
    dsimp only
    by_cases hs : 512 * j ≤ (z 0).val
    · rw [if_pos (by omega)]
    · rw [if_neg (by omega), dqT_of_lt _ _ _ _ _ _ _ (by omega)]

/-- The queries' gradient is the causal sum with decay of the keys, by the scores of the cotangent with the values. -/
theorem bwd_dq_all (hQ : Holds QB Q) (hK : Holds KB K) (hV : Holds VB V) (hU : Holds DB U)
    (hD : ∀ y, DT y = ((dcy l (512 * (y 0).val + (y 1).val) (y 2).val * (1 / 16) : ℝ) : EReal)) :
    Holds (bwdDq QB KB VB DB DT 4) (fsum l U V K) := by
  intro z
  refine (bwd_dq QB KB VB DB DT l Q K V U hQ hK hV hU hD 4 le_rfl z).trans (congrArg Real.toEReal ?_)
  dsimp only [dqT, fsum]
  rw [← sum_blocks 512 4 (fun b => sc U V (z 0).val b * (dcy l (z 0).val b * (1 / 16)) * K b (z 1).val)]
  exact Finset.sum_congr rfl fun b _ => by ring

/-- The gradients of a key block's keys and values are the anticausal sums with decay. -/
theorem bwd_dkv (hQ : Holds QB Q) (hK : Holds KB K) (hV : Holds VB V) (hU : Holds DB U)
    (hD : ∀ y, DT y = ((dcy l (512 * (y 0).val + (y 1).val) (y 2).val * (1 / 16) : ℝ) : EReal)) (j : Fin k1_t1_loop.trips) :
    Holds (bwdDkv QB KB VB DB DT j).1 (fun b e => bsum l U V Q (512 * j.val + b) e)
      ∧ Holds (bwdDkv QB KB VB DB DT j).2 (fun b e => bsum l Q K U (512 * j.val + b) e) := by
  have hj : j.val < 4 := lt_of_lt_of_eq j.isLt k1_t1_trips4
  have h := bwd_tiles QB KB VB DB DT l Q K V U hQ hK hV hU hD j _ _ (bwd_dq QB KB VB DB DT l Q K V U hQ hK hV hU hD j.val (by omega)) _ le_rfl
  unfold bwdDkv bwdCol
  refine ⟨fun z => (h.1 z).trans (congrArg Real.toEReal ?_), fun z => (h.2.1 z).trans (congrArg Real.toEReal ?_)⟩
  · dsimp only
    rw [bsum_tiles _ _ _ _ _ _ _ hj, k1_t2_trips, colT]
  · dsimp only
    rw [bsum_tiles _ _ _ _ _ _ _ hj, k1_t2_trips, colT]

end Loop

end Cert.RetV

end
-- ==== Proof.RetV.BwdOut.lean ====
/- What the backward kernel leaves in its output block, over the reals. -/
module

public import proofs.«01_k».proof.Proof.RetV.Bwd

@[expose] public section

set_option maxRecDepth 16384

noncomputable section

namespace Cert.RetV

open Cert.KernelIdeal Cert.KernelIdeal.Gen Cert.RetI
open Idealize.ShloMosaic Idealize.ShloMosaic.TcCoe Idealize.SL.Sem
open Idealize.ShloMosaic.VecWindow

section Elementwise
variable (G RAW DOUT : Vec Ideal S2048x256 .f32) (x g y : ℕ → ℕ → ℝ) (hx : Holds RAW x) (hg : Holds G g) (hy : Holds DOUT y)
include hx hg hy

/-- The raw output's cotangent. -/
theorem bwd_dret : Holds (bwdDret G RAW DOUT) (dretM x g y) := by
  intro z
  have hm := ms_real x (z 0).val (fun k => RAW (ix2 (z 0) k)) fun k => hx _
  unfold bwdDret
  pointwise [k1_pay2, k1_pay29, k1_pay30, k1_pay31, k1_pay28]
  have hd : ∀ k : Fin 256, DOUT (ix2 (z 0) k) * G (ix2 (z 0) k) * Ideal.div 1 (1 + Ideal.exp (0 - G (ix2 (z 0) k))) = ((dnM g y (z 0).val k.val : ℝ) : EReal) := fun k => by
    rw [hy (ix2 (z 0) k), hg (ix2 (z 0) k), zero_sub, sig_of, ← EReal.coe_mul, ← EReal.coe_mul]
    rfl
  have hs := sum_to (fun k : Fin 256 => DOUT (ix2 (z 0) k) * G (ix2 (z 0) k) * Ideal.div 1 (1 + Ideal.exp (0 - G (ix2 (z 0) k))) * (RAW (ix2 (z 0) k) * ((rinv x (z 0).val : ℝ) : EReal)))
    (fun d => dnM g y (z 0).val d * normM x (z 0).val d) fun k => by
      rw [hd k, hx (ix2 (z 0) k), ← EReal.coe_mul, ← EReal.coe_mul]
      rfl
  rw [hm, rsqrt_ms, hs, ofBits_256, Ideal.div_coe (by norm_num), hx z, hy z, hg z, zero_sub, sig_of]
  rw [← EReal.coe_mul, ← EReal.coe_mul, ← EReal.coe_mul, ← EReal.coe_mul, ← EReal.coe_mul, ← EReal.coe_sub, ← EReal.coe_mul]
  rfl

/-- The gate's cotangent. -/
theorem bwd_dgate (z : S1x2048x256.Idx) :
    k1_pay1 (k1_pay32 RAW G DOUT) (k1_pay33 G) k1_pay34 z = ((dgateM x g y (z 1).val (z 2).val : ℝ) : EReal) := by
  have hm := ms_real x (z 1).val (fun k => RAW (ix2 (z 1) k)) fun k => hx _
  pointwise [k1_pay1, k1_pay32, k1_pay33, k1_pay34, k1_pay29, k1_pay30, k1_pay31, k1_pay28]
  rw [hm, rsqrt_ms, hx (ix2 (z 1) (z 2)), hy (ix2 (z 1) (z 2)), hg (ix2 (z 1) (z 2)), zero_sub, sig_of, ← EReal.coe_one]
  rw [← EReal.coe_mul, ← EReal.coe_mul, ← EReal.coe_mul, ← EReal.coe_sub, ← EReal.coe_mul, ← EReal.coe_add, ← EReal.coe_mul]
  rfl

end Elementwise

/-- The four gradients of a head, by slab: of the queries, of the keys, of the values, of the gate. -/
def gradM (l : ℝ) (Q K V G X Y : ℕ → ℕ → ℝ) (b s e : ℕ) : ℝ :=
  if b = 0 then fsum l (dretM X G Y) V K s e
  else if b = 1 then bsum l (dretM X G Y) V Q s e
  else if b = 2 then bsum l Q K (dretM X G Y) s e
  else dgateM X G Y s e

/-- The output block holds them. -/
theorem bwd_out (i : grid1.Coords) (Q K V G RAW DOUT : Vec Ideal S2048x256 .f32) (q k v g x y : ℕ → ℕ → ℝ)
    (hq : Holds Q q) (hk : Holds K k) (hv : Holds V v) (hg : Holds G g) (hx : Holds RAW x) (hy : Holds DOUT y) (w : S4x2048x256.Idx) :
    bwdOut i Q K V G RAW DOUT w = ((gradM (lam (i 0).val) q k v g x y (w 0).val (w 1).val (w 2).val : ℝ) : EReal) := by
  have hQ : Holds (k1_pay25 Q) q := fun z => by
    refine Eq.trans ?_ (hq z)
    pointwise [k1_pay25]
  have hK : Holds (k1_pay26 K) k := fun z => by
    refine Eq.trans ?_ (hk z)
    pointwise [k1_pay26]
  have hV : Holds (k1_pay27 V) v := fun z => by
    refine Eq.trans ?_ (hv z)
    pointwise [k1_pay27]
  have hU := bwd_dret G RAW DOUT x g y hx hg hy
  have hD := bwdTab_at i
  have hw : 512 * ((w 1).val / 512) + (w 1).val % 512 = (w 1).val := Nat.div_add_mod _ _
  unfold bwdOut gradM
  by_cases h0 : (w 0).val = 0
  · rw [if_pos h0, if_pos h0]
    have h := bwd_dq_all _ _ _ _ _ _ q k v _ hQ hK hV hU hD
    generalize bwdDq (k1_pay25 Q) (k1_pay26 K) (k1_pay27 V) (bwdDret G RAW DOUT) (bwdTab i) 4 = dq at h ⊢
    pointwise [k1_pay17]
    exact h _
  · rw [if_neg h0, if_neg h0]
    have h := bwd_dkv _ _ _ _ _ _ q k v _ hQ hK hV hU hD (rowBlock (w 1))
    generalize bwdDkv (k1_pay25 Q) (k1_pay26 K) (k1_pay27 V) (bwdDret G RAW DOUT) (bwdTab i) (rowBlock (w 1)) = dkv at h ⊢
    by_cases h1 : (w 0).val = 1
    · rw [if_pos h1, if_pos h1]
      pointwise [k1_pay15]
      refine (h.1 _).trans (congrArg Real.toEReal ?_)
      exact congrArg (fun s => bsum _ _ _ _ s _) hw
    · rw [if_neg h1, if_neg h1]
      by_cases h2 : (w 0).val = 2
      · rw [if_pos h2, if_pos h2]
        pointwise [k1_pay16]
        refine (h.2 _).trans (congrArg Real.toEReal ?_)
        exact congrArg (fun s => bsum _ _ _ _ s _) hw
      · rw [if_neg h2, if_neg h2]
        exact bwd_dgate G RAW DOUT x g y hx hg hy _

end Cert.RetV

end
-- ==== Proof.RetV.Arrays.lean ====
/- What the two kernels leave in their arrays, over the reals. -/
module

public import proofs.«01_k».proof.Proof.RetV.Fwd
public import proofs.«01_k».proof.Proof.RetV.BwdOut
public import proofs.«01_k».proof.Proof.RetI.FwdRegion
public import proofs.«01_k».proof.Proof.RetI.BwdRegion

@[expose] public section

set_option maxRecDepth 16384

noncomputable section

namespace Cert.RetV

open Cert.KernelIdeal Cert.KernelIdeal.Gen Cert.RetI
open Idealize.ShloMosaic Idealize.ShloMosaic.TcCoe Idealize.SL.Sem
open Idealize.ShloMosaic.VecWindow
open Idealize.ShloMosaic.Pipeline (Dat)

/-- Columns `o` on of an array, by head of 256 columns. -/
def cols (P : ℕ → ℕ → ℝ) (o h s d : ℕ) : ℝ := P s (o + 256 * h + d)

/-- Head `h`'s raw output, of the projected rows `P`. -/
def rawM (P : ℕ → ℕ → ℝ) (h : ℕ) : ℕ → ℕ → ℝ := fsum (lam h) (cols P 3072 h) (cols P 4096 h) (cols P 5120 h)

theorem idx0 : ∀ t : Fin cfg0.N, win0_0.index t = ![(grid0.coords t 1).val, 12 + (grid0.coords t 0).val] ∧ win0_1.index t = ![0, 16 + (grid0.coords t 0).val]
    ∧ win0_2.index t = ![0, 20 + (grid0.coords t 0).val] ∧ win0_3.index t = ![(grid0.coords t 1).val, 24 + (grid0.coords t 0).val]
    ∧ win0_4.index t = ![1, (grid0.coords t 1).val, (grid0.coords t 0).val] ∧ win0_5.index t = ![(grid0.coords t 1).val, (grid0.coords t 0).val] :=
  (by decide +kernel : ∀ t : Fin grid0.N, _)

theorem idx1 : ∀ t : Fin cfg1.N, win1_0.index t = ![0, 12 + (grid1.coords t 0).val] ∧ win1_1.index t = ![0, 16 + (grid1.coords t 0).val]
    ∧ win1_2.index t = ![0, 20 + (grid1.coords t 0).val] ∧ win1_3.index t = ![0, 24 + (grid1.coords t 0).val]
    ∧ win1_4.index t = ![0, (grid1.coords t 0).val] ∧ win1_5.index t = ![0, 4 + (grid1.coords t 0).val] ∧ win1_6.index t = ![1, 0, (grid1.coords t 0).val] :=
  (by decide +kernel : ∀ t : Fin grid1.N, _)

/-- The gate's columns, of head `h`. -/
abbrev gateM (P : ℕ → ℕ → ℝ) (h : ℕ) : ℕ → ℕ → ℝ := cols P 6144 h

/-- Head `h`'s gated and normed output. -/
def mixM (P : ℕ → ℕ → ℝ) (h : ℕ) : ℕ → ℕ → ℝ := outM (rawM P h) (gateM P h)

/-- Head `h`'s gradients, of the projected rows `P` and the output's cotangent `U`. -/
def gradsM (P U : ℕ → ℕ → ℝ) (h : ℕ) : ℕ → ℕ → ℕ → ℝ :=
  gradM (lam h) (cols P 3072 h) (cols P 4096 h) (cols P 5120 h) (gateM P h) (rawM P h) (cols U 1024 h)

section Forward
variable (V : Vals Ideal) (c : Dev nD) (P : ℕ → ℕ → ℝ) (hP : Holds (V c main_arg0) P) (t : Fin cfg0.N)
include hP

theorem q_blk : Holds (inBlk0 V c 0 t : Vec Ideal S512x256 .f32) (fun a d => cols P 3072 (grid0.coords t 0).val (512 * (grid0.coords t 1).val + a) d) := by
  intro z
  refine (hP _).trans (congrArg Real.toEReal ?_)
  have h := (idx0 t).1
  blk_simp [h]
  unfold cols
  congr 1 <;> omega

theorem k_blk : Holds (inBlk0 V c 1 t : Vec Ideal S2048x256 .f32) (cols P 4096 (grid0.coords t 0).val) := by
  intro z
  refine (hP _).trans (congrArg Real.toEReal ?_)
  have h := (idx0 t).2.1
  blk_simp [h]
  unfold cols
  congr 1 <;> omega

theorem v_blk : Holds (inBlk0 V c 2 t : Vec Ideal S2048x256 .f32) (cols P 5120 (grid0.coords t 0).val) := by
  intro z
  refine (hP _).trans (congrArg Real.toEReal ?_)
  have h := (idx0 t).2.2.1
  blk_simp [h]
  unfold cols
  congr 1 <;> omega

theorem g_blk : Holds (inBlk0 V c 3 t : Vec Ideal S512x256 .f32) (fun a d => gateM P (grid0.coords t 0).val (512 * (grid0.coords t 1).val + a) d) := by
  intro z
  refine (hP _).trans (congrArg Real.toEReal ?_)
  have h := (idx0 t).2.2.2.1
  blk_simp [h]
  unfold gateM cols
  congr 1 <;> omega

/-- The raw output of a tile. -/
theorem raw_blk : Holds (raw0 V c t) (fun a e => rawM P (grid0.coords t 0).val (512 * (grid0.coords t 1).val + a) e) :=
  fwd_raw (grid0.coords t) _ _ _ _ _ _ (q_blk V c P hP t) (k_blk V c P hP t) (v_blk V c P hP t)

/-- The array of the raw outputs. -/
theorem raw_eq : (dat0 V c).arrAt 5 cfg0.N = (fun i : S2048x1024.Idx => ((rawM P ((i 1).val / 256) (i 0).val ((i 1).val % 256) : ℝ) : EReal)) := by
  refine (dat0 V c).arrAt_eq_of_covers 5 _ (by decide +kernel) fun t _ y => ?_
  have h := (idx0 t).2.2.2.2.2
  have e1 : (y 1).val < 256 := (y 1).isLt
  blk_simp [h]
  refine (raw_blk V c P hP t y).trans (congrArg Real.toEReal ?_)
  dsimp only
  rw [show ((grid0.coords t 0).val * 256 + (y 1).val) / 256 = (grid0.coords t 0).val by omega, show ((grid0.coords t 0).val * 256 + (y 1).val) % 256 = (y 1).val by omega,
    Nat.mul_comm 512]

/-- The array of the mixed activations: its second slab is the gated and normed output, its first what it was. -/
theorem mixed_eq : (dat0 V c).arrAt 4 cfg0.N = (fun i : S2x2048x1024.Idx => if (i 0).val / 1 = 1 then
    ((mixM P ((i 2).val / 256) (i 1).val ((i 2).val % 256) : ℝ) : EReal) else V c main_v0_0 i) := by
  refine (dat0 V c).arrAt_eq_of_coversWhere 4 (fun i : S2x2048x1024.Idx => ((mixM P ((i 2).val / 256) (i 1).val ((i 2).val % 256) : ℝ) : EReal))
    (fun β => β (0 : Fin 3) = 1) (by decide +kernel) (fun t _ y => ?_) (fun j => Iff.rfl)
  have h := (idx0 t).2.2.2.2.1
  have e1 : (y 2).val < 256 := (y 2).isLt
  have ho := fwd_out _ _ _ _ (raw_blk V c P hP t) (g_blk V c P hP t)
  blk_simp [h]
  show k0_pay1 (k0_pay18 (raw0 V c t) (inBlk0 V c 3 t : Vec Ideal S512x256 .f32)) y = _
  generalize k0_pay18 (raw0 V c t) (inBlk0 V c 3 t : Vec Ideal S512x256 .f32) = x at ho ⊢
  pointwise [k0_pay1]
  refine (ho _).trans (congrArg Real.toEReal ?_)
  rw [show ((grid0.coords t 0).val * 256 + (y 2).val) / 256 = (grid0.coords t 0).val by omega, show ((grid0.coords t 0).val * 256 + (y 2).val) % 256 = (y 2).val by omega,
    Nat.mul_comm _ 512]
  rfl

end Forward

section Backward
variable (V : Vals Ideal) (c : Dev nD) (P U : ℕ → ℕ → ℝ) (hP : Holds (V c main_arg0) P) (hU : Holds (V c main_arg1) U)
  (hR : V c main_v0_1 = (fun i : S2048x1024.Idx => ((rawM P ((i 1).val / 256) (i 0).val ((i 1).val % 256) : ℝ) : EReal))) (t : Fin cfg1.N)
include hP hU hR

/-- The gradients of a head. -/
theorem grads_blk (w : S4x2048x256.Idx) : grads1 V c t w = ((gradsM P U (grid1.coords t 0).val (w 0).val (w 1).val (w 2).val : ℝ) : EReal) := by
  obtain ⟨h0, h1, h2, h3, h4, h5, _⟩ := idx1 t
  refine bwd_out (grid1.coords t) _ _ _ _ _ _ _ _ _ _ _ _ (fun z => ?_) (fun z => ?_) (fun z => ?_) (fun z => ?_) (fun z => ?_) (fun z => ?_) w
  · refine (hP _).trans (congrArg Real.toEReal ?_)
    blk_simp [h0]
    unfold cols
    congr 1 <;> omega
  · refine (hP _).trans (congrArg Real.toEReal ?_)
    blk_simp [h1]
    unfold cols
    congr 1 <;> omega
  · refine (hP _).trans (congrArg Real.toEReal ?_)
    blk_simp [h2]
    unfold cols
    congr 1 <;> omega
  · refine (hP _).trans (congrArg Real.toEReal ?_)
    blk_simp [h3]
    unfold gateM cols
    congr 1 <;> omega
  · have e1 : (z 1).val < 256 := (z 1).isLt
    refine (congrFun hR _).trans (congrArg Real.toEReal ?_)
    blk_simp [h4]
    rw [show ((grid1.coords t 0).val * 256 + (z 1).val) / 256 = (grid1.coords t 0).val by omega, show ((grid1.coords t 0).val * 256 + (z 1).val) % 256 = (z 1).val by omega]
  · refine (hU _).trans (congrArg Real.toEReal ?_)
    blk_simp [h5]
    unfold cols
    congr 1 <;> omega

/-- The array of the gradients: its last four slabs, the first four what they were. -/
theorem grads_eq : (dat1 V c).arrAt 6 cfg1.N = (fun i : S8x2048x1024.Idx => if (i 0).val / 4 = 1 then
    ((gradsM P U ((i 2).val / 256) ((i 0).val - 4) (i 1).val ((i 2).val % 256) : ℝ) : EReal) else V c main_v1 i) := by
  refine (dat1 V c).arrAt_eq_of_coversWhere 6 (fun i : S8x2048x1024.Idx => ((gradsM P U ((i 2).val / 256) ((i 0).val - 4) (i 1).val ((i 2).val % 256) : ℝ) : EReal))
    (fun β => β (0 : Fin 3) = 1) (by decide +kernel) (fun t _ y => ?_) (fun j => Iff.rfl)
  have h := (idx1 t).2.2.2.2.2.2
  have e1 : (y 2).val < 256 := (y 2).isLt
  blk_simp [h]
  refine (grads_blk V c P U hP hU hR t y).trans (congrArg Real.toEReal ?_)
  rw [show ((grid1.coords t 0).val * 256 + (y 2).val) / 256 = (grid1.coords t 0).val by omega, show ((grid1.coords t 0).val * 256 + (y 2).val) % 256 = (y 2).val by omega]
  congr 1 <;> omega

end Backward

end Cert.RetV

end
-- ==== Proof.RetV.RefA.lean ====
/- The reference's constant factors, as reals: each head's logarithm of the decay, and the decays within a chunk of 128 positions. -/
module

public import proofs.«01_k».proof.Proof.Gen.ReferenceIdeal.Read
public import proofs.«01_k».proof.Proof.RetV.Arrays

@[expose] public section

set_option maxRecDepth 16384

noncomputable section

namespace Cert.RetV

open Cert.ReferenceIdeal Cert.ReferenceIdeal.Read
open Idealize.ShloMosaic

theorem ofBits_neg5 : Ideal.ofBits .f32 0xC0A00000#32 = ((-5 : ℝ) : EReal) := by
  simp [Ideal.ofBits, Ideal.ieee]
  norm_num [← EReal.coe_mul, ← EReal.coe_neg]

theorem ofBits_2 : Ideal.ofBits .f32 0x40000000#32 = ((2 : ℝ) : EReal) := by
  simp [Ideal.ofBits, Ideal.ieee]
  norm_num [← EReal.coe_mul]

theorem ofBits_127 : Ideal.ofBits .f32 0x42FE0000#32 = ((127 : ℝ) : EReal) := by
  simp [Ideal.ofBits, Ideal.ieee]
  norm_num [← EReal.coe_mul]

theorem ofBits_128 : Ideal.ofBits .f32 0x43000000#32 = ((128 : ℝ) : EReal) := by
  simp [Ideal.ofBits, Ideal.ieee]
  norm_num [← EReal.coe_mul]

theorem ofBits_1 : Ideal.ofBits .f32 0x3F800000#32 = ((1 : ℝ) : EReal) := by
  simp [Ideal.ofBits, Ideal.ieee]
  norm_num [← EReal.coe_mul]

theorem ofBits_0 : Ideal.ofBits .f32 0x00000000#32 = ((0 : ℝ) : EReal) := by
  simp [Ideal.ofBits, Ideal.ieee]

theorem ofBits_neghalf : Ideal.ofBits .f32 0xBF000000#32 = ((-(1 / 2) : ℝ) : EReal) := by
  simp [Ideal.ofBits, Ideal.ieee]
  norm_num [← EReal.coe_mul, ← EReal.coe_neg]

/-- A count below a thousand, as a float. -/
theorem count (n : ℕ) (h : n < 1000) : FloatOps.sitofp (F := Ideal) .f32 (BitVec.ofNat 32 n) = ((n : ℝ) : EReal) := by
  have e : (BitVec.ofNat 32 n).toInt = (n : ℤ) := by
    rw [BitVec.toInt_eq_toNat_of_lt] <;> rw [BitVec.toNat_ofNat] <;> omega
  show (((BitVec.ofNat 32 n).toInt : ℝ) : EReal) = _
  rw [e, Int.cast_natCast]

/-- The head's number. -/
theorem ref_head (i : S4.Idx) : val_main_v14 (F := Ideal) i = (((i 0).val : ℝ) : EReal) := by
  have b : (i 0).val < 4 := (i 0).isLt
  exact count (i 0).val (by omega)

/-- The position within a chunk. -/
theorem ref_pos (i : S128.Idx) : val_main_v27 (F := Ideal) i = (((i 0).val : ℝ) : EReal) := by
  have b : (i 0).val < 128 := (i 0).isLt
  exact count (i 0).val (by omega)

/-- The logarithm of the head's decay factor. -/
theorem ref_lam (i : S4.Idx) : val_main_v21 (F := Ideal) i = ((lam (i 0).val : ℝ) : EReal) := by
  have e18 : val_main_v18 (F := Ideal) i = (((1 / 2 : ℝ) ^ (5 + (i 0).val) : ℝ) : EReal) := by
    rw [val_main_v18_apply, val_main_v17_apply, val_main_v16_apply, val_main_v15_apply, ref_head]
    refine (congrArg₂ Ideal.pow ofBits_2 ((congrArg (· - (((i 0).val : ℝ) : EReal)) ofBits_neg5).trans (EReal.coe_sub _ _).symm)).trans ?_
    rw [Ideal.pow_coe_coe]
    refine congrArg Real.toEReal ?_
    show (2 : ℝ) ^ ((-5 : ℝ) - ((i 0).val : ℝ)) = _
    have e : (-5 : ℝ) - ((i 0).val : ℝ) = -(((5 + (i 0).val : ℕ) : ℝ)) := by push_cast; ring
    rw [e, Real.rpow_neg (by norm_num), Real.rpow_natCast, one_div, inv_pow]
  rw [val_main_v21_apply, val_main_v20_apply, val_main_v19_apply, e18]
  refine (congrArg Ideal.log ((congrArg (· - _) ofBits_1).trans (EReal.coe_sub _ _).symm)).trans ?_
  have h : (1 / 2 : ℝ) ^ (5 + (i 0).val) < 1 := pow_lt_one₀ (by norm_num) (by norm_num) (by omega)
  rw [Ideal.log_coe, if_neg (by linarith)]
  rfl

/-- The decay from one position of a chunk to a later one. -/
theorem ref_decay (i : S4x128x128.Idx) : val_main_v43 (F := Ideal) i = ((dcy (lam (i 0).val) (i 1).val (i 2).val : ℝ) : EReal) := by
  have e32 (j : S128x128.Idx) : val_main_v32 (F := Ideal) j = ((((j 0).val : ℝ) - ((j 1).val : ℝ) : ℝ) : EReal) := by
    rw [val_main_v32_apply, val_main_v30_apply, val_main_v31_apply, val_main_v28_apply, val_main_v29_apply, ref_pos, ref_pos]
    exact (EReal.coe_sub _ _).symm
  have e37 (j : S128x128.Idx) : val_main_v37 (F := Ideal) j = ((max (((j 0).val : ℝ) - ((j 1).val : ℝ)) 0 : ℝ) : EReal) := by
    rw [val_main_v37_apply, e32, val_main_v36_apply]
    exact (congrArg (max _) ofBits_0).trans (EReal.coe_strictMono.monotone.map_max).symm
  have e42 : val_main_v42 (F := Ideal) i = ((Real.exp (lam (i 0).val * max (((i 1).val : ℝ) - ((i 2).val : ℝ)) 0) : ℝ) : EReal) := by
    rw [val_main_v42_apply, val_main_v41_apply, val_main_v39_apply, val_main_v35_apply, val_main_v40_apply, val_main_v38_apply, e37, ref_lam]
    exact (congrArg Ideal.exp (EReal.coe_mul _ _).symm).trans (Ideal.exp_coe _)
  rw [val_main_v43_apply, e42, val_main_call0_v1_apply, val_main_v34_apply, val_main_v33_apply, e32, val_main_call0_v2_apply]
  refine (congrArg₂ (fun z w => Scalar.select (FloatOps.cmpf (F := Ideal) .oge _ z) _ w) ofBits_0 ofBits_0).trans ?_
  unfold dcy
  by_cases h : (i 2).val ≤ (i 1).val
  · have h' : (0 : ℝ) ≤ ((i 1).val : ℝ) - ((i 2).val : ℝ) := sub_nonneg.2 (Nat.cast_le.2 h)
    rw [if_pos h, max_eq_left h']
    exact if_pos (by
      show BitVec.ofBool (decide _) = 1#1
      rw [decide_eq_true (EReal.coe_le_coe_iff.2 h')]; rfl)
  · have h' : ((i 1).val : ℝ) - ((i 2).val : ℝ) < 0 := sub_neg.2 (Nat.cast_lt.2 (by omega))
    rw [if_neg h]
    exact if_neg (by
      show ¬ BitVec.ofBool (decide _) = 1#1
      rw [decide_eq_false (fun hh => absurd (EReal.coe_le_coe_iff.1 hh) (not_le.2 h'))]; decide)

/-- The decay from a position of a chunk to the chunk's last position. -/
theorem ref_zeta (i : S1x4x1x128x1.Idx) : val_main_v57 (F := Ideal) i = ((Real.exp (lam (i 1).val * (127 - ((i 3).val : ℝ))) : ℝ) : EReal) := by
  rw [val_main_v57_apply, val_main_v56_apply, val_main_v55_apply, val_main_v53_apply, val_main_v49_apply, val_main_v54_apply, val_main_v52_apply, val_main_v51_apply,
    val_main_v50_apply, ref_lam, ref_pos]
  show Ideal.exp (((lam (i 1).val : ℝ) : EReal) * (Ideal.ofBits .f32 0x42FE0000#32 - (((i 3).val : ℝ) : EReal))) = _
  rw [ofBits_127, ← EReal.coe_sub, ← EReal.coe_mul]
  exact Ideal.exp_coe _

/-- The decay from the last position of the chunk before to a position of a chunk. -/
theorem ref_xi (i : S1x4x1x128x1.Idx) : val_main_v178 (F := Ideal) i = ((Real.exp (lam (i 1).val * (((i 3).val : ℝ) + 1)) : ℝ) : EReal) := by
  rw [val_main_v178_apply, val_main_v176_apply, val_main_v175_apply, val_main_v173_apply, val_main_v169_apply, val_main_v174_apply, val_main_v172_apply,
    val_main_v171_apply, val_main_v170_apply, ref_lam, ref_pos]
  show Ideal.exp (((lam (i 1).val : ℝ) : EReal) * ((((i 3).val : ℝ) : EReal) + Ideal.ofBits .f32 0x3F800000#32)) = _
  rw [ofBits_1, ← EReal.coe_add, ← EReal.coe_mul]
  exact Ideal.exp_coe _

/-- The decay over a whole chunk. -/
theorem ref_gamma (i : S1x4x1x1.Idx) : val_main_v64 (F := Ideal) i = ((Real.exp (lam (i 1).val * 128) : ℝ) : EReal) := by
  rw [val_main_v64_apply, val_main_v63_apply, val_main_v62_apply, val_main_v61_apply, ref_lam]
  show Ideal.exp (((lam (i 1).val : ℝ) : EReal) * Ideal.ofBits .f32 0x43000000#32) = _
  rw [ofBits_128, ← EReal.coe_mul]
  exact Ideal.exp_coe _

end Cert.RetV
-- ==== Proof.RetV.RefB.lean ====
/- The reference's forward pass, as reals: the heads and their chunks, the states before each chunk, and the retention's rows. -/
module

public import proofs.«01_k».proof.Proof.RetV.RefA
public import Idealize.ShloMosaic.Lib.Pipeline.ValueKit
public import Idealize.ShloMosaic.Lib.Pointwise

@[expose] public section

set_option maxRecDepth 16384

noncomputable section

namespace Cert.RetV

open Cert.ReferenceIdeal Cert.ReferenceIdeal.Read
open Idealize.ShloMosaic

variable {x0 : (⟨S2048x7168, .f32⟩ : BufTy).Contents (Elt Ideal)} {P : ℕ → ℕ → ℝ} (hP : Holds (s0 := 2048) (s1 := 7168) x0 P)

include hP in
/-- The queries of a head. -/
theorem ref_q (i : S1x4x2048x256.Idx) : val_main_v9 (F := Ideal) x0 i = ((cols P 3072 (i 1).val (i 2).val (i 3).val : ℝ) : EReal) := by
  have b1 : (i 1).val < 4 := (i 1).isLt
  have b2 : (i 2).val < 2048 := (i 2).isLt
  have b3 : (i 3).val < 256 := (i 3).isLt
  rw [val_main_v9_apply, val_main_v8_apply, val_main_v1_apply, val_main_v0_apply]
  refine (hP _).trans (congrArg Real.toEReal ?_)
  unfold cols
  dsimp only [idx_main_v9, idx_main_v8, idx_main_v1, idx_main_v0]
  congr 1 <;> omega

include hP in
/-- The keys. -/
theorem ref_k (i : S1x4x2048x256.Idx) : val_main_v11 (F := Ideal) x0 i = ((cols P 4096 (i 1).val (i 2).val (i 3).val : ℝ) : EReal) := by
  have b1 : (i 1).val < 4 := (i 1).isLt
  have b2 : (i 2).val < 2048 := (i 2).isLt
  have b3 : (i 3).val < 256 := (i 3).isLt
  rw [val_main_v11_apply, val_main_v10_apply, val_main_v3_apply, val_main_v2_apply]
  refine (hP _).trans (congrArg Real.toEReal ?_)
  unfold cols
  dsimp only [idx_main_v11, idx_main_v10, idx_main_v3, idx_main_v2]
  congr 1 <;> omega

include hP in
/-- The values. -/
theorem ref_v (i : S1x4x2048x256.Idx) : val_main_v13 (F := Ideal) x0 i = ((cols P 5120 (i 1).val (i 2).val (i 3).val : ℝ) : EReal) := by
  have b1 : (i 1).val < 4 := (i 1).isLt
  have b2 : (i 2).val < 2048 := (i 2).isLt
  have b3 : (i 3).val < 256 := (i 3).isLt
  rw [val_main_v13_apply, val_main_v12_apply, val_main_v5_apply, val_main_v4_apply]
  refine (hP _).trans (congrArg Real.toEReal ?_)
  unfold cols
  dsimp only [idx_main_v13, idx_main_v12, idx_main_v5, idx_main_v4]
  congr 1 <;> omega

/-- A head's array cut into chunks: row `b` of chunk `n` is row `128 n + b`. -/
theorem ref_chunks {x : S1x4x2048x256.Idx → EReal} {A : ℕ → ℕ → ℕ → ℝ} (hx : ∀ i, x i = ((A (i 1).val (i 2).val (i 3).val : ℝ) : EReal))
    {y : S1x4x16x128x256.Idx → EReal} (hy : ∀ i, y i = x (idx_main_v24 i)) (i : S1x4x16x128x256.Idx) :
    y i = ((A (i 1).val (128 * (i 2).val + (i 3).val) (i 4).val : ℝ) : EReal) := by
  have b0 : (i 0).val < 1 := (i 0).isLt
  have b1 : (i 1).val < 4 := (i 1).isLt
  have b2 : (i 2).val < 16 := (i 2).isLt
  have b3 : (i 3).val < 128 := (i 3).isLt
  have b4 : (i 4).val < 256 := (i 4).isLt
  rw [hy, hx]
  refine congrArg Real.toEReal ?_
  dsimp only [idx_main_v24]
  congr 1 <;> omega

include hP in
theorem ref_qc (i : S1x4x16x128x256.Idx) : val_main_v24 (F := Ideal) x0 i = ((cols P 3072 (i 1).val (128 * (i 2).val + (i 3).val) (i 4).val : ℝ) : EReal) :=
  ref_chunks (A := fun h => cols P 3072 h) (ref_q hP) (val_main_v24_apply x0) i

include hP in
/-- The keys, by a sixteenth. -/
theorem ref_kc (i : S1x4x16x128x256.Idx) : val_main_v25 (F := Ideal) x0 i = ((cols P 4096 (i 1).val (128 * (i 2).val + (i 3).val) (i 4).val * (1 / 16) : ℝ) : EReal) := by
  refine ref_chunks (A := fun h s d => cols P 4096 h s d * (1 / 16)) (fun j => ?_) (val_main_v25_apply x0) i
  rw [val_main_v23_apply, ref_k hP, val_main_v22_apply]
  exact (congrArg (_ * ·) sixteenth).trans (EReal.coe_mul _ _).symm

include hP in
theorem ref_vc (i : S1x4x16x128x256.Idx) : val_main_v26 (F := Ideal) x0 i = ((cols P 5120 (i 1).val (128 * (i 2).val + (i 3).val) (i 4).val : ℝ) : EReal) :=
  ref_chunks (A := fun h => cols P 5120 h) (ref_v hP) (val_main_v26_apply x0) i

include hP in
/-- The decayed scores within a chunk. -/
theorem ref_scores (i : S1x4x16x128x128.Idx) : val_main_v47 (F := Ideal) x0 i = (((∑ d ∈ Finset.range 256, cols P 3072 (i 1).val (128 * (i 2).val + (i 3).val) d
    * (cols P 4096 (i 1).val (128 * (i 2).val + (i 4).val) d * (1 / 16))) * dcy (lam (i 1).val) (i 3).val (i 4).val : ℝ) : EReal) := by
  rw [val_main_v47_apply, val_main_v44_apply, val_main_v46_apply, val_main_v45_apply, ref_decay]
  refine (congrArg (· * _) (sum_to _ (fun d => cols P 3072 (i 1).val (128 * (i 2).val + (i 3).val) d
    * (cols P 4096 (i 1).val (128 * (i 2).val + (i 4).val) d * (1 / 16))) fun k => ?_)).trans (EReal.coe_mul _ _).symm
  rw [ref_qc hP, ref_kc hP]
  exact (EReal.coe_mul _ _).symm

include hP in
/-- The part of a row that its own chunk gives. -/
theorem ref_inner (i : S1x4x16x128x256.Idx) : val_main_v48 (F := Ideal) x0 i = ((∑ b ∈ Finset.range 128,
    (∑ d ∈ Finset.range 256, cols P 3072 (i 1).val (128 * (i 2).val + (i 3).val) d * (cols P 4096 (i 1).val (128 * (i 2).val + b) d * (1 / 16)))
      * dcy (lam (i 1).val) (i 3).val b * cols P 5120 (i 1).val (128 * (i 2).val + b) (i 4).val : ℝ) : EReal) := by
  rw [val_main_v48_apply]
  refine sum_to _ (fun b => (∑ d ∈ Finset.range 256, cols P 3072 (i 1).val (128 * (i 2).val + (i 3).val) d * (cols P 4096 (i 1).val (128 * (i 2).val + b) d * (1 / 16)))
      * dcy (lam (i 1).val) (i 3).val b * cols P 5120 (i 1).val (128 * (i 2).val + b) (i 4).val) fun k => ?_
  rw [ref_scores hP, ref_vc hP]
  exact (EReal.coe_mul _ _).symm

include hP in
/-- The keys, by a sixteenth and the decay to the end of their chunk. -/
theorem ref_kz (i : S1x4x16x128x256.Idx) : val_main_v59 (F := Ideal) x0 i = ((cols P 4096 (i 1).val (128 * (i 2).val + (i 3).val) (i 4).val * (1 / 16)
    * Real.exp (lam (i 1).val * (127 - ((i 3).val : ℝ))) : ℝ) : EReal) := by
  rw [val_main_v59_apply, ref_kc hP, val_main_v58_apply, ref_zeta]
  exact (EReal.coe_mul _ _).symm

include hP in
/-- What a chunk adds to the state. -/
theorem ref_kv (i : S1x4x16x256x256.Idx) : val_main_v60 (F := Ideal) x0 i = ((∑ b ∈ Finset.range 128, cols P 4096 (i 1).val (128 * (i 2).val + b) (i 3).val * (1 / 16)
    * Real.exp (lam (i 1).val * (127 - (b : ℝ))) * cols P 5120 (i 1).val (128 * (i 2).val + b) (i 4).val : ℝ) : EReal) := by
  rw [val_main_v60_apply]
  refine sum_to _ (fun b => cols P 4096 (i 1).val (128 * (i 2).val + b) (i 3).val * (1 / 16)
    * Real.exp (lam (i 1).val * (127 - (b : ℝ))) * cols P 5120 (i 1).val (128 * (i 2).val + b) (i 4).val) fun k => ?_
  rw [ref_kz hP, ref_vc hP]
  exact (EReal.coe_mul _ _).symm

/-- `x` holds, head by head, the matrices `A`. -/
def Mats (x : S1x4x256x256.Idx → EReal) (A : ℕ → ℕ → ℕ → ℝ) : Prop := ∀ i, x i = ((A (i 1).val (i 2).val (i 3).val : ℝ) : EReal)

/-- The states before chunk `n`, head by head. -/
def stM (P : ℕ → ℕ → ℝ) (n h d e : ℕ) : ℝ := St (lam h) (cols P 4096 h) (cols P 5120 h) n d e

theorem mats_zero {x : S1x4x256x256.Idx → EReal} (hx : ∀ i, x i = Ideal.ofBits .f32 0x00000000#32) : Mats x (fun _ _ _ => 0) := fun i => (hx i).trans ofBits_0

/-- A piece of sixteen matrices a head, as matrices. -/
theorem mats_piece {sl : S1x1x4x256x256.Idx → EReal} {up : S1x4x256x256.Idx → EReal} {A : ℕ → ℕ → ℕ → ℝ} (hup : ∀ i, up i = sl (idx_main_v71 i))
    (hsl : ∀ i, sl i = ((A (i 2).val (i 3).val (i 4).val : ℝ) : EReal)) : Mats up A := fun i => by
  have b0 : (i 0).val < 1 := (i 0).isLt
  have b1 : (i 1).val < 4 := (i 1).isLt
  have b2 : (i 2).val < 256 := (i 2).isLt
  have b3 : (i 3).val < 256 := (i 3).isLt
  rw [hup, hsl]
  refine congrArg Real.toEReal ?_
  dsimp only [idx_main_v71]
  congr 1 <;> omega

/-- Matrices times the decay over a chunk. -/
theorem mats_decayed {old ga mu : S1x4x256x256.Idx → EReal} {A : ℕ → ℕ → ℕ → ℝ} (hold : Mats old A) (hmu : ∀ i, mu i = old i * ga i)
    (hga : ∀ i, ga i = val_main_v64 (F := Ideal) (idx_main_v72 i)) : Mats mu (fun h d e => A h d e * Real.exp (lam h * 128)) := fun i => by
  rw [hmu, hold, hga, ref_gamma]
  exact (EReal.coe_mul _ _).symm

include hP in
/-- The state after chunk `n` from the state before it. -/
theorem ref_step (n : ℕ) {old ga mu up new : S1x4x256x256.Idx → EReal} {sl : S1x1x4x256x256.Idx → EReal} (hold : Mats old (stM P n)) (hnew : ∀ i, new i = mu i + up i)
    (hmu : ∀ i, mu i = old i * ga i) (hga : ∀ i, ga i = val_main_v64 (F := Ideal) (idx_main_v72 i)) (hup : ∀ i, up i = sl (idx_main_v71 i))
    (hsl : ∀ i, ∃ j : S16x1x4x256x256.Idx, sl i = val_main_v68 (F := Ideal) x0 j ∧ (j 0).val = n + (i 0).val ∧ (j 2).val = (i 2).val ∧ (j 3).val = (i 3).val ∧ (j 4).val = (i 4).val) :
    Mats new (stM P (n + 1)) := fun i => by
  have e := mats_piece (A := fun h d e => ∑ b ∈ Finset.range 128, cols P 4096 h (128 * n + b) d * (1 / 16) * Real.exp (lam h * (127 - (b : ℝ))) * cols P 5120 h (128 * n + b) e)
    hup (fun i => by
      have b0 : (i 0).val < 1 := (i 0).isLt
      obtain ⟨j, e, j0, j2, j3, j4⟩ := hsl i
      rw [e, val_main_v68_apply, val_main_v66_apply, ref_kv hP]
      refine congrArg Real.toEReal ?_
      dsimp only [idx_main_v68, idx_main_v66]
      rw [j0, j2, j3, j4, (by omega : n + (i 0).val = n)])
  rw [hnew, mats_decayed hold hmu hga i, e i]
  exact (EReal.coe_add _ _).symm

include hP in
theorem ref_state0 : Mats (val_main_v65 (F := Ideal)) (stM P 0) := mats_zero val_main_v65_apply

include hP in
theorem ref_state1 : Mats (val_main_v74 (F := Ideal) x0) (stM P 1) :=
  ref_step hP 0 (ref_state0 hP) (val_main_v74_apply x0) (val_main_v73_apply) val_main_v72_apply (val_main_v71_apply x0)
    fun i => ⟨_, val_main_v70_apply x0 i, (Nat.zero_add _).symm, rfl, rfl, rfl⟩

include hP in
theorem ref_state2 : Mats (val_main_v79 (F := Ideal) x0) (stM P 2) :=
  ref_step hP 1 (ref_state1 hP) (val_main_v79_apply x0) (val_main_v78_apply x0) val_main_v77_apply (val_main_v76_apply x0)
    fun i => ⟨_, val_main_v75_apply x0 i, rfl, rfl, rfl, rfl⟩

include hP in
theorem ref_state3 : Mats (val_main_v84 (F := Ideal) x0) (stM P 3) :=
  ref_step hP 2 (ref_state2 hP) (val_main_v84_apply x0) (val_main_v83_apply x0) val_main_v82_apply (val_main_v81_apply x0)
    fun i => ⟨_, val_main_v80_apply x0 i, rfl, rfl, rfl, rfl⟩

include hP in
theorem ref_state4 : Mats (val_main_v89 (F := Ideal) x0) (stM P 4) :=
  ref_step hP 3 (ref_state3 hP) (val_main_v89_apply x0) (val_main_v88_apply x0) val_main_v87_apply (val_main_v86_apply x0)
    fun i => ⟨_, val_main_v85_apply x0 i, rfl, rfl, rfl, rfl⟩

include hP in
theorem ref_state5 : Mats (val_main_v94 (F := Ideal) x0) (stM P 5) :=
  ref_step hP 4 (ref_state4 hP) (val_main_v94_apply x0) (val_main_v93_apply x0) val_main_v92_apply (val_main_v91_apply x0)
    fun i => ⟨_, val_main_v90_apply x0 i, rfl, rfl, rfl, rfl⟩

include hP in
theorem ref_state6 : Mats (val_main_v99 (F := Ideal) x0) (stM P 6) :=
  ref_step hP 5 (ref_state5 hP) (val_main_v99_apply x0) (val_main_v98_apply x0) val_main_v97_apply (val_main_v96_apply x0)
    fun i => ⟨_, val_main_v95_apply x0 i, rfl, rfl, rfl, rfl⟩

include hP in
theorem ref_state7 : Mats (val_main_v104 (F := Ideal) x0) (stM P 7) :=
  ref_step hP 6 (ref_state6 hP) (val_main_v104_apply x0) (val_main_v103_apply x0) val_main_v102_apply (val_main_v101_apply x0)
    fun i => ⟨_, val_main_v100_apply x0 i, rfl, rfl, rfl, rfl⟩

include hP in
theorem ref_state8 : Mats (val_main_v109 (F := Ideal) x0) (stM P 8) :=
  ref_step hP 7 (ref_state7 hP) (val_main_v109_apply x0) (val_main_v108_apply x0) val_main_v107_apply (val_main_v106_apply x0)
    fun i => ⟨_, val_main_v105_apply x0 i, rfl, rfl, rfl, rfl⟩

include hP in
theorem ref_state9 : Mats (val_main_v114 (F := Ideal) x0) (stM P 9) :=
  ref_step hP 8 (ref_state8 hP) (val_main_v114_apply x0) (val_main_v113_apply x0) val_main_v112_apply (val_main_v111_apply x0)
    fun i => ⟨_, val_main_v110_apply x0 i, rfl, rfl, rfl, rfl⟩

include hP in
theorem ref_state10 : Mats (val_main_v119 (F := Ideal) x0) (stM P 10) :=
  ref_step hP 9 (ref_state9 hP) (val_main_v119_apply x0) (val_main_v118_apply x0) val_main_v117_apply (val_main_v116_apply x0)
    fun i => ⟨_, val_main_v115_apply x0 i, rfl, rfl, rfl, rfl⟩

include hP in
theorem ref_state11 : Mats (val_main_v124 (F := Ideal) x0) (stM P 11) :=
  ref_step hP 10 (ref_state10 hP) (val_main_v124_apply x0) (val_main_v123_apply x0) val_main_v122_apply (val_main_v121_apply x0)
    fun i => ⟨_, val_main_v120_apply x0 i, rfl, rfl, rfl, rfl⟩

include hP in
theorem ref_state12 : Mats (val_main_v129 (F := Ideal) x0) (stM P 12) :=
  ref_step hP 11 (ref_state11 hP) (val_main_v129_apply x0) (val_main_v128_apply x0) val_main_v127_apply (val_main_v126_apply x0)
    fun i => ⟨_, val_main_v125_apply x0 i, rfl, rfl, rfl, rfl⟩

include hP in
theorem ref_state13 : Mats (val_main_v134 (F := Ideal) x0) (stM P 13) :=
  ref_step hP 12 (ref_state12 hP) (val_main_v134_apply x0) (val_main_v133_apply x0) val_main_v132_apply (val_main_v131_apply x0)
    fun i => ⟨_, val_main_v130_apply x0 i, rfl, rfl, rfl, rfl⟩

include hP in
theorem ref_state14 : Mats (val_main_v139 (F := Ideal) x0) (stM P 14) :=
  ref_step hP 13 (ref_state13 hP) (val_main_v139_apply x0) (val_main_v138_apply x0) val_main_v137_apply (val_main_v136_apply x0)
    fun i => ⟨_, val_main_v135_apply x0 i, rfl, rfl, rfl, rfl⟩

include hP in
theorem ref_state15 : Mats (val_main_v144 (F := Ideal) x0) (stM P 15) :=
  ref_step hP 14 (ref_state14 hP) (val_main_v144_apply x0) (val_main_v143_apply x0) val_main_v142_apply (val_main_v141_apply x0)
    fun i => ⟨_, val_main_v140_apply x0 i, rfl, rfl, rfl, rfl⟩

/-- Matrices as one piece of a stack. -/
theorem mats_slab {x : S1x4x256x256.Idx → EReal} {A : ℕ → ℕ → ℕ → ℝ} (hx : Mats x A) {y : S1x1x4x256x256.Idx → EReal} (hy : ∀ i, y i = x (idx_main_v150 i)) (i : S1x1x4x256x256.Idx) :
    y i = ((A (i 2).val (i 3).val (i 4).val : ℝ) : EReal) := (hy i).trans (hx _)

include hP in
/-- The stack of the states before each chunk. -/
theorem ref_stack (i : S16x1x4x256x256.Idx) : val_main_v166 (F := Ideal) x0 i = ((stM P (i 0).val (i 2).val (i 3).val (i 4).val : ℝ) : EReal) := by
  unfold val_main_v166
  concat_tiles z h
  · rw [h, ← h2, ← h3, ← h4]; exact mats_slab (ref_state0 hP) val_main_v150_apply z
  · rw [h, ← h2, ← h3, ← h4]; exact mats_slab (ref_state1 hP) (val_main_v151_apply x0) z
  · rw [h, ← h2, ← h3, ← h4]; exact mats_slab (ref_state2 hP) (val_main_v152_apply x0) z
  · rw [h, ← h2, ← h3, ← h4]; exact mats_slab (ref_state3 hP) (val_main_v153_apply x0) z
  · rw [h, ← h2, ← h3, ← h4]; exact mats_slab (ref_state4 hP) (val_main_v154_apply x0) z
  · rw [h, ← h2, ← h3, ← h4]; exact mats_slab (ref_state5 hP) (val_main_v155_apply x0) z
  · rw [h, ← h2, ← h3, ← h4]; exact mats_slab (ref_state6 hP) (val_main_v156_apply x0) z
  · rw [h, ← h2, ← h3, ← h4]; exact mats_slab (ref_state7 hP) (val_main_v157_apply x0) z
  · rw [h, ← h2, ← h3, ← h4]; exact mats_slab (ref_state8 hP) (val_main_v158_apply x0) z
  · rw [h, ← h2, ← h3, ← h4]; exact mats_slab (ref_state9 hP) (val_main_v159_apply x0) z
  · rw [h, ← h2, ← h3, ← h4]; exact mats_slab (ref_state10 hP) (val_main_v160_apply x0) z
  · rw [h, ← h2, ← h3, ← h4]; exact mats_slab (ref_state11 hP) (val_main_v161_apply x0) z
  · rw [h, ← h2, ← h3, ← h4]; exact mats_slab (ref_state12 hP) (val_main_v162_apply x0) z
  · rw [h, ← h2, ← h3, ← h4]; exact mats_slab (ref_state13 hP) (val_main_v163_apply x0) z
  · rw [h, ← h2, ← h3, ← h4]; exact mats_slab (ref_state14 hP) (val_main_v164_apply x0) z
  · rw [h, ← h2, ← h3, ← h4]; exact mats_slab (ref_state15 hP) (val_main_v165_apply x0) z

include hP in
/-- The states before each chunk, head by head. -/
theorem ref_states (i : S1x4x16x256x256.Idx) : val_main_v168 (F := Ideal) x0 i = ((stM P (i 2).val (i 1).val (i 3).val (i 4).val : ℝ) : EReal) := by
  rw [val_main_v168_apply]
  unfold val_main_v167
  exact (concatenate_pair_apply_right (t := S16x1x4x256x256) (s₁ := S0x1x4x256x256) (s₂ := S16x1x4x256x256) 0 _ _ _ _ rfl rfl (idx_main_v168 i) (fun _ _ => rfl) (Nat.add_zero _)).trans (ref_stack hP _)

include hP in
/-- A row of the retention, chunk by chunk. -/
theorem ref_rows (i : S1x4x16x128x256.Idx) : val_main_v181 (F := Ideal) x0 i = ((rawM P (i 1).val (128 * (i 2).val + (i 3).val) (i 4).val : ℝ) : EReal) := by
  have b2 : (i 2).val < 16 := (i 2).isLt
  have b3 : (i 3).val < 128 := (i 3).isLt
  rw [val_main_v181_apply, ref_inner hP, val_main_v180_apply, val_main_v177_apply, val_main_v179_apply, ref_xi]
  unfold rawM
  rw [fsum_chunk _ _ _ _ _ _ _ b2 b3, EReal.coe_add]
  refine congrArg (_ + ·) ((congrArg (· * _) (sum_to _ (fun d => cols P 3072 (i 1).val (128 * (i 2).val + (i 3).val) d * stM P (i 2).val (i 1).val d (i 4).val) fun k => ?_)).trans
    (EReal.coe_mul _ _).symm)
  rw [ref_qc hP, ref_states hP]
  exact (EReal.coe_mul _ _).symm

/-- Chunks laid end to end. -/
theorem ref_unchunk {x : S1x4x16x128x256.Idx → EReal} {A : ℕ → ℕ → ℕ → ℝ} (hx : ∀ i, x i = ((A (i 1).val (128 * (i 2).val + (i 3).val) (i 4).val : ℝ) : EReal))
    {y : S1x4x2048x256.Idx → EReal} (hy : ∀ i, y i = x (idx_main_v182 i)) (i : S1x4x2048x256.Idx) : y i = ((A (i 1).val (i 2).val (i 3).val : ℝ) : EReal) := by
  have b0 : (i 0).val < 1 := (i 0).isLt
  have b1 : (i 1).val < 4 := (i 1).isLt
  have b2 : (i 2).val < 2048 := (i 2).isLt
  have b3 : (i 3).val < 256 := (i 3).isLt
  rw [hy, hx]
  refine congrArg Real.toEReal ?_
  dsimp only [idx_main_v182]
  congr 1 <;> omega

include hP in
/-- The retention's rows, head by head. -/
theorem ref_raw (i : S1x4x2048x256.Idx) : val_main_v182 (F := Ideal) x0 i = ((rawM P (i 1).val (i 2).val (i 3).val : ℝ) : EReal) :=
  ref_unchunk (A := rawM P) (ref_rows hP) (val_main_v182_apply x0) i

end Cert.RetV
-- ==== Proof.RetV.RefC.lean ====
/- The reference's gate and norm, forward and backward, as reals. -/
module

public import proofs.«01_k».proof.Proof.RetV.RefB

@[expose] public section

set_option maxRecDepth 16384

noncomputable section

namespace Cert.RetV

open Cert.ReferenceIdeal Cert.ReferenceIdeal.Read
open Idealize.ShloMosaic

/-- A sum over axes of extent one is its one term. -/
theorem sum_units (h : S1x4x2048x1.ReducesTo [0, 3] S4x2048) (x : S1x4x2048x1.Idx → EReal) (init : EReal) (j : S4x2048.Idx) (i : S1x4x2048x1.Idx) (h1 : (i 1).val = (j 0).val) (h2 : (i 2).val = (j 1).val) :
    Ideal.hostReduceAdd h x init j = init + x i := by
  refine congrArg (init + ·) (Finset.sum_eq_single_of_mem i ?_ fun i' hi' hne => absurd (funext fun a => Fin.ext ?_) hne)
  · refine Finset.mem_filter.2 ⟨Finset.mem_univ _, funext fun b => Fin.ext ?_⟩
    match b with
    | ⟨0, _⟩ => exact h1
    | ⟨1, _⟩ => exact h2
  · have e := (Finset.mem_filter.1 hi').2
    have e1 : (i' 1).val = (j 0).val := congrArg (fun z : S4x2048.Idx => (z 0).val) e
    have e2 : (i' 2).val = (j 1).val := congrArg (fun z : S4x2048.Idx => (z 1).val) e
    match a with
    | ⟨0, _⟩ =>
      have u : (i' 0).val < 1 := (i' 0).isLt
      have u' : (i 0).val < 1 := (i 0).isLt
      show (i' 0).val = (i 0).val
      omega
    | ⟨1, _⟩ => exact e1.trans h1.symm
    | ⟨2, _⟩ => exact e2.trans h2.symm
    | ⟨3, _⟩ =>
      have u : (i' 3).val < 1 := (i' 3).isLt
      have u' : (i 3).val < 1 := (i 3).isLt
      show (i' 3).val = (i 3).val
      omega

/-- Heads side by side in one row, from heads. -/
theorem ref_merge {x : S1x4x2048x256.Idx → EReal} {A : ℕ → ℕ → ℕ → ℝ} (hx : ∀ i, x i = ((A (i 1).val (i 2).val (i 3).val : ℝ) : EReal))
    {y : S1x2048x1024.Idx → EReal} (hy : ∀ i, y i = x (idx_main_v197 (idx_main_v198 i))) (i : S1x2048x1024.Idx) :
    y i = ((A ((i 2).val / 256) (i 1).val ((i 2).val % 256) : ℝ) : EReal) := by
  have b0 : (i 0).val < 1 := (i 0).isLt
  have b1 : (i 1).val < 2048 := (i 1).isLt
  have b2 : (i 2).val < 1024 := (i 2).isLt
  rw [hy, hx]
  refine congrArg Real.toEReal ?_
  dsimp only [idx_main_v197, idx_main_v198]
  congr 1 <;> omega

/-- Heads, from heads side by side in one row. -/
theorem ref_split {y : S1x2048x1024.Idx → EReal} {A : ℕ → ℕ → ℕ → ℝ} (hy : ∀ i, y i = ((A ((i 2).val / 256) (i 1).val ((i 2).val % 256) : ℝ) : EReal))
    {x : S1x4x2048x256.Idx → EReal} (hx : ∀ i, x i = y (idx_main_v205 (idx_main_v206 i))) (i : S1x4x2048x256.Idx) :
    x i = ((A (i 1).val (i 2).val (i 3).val : ℝ) : EReal) := by
  have b0 : (i 0).val < 1 := (i 0).isLt
  have b1 : (i 1).val < 4 := (i 1).isLt
  have b2 : (i 2).val < 2048 := (i 2).isLt
  have b3 : (i 3).val < 256 := (i 3).isLt
  rw [hx, hy]
  refine congrArg Real.toEReal ?_
  dsimp only [idx_main_v205, idx_main_v206]
  congr 1 <;> omega

variable {x0 : (⟨S2048x7168, .f32⟩ : BufTy).Contents (Elt Ideal)} {P : ℕ → ℕ → ℝ} (hP : Holds (s0 := 2048) (s1 := 7168) x0 P)

include hP in
/-- The mean square of a row, and the small constant. -/
theorem ref_ms (i : S1x4x2048x1.Idx) : val_main_v189 (F := Ideal) x0 i = ((ms (rawM P (i 1).val) (i 2).val : ℝ) : EReal) := by
  rw [val_main_v189_apply, val_main_v187_apply, val_main_v185_apply, val_main_v184_apply, val_main_v186_apply, val_main_v188_apply]
  refine Eq.trans ?_ (ms_real (rawM P (i 1).val) (i 2).val (fun k => val_main_v182 (F := Ideal) x0 (idx_main_v184 (idx_main_v185 i) k)) fun k => ref_raw hP _)
  refine congrArg (fun z => Ideal.div z (Ideal.ofBits .f32 0x43800000#32) + Ideal.ofBits .f32 0x358637BD#32) ?_
  refine (congrArg₂ (· + ·) Ideal.ofBits_zero_f32 rfl).trans (zero_add _)

include hP in
theorem ref_rinv (i : S1x4x2048x1.Idx) : val_main_v190 (F := Ideal) x0 i = ((rinv (rawM P (i 1).val) (i 2).val : ℝ) : EReal) := by
  rw [val_main_v190_apply, ref_ms hP]
  exact rsqrt_ms _ _

include hP in
/-- Minus half of the inverse root, by the mean square. -/
theorem ref_half (i : S1x4x2048x1.Idx) :
    val_main_v193 (F := Ideal) x0 i = ((-(1 / 2) * (rinv (rawM P (i 1).val) (i 2).val * (1 / ms (rawM P (i 1).val) (i 2).val)) : ℝ) : EReal) := by
  rw [val_main_v193_apply, val_main_v192_apply, val_main_v191_apply, ref_rinv hP, ref_ms hP]
  refine (congrArg₂ (· * ·) ofBits_neghalf (Ideal.div_coe (ms_pos _ _).ne' _)).trans ?_
  rw [← EReal.coe_mul, ← EReal.coe_mul]

include hP in
/-- The normed rows. -/
theorem ref_normed (i : S1x4x2048x256.Idx) : val_main_v195 (F := Ideal) x0 i = ((normM (rawM P (i 1).val) (i 2).val (i 3).val : ℝ) : EReal) := by
  rw [val_main_v195_apply, ref_raw hP, val_main_v194_apply, ref_rinv hP]
  exact (EReal.coe_mul _ _).symm

include hP in
theorem ref_normed_rows (i : S1x2048x1024.Idx) :
    val_main_v198 (F := Ideal) x0 i = ((normM (rawM P ((i 2).val / 256)) (i 1).val ((i 2).val % 256) : ℝ) : EReal) :=
  ref_merge (A := fun h => normM (rawM P h)) (ref_normed hP) (fun i => (val_main_v198_apply x0 i).trans (val_main_v197_apply x0 _)) i

include hP in
/-- The gate's rows. -/
theorem ref_gate (i : S1x2048x1024.Idx) : val_main_v7 (F := Ideal) x0 i = ((gateM P ((i 2).val / 256) (i 1).val ((i 2).val % 256) : ℝ) : EReal) := by
  rw [val_main_v7_apply, val_main_v6_apply]
  refine (hP _).trans (congrArg Real.toEReal ?_)
  unfold gateM cols
  dsimp only [idx_main_v7, idx_main_v6]
  congr 1
  omega

include hP in
/-- The logistic of the gate. -/
theorem ref_sig (i : S1x2048x1024.Idx) : val_main_v196_2 (F := Ideal) x0 i = ((sig (gateM P ((i 2).val / 256) (i 1).val ((i 2).val % 256)) : ℝ) : EReal) := by
  rw [val_main_v196_2_apply, val_main_call1_v4_apply, val_main_call1_v3_apply, val_main_call1_v2_apply, val_main_call1_v1_apply, val_main_call1_v0_apply, ref_gate hP]
  exact (congrArg₂ (fun a b : EReal => Ideal.div a (b + _)) Ideal.ofBits_one_f32 Ideal.ofBits_one_f32).trans (sig_of _)

include hP in
/-- The gate times its logistic. -/
theorem ref_silu (i : S1x2048x1024.Idx) : val_main_v196_0 (F := Ideal) x0 i
    = ((gateM P ((i 2).val / 256) (i 1).val ((i 2).val % 256) * sig (gateM P ((i 2).val / 256) (i 1).val ((i 2).val % 256)) : ℝ) : EReal) := by
  rw [val_main_v196_0_apply, ref_gate hP, ref_sig hP]
  exact (EReal.coe_mul _ _).symm

include hP in
/-- The logistic's derivative. -/
theorem ref_dsig (i : S1x2048x1024.Idx) : val_main_v196_1 (F := Ideal) x0 i
    = ((sig (gateM P ((i 2).val / 256) (i 1).val ((i 2).val % 256)) * (1 - sig (gateM P ((i 2).val / 256) (i 1).val ((i 2).val % 256))) : ℝ) : EReal) := by
  rw [val_main_v196_1_apply, val_main_call1_v7_apply, val_main_call1_v6_apply, ref_sig hP]
  refine (congrArg (fun a : EReal => _ * (a - _)) ofBits_1).trans ?_
  rw [← EReal.coe_sub, ← EReal.coe_mul]

include hP in
/-- The gated and normed rows. -/
theorem ref_out (i : S1x2048x1024.Idx) : val_main_v199 (F := Ideal) x0 i = ((mixM P ((i 2).val / 256) (i 1).val ((i 2).val % 256) : ℝ) : EReal) := by
  rw [val_main_v199_apply, ref_silu hP, ref_normed_rows hP]
  exact (EReal.coe_mul _ _).symm

variable {x1 : (⟨S2048x2048, .f32⟩ : BufTy).Contents (Elt Ideal)} {U : ℕ → ℕ → ℝ} (hU : Holds (s0 := 2048) (s1 := 2048) x1 U)

include hU in
/-- The cotangent of the gated and normed rows. -/
theorem ref_dout (i : S1x2048x1024.Idx) : val_main_v201 (F := Ideal) x1 i = ((cols U 1024 ((i 2).val / 256) (i 1).val ((i 2).val % 256) : ℝ) : EReal) := by
  rw [val_main_v201_apply, val_main_v200_apply]
  refine (hU _).trans (congrArg Real.toEReal ?_)
  unfold cols
  dsimp only [idx_main_v201, idx_main_v200]
  congr 1
  omega

include hP hU in
/-- The cotangent of the normed rows. -/
theorem ref_dn (i : S1x4x2048x256.Idx) : val_main_v206 (F := Ideal) x0 x1 i = ((dnM (gateM P (i 1).val) (cols U 1024 (i 1).val) (i 2).val (i 3).val : ℝ) : EReal) := by
  refine ref_split (A := fun h => dnM (gateM P h) (cols U 1024 h)) (y := val_main_v203 (F := Ideal) x0 x1) (fun j => ?_)
    (fun i => (val_main_v206_apply x0 x1 i).trans (val_main_v205_apply x0 x1 _)) i
  rw [val_main_v203_apply, ref_silu hP, ref_dout hU]
  refine (EReal.coe_mul _ _).symm.trans (congrArg Real.toEReal ?_)
  unfold dnM
  ring

include hP hU in
/-- The cotangent of the gate. -/
theorem ref_dgate (i : S1x2048x1024.Idx) : val_main_v207 (F := Ideal) x0 x1 i
    = ((dgateM (rawM P ((i 2).val / 256)) (gateM P ((i 2).val / 256)) (cols U 1024 ((i 2).val / 256)) (i 1).val ((i 2).val % 256) : ℝ) : EReal) := by
  rw [val_main_v207_apply, val_main_call2_v1_apply, val_main_call2_v2_apply, val_main_call2_v0_apply, val_main_v204_apply, ref_dout hU, ref_normed_rows hP, ref_sig hP,
    ref_gate hP, ref_dsig hP]
  have key (y n g r : ℝ) : (y : EReal) * n * r + g * (y * n) * ((r * (1 - r) : ℝ) : EReal) = ((y * n * r * (1 + g * (1 - r)) : ℝ) : EReal) := by
    simp only [← EReal.coe_mul, ← EReal.coe_add]
    exact congrArg Real.toEReal (by ring)
  exact key _ _ _ _

include hP hU in
/-- The rows' products with their cotangents, summed. -/
theorem ref_dot (i : S1x4x2048.Idx) : val_main_v209 (F := Ideal) x0 x1 i
    = ((∑ e ∈ Finset.range 256, rawM P (i 1).val (i 2).val e * dnM (gateM P (i 1).val) (cols U 1024 (i 1).val) (i 2).val e : ℝ) : EReal) := by
  rw [val_main_v209_apply]
  refine (congrArg₂ (· + ·) Ideal.ofBits_zero_f32 (sum_to _ (fun e => rawM P (i 1).val (i 2).val e * dnM (gateM P (i 1).val) (cols U 1024 (i 1).val) (i 2).val e) fun k => ?_)).trans (zero_add _)
  rw [val_main_v208_apply, ref_raw hP, ref_dn hP hU]
  exact (EReal.coe_mul _ _).symm

/-- What the norm's derivative takes from each row, by that row. -/
def pullM (X G Y : ℕ → ℕ → ℝ) (s : ℕ) : ℝ := (∑ e ∈ Finset.range 256, X s e * dnM G Y s e) * (-(1 / 2) * (rinv X s * (1 / ms X s))) * (1 / 256)

include hP hU in
theorem ref_pull (i : S1x4x2048x256.Idx) : val_main_v218 (F := Ideal) x0 x1 i
    = ((pullM (rawM P (i 1).val) (gateM P (i 1).val) (cols U 1024 (i 1).val) (i 2).val : ℝ) : EReal) := by
  have b1 : (i 1).val < 4 := (i 1).isLt
  have b2 : (i 2).val < 2048 := (i 2).isLt
  have e215 (j : S1x4x2048x1.Idx) : val_main_v215 (F := Ideal) x0 x1 j = ((pullM (rawM P (j 1).val) (gateM P (j 1).val) (cols U 1024 (j 1).val) (j 2).val : ℝ) : EReal) := by
    have c0 : (j 0).val < 1 := (j 0).isLt
    have c1 : (j 1).val < 4 := (j 1).isLt
    have c2 : (j 2).val < 2048 := (j 2).isLt
    have c3 : (j 3).val < 1 := (j 3).isLt
    rw [val_main_v215_apply, val_main_v213_apply, val_main_v214_apply, val_main_v210_apply, ref_half hP, ref_dot hP hU]
    have k1 : (idx_main_v210 j 1).val = (j 1).val := by dsimp only [idx_main_v210]; omega
    have k2 : (idx_main_v210 j 2).val = (j 2).val := by dsimp only [idx_main_v210]; omega
    rw [k1, k2]
    refine (congrArg₂ Ideal.div (EReal.coe_mul _ _).symm ofBits_256).trans ?_
    rw [Ideal.div_coe (by norm_num), ← EReal.coe_mul]
    rfl
  rw [val_main_v218_apply, val_main_v217_apply]
  unfold val_main_v216
  refine (sum_units _ _ _ _ (fun a => match a with
    | ⟨0, _⟩ => ⟨0, Nat.one_pos⟩
    | ⟨1, _⟩ => ⟨(i 1).val, b1⟩
    | ⟨2, _⟩ => ⟨(i 2).val, b2⟩
    | ⟨3, _⟩ => ⟨0, Nat.one_pos⟩) rfl rfl).trans ?_
  refine (congrArg₂ (· + ·) Ideal.ofBits_zero_f32 (e215 _)).trans (zero_add _)

theorem rinv_sq (X : ℕ → ℕ → ℝ) (s : ℕ) : rinv X s * rinv X s = 1 / ms X s := by
  unfold rinv
  rw [← mul_inv, Real.mul_self_sqrt (ms_pos X s).le, one_div]

/-- The norm's derivative, as the kernel takes it. -/
theorem pull_dret (X G Y : ℕ → ℕ → ℝ) (s e : ℕ) : dnM G Y s e * rinv X s + X s e * pullM X G Y s + pullM X G Y s * X s e = dretM X G Y s e := by
  unfold pullM dretM normM
  rw [← rinv_sq X s]
  have h : ∑ d ∈ Finset.range 256, dnM G Y s d * (X s d * rinv X s) = (∑ d ∈ Finset.range 256, X s d * dnM G Y s d) * rinv X s := by
    rw [Finset.sum_mul]
    exact Finset.sum_congr rfl fun d _ => by ring
  rw [h]
  ring

include hP hU in
/-- The cotangent of the retention's rows. -/
theorem ref_dret (i : S1x4x2048x256.Idx) : val_main_v222 (F := Ideal) x0 x1 i
    = ((dretM (rawM P (i 1).val) (gateM P (i 1).val) (cols U 1024 (i 1).val) (i 2).val (i 3).val : ℝ) : EReal) := by
  rw [val_main_v222_apply, val_main_v220_apply, val_main_v212_apply, val_main_v219_apply, val_main_v221_apply, ref_dn hP hU, val_main_v211_apply, ref_rinv hP, ref_raw hP,
    ref_pull hP hU, ← pull_dret, EReal.coe_add, EReal.coe_add, EReal.coe_mul, EReal.coe_mul, EReal.coe_mul]
  rfl

end Cert.RetV
-- ==== Proof.RetV.RefD.lean ====
/- The reference's backward pass, as reals: the states after each chunk, and the cotangents of the queries, the keys and the values. -/
module

public import proofs.«01_k».proof.Proof.RetV.RefC

@[expose] public section

set_option maxRecDepth 16384

noncomputable section

namespace Cert.RetV

open Cert.ReferenceIdeal Cert.ReferenceIdeal.Read
open Idealize.ShloMosaic

/-- The cotangent of the retention's rows, head by head. -/
def dretH (P U : ℕ → ℕ → ℝ) (h : ℕ) : ℕ → ℕ → ℝ := dretM (rawM P h) (gateM P h) (cols U 1024 h)

/-- The states of the backward pass after its first `m` chunks, head by head. -/
def ttM (P U : ℕ → ℕ → ℝ) (m h d e : ℕ) : ℝ := Tt (lam h) (dretH P U h) (cols P 3072 h) m d e

variable {x0 : (⟨S2048x7168, .f32⟩ : BufTy).Contents (Elt Ideal)} {P : ℕ → ℕ → ℝ} (hP : Holds (s0 := 2048) (s1 := 7168) x0 P)
variable {x1 : (⟨S2048x2048, .f32⟩ : BufTy).Contents (Elt Ideal)} {U : ℕ → ℕ → ℝ} (hU : Holds (s0 := 2048) (s1 := 2048) x1 U)

include hP hU in
theorem ref_dc (i : S1x4x16x128x256.Idx) : val_main_v223 (F := Ideal) x0 x1 i = ((dretH P U (i 1).val (128 * (i 2).val + (i 3).val) (i 4).val : ℝ) : EReal) :=
  ref_chunks (A := dretH P U) (ref_dret hP hU) (val_main_v223_apply x0 x1) i

include hP hU in
/-- The cotangents, by the decay from the end of the chunk before. -/
theorem ref_dx (i : S1x4x16x128x256.Idx) : val_main_v225 (F := Ideal) x0 x1 i
    = ((dretH P U (i 1).val (128 * (i 2).val + (i 3).val) (i 4).val * Real.exp (lam (i 1).val * (((i 3).val : ℝ) + 1)) : ℝ) : EReal) := by
  rw [val_main_v225_apply, ref_dc hP hU, val_main_v224_apply, ref_xi]
  exact (EReal.coe_mul _ _).symm

include hP hU in
/-- What a chunk adds to the backward state. -/
theorem ref_dq_kv (i : S1x4x16x256x256.Idx) : val_main_v227 (F := Ideal) x0 x1 i = ((∑ a ∈ Finset.range 128, dretH P U (i 1).val (128 * (i 2).val + a) (i 4).val
    * Real.exp (lam (i 1).val * ((a : ℝ) + 1)) * cols P 3072 (i 1).val (128 * (i 2).val + a) (i 3).val : ℝ) : EReal) := by
  rw [val_main_v227_apply, val_main_v226_apply]
  refine sum_to _ (fun a => dretH P U (i 1).val (128 * (i 2).val + a) (i 4).val
    * Real.exp (lam (i 1).val * ((a : ℝ) + 1)) * cols P 3072 (i 1).val (128 * (i 2).val + a) (i 3).val) fun k => ?_
  rw [ref_dx hP hU, ref_qc hP]
  exact (EReal.coe_mul _ _).symm

include hP hU in
/-- The backward state after one more chunk. -/
theorem ref_back (m : ℕ) (hm : m < 15) {old ga mu up new : S1x4x256x256.Idx → EReal} {sl : S1x1x4x256x256.Idx → EReal} (hold : Mats old (ttM P U m))
    (hnew : ∀ i, new i = up i + mu i) (hmu : ∀ i, mu i = old i * ga i) (hga : ∀ i, ga i = val_main_v64 (F := Ideal) (idx_main_v72 i)) (hup : ∀ i, up i = sl (idx_main_v71 i))
    (hsl : ∀ i, ∃ j : S16x1x4x256x256.Idx, sl i = val_main_v231 (F := Ideal) x0 x1 j ∧ (j 0).val = (15 - m) + (i 0).val ∧ (j 2).val = (i 2).val ∧ (j 3).val = (i 3).val
      ∧ (j 4).val = (i 4).val) : Mats new (ttM P U (m + 1)) := fun i => by
  have e := mats_piece (A := fun h d e => ∑ a ∈ Finset.range 128, dretH P U h (128 * (15 - m) + a) e * Real.exp (lam h * ((a : ℝ) + 1)) * cols P 3072 h (128 * (15 - m) + a) d)
    hup (fun i => by
      have b0 : (i 0).val < 1 := (i 0).isLt
      obtain ⟨j, e, j0, j2, j3, j4⟩ := hsl i
      rw [e, val_main_v231_apply, val_main_v229_apply, ref_dq_kv hP hU]
      refine congrArg Real.toEReal ?_
      dsimp only [idx_main_v231, idx_main_v229]
      rw [j0, j2, j3, j4, (by omega : (15 - m) + (i 0).val = 15 - m)])
  rw [hnew, mats_decayed hold hmu hga i, e i]
  exact (EReal.coe_add _ _).symm

theorem ref_back0 : Mats (val_main_v230 (F := Ideal)) (ttM P U 0) := mats_zero val_main_v230_apply

include hP hU in
theorem ref_back1 : Mats (val_main_v238 (F := Ideal) x0 x1) (ttM P U 1) :=
  ref_back hP hU 0 (by decide) ref_back0 (val_main_v238_apply x0 x1) (val_main_v237_apply) val_main_v236_apply (val_main_v235_apply x0 x1)
    fun i => ⟨_, val_main_v234_apply x0 x1 i, rfl, rfl, rfl, rfl⟩

include hP hU in
theorem ref_back2 : Mats (val_main_v243 (F := Ideal) x0 x1) (ttM P U 2) :=
  ref_back hP hU 1 (by decide) (ref_back1 hP hU) (val_main_v243_apply x0 x1) (val_main_v242_apply x0 x1) val_main_v241_apply (val_main_v240_apply x0 x1)
    fun i => ⟨_, val_main_v239_apply x0 x1 i, rfl, rfl, rfl, rfl⟩

include hP hU in
theorem ref_back3 : Mats (val_main_v248 (F := Ideal) x0 x1) (ttM P U 3) :=
  ref_back hP hU 2 (by decide) (ref_back2 hP hU) (val_main_v248_apply x0 x1) (val_main_v247_apply x0 x1) val_main_v246_apply (val_main_v245_apply x0 x1)
    fun i => ⟨_, val_main_v244_apply x0 x1 i, rfl, rfl, rfl, rfl⟩

include hP hU in
theorem ref_back4 : Mats (val_main_v253 (F := Ideal) x0 x1) (ttM P U 4) :=
  ref_back hP hU 3 (by decide) (ref_back3 hP hU) (val_main_v253_apply x0 x1) (val_main_v252_apply x0 x1) val_main_v251_apply (val_main_v250_apply x0 x1)
    fun i => ⟨_, val_main_v249_apply x0 x1 i, rfl, rfl, rfl, rfl⟩

include hP hU in
theorem ref_back5 : Mats (val_main_v258 (F := Ideal) x0 x1) (ttM P U 5) :=
  ref_back hP hU 4 (by decide) (ref_back4 hP hU) (val_main_v258_apply x0 x1) (val_main_v257_apply x0 x1) val_main_v256_apply (val_main_v255_apply x0 x1)
    fun i => ⟨_, val_main_v254_apply x0 x1 i, rfl, rfl, rfl, rfl⟩

include hP hU in
theorem ref_back6 : Mats (val_main_v263 (F := Ideal) x0 x1) (ttM P U 6) :=
  ref_back hP hU 5 (by decide) (ref_back5 hP hU) (val_main_v263_apply x0 x1) (val_main_v262_apply x0 x1) val_main_v261_apply (val_main_v260_apply x0 x1)
    fun i => ⟨_, val_main_v259_apply x0 x1 i, rfl, rfl, rfl, rfl⟩

include hP hU in
theorem ref_back7 : Mats (val_main_v268 (F := Ideal) x0 x1) (ttM P U 7) :=
  ref_back hP hU 6 (by decide) (ref_back6 hP hU) (val_main_v268_apply x0 x1) (val_main_v267_apply x0 x1) val_main_v266_apply (val_main_v265_apply x0 x1)
    fun i => ⟨_, val_main_v264_apply x0 x1 i, rfl, rfl, rfl, rfl⟩

include hP hU in
theorem ref_back8 : Mats (val_main_v273 (F := Ideal) x0 x1) (ttM P U 8) :=
  ref_back hP hU 7 (by decide) (ref_back7 hP hU) (val_main_v273_apply x0 x1) (val_main_v272_apply x0 x1) val_main_v271_apply (val_main_v270_apply x0 x1)
    fun i => ⟨_, val_main_v269_apply x0 x1 i, rfl, rfl, rfl, rfl⟩

include hP hU in
theorem ref_back9 : Mats (val_main_v278 (F := Ideal) x0 x1) (ttM P U 9) :=
  ref_back hP hU 8 (by decide) (ref_back8 hP hU) (val_main_v278_apply x0 x1) (val_main_v277_apply x0 x1) val_main_v276_apply (val_main_v275_apply x0 x1)
    fun i => ⟨_, val_main_v274_apply x0 x1 i, rfl, rfl, rfl, rfl⟩

include hP hU in
theorem ref_back10 : Mats (val_main_v283 (F := Ideal) x0 x1) (ttM P U 10) :=
  ref_back hP hU 9 (by decide) (ref_back9 hP hU) (val_main_v283_apply x0 x1) (val_main_v282_apply x0 x1) val_main_v281_apply (val_main_v280_apply x0 x1)
    fun i => ⟨_, val_main_v279_apply x0 x1 i, rfl, rfl, rfl, rfl⟩

include hP hU in
theorem ref_back11 : Mats (val_main_v288 (F := Ideal) x0 x1) (ttM P U 11) :=
  ref_back hP hU 10 (by decide) (ref_back10 hP hU) (val_main_v288_apply x0 x1) (val_main_v287_apply x0 x1) val_main_v286_apply (val_main_v285_apply x0 x1)
    fun i => ⟨_, val_main_v284_apply x0 x1 i, rfl, rfl, rfl, rfl⟩

include hP hU in
theorem ref_back12 : Mats (val_main_v293 (F := Ideal) x0 x1) (ttM P U 12) :=
  ref_back hP hU 11 (by decide) (ref_back11 hP hU) (val_main_v293_apply x0 x1) (val_main_v292_apply x0 x1) val_main_v291_apply (val_main_v290_apply x0 x1)
    fun i => ⟨_, val_main_v289_apply x0 x1 i, rfl, rfl, rfl, rfl⟩

include hP hU in
theorem ref_back13 : Mats (val_main_v298 (F := Ideal) x0 x1) (ttM P U 13) :=
  ref_back hP hU 12 (by decide) (ref_back12 hP hU) (val_main_v298_apply x0 x1) (val_main_v297_apply x0 x1) val_main_v296_apply (val_main_v295_apply x0 x1)
    fun i => ⟨_, val_main_v294_apply x0 x1 i, rfl, rfl, rfl, rfl⟩

include hP hU in
theorem ref_back14 : Mats (val_main_v303 (F := Ideal) x0 x1) (ttM P U 14) :=
  ref_back hP hU 13 (by decide) (ref_back13 hP hU) (val_main_v303_apply x0 x1) (val_main_v302_apply x0 x1) val_main_v301_apply (val_main_v300_apply x0 x1)
    fun i => ⟨_, val_main_v299_apply x0 x1 i, rfl, rfl, rfl, rfl⟩

include hP hU in
theorem ref_back15 : Mats (val_main_v308 (F := Ideal) x0 x1) (ttM P U 15) :=
  ref_back hP hU 14 (by decide) (ref_back14 hP hU) (val_main_v308_apply x0 x1) (val_main_v307_apply x0 x1) val_main_v306_apply (val_main_v305_apply x0 x1)
    fun i => ⟨_, val_main_v304_apply x0 x1 i, rfl, rfl, rfl, rfl⟩

include hP hU in
/-- The stack of the backward states after each chunk. -/
theorem ref_back_stack (i : S16x1x4x256x256.Idx) : val_main_v330 (F := Ideal) x0 x1 i = ((ttM P U (15 - (i 0).val) (i 2).val (i 3).val (i 4).val : ℝ) : EReal) := by
  unfold val_main_v330
  concat_tiles z h
  · rw [h, ← h2, ← h3, ← h4]; exact mats_slab (ref_back15 hP hU) (val_main_v314_apply x0 x1) z
  · rw [h, ← h2, ← h3, ← h4]; exact mats_slab (ref_back14 hP hU) (val_main_v315_apply x0 x1) z
  · rw [h, ← h2, ← h3, ← h4]; exact mats_slab (ref_back13 hP hU) (val_main_v316_apply x0 x1) z
  · rw [h, ← h2, ← h3, ← h4]; exact mats_slab (ref_back12 hP hU) (val_main_v317_apply x0 x1) z
  · rw [h, ← h2, ← h3, ← h4]; exact mats_slab (ref_back11 hP hU) (val_main_v318_apply x0 x1) z
  · rw [h, ← h2, ← h3, ← h4]; exact mats_slab (ref_back10 hP hU) (val_main_v319_apply x0 x1) z
  · rw [h, ← h2, ← h3, ← h4]; exact mats_slab (ref_back9 hP hU) (val_main_v320_apply x0 x1) z
  · rw [h, ← h2, ← h3, ← h4]; exact mats_slab (ref_back8 hP hU) (val_main_v321_apply x0 x1) z
  · rw [h, ← h2, ← h3, ← h4]; exact mats_slab (ref_back7 hP hU) (val_main_v322_apply x0 x1) z
  · rw [h, ← h2, ← h3, ← h4]; exact mats_slab (ref_back6 hP hU) (val_main_v323_apply x0 x1) z
  · rw [h, ← h2, ← h3, ← h4]; exact mats_slab (ref_back5 hP hU) (val_main_v324_apply x0 x1) z
  · rw [h, ← h2, ← h3, ← h4]; exact mats_slab (ref_back4 hP hU) (val_main_v325_apply x0 x1) z
  · rw [h, ← h2, ← h3, ← h4]; exact mats_slab (ref_back3 hP hU) (val_main_v326_apply x0 x1) z
  · rw [h, ← h2, ← h3, ← h4]; exact mats_slab (ref_back2 hP hU) (val_main_v327_apply x0 x1) z
  · rw [h, ← h2, ← h3, ← h4]; exact mats_slab (ref_back1 hP hU) (val_main_v328_apply x0 x1) z
  · rw [h, ← h2, ← h3, ← h4]; exact mats_slab ref_back0 val_main_v329_apply z

include hP hU in
/-- The backward states after each chunk, head by head. -/
theorem ref_backs (i : S1x4x16x256x256.Idx) : val_main_v332 (F := Ideal) x0 x1 i = ((ttM P U (15 - (i 2).val) (i 1).val (i 3).val (i 4).val : ℝ) : EReal) := by
  rw [val_main_v332_apply]
  unfold val_main_v331
  exact (concatenate_pair_apply_left (t := S16x1x4x256x256) (s₁ := S16x1x4x256x256) (s₂ := S0x1x4x256x256) 0 _ _ _ _ rfl (idx_main_v332 i) (fun _ => rfl)).trans
    (ref_back_stack hP hU _)

include hP hU in
/-- The values' cotangent, chunk by chunk. -/
theorem ref_dv (i : S1x4x16x128x256.Idx) : val_main_v341 (F := Ideal) x0 x1 i
    = ((bsum (lam (i 1).val) (cols P 3072 (i 1).val) (cols P 4096 (i 1).val) (dretH P U (i 1).val) (128 * (i 2).val + (i 3).val) (i 4).val : ℝ) : EReal) := by
  have b2 : (i 2).val < 16 := (i 2).isLt
  have b3 : (i 3).val < 128 := (i 3).isLt
  rw [bsum_chunk _ _ _ _ _ _ _ b2 b3, EReal.coe_add, val_main_v341_apply, val_main_v334_apply, val_main_v333_apply, val_main_v340_apply, val_main_v339_apply]
  refine congrArg₂ (· + ·) (sum_to _ (fun d => ttM P U (15 - (i 2).val) (i 1).val d (i 4).val
      * (cols P 4096 (i 1).val (128 * (i 2).val + (i 3).val) d * (1 / 16) * Real.exp (lam (i 1).val * (127 - ((i 3).val : ℝ))))) fun k => ?_)
    (sum_to _ (fun a => dretH P U (i 1).val (128 * (i 2).val + a) (i 4).val * ((∑ d ∈ Finset.range 256, cols P 3072 (i 1).val (128 * (i 2).val + a) d
      * (cols P 4096 (i 1).val (128 * (i 2).val + (i 3).val) d * (1 / 16))) * dcy (lam (i 1).val) a (i 3).val)) fun k => ?_)
  · rw [ref_backs hP hU, ref_kz hP]
    exact (EReal.coe_mul _ _).symm
  · rw [ref_dc hP hU, ref_scores hP]
    exact (EReal.coe_mul _ _).symm

include hP hU in
/-- The decayed products of the cotangents with the values within a chunk. -/
theorem ref_dscores (i : S1x4x16x128x128.Idx) : val_main_v344 (F := Ideal) x0 x1 i = (((∑ e ∈ Finset.range 256, dretH P U (i 1).val (128 * (i 2).val + (i 3).val) e
    * cols P 5120 (i 1).val (128 * (i 2).val + (i 4).val) e) * dcy (lam (i 1).val) (i 3).val (i 4).val : ℝ) : EReal) := by
  rw [val_main_v344_apply, val_main_v342_apply, val_main_v343_apply, val_main_v45_apply, ref_decay]
  refine (congrArg (· * _) (sum_to _ (fun e => dretH P U (i 1).val (128 * (i 2).val + (i 3).val) e
    * cols P 5120 (i 1).val (128 * (i 2).val + (i 4).val) e) fun k => ?_)).trans (EReal.coe_mul _ _).symm
  rw [ref_dc hP hU, ref_vc hP]
  exact (EReal.coe_mul _ _).symm

/-- The keys' cotangent before its last factor, a sixteenth. -/
def dkM (P U : ℕ → ℕ → ℝ) (h n b d : ℕ) : ℝ :=
  (∑ e ∈ Finset.range 256, ttM P U (15 - n) h d e * cols P 5120 h (128 * n + b) e) * Real.exp (lam h * (127 - (b : ℝ)))
    + ∑ a ∈ Finset.range 128, (∑ e ∈ Finset.range 256, dretH P U h (128 * n + a) e * cols P 5120 h (128 * n + b) e) * dcy (lam h) a b * cols P 3072 h (128 * n + a) d

include hP hU in
theorem ref_dk_chunk (i : S1x4x16x128x256.Idx) : val_main_v346 (F := Ideal) x0 x1 i = ((dkM P U (i 1).val (i 2).val (i 3).val (i 4).val : ℝ) : EReal) := by
  unfold dkM
  rw [EReal.coe_add, EReal.coe_mul, val_main_v346_apply, val_main_v338_apply, val_main_v336_apply, val_main_v335_apply, val_main_v337_apply, ref_zeta, val_main_v345_apply]
  refine congrArg₂ (· + ·) (congrArg (· * _) (sum_to _ (fun e => ttM P U (15 - (i 2).val) (i 1).val (i 4).val e
      * cols P 5120 (i 1).val (128 * (i 2).val + (i 3).val) e) fun k => ?_))
    (sum_to _ (fun a => (∑ e ∈ Finset.range 256, dretH P U (i 1).val (128 * (i 2).val + a) e * cols P 5120 (i 1).val (128 * (i 2).val + (i 3).val) e)
      * dcy (lam (i 1).val) a (i 3).val * cols P 3072 (i 1).val (128 * (i 2).val + a) (i 4).val) fun k => ?_)
  · rw [ref_backs hP hU, ref_vc hP]
    exact (EReal.coe_mul _ _).symm
  · rw [ref_dscores hP hU, ref_qc hP]
    exact (EReal.coe_mul _ _).symm

include hP hU in
/-- The queries' cotangent, chunk by chunk. -/
theorem ref_dq (i : S1x4x16x128x256.Idx) : val_main_v348 (F := Ideal) x0 x1 i
    = ((fsum (lam (i 1).val) (dretH P U (i 1).val) (cols P 5120 (i 1).val) (cols P 4096 (i 1).val) (128 * (i 2).val + (i 3).val) (i 4).val : ℝ) : EReal) := by
  have b2 : (i 2).val < 16 := (i 2).isLt
  have b3 : (i 3).val < 128 := (i 3).isLt
  rw [fsum_chunk' _ _ _ _ _ _ _ b2 b3, EReal.coe_add, val_main_v348_apply, val_main_v228_apply, val_main_v347_apply]
  refine congrArg₂ (· + ·) (sum_to _ (fun e => dretH P U (i 1).val (128 * (i 2).val + (i 3).val) e * Real.exp (lam (i 1).val * (((i 3).val : ℝ) + 1))
      * stM P (i 2).val (i 1).val (i 4).val e) fun k => ?_)
    (sum_to _ (fun b => (∑ e ∈ Finset.range 256, dretH P U (i 1).val (128 * (i 2).val + (i 3).val) e * cols P 5120 (i 1).val (128 * (i 2).val + b) e)
      * dcy (lam (i 1).val) (i 3).val b * (cols P 4096 (i 1).val (128 * (i 2).val + b) (i 4).val * (1 / 16))) fun k => ?_)
  · rw [ref_dx hP hU, ref_states hP]
    exact (EReal.coe_mul _ _).symm
  · rw [ref_dscores hP hU, ref_kc hP]
    exact (EReal.coe_mul _ _).symm

include hP hU in
/-- The queries' cotangent, heads side by side. -/
theorem ref_dq_rows (i : S1x2048x1024.Idx) : val_main_v359 (F := Ideal) x0 x1 i = ((gradsM P U ((i 2).val / 256) 0 (i 1).val ((i 2).val % 256) : ℝ) : EReal) :=
  ref_merge (A := fun h => fsum (lam h) (dretH P U h) (cols P 5120 h) (cols P 4096 h))
    (ref_unchunk (A := fun h => fsum (lam h) (dretH P U h) (cols P 5120 h) (cols P 4096 h)) (ref_dq hP hU) (val_main_v351_apply x0 x1))
    (fun i => (val_main_v359_apply x0 x1 i).trans (val_main_v358_apply x0 x1 _)) i

include hP hU in
/-- The keys' cotangent, heads side by side. -/
theorem ref_dk_rows (i : S1x2048x1024.Idx) : val_main_v357 (F := Ideal) x0 x1 i = ((gradsM P U ((i 2).val / 256) 1 (i 1).val ((i 2).val % 256) : ℝ) : EReal) := by
  refine ref_merge (A := fun h => bsum (lam h) (dretH P U h) (cols P 5120 h) (cols P 3072 h)) (x := val_main_v353 (F := Ideal) x0 x1) (fun j => ?_)
    (fun i => (val_main_v357_apply x0 x1 i).trans (val_main_v356_apply x0 x1 _)) i
  have b2 : (j 2).val < 2048 := (j 2).isLt
  have e := ref_unchunk (A := fun h s d => dkM P U h (s / 128) (s % 128) d) (x := val_main_v346 (F := Ideal) x0 x1) (fun z => by
    have c2 : (z 2).val < 16 := (z 2).isLt
    have c3 : (z 3).val < 128 := (z 3).isLt
    rw [ref_dk_chunk hP hU]
    refine congrArg Real.toEReal ?_
    dsimp only
    congr 1 <;> omega) (val_main_v350_apply x0 x1) j
  rw [val_main_v353_apply, e, val_main_v352_apply]
  refine (congrArg (_ * ·) sixteenth).trans ((EReal.coe_mul _ _).symm.trans (congrArg Real.toEReal ?_))
  dsimp only
  conv_rhs => rw [(by omega : (j 2).val = 128 * ((j 2).val / 128) + (j 2).val % 128)]
  exact (bsum_chunk' _ _ _ _ _ _ _ (by omega) (by omega)).symm

include hP hU in
/-- The values' cotangent, heads side by side. -/
theorem ref_dv_rows (i : S1x2048x1024.Idx) : val_main_v355 (F := Ideal) x0 x1 i = ((gradsM P U ((i 2).val / 256) 2 (i 1).val ((i 2).val % 256) : ℝ) : EReal) :=
  ref_merge (A := fun h => bsum (lam h) (cols P 3072 h) (cols P 4096 h) (dretH P U h))
    (ref_unchunk (A := fun h => bsum (lam h) (cols P 3072 h) (cols P 4096 h) (dretH P U h)) (ref_dv hP hU) (val_main_v349_apply x0 x1))
    (fun i => (val_main_v355_apply x0 x1 i).trans (val_main_v354_apply x0 x1 _)) i

include hP hU in
/-- The gate's cotangent, heads side by side. -/
theorem ref_dg_rows (i : S1x2048x1024.Idx) : val_main_v207 (F := Ideal) x0 x1 i = ((gradsM P U ((i 2).val / 256) 3 (i 1).val ((i 2).val % 256) : ℝ) : EReal) := ref_dgate hP hU i

variable (x2 : (⟨S2x2048x1024, .bf16⟩ : BufTy).Contents (Elt Ideal)) (x3 : (⟨S8x2048x1024, .bf16⟩ : BufTy).Contents (Elt Ideal))

include hP in
/-- The reference's first result: the argument, with the gated and normed rows in its second half. -/
theorem ref_mixed : val_main_v362 (F := Ideal) x0 x2
    = fun i : S2x2048x1024.Idx => if (i 0).val / 1 = 1 then ((mixM P ((i 2).val / 256) (i 1).val ((i 2).val % 256) : ℝ) : EReal) else x2 i := by
  funext i
  unfold val_main_v362
  concat_tiles z h
  · rw [val_main_v360_apply, if_neg (by omega)]
    exact congrArg x2 (funext fun a => Fin.ext (match a with
      | ⟨0, _⟩ => h0.trans h.symm
      | ⟨1, _⟩ => h1
      | ⟨2, _⟩ => h2))
  · rw [if_pos (by omega), ← h1, ← h2]
    exact ref_out hP z

include hP hU in
/-- The reference's second result: the argument, with the four cotangents in its second half. -/
theorem ref_grads : val_main_v368 (F := Ideal) x0 x1 x3
    = fun i : S8x2048x1024.Idx => if (i 0).val / 4 = 1 then ((gradsM P U ((i 2).val / 256) ((i 0).val - 4) (i 1).val ((i 2).val % 256) : ℝ) : EReal) else x3 i := by
  funext i
  unfold val_main_v368
  pointwise
  have b0 : (i 0).val < 8 := (i 0).isLt
  have side (n : ℕ) (hn : (i 0).val = 4 + n) : ((gradsM P U ((i 2).val / 256) n (i 1).val ((i 2).val % 256) : ℝ) : EReal)
      = if (i 0).val / 4 = 1 then ((gradsM P U ((i 2).val / 256) ((i 0).val - 4) (i 1).val ((i 2).val % 256) : ℝ) : EReal) else x3 i := by
    rw [(by omega : (i 0).val - 4 = n)]
    exact (if_pos (by omega)).symm
  by_cases h4 : (i 0).val < 4
  · refine (dif_pos h4).trans (Eq.trans ?_ (if_neg (by omega)).symm)
    rw [val_main_v363_apply]
    exact congrArg x3 (funext fun a => Fin.ext (match a with
      | ⟨0, _⟩ => rfl
      | ⟨1, _⟩ => rfl
      | ⟨2, _⟩ => rfl))
  refine (dif_neg h4).trans ?_
  by_cases h5 : (i 0).val - 4 < 1
  · exact (dif_pos h5).trans ((ref_dq_rows hP hU _).trans (side 0 (by omega)))
  refine (dif_neg h5).trans ?_
  by_cases h6 : (i 0).val - 4 - 1 < 1
  · exact (dif_pos h6).trans ((ref_dk_rows hP hU _).trans (side 1 (by omega)))
  refine (dif_neg h6).trans ?_
  by_cases h7 : (i 0).val - 4 - 1 - 1 < 1
  · exact (dif_pos h7).trans ((ref_dv_rows hP hU _).trans (side 2 (by omega)))
  exact (dif_neg h7).trans ((ref_dg_rows hP hU _).trans (side 3 (by omega)))

end Cert.RetV
-- ==== Proof.RetV.Agree.lean ====
/- Retention's two kernels and the chunkwise reference compute the same mixed activations and the same gradients. -/
module

public import proofs.«01_k».proof.Proof.RetV.RefD
public import proofs.«01_k».proof.Proof.RetV.Arrays
public import proofs.«01_k».proof.Proof.RetI.Run
public import proofs.«01_k».proof.Proof.Mlp.Tame
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite1
public import proofs.«01_k».proof.Defs
public import Idealize.ShloMosaic.Lib.Claim

@[expose] public section

set_option maxRecDepth 16384

noncomputable section

namespace Cert.RetV

open Idealize.ShloMosaic Idealize.ShloMosaic.TcCoe Idealize.SL.Sem

/-! ## What the precondition gives -/

/-- An array of two axes whose elements are all real holds a table of reals. -/
theorem holds_of_real {s0 s1 : ℕ} (x : (⟨2, ![s0, s1]⟩ : Shape).Idx → EReal) (h : ∀ i, ∃ r : ℝ, x i = (r : EReal)) : ∃ A, Holds x A := by
  choose f hf using h
  refine ⟨fun a b => if h : a < s0 ∧ b < s1 then f (ValueIdx.ix2 ⟨a, h.1⟩ ⟨b, h.2⟩) else 0, fun i => (hf i).trans (congrArg Real.toEReal ?_)⟩
  have hi : (i 0).val < s0 ∧ (i 1).val < s1 := ⟨(i 0).isLt, (i 1).isLt⟩
  dsimp only
  rw [dif_pos hi]
  refine congrArg f ?_
  funext a
  fin_cases a <;> rfl

/-- Where `finite1` holds, the projection and the incoming gradient hold tables of reals. -/
theorem tame [Cert.Pre_finite1.Facts] (x0 : FVec Ideal ⟨2, ![2048, 7168]⟩ .f32) (x1 : FVec Ideal ⟨2, ![2048, 2048]⟩ .f32)
    (x2 : FVec Ideal ⟨3, ![2, 2048, 1024]⟩ .bf16) (x3 : FVec Ideal ⟨3, ![8, 2048, 1024]⟩ .bf16)
    (h : Cert.Pre_finite1.fn (F := Ideal) x0 x1 x2 x3 = fun _ => 1#1) : (∃ P, Holds (s0 := 2048) (s1 := 7168) x0 P) ∧ ∃ U, Holds (s0 := 2048) (s1 := 2048) x1 U := by
  have hj := congrFun h ValueIdx.ix0
  dsimp only [Cert.Pre_finite1.fn] at hj
  obtain ⟨h0, h1⟩ := Cert.Mlp.andi_true _ _ _ hj
  exact ⟨holds_of_real _ (Cert.Mlp.finite_of_all _ _ _ _ _ h0), holds_of_real _ (Cert.Mlp.finite_of_all _ _ _ _ _ h1)⟩

/-! ## What the two kernels start from -/

section Start

open Cert.KernelIdeal Cert.KernelIdeal.Gen Cert.RetI

variable (m : (ℓ : Loc nD τ Cert.KernelIdeal.sig) → Buf (Elt Ideal) ℓ) (c : Dev nD)

theorem in0_proj : in0 m c main_arg0 = m ((c : Thread nD τ).loc main_arg0) := V1_of m c main_arg0 (by decide)
theorem in0_mixed : in0 m c main_v0_0 = m ((c : Thread nD τ).loc main_arg2) := by
  show StableHlo.after hostOps0 (V0 m c) (Proc.devRef .tc main_v0_0) = _
  after_results
  rfl
theorem in1_proj : in1 m c main_arg0 = m ((c : Thread nD τ).loc main_arg0) :=
  (V3_of m (mid m) c main_arg0 (by decide)).trans ((V2_of m (mid m) c main_arg0 (by decide)).trans (V1_of m c main_arg0 (by decide)))
theorem in1_grad : in1 m c main_arg1 = m ((c : Thread nD τ).loc main_arg1) :=
  (V3_of m (mid m) c main_arg1 (by decide)).trans ((V2_of m (mid m) c main_arg1 (by decide)).trans (V1_of m c main_arg1 (by decide)))
theorem in1_raw : in1 m c main_v0_1 = (dat0 (in0 m) c).arrAt 5 cfg0.N :=
  (V3_of m (mid m) c main_v0_1 (by decide)).trans ((congrFun (V2_outs m c) _).symm.trans (V2_raw m c))
theorem in1_grads : in1 m c main_v1 = m ((c : Thread nD τ).loc main_arg3) := by
  have h : StableHlo.after hostOps1 (V2 m (mid m) c) (Proc.devRef .tc main_v1) = V2 m (mid m) c (Proc.devRef .tc main_arg3) := by
    after_results
    rfl
  exact h.trans ((V2_of m (mid m) c main_arg3 (by decide)).trans (V1_of m c main_arg3 (by decide)))

/-- The kernels' mixed activations are the reference's. -/
theorem mixed_agree {P : ℕ → ℕ → ℝ} (hP : Holds (s0 := 2048) (s1 := 7168) (m ((c : Thread nD τ).loc main_arg0)) P) :
    Cert.ReferenceIdeal.Read.val_main_v362 (F := Ideal) (m ((c : Thread nD τ).loc main_arg0)) (m ((c : Thread nD τ).loc main_arg2)) = (dat0 (in0 m) c).arrAt 4 cfg0.N := by
  have hP' : Holds (s0 := 2048) (s1 := 7168) (in0 m c main_arg0) P := by rw [in0_proj]; exact hP
  refine (ref_mixed hP _).trans ((mixed_eq (in0 m) c P hP').trans ?_).symm
  rw [in0_mixed]

/-- The kernels' gradients are the reference's. -/
theorem grads_agree {P U : ℕ → ℕ → ℝ} (hP : Holds (s0 := 2048) (s1 := 7168) (m ((c : Thread nD τ).loc main_arg0)) P)
    (hU : Holds (s0 := 2048) (s1 := 2048) (m ((c : Thread nD τ).loc main_arg1)) U) :
    Cert.ReferenceIdeal.Read.val_main_v368 (F := Ideal) (m ((c : Thread nD τ).loc main_arg0)) (m ((c : Thread nD τ).loc main_arg1)) (m ((c : Thread nD τ).loc main_arg3))
      = (dat1 (in1 m) c).arrAt 6 cfg1.N := by
  have hP0 : Holds (s0 := 2048) (s1 := 7168) (in0 m c main_arg0) P := by rw [in0_proj]; exact hP
  have hP' : Holds (s0 := 2048) (s1 := 7168) (in1 m c main_arg0) P := by rw [in1_proj]; exact hP
  have hU' : Holds (s0 := 2048) (s1 := 2048) (in1 m c main_arg1) U := by rw [in1_grad]; exact hU
  refine (ref_grads hP hU _).trans ((grads_eq (in1 m) c P U hP' hU' ((in1_raw m c).trans (raw_eq (in0 m) c P hP0))).trans ?_).symm
  rw [in1_grads]

end Start

/-- The value claim of retention, for finite arguments. -/
theorem algebraic_ret : @Cert.algebraic_KernelIdeal_ReferenceIdeal_pre_finite1 Cert.KernelIdeal.Gen.facts Cert.ReferenceIdeal.Gen.facts Cert.Pre_finite1.Gen.facts := by
  intro m g m' g' hpre hagree
  refine ⟨fun c => (Cert.RetI.dat0 (Cert.RetI.in0 m) c).arrAt 4 Cert.KernelIdeal.cfg0.N, fun c => (Cert.RetI.dat1 (Cert.RetI.in1 m) c).arrAt 6 Cert.KernelIdeal.cfg1.N, ?_, ?_⟩
  · exact (θ_run _ _ _).mono (fun r h c => ⟨(h.1 c).1.1, (h.1 c).1.2, (h.1 c).2⟩) (Cert.RetI.run_main (F := Ideal) m g)
  · refine (θ_run _ _ _).mono (fun r h c => ?_) (Cert.ReferenceIdeal.Value.run (F := Ideal) m' g')
    obtain ⟨a0, a1, a2, a3⟩ := hagree c
    obtain ⟨⟨P, hP⟩, ⟨U, hU⟩⟩ := tame _ _ _ _ (hpre c)
    obtain ⟨e0, e1, hargs⟩ := h c
    refine ⟨?_, ?_, hargs⟩
    · refine e0.trans ((Cert.ReferenceIdeal.Read.val_main_v362_eq _).trans (Eq.trans ?_ (mixed_agree m c hP)))
      exact congrArg₂ (Cert.ReferenceIdeal.Read.val_main_v362 (F := Ideal)) a0 a2
    · refine e1.trans ((Cert.ReferenceIdeal.Read.val_main_v368_eq _).trans (Eq.trans ?_ (grads_agree m c hP hU)))
      exact (congrArg₂ (fun a b => Cert.ReferenceIdeal.Read.val_main_v368 (F := Ideal) a b _) a0 a1).trans (congrArg (Cert.ReferenceIdeal.Read.val_main_v368 (F := Ideal) _ _) a3)

end Cert.RetV

end
-- ==== Proof.Adam.Run.lean ====
/- The five optimiser calls run one after the other: the program ends with its fifteen results at the contents of the last
   boundary and its arguments as launched. -/
module

public import proofs.«01_k».proof.Proof.Gen.Kernel6Ideal.Frame

@[expose] public section

set_option maxRecDepth 16384

noncomputable section

namespace Cert.Adam

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the results at the last boundary's contents, the arguments unchanged. -/
theorem run_main : θ_run defs (onTc (τ := τ) (main (F := F))) ⟨m, fun _ => 0, ρ⟩ (fun r => ∀ c : Dev nD,
      r.2.mem ((c.tc : Thread nD τ).loc main_v0_0) = W5 m ρ c (Proc.devRef .tc main_v0_0)
      ∧ r.2.mem ((c.tc : Thread nD τ).loc main_v0_1) = W5 m ρ c (Proc.devRef .tc main_v0_1)
      ∧ r.2.mem ((c.tc : Thread nD τ).loc main_v0_2) = W5 m ρ c (Proc.devRef .tc main_v0_2)
      ∧ r.2.mem ((c.tc : Thread nD τ).loc main_v1_0) = W5 m ρ c (Proc.devRef .tc main_v1_0)
      ∧ r.2.mem ((c.tc : Thread nD τ).loc main_v1_1) = W5 m ρ c (Proc.devRef .tc main_v1_1)
      ∧ r.2.mem ((c.tc : Thread nD τ).loc main_v1_2) = W5 m ρ c (Proc.devRef .tc main_v1_2)
      ∧ r.2.mem ((c.tc : Thread nD τ).loc main_v2_0) = W5 m ρ c (Proc.devRef .tc main_v2_0)
      ∧ r.2.mem ((c.tc : Thread nD τ).loc main_v2_1) = W5 m ρ c (Proc.devRef .tc main_v2_1)
      ∧ r.2.mem ((c.tc : Thread nD τ).loc main_v2_2) = W5 m ρ c (Proc.devRef .tc main_v2_2)
      ∧ r.2.mem ((c.tc : Thread nD τ).loc main_v3_0) = W5 m ρ c (Proc.devRef .tc main_v3_0)
      ∧ r.2.mem ((c.tc : Thread nD τ).loc main_v3_1) = W5 m ρ c (Proc.devRef .tc main_v3_1)
      ∧ r.2.mem ((c.tc : Thread nD τ).loc main_v3_2) = W5 m ρ c (Proc.devRef .tc main_v3_2)
      ∧ r.2.mem ((c.tc : Thread nD τ).loc main_v4_0) = W5 m ρ c (Proc.devRef .tc main_v4_0)
      ∧ r.2.mem ((c.tc : Thread nD τ).loc main_v4_1) = W5 m ρ c (Proc.devRef .tc main_v4_1)
      ∧ r.2.mem ((c.tc : Thread nD τ).loc main_v4_2) = W5 m ρ c (Proc.devRef .tc main_v4_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v0_0 (by decide)),
       h c _ (mem_uc main_v0_1 (by decide)),
       h c _ (mem_uc main_v0_2 (by decide)),
       h c _ (mem_uc main_v1_0 (by decide)),
       h c _ (mem_uc main_v1_1 (by decide)),
       h c _ (mem_uc main_v1_2 (by decide)),
       h c _ (mem_uc main_v2_0 (by decide)),
       h c _ (mem_uc main_v2_1 (by decide)),
       h c _ (mem_uc main_v2_2 (by decide)),
       h c _ (mem_uc main_v3_0 (by decide)),
       h c _ (mem_uc main_v3_1 (by decide)),
       h c _ (mem_uc main_v3_2 (by decide)),
       h c _ (mem_uc main_v4_0 (by decide)),
       h c _ (mem_uc main_v4_1 (by decide)),
       h c _ (mem_uc main_v4_2 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c)⟩)

end Cert.Adam

end
-- ==== Proof.Adam.Blocks.lean ====
/- What each of the five optimiser calls leaves in its output arrays: the plain AdamW formula of the arrays it reads, at
   every element. -/
module

public import proofs.«01_k».proof.Proof.Gen.Kernel6Ideal.Frame
public import Idealize.ShloMosaic.Lib.Pipeline.ValueKit

@[expose] public section

set_option maxRecDepth 16384

noncomputable section

namespace Cert.Adam

open Cert.Kernel6Ideal Cert.Kernel6Ideal.Gen
open Idealize.ShloMosaic Idealize.ShloMosaic.TcCoe Idealize.SL.Sem
open Idealize.ShloMosaic.Pipeline (Dat)

/-- The new first moment, of the gradient and the first moment. -/
def momOf {S : Shape} (g m : FVec Ideal S .f32) : FVec Ideal S .f32 :=
  addf (mulf (broadcast S (Scalar.ofBits .f32 0x3F666666#32)) m) (mulf (broadcast S (Scalar.ofBits .f32 0x3DCCCCCD#32)) g)

/-- The new second moment, of the gradient and the second moment. -/
def varOf {S : Shape} (g v : FVec Ideal S .f32) : FVec Ideal S .f32 :=
  addf (mulf (broadcast S (Scalar.ofBits .f32 0x3F7FBE77#32)) v) (mulf (broadcast S (Scalar.ofBits .f32 0x3A83126F#32)) (mulf g g))

/-- The weight's step, of the weight, the gradient and the two moments. -/
def stepOf {S : Shape} (w g m v : FVec Ideal S .f32) : FVec Ideal S .f32 :=
  mulf (broadcast S (Scalar.ofBits .f32 0xBA83126F#32))
    (addf (divf (divf (momOf g m) (broadcast S (Scalar.ofBits .f32 0x3F26BD02#32)))
        (addf (sqrt (divf (varOf g v) (broadcast S (Scalar.ofBits .f32 0x3C231ACC#32)))) (broadcast S (Scalar.ofBits .f32 0x322BCC77#32))))
      (mulf (broadcast S (Scalar.ofBits .f32 0x3C23D70A#32)) w))

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The call of the input weights leaves their step and their new moments. -/
theorem adam0 (c : Dev nD) : (dat0 V c).arrAt 4 cfg0.N = stepOf (V c main_arg0) (V c main_arg1) (V c main_arg2) (V c main_arg3)
    ∧ (dat0 V c).arrAt 5 cfg0.N = momOf (V c main_arg1) (V c main_arg2) ∧ (dat0 V c).arrAt 6 cfg0.N = varOf (V c main_arg1) (V c main_arg3) := by
  refine ⟨(dat0 V c).arrAt_eq_of_covers 4 _ (by decide +kernel) fun t _ y => ?_, (dat0 V c).arrAt_eq_of_covers 5 _ (by decide +kernel) fun t _ y => ?_,
    (dat0 V c).arrAt_eq_of_covers 6 _ (by decide +kernel) fun t _ y => ?_⟩
  all_goals
    blk_simp
    first | rw [after0_4] | rw [after0_5] | rw [after0_6]
    frame_out
    pointwise [k0_pay1, k0_pay2, k0_pay3, stepOf, momOf, varOf]
    blk_point [iblk0, idx0 t]

theorem idx1 : ∀ t : Fin cfg1.N, win1_0.index t = ![t.val, 0] ∧ win1_1.index t = ![t.val, 0] ∧ win1_2.index t = ![t.val, 0] ∧ win1_3.index t = ![t.val, 0] ∧ win1_4.index t = ![t.val, 0] ∧ win1_5.index t = ![t.val, 0] ∧ win1_6.index t = ![t.val, 0] :=
  (by decide +kernel : ∀ t : Fin grid1.N, _)

/-- The call of the output weights leaves their step and their new moments. -/
theorem adam1 (c : Dev nD) : (dat1 V c).arrAt 4 cfg1.N = stepOf (V c main_arg4) (V c main_arg5) (V c main_arg6) (V c main_arg7)
    ∧ (dat1 V c).arrAt 5 cfg1.N = momOf (V c main_arg5) (V c main_arg6) ∧ (dat1 V c).arrAt 6 cfg1.N = varOf (V c main_arg5) (V c main_arg7) := by
  refine ⟨(dat1 V c).arrAt_eq_of_covers 4 _ (by decide +kernel) fun t _ y => ?_, (dat1 V c).arrAt_eq_of_covers 5 _ (by decide +kernel) fun t _ y => ?_,
    (dat1 V c).arrAt_eq_of_covers 6 _ (by decide +kernel) fun t _ y => ?_⟩
  all_goals
    blk_simp
    first | rw [after1_4] | rw [after1_5] | rw [after1_6]
    frame_out
    pointwise [k1_pay1, k1_pay2, k1_pay3, stepOf, momOf, varOf]
    blk_point [iblk1, idx1 t]

theorem idx2 : ∀ t : Fin cfg2.N, win2_0.index t = ![t.val, 0] ∧ win2_1.index t = ![t.val, 0] ∧ win2_2.index t = ![t.val, 0] ∧ win2_3.index t = ![t.val, 0] ∧ win2_4.index t = ![t.val, 0] ∧ win2_5.index t = ![t.val, 0] ∧ win2_6.index t = ![t.val, 0] :=
  (by decide +kernel : ∀ t : Fin grid2.N, _)

/-- The call of the gate weights leaves their step and their new moments. -/
theorem adam2 (c : Dev nD) : (dat2 V c).arrAt 4 cfg2.N = stepOf (V c main_arg8) (V c main_arg9) (V c main_arg10) (V c main_arg11)
    ∧ (dat2 V c).arrAt 5 cfg2.N = momOf (V c main_arg9) (V c main_arg10) ∧ (dat2 V c).arrAt 6 cfg2.N = varOf (V c main_arg9) (V c main_arg11) := by
  refine ⟨(dat2 V c).arrAt_eq_of_covers 4 _ (by decide +kernel) fun t _ y => ?_, (dat2 V c).arrAt_eq_of_covers 5 _ (by decide +kernel) fun t _ y => ?_,
    (dat2 V c).arrAt_eq_of_covers 6 _ (by decide +kernel) fun t _ y => ?_⟩
  all_goals
    blk_simp
    first | rw [after2_4] | rw [after2_5] | rw [after2_6]
    frame_out
    pointwise [k2_pay1, k2_pay2, k2_pay3, stepOf, momOf, varOf]
    blk_point [iblk2, idx2 t]

theorem idx3 : ∀ t : Fin cfg3.N, win3_0.index t = ![t.val, 0] ∧ win3_1.index t = ![t.val, 0] ∧ win3_2.index t = ![t.val, 0] ∧ win3_3.index t = ![t.val, 0] ∧ win3_4.index t = ![t.val, 0] ∧ win3_5.index t = ![t.val, 0] ∧ win3_6.index t = ![t.val, 0] :=
  (by decide +kernel : ∀ t : Fin grid3.N, _)

/-- The call of the up weights leaves their step and their new moments. -/
theorem adam3 (c : Dev nD) : (dat3 V c).arrAt 4 cfg3.N = stepOf (V c main_arg12) (V c main_arg13) (V c main_arg14) (V c main_arg15)
    ∧ (dat3 V c).arrAt 5 cfg3.N = momOf (V c main_arg13) (V c main_arg14) ∧ (dat3 V c).arrAt 6 cfg3.N = varOf (V c main_arg13) (V c main_arg15) := by
  refine ⟨(dat3 V c).arrAt_eq_of_covers 4 _ (by decide +kernel) fun t _ y => ?_, (dat3 V c).arrAt_eq_of_covers 5 _ (by decide +kernel) fun t _ y => ?_,
    (dat3 V c).arrAt_eq_of_covers 6 _ (by decide +kernel) fun t _ y => ?_⟩
  all_goals
    blk_simp
    first | rw [after3_4] | rw [after3_5] | rw [after3_6]
    frame_out
    pointwise [k3_pay1, k3_pay2, k3_pay3, stepOf, momOf, varOf]
    blk_point [iblk3, idx3 t]

theorem idx4 : ∀ t : Fin cfg4.N, win4_0.index t = ![t.val, 0] ∧ win4_1.index t = ![t.val, 0] ∧ win4_2.index t = ![t.val, 0] ∧ win4_3.index t = ![t.val, 0] ∧ win4_4.index t = ![t.val, 0] ∧ win4_5.index t = ![t.val, 0] ∧ win4_6.index t = ![t.val, 0] :=
  (by decide +kernel : ∀ t : Fin grid4.N, _)

/-- The call of the down weights leaves their step and their new moments. -/
theorem adam4 (c : Dev nD) : (dat4 V c).arrAt 4 cfg4.N = stepOf (V c main_arg16) (V c main_arg17) (V c main_arg18) (V c main_arg19)
    ∧ (dat4 V c).arrAt 5 cfg4.N = momOf (V c main_arg17) (V c main_arg18) ∧ (dat4 V c).arrAt 6 cfg4.N = varOf (V c main_arg17) (V c main_arg19) := by
  refine ⟨(dat4 V c).arrAt_eq_of_covers 4 _ (by decide +kernel) fun t _ y => ?_, (dat4 V c).arrAt_eq_of_covers 5 _ (by decide +kernel) fun t _ y => ?_,
    (dat4 V c).arrAt_eq_of_covers 6 _ (by decide +kernel) fun t _ y => ?_⟩
  all_goals
    blk_simp
    first | rw [after4_4] | rw [after4_5] | rw [after4_6]
    frame_out
    pointwise [k4_pay1, k4_pay2, k4_pay3, stepOf, momOf, varOf]
    blk_point [iblk4, idx4 t]

end Cert.Adam

end
-- ==== Proof.Adam.Agree.lean ====
/- The five optimiser calls and the reference compute the same steps and the same new moments. -/
module

public import proofs.«01_k».proof.Proof.Adam.Run
public import proofs.«01_k».proof.Proof.Adam.Blocks
public import proofs.«01_k».proof.Proof.Gen.Kernel6Ideal
public import proofs.«01_k».proof.Proof.Gen.Reference6Ideal
public import proofs.«01_k».proof.Proof.Gen.Reference6Ideal.Run
public import proofs.«01_k».proof.Defs
public import Idealize.ShloMosaic.Lib.Claim

@[expose] public section

set_option maxRecDepth 16384

noncomputable section

namespace Cert.Adam

open Idealize.ShloMosaic Idealize.ShloMosaic.TcCoe Idealize.SL.Sem

section Ends
open Cert.Kernel6Ideal Cert.Kernel6Ideal.Gen

variable (m : (ℓ : Loc nD τ sig) → Buf (Elt Ideal) ℓ) (ρ : Dev nD → PrngReg) (c : Dev nD)

/-- The input weights' step and new moments at the end. -/
theorem end0 : W5 m ρ c (Proc.devRef .tc main_v0_0) = stepOf (m ((c : Thread nD τ).loc main_arg0)) (m ((c : Thread nD τ).loc main_arg1)) (m ((c : Thread nD τ).loc main_arg2)) (m ((c : Thread nD τ).loc main_arg3))
    ∧ W5 m ρ c (Proc.devRef .tc main_v0_1) = momOf (m ((c : Thread nD τ).loc main_arg1)) (m ((c : Thread nD τ).loc main_arg2))
    ∧ W5 m ρ c (Proc.devRef .tc main_v0_2) = varOf (m ((c : Thread nD τ).loc main_arg1)) (m ((c : Thread nD τ).loc main_arg3)) := by
  have h := adam0 (V0 m ρ) c
  rw [show V0 m ρ c main_arg0 = _ from W0_args m ρ c main_arg0 (by decide), show V0 m ρ c main_arg1 = _ from W0_args m ρ c main_arg1 (by decide), show V0 m ρ c main_arg2 = _ from W0_args m ρ c main_arg2 (by decide), show V0 m ρ c main_arg3 = _ from W0_args m ρ c main_arg3 (by decide)] at h
  exact ⟨((W5_of m ρ c main_v0_0 (by decide)).trans ((W4_of m ρ c main_v0_0 (by decide)).trans ((W3_of m ρ c main_v0_0 (by decide)).trans ((W2_of m ρ c main_v0_0 (by decide)).trans (W1_arr m ρ c 4))))).trans h.1,
    ((W5_of m ρ c main_v0_1 (by decide)).trans ((W4_of m ρ c main_v0_1 (by decide)).trans ((W3_of m ρ c main_v0_1 (by decide)).trans ((W2_of m ρ c main_v0_1 (by decide)).trans (W1_arr m ρ c 5))))).trans h.2.1,
    ((W5_of m ρ c main_v0_2 (by decide)).trans ((W4_of m ρ c main_v0_2 (by decide)).trans ((W3_of m ρ c main_v0_2 (by decide)).trans ((W2_of m ρ c main_v0_2 (by decide)).trans (W1_arr m ρ c 6))))).trans h.2.2⟩

/-- The output weights' step and new moments at the end. -/
theorem end1 : W5 m ρ c (Proc.devRef .tc main_v1_0) = stepOf (m ((c : Thread nD τ).loc main_arg4)) (m ((c : Thread nD τ).loc main_arg5)) (m ((c : Thread nD τ).loc main_arg6)) (m ((c : Thread nD τ).loc main_arg7))
    ∧ W5 m ρ c (Proc.devRef .tc main_v1_1) = momOf (m ((c : Thread nD τ).loc main_arg5)) (m ((c : Thread nD τ).loc main_arg6))
    ∧ W5 m ρ c (Proc.devRef .tc main_v1_2) = varOf (m ((c : Thread nD τ).loc main_arg5)) (m ((c : Thread nD τ).loc main_arg7)) := by
  have h := adam1 (V1 m ρ) c
  rw [show V1 m ρ c main_arg4 = _ from W1_args m ρ c main_arg4 (by decide), show V1 m ρ c main_arg5 = _ from W1_args m ρ c main_arg5 (by decide), show V1 m ρ c main_arg6 = _ from W1_args m ρ c main_arg6 (by decide), show V1 m ρ c main_arg7 = _ from W1_args m ρ c main_arg7 (by decide)] at h
  exact ⟨((W5_of m ρ c main_v1_0 (by decide)).trans ((W4_of m ρ c main_v1_0 (by decide)).trans ((W3_of m ρ c main_v1_0 (by decide)).trans (W2_arr m ρ c 4)))).trans h.1,
    ((W5_of m ρ c main_v1_1 (by decide)).trans ((W4_of m ρ c main_v1_1 (by decide)).trans ((W3_of m ρ c main_v1_1 (by decide)).trans (W2_arr m ρ c 5)))).trans h.2.1,
    ((W5_of m ρ c main_v1_2 (by decide)).trans ((W4_of m ρ c main_v1_2 (by decide)).trans ((W3_of m ρ c main_v1_2 (by decide)).trans (W2_arr m ρ c 6)))).trans h.2.2⟩

/-- The gate weights' step and new moments at the end. -/
theorem end2 : W5 m ρ c (Proc.devRef .tc main_v2_0) = stepOf (m ((c : Thread nD τ).loc main_arg8)) (m ((c : Thread nD τ).loc main_arg9)) (m ((c : Thread nD τ).loc main_arg10)) (m ((c : Thread nD τ).loc main_arg11))
    ∧ W5 m ρ c (Proc.devRef .tc main_v2_1) = momOf (m ((c : Thread nD τ).loc main_arg9)) (m ((c : Thread nD τ).loc main_arg10))
    ∧ W5 m ρ c (Proc.devRef .tc main_v2_2) = varOf (m ((c : Thread nD τ).loc main_arg9)) (m ((c : Thread nD τ).loc main_arg11)) := by
  have h := adam2 (V2 m ρ) c
  rw [show V2 m ρ c main_arg8 = _ from W2_args m ρ c main_arg8 (by decide), show V2 m ρ c main_arg9 = _ from W2_args m ρ c main_arg9 (by decide), show V2 m ρ c main_arg10 = _ from W2_args m ρ c main_arg10 (by decide), show V2 m ρ c main_arg11 = _ from W2_args m ρ c main_arg11 (by decide)] at h
  exact ⟨((W5_of m ρ c main_v2_0 (by decide)).trans ((W4_of m ρ c main_v2_0 (by decide)).trans (W3_arr m ρ c 4))).trans h.1,
    ((W5_of m ρ c main_v2_1 (by decide)).trans ((W4_of m ρ c main_v2_1 (by decide)).trans (W3_arr m ρ c 5))).trans h.2.1,
    ((W5_of m ρ c main_v2_2 (by decide)).trans ((W4_of m ρ c main_v2_2 (by decide)).trans (W3_arr m ρ c 6))).trans h.2.2⟩

/-- The up weights' step and new moments at the end. -/
theorem end3 : W5 m ρ c (Proc.devRef .tc main_v3_0) = stepOf (m ((c : Thread nD τ).loc main_arg12)) (m ((c : Thread nD τ).loc main_arg13)) (m ((c : Thread nD τ).loc main_arg14)) (m ((c : Thread nD τ).loc main_arg15))
    ∧ W5 m ρ c (Proc.devRef .tc main_v3_1) = momOf (m ((c : Thread nD τ).loc main_arg13)) (m ((c : Thread nD τ).loc main_arg14))
    ∧ W5 m ρ c (Proc.devRef .tc main_v3_2) = varOf (m ((c : Thread nD τ).loc main_arg13)) (m ((c : Thread nD τ).loc main_arg15)) := by
  have h := adam3 (V3 m ρ) c
  rw [show V3 m ρ c main_arg12 = _ from W3_args m ρ c main_arg12 (by decide), show V3 m ρ c main_arg13 = _ from W3_args m ρ c main_arg13 (by decide), show V3 m ρ c main_arg14 = _ from W3_args m ρ c main_arg14 (by decide), show V3 m ρ c main_arg15 = _ from W3_args m ρ c main_arg15 (by decide)] at h
  exact ⟨((W5_of m ρ c main_v3_0 (by decide)).trans (W4_arr m ρ c 4)).trans h.1,
    ((W5_of m ρ c main_v3_1 (by decide)).trans (W4_arr m ρ c 5)).trans h.2.1,
    ((W5_of m ρ c main_v3_2 (by decide)).trans (W4_arr m ρ c 6)).trans h.2.2⟩

/-- The down weights' step and new moments at the end. -/
theorem end4 : W5 m ρ c (Proc.devRef .tc main_v4_0) = stepOf (m ((c : Thread nD τ).loc main_arg16)) (m ((c : Thread nD τ).loc main_arg17)) (m ((c : Thread nD τ).loc main_arg18)) (m ((c : Thread nD τ).loc main_arg19))
    ∧ W5 m ρ c (Proc.devRef .tc main_v4_1) = momOf (m ((c : Thread nD τ).loc main_arg17)) (m ((c : Thread nD τ).loc main_arg18))
    ∧ W5 m ρ c (Proc.devRef .tc main_v4_2) = varOf (m ((c : Thread nD τ).loc main_arg17)) (m ((c : Thread nD τ).loc main_arg19)) := by
  have h := adam4 (V4 m ρ) c
  rw [show V4 m ρ c main_arg16 = _ from W4_args m ρ c main_arg16 (by decide), show V4 m ρ c main_arg17 = _ from W4_args m ρ c main_arg17 (by decide), show V4 m ρ c main_arg18 = _ from W4_args m ρ c main_arg18 (by decide), show V4 m ρ c main_arg19 = _ from W4_args m ρ c main_arg19 (by decide)] at h
  exact ⟨(W5_arr m ρ c 4).trans h.1,
    (W5_arr m ρ c 5).trans h.2.1,
    (W5_arr m ρ c 6).trans h.2.2⟩

end Ends

/-- The value claim of the optimiser. -/
theorem algebraic_adam : @Cert.algebraic_Kernel6Ideal_Reference6Ideal Cert.Kernel6Ideal.Gen.facts Cert.Reference6Ideal.Gen.facts := by
  intro m g m' g' _ hagree
  refine ⟨fun c => Cert.Kernel6Ideal.Gen.W5 m g c (Proc.devRef .tc Cert.Kernel6Ideal.main_v0_0),
    fun c => Cert.Kernel6Ideal.Gen.W5 m g c (Proc.devRef .tc Cert.Kernel6Ideal.main_v0_1),
    fun c => Cert.Kernel6Ideal.Gen.W5 m g c (Proc.devRef .tc Cert.Kernel6Ideal.main_v0_2),
    fun c => Cert.Kernel6Ideal.Gen.W5 m g c (Proc.devRef .tc Cert.Kernel6Ideal.main_v1_0),
    fun c => Cert.Kernel6Ideal.Gen.W5 m g c (Proc.devRef .tc Cert.Kernel6Ideal.main_v1_1),
    fun c => Cert.Kernel6Ideal.Gen.W5 m g c (Proc.devRef .tc Cert.Kernel6Ideal.main_v1_2),
    fun c => Cert.Kernel6Ideal.Gen.W5 m g c (Proc.devRef .tc Cert.Kernel6Ideal.main_v2_0),
    fun c => Cert.Kernel6Ideal.Gen.W5 m g c (Proc.devRef .tc Cert.Kernel6Ideal.main_v2_1),
    fun c => Cert.Kernel6Ideal.Gen.W5 m g c (Proc.devRef .tc Cert.Kernel6Ideal.main_v2_2),
    fun c => Cert.Kernel6Ideal.Gen.W5 m g c (Proc.devRef .tc Cert.Kernel6Ideal.main_v3_0),
    fun c => Cert.Kernel6Ideal.Gen.W5 m g c (Proc.devRef .tc Cert.Kernel6Ideal.main_v3_1),
    fun c => Cert.Kernel6Ideal.Gen.W5 m g c (Proc.devRef .tc Cert.Kernel6Ideal.main_v3_2),
    fun c => Cert.Kernel6Ideal.Gen.W5 m g c (Proc.devRef .tc Cert.Kernel6Ideal.main_v4_0),
    fun c => Cert.Kernel6Ideal.Gen.W5 m g c (Proc.devRef .tc Cert.Kernel6Ideal.main_v4_1),
    fun c => Cert.Kernel6Ideal.Gen.W5 m g c (Proc.devRef .tc Cert.Kernel6Ideal.main_v4_2), ?_, ?_⟩
  · exact (θ_run _ _ _).mono (fun r h c => h c) (run_main (F := Ideal) m g)
  · refine (θ_run _ _ _).mono (fun r h c => ?_) (Cert.Reference6Ideal.Value.run (F := Ideal) m' g')
    obtain ⟨a0, a1, a2, a3, a4, a5, a6, a7, a8, a9, a10, a11, a12, a13, a14, a15, a16, a17, a18, a19⟩ := hagree c
    obtain ⟨e0, e1, e2, e3, e4, e5, e6, e7, e8, e9, e10, e11, e12, e13, e14, hargs⟩ := h c
    refine ⟨e0.trans (Eq.trans ?_ (end0 m g c).1.symm), e1.trans (Eq.trans ?_ (end0 m g c).2.1.symm), e2.trans (Eq.trans ?_ (end0 m g c).2.2.symm), e3.trans (Eq.trans ?_ (end1 m g c).1.symm), e4.trans (Eq.trans ?_ (end1 m g c).2.1.symm), e5.trans (Eq.trans ?_ (end1 m g c).2.2.symm), e6.trans (Eq.trans ?_ (end2 m g c).1.symm), e7.trans (Eq.trans ?_ (end2 m g c).2.1.symm), e8.trans (Eq.trans ?_ (end2 m g c).2.2.symm), e9.trans (Eq.trans ?_ (end3 m g c).1.symm), e10.trans (Eq.trans ?_ (end3 m g c).2.1.symm), e11.trans (Eq.trans ?_ (end3 m g c).2.2.symm), e12.trans (Eq.trans ?_ (end4 m g c).1.symm), e13.trans (Eq.trans ?_ (end4 m g c).2.1.symm), e14.trans (Eq.trans ?_ (end4 m g c).2.2.symm), hargs⟩
    · rw [a0, a1, a2, a3]
      rfl
    · rw [a1, a2]
      rfl
    · rw [a1, a3]
      rfl
    · rw [a4, a5, a6, a7]
      rfl
    · rw [a5, a6]
      rfl
    · rw [a5, a7]
      rfl
    · rw [a8, a9, a10, a11]
      rfl
    · rw [a9, a10]
      rfl
    · rw [a9, a11]
      rfl
    · rw [a12, a13, a14, a15]
      rfl
    · rw [a13, a14]
      rfl
    · rw [a13, a15]
      rfl
    · rw [a16, a17, a18, a19]
      rfl
    · rw [a17, a18]
      rfl
    · rw [a17, a19]
      rfl

end Cert.Adam

end
-- ==== Proof.Norm.Core.lean ====
/- The arithmetic of a root-mean-square normalisation and of its gradient in the extended reals.

One row of 2048 entries is `x`. Its scale is the reciprocal root of the mean of the squares plus a small positive constant. The two
ways of writing the gradient (`gradK`, with the normalised row; `gradR`, the chain rule through the reciprocal root) are equal for every
row and every cotangent, infinite entries included: `gradR_eq`. -/
module

public import proofs.«01_k».proof.Proof.RetV.Model

@[expose] public section

namespace Cert.Norm

open Idealize.ShloMosaic
open scoped BigOperators

noncomputable section

/-- The small constant under the root, as the single-precision word of the programs. -/
abbrev ceps : EReal := Ideal.ofBits .f32 0x358637BD#32
/-- The row length. -/
abbrev c2048 : EReal := Ideal.ofBits .f32 0x45000000#32
abbrev cneghalf : EReal := Ideal.ofBits .f32 0xBF000000#32
abbrev chalf : EReal := Ideal.ofBits .f32 0x3F000000#32
abbrev cone : EReal := Ideal.ofBits .f32 0x3F800000#32
abbrev ctwo : EReal := Ideal.ofBits .f32 0x40000000#32
/-- One over the row length. -/
abbrev cinv : EReal := Ideal.ofBits .f32 0x3A000000#32

theorem ceps_eq : ceps = ((Cert.RetV.eps : ℝ) : EReal) := Cert.RetV.ofBits_eps

theorem c2048_eq : c2048 = ((2048 : ℝ) : EReal) := by
  simp [c2048, Ideal.ofBits, Ideal.ieee]
  rw [← EReal.coe_mul]
  norm_num

theorem cneghalf_eq : cneghalf = ((-(1 / 2) : ℝ) : EReal) := by
  simp [cneghalf, Ideal.ofBits, Ideal.ieee]
  rw [← EReal.coe_mul]
  norm_num

theorem chalf_eq : chalf = ((1 / 2 : ℝ) : EReal) := by
  simp [chalf, Ideal.ofBits, Ideal.ieee]
  rw [← EReal.coe_mul]
  norm_num

theorem cone_eq : cone = ((1 : ℝ) : EReal) := by
  simp [cone, Ideal.ofBits, Ideal.ieee]
  try rw [← EReal.coe_mul]
  try norm_num

theorem ctwo_eq : ctwo = ((2 : ℝ) : EReal) := by
  simp [ctwo, Ideal.ofBits, Ideal.ieee]
  rw [← EReal.coe_mul]
  norm_num

theorem cinv_eq : cinv = ((1 / 2048 : ℝ) : EReal) := by
  simp [cinv, Ideal.ofBits, Ideal.ieee]
  rw [← EReal.coe_mul]
  norm_num

/-! ### Sums and a nonnegative real factor -/

/-- A nonnegative real factor goes into a sum of extended reals. -/
theorem mul_sum {ι : Type} (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih,
      EReal.left_distrib_of_nonneg_of_ne_top (by exact_mod_cast ha) (EReal.coe_ne_top _)]

theorem add_self (y : EReal) : y + y = ((2 : ℝ) : EReal) * y := by
  induction y using EReal.rec with
  | bot => rw [EReal.coe_mul_bot_of_pos (by norm_num)]; rfl
  | top => rw [EReal.coe_mul_top_of_pos (by norm_num)]; rfl
  | coe r => rw [← EReal.coe_add, ← EReal.coe_mul, two_mul]

theorem sq_nonneg' (y : EReal) : 0 ≤ y * y := by
  induction y using EReal.rec with
  | bot => simp
  | top => simp
  | coe r => rw [← EReal.coe_mul]; exact_mod_cast mul_self_nonneg r

/-! ### The scale of a row -/

/-- The mean of the squares plus the small constant. -/
def msq (x : Fin 2048 → EReal) : EReal := Ideal.div (∑ k, x k * x k) c2048 + ceps

/-- The reciprocal root of it: the scale of the row. -/
def scale (x : Fin 2048 → EReal) : EReal := Ideal.rsqrt (msq x)

theorem div2048 (y : EReal) : Ideal.div y c2048 = y * ((1 / 2048 : ℝ) : EReal) := by
  rw [c2048_eq, Ideal.div_coe (by norm_num)]

theorem msq_pos (x : Fin 2048 → EReal) : 0 < msq x := by
  have h : 0 ≤ Ideal.div (∑ k, x k * x k) c2048 := by
    rw [div2048]
    exact mul_nonneg (Finset.sum_nonneg fun k _ => sq_nonneg' _) (by exact_mod_cast (by norm_num : (0 : ℝ) ≤ 1 / 2048))
  have he : (0 : EReal) < ceps := by
    rw [ceps_eq]; exact_mod_cast (by norm_num [Cert.RetV.eps] : (0 : ℝ) < Cert.RetV.eps)
  exact lt_of_lt_of_le he (le_add_of_nonneg_left h)

/-- The row of index `i` of an array, by its columns. -/
abbrev row {a : ℕ} (X : (⟨2, ![a, 2048]⟩ : Shape).Idx → EReal) (i : Fin a) : Fin 2048 → EReal := fun k => X (ix2 i k)

/-- The normalised rows times the weights. -/
def fwd {a : ℕ} (X : (⟨2, ![a, 2048]⟩ : Shape).Idx → EReal) (W : (⟨2, ![1, 2048]⟩ : Shape).Idx → EReal) :
    (⟨2, ![a, 2048]⟩ : Shape).Idx → EReal :=
  fun i => X i * scale (row X (i 0)) * W (ix2 0 (i 1))

/-- The gradient at entry `k` as the kernel writes it: the scale times what is left of `D` after its mean along the normalised row. -/
def gradK (x D : Fin 2048 → EReal) (k : Fin 2048) : EReal :=
  scale x * (D k - x k * scale x * Ideal.div (∑ j, D j * (x j * scale x)) c2048)

/-- The cotangent of each square, by the chain rule: the cotangent of the scale times the derivative of the reciprocal root, over the
    row length. -/
def sqCot (x D : Fin 2048 → EReal) : EReal :=
  Ideal.div ((∑ j, x j * D j) * (cneghalf * Ideal.div (scale x) (msq x))) c2048

/-- The gradient at entry `k` by the chain rule: through the product and twice through the square. -/
def gradR (x D : Fin 2048 → EReal) (k : Fin 2048) : EReal :=
  D k * scale x + x k * sqCot x D + sqCot x D * x k

/-- The identity behind `gradR_eq`: with a real positive mean square `σ`. -/
theorem grad_real (σ : ℝ) (hσ : 0 < σ) (x D : Fin 2048 → EReal) (k : Fin 2048) :
    let ρ : EReal := (((Real.sqrt σ)⁻¹ : ℝ) : EReal)
    let u := Ideal.div ((∑ j, x j * D j) * (cneghalf * Ideal.div ρ (σ : EReal))) c2048
    D k * ρ + x k * u + u * x k = ρ * (D k - x k * ρ * Ideal.div (∑ j, D j * (x j * ρ)) c2048) := by
  intro ρ u
  set a : ℝ := (Real.sqrt σ)⁻¹ with ha
  have ha0 : 0 ≤ a := inv_nonneg.2 (Real.sqrt_nonneg _)
  have haa : 1 / σ = a * a := by
    rw [ha, ← mul_inv, Real.mul_self_sqrt hσ.le, one_div]
  set S : EReal := ∑ j, x j * D j with hS
  have hsum : (∑ j, D j * (x j * ρ)) = ρ * S := by
    rw [hS, mul_sum a ha0]
    exact Finset.sum_congr rfl fun j _ => by rw [mul_comm (x j), mul_left_comm, mul_comm (D j)]
  have hu : u = S * (((-(1 / 2) : ℝ) : EReal) * ((a : EReal) * ((a * a : ℝ) : EReal))) * ((1 / 2048 : ℝ) : EReal) := by
    show Ideal.div (S * (cneghalf * Ideal.div (a : EReal) (σ : EReal))) c2048 = _
    rw [div2048, cneghalf_eq, Ideal.div_coe hσ.ne', haa]
  rw [hsum, div2048, add_assoc, mul_comm u, add_self, sub_eq_add_neg,
    EReal.left_distrib_of_nonneg_of_ne_top (by exact_mod_cast ha0) (EReal.coe_ne_top _), mul_comm (D k) ρ, hu]
  congr 1
  have e1 : ((2 : ℝ) : EReal) * (x k * (S * (((-(1 / 2) : ℝ) : EReal) * ((a : EReal) * ((a * a : ℝ) : EReal)))
      * ((1 / 2048 : ℝ) : EReal)))
      = ((2 * -(1 / 2) * (a * (a * a)) * (1 / 2048) : ℝ) : EReal) * (x k * S) := by
    simp only [EReal.coe_mul]; ac_rfl
  have e2 : (a : EReal) * -(x k * (a : EReal) * ((a : EReal) * S * ((1 / 2048 : ℝ) : EReal)))
      = ((-1 * (a * (a * a)) * (1 / 2048) : ℝ) : EReal) * (x k * S) := by
    have : -(x k * (a : EReal) * ((a : EReal) * S * ((1 / 2048 : ℝ) : EReal)))
        = ((-1 : ℝ) : EReal) * (x k * (a : EReal) * ((a : EReal) * S * ((1 / 2048 : ℝ) : EReal))) := by
      rw [EReal.coe_neg, EReal.coe_one, neg_one_mul]
    rw [this]
    simp only [EReal.coe_mul]; ac_rfl
  rw [e1]
  refine Eq.trans ?_ e2.symm
  congr 2
  ring

/-- The two gradients are equal, whatever the row and the cotangent. -/
theorem gradR_eq (x D : Fin 2048 → EReal) (k : Fin 2048) : gradR x D k = gradK x D k := by
  have hp := msq_pos x
  unfold gradR gradK sqCot scale
  generalize msq x = s at hp
  induction s using EReal.rec with
  | bot => simp at hp
  | top =>
    have h0 : Ideal.div (Ideal.rsqrt ⊤) ⊤ = 0 := by simp [Ideal.div]
    rw [h0, Ideal.rsqrt_top]
    simp only [mul_zero, div2048, zero_mul, add_zero]
  | coe σ =>
    have hσ : 0 < σ := by exact_mod_cast hp
    rw [Ideal.rsqrt_coe, if_neg (not_lt.2 hσ.le), if_neg hσ.ne']
    exact grad_real σ hσ x D k

/-- The gradient of the rows plus what comes past the normalisation. -/
def bwd {a : ℕ} (X : (⟨2, ![a, 2048]⟩ : Shape).Idx → EReal) (W : (⟨2, ![1, 2048]⟩ : Shape).Idx → EReal)
    (G R : (⟨2, ![a, 2048]⟩ : Shape).Idx → EReal) : (⟨2, ![a, 2048]⟩ : Shape).Idx → EReal :=
  fun i => R i + gradK (row X (i 0)) (fun k => G (ix2 (i 0) k) * W (ix2 0 k)) (i 1)

/-- What row `r` adds to the weights' gradient. -/
def dwRow {a : ℕ} (X G : (⟨2, ![a, 2048]⟩ : Shape).Idx → EReal) (r : Fin a) (k : Fin 2048) : EReal :=
  G (ix2 r k) * (X (ix2 r k) * scale (row X r))

/-- Half the derivative of a square, over the row length: what the loss passes back to the error `e`. -/
theorem loss_cot (e : EReal) : Ideal.div (chalf * cone) c2048 * (ctwo * e) = e * cinv := by
  rw [div2048, chalf_eq, cone_eq, ctwo_eq, cinv_eq, ← EReal.coe_mul, ← EReal.coe_mul, ← mul_assoc, ← EReal.coe_mul, mul_comm]
  congr 2
  norm_num

end

end Cert.Norm
-- ==== Proof.Norm.Fwd.lean ====
/- The forward normalisation: the kernel's call and the reference both leave the normalised rows times the weights. -/
module

public import proofs.«01_k».proof.Proof.Norm.Core
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Defs
public import Idealize.ShloMosaic.Lib.Claim
public import Idealize.ShloMosaic.Lib.Pipeline.ValueKit

@[expose] public section

set_option maxRecDepth 16384

noncomputable section

namespace Cert.Norm

open Idealize.ShloMosaic Idealize.ShloMosaic.TcCoe Idealize.SL.Sem
open scoped BigOperators

namespace Fwd

section Kernel
open Cert.Kernel7Ideal Cert.Kernel7Ideal.Gen

variable (m : (ℓ : Loc nD τ sig) → Buf (Elt Ideal) ℓ)

/-- One block of the call: its rows normalised, times the weights. -/
theorem pay_eq (x : Vec Ideal S256x2048 .f32) (w : Vec Ideal S1x2048 .f32) (y : S256x2048.Idx) : k0_pay1 (F := Ideal) x w y = fwd x w y := by
  pointwise [k0_pay1, fwd, scale, msq]

theorem idx0 : ∀ t : Fin cfg0.N, win0_0.index t = ![t.val, 0] ∧ win0_1.index t = ![0, 0] ∧ win0_2.index t = ![t.val, 0] :=
  (by decide +kernel : ∀ t : Fin grid0.N, _)

/-- The call leaves the normalised rows times the weights. -/
theorem arr_eq (c : Dev nD) : (dats m 0 c).arrAt 2 cfg0.N = fwd (V m c main_arg0) (V m c main_arg1) := by
  refine (dats m 0 c).arrAt_eq_of_covers 2 _ (by decide +kernel) fun t _ y => ?_
  blk_simp
  rw [after0_2]
  frame_out
  rw [pay_eq]
  refine congrArg₂ (· * ·) (congrArg₂ (· * ·) ?_ (congrArg scale (funext fun k => ?_))) ?_
  all_goals try dsimp only [row]
  all_goals blk_point [iblk, V, idx0 t]

end Kernel

section Ref
open Cert.Reference7Ideal Cert.Reference7Ideal.Read

theorem ref_eq (x : (⟨S2048x2048, .f32⟩ : BufTy).Contents (Elt Ideal)) (w : (⟨S1x2048, .f32⟩ : BufTy).Contents (Elt Ideal)) :
    val_main_v14 (F := Ideal) x w = fwd x w := by
  funext i
  simp only [val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v2_apply, val_main_v1_apply, val_main_v0_apply,
    val_main_cst_apply, val_main_cst_0_apply, val_main_cst_1_apply]
  show x i * Ideal.rsqrt (Ideal.div (Ideal.ofBits .f32 0x00000000#32 + ∑ k, x _ * x _) c2048 + ceps) * w _ = _
  rw [Ideal.ofBits_zero, zero_add]
  have e : ∀ k, idx_main_v2 (idx_main_v3 (idx_main_v9 i)) k = ix2 (i 0) k := fun k => funext fun a => Fin.ext (by match a with | ⟨0, _⟩ => rfl | ⟨1, _⟩ => rfl)
  simp only [e]
  refine congrArg (_ * ·) (congrArg w (funext fun a => Fin.ext ?_))
  match a with
  | ⟨0, _⟩ => rfl
  | ⟨1, _⟩ => exact Nat.mod_eq_of_lt (i 1).isLt

end Ref

/-- The value claim of the forward normalisation. -/
theorem algebraic_fwd : @Cert.algebraic_Kernel7Ideal_Reference7Ideal Cert.Kernel7Ideal.Gen.facts Cert.Reference7Ideal.Gen.facts := by
  intro m g m' g' _ hagree
  refine ⟨fun c => (Cert.Kernel7Ideal.Gen.dats m 0 c).arrAt 2 Cert.Kernel7Ideal.cfg0.N, ?_, ?_⟩
  · exact (θ_run _ _ _).mono (fun r h c => h c) (Cert.Kernel7Ideal.Value.run_blocks (F := Ideal) m g)
  · refine (θ_run _ _ _).mono (fun r h c => ?_) (Cert.Reference7Ideal.Value.run (F := Ideal) m' g')
    obtain ⟨a0, a1⟩ := hagree c
    obtain ⟨e0, hargs⟩ := h c
    refine ⟨e0.trans (Eq.trans ?_ (arr_eq m c).symm), hargs⟩
    rw [a0, a1]
    exact ref_eq _ _

end Fwd

end Cert.Norm
-- ==== Proof.Norm.Bwd.lean ====
/- The backward normalisation, the kernel's side: what its call leaves in its three output arrays. -/
module

public import proofs.«01_k».proof.Proof.Norm.Core
public import proofs.«01_k».proof.Proof.Gen.Kernel4Ideal.Frame
public import Idealize.ShloMosaic.Lib.Pipeline.ValueKit

@[expose] public section

set_option maxRecDepth 16384

noncomputable section

namespace Cert.Norm.Bwd

open Idealize.ShloMosaic Idealize.ShloMosaic.TcCoe Idealize.SL.Sem
open scoped BigOperators
open Cert.Kernel4Ideal Cert.Kernel4Ideal.Gen

variable (m : (ℓ : Loc nD τ sig) → Buf (Elt Ideal) ℓ)

/-- One block of the gradient of the rows. -/
theorem pay4_eq (x dh : Vec Ideal S256x2048 .f32) (w : Vec Ideal S1x2048 .f32) (r : Vec Ideal S256x2048 .f32) (y : S256x2048.Idx) :
    k0_pay4 (F := Ideal) x dh w r y = bwd x w dh r y := by
  pointwise [k0_pay4, k0_pay3, k0_pay2, bwd, gradK, scale, msq, row]

theorem pay5_eq (x dh : Vec Ideal S256x2048 .f32) (w : Vec Ideal S1x2048 .f32) (r : Vec Ideal S256x2048 .f32) (y : S256x2048.Idx) :
    k0_pay5 (F := Ideal) x dh w r y = bwd x w dh r y :=
  (show k0_pay5 (F := Ideal) x dh w r y = k0_pay4 (F := Ideal) x dh w r y from rfl).trans (pay4_eq x dh w r y)

/-- What one block adds to the weights' gradient. -/
theorem pay6_eq (x dh : Vec Ideal S256x2048 .f32) (y : S1x2048.Idx) :
    k0_pay6 (F := Ideal) x dh y = ∑ r : Fin 256, dwRow x dh r (y 1) := by
  pointwise [k0_pay6, k0_pay3, k0_pay2, dwRow, scale, msq]

theorem pay1_eq (a b : Vec Ideal S1x2048 .f32) (y : S1x2048.Idx) : k0_pay1 (F := Ideal) a b y = b y + a y := by
  pointwise [k0_pay1]

theorem idx0 : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] :=
  (by decide +kernel : ∀ t : Fin grid0.N, _)

/-- The block of the rows' gradient after each point. -/
theorem out4_eq (c : Dev nD) (t : Fin cfg0.N) : (outsAt0 m c t.val t.isLt).1 = k0_pay4 (iblk m c 0 t) (iblk m c 2 t) (iblk m c 1 t) (iblk m c 3 t)
    ∧ (outsAt0 m c t.val t.isLt).2.1 = k0_pay5 (iblk m c 0 t) (iblk m c 2 t) (iblk m c 1 t) (iblk m c 3 t) := by
  have hN : t.val < 8 := lt_of_lt_of_eq t.isLt (show cfg0.N = 8 from N_0)
  by_cases h0 : t.val % 8 = 0
  · rw [outsAt0_A m c t h0 (by omega)]
    constructor <;> frame_out
  · rw [outsAt0_B m c t h0 (by omega)]
    constructor <;> frame_out

/-- The weights' gradient so far, at the first point and at a later one. -/
theorem out6_A (c : Dev nD) (t : Fin cfg0.N) (h0 : t.val % 8 = 0) (y : S1x2048.Idx) :
    (outsAt0 m c t.val t.isLt).2.2 y = 0 + ∑ r : Fin 256, dwRow (iblk m c 0 t) (iblk m c 2 t) r (y 1) := by
  have hN : t.val < 8 := lt_of_lt_of_eq t.isLt (show cfg0.N = 8 from N_0)
  rw [outsAt0_A m c t h0 (by omega)]
  frame_out
  rw [pay6_eq, zero_add]

theorem out6_B (c : Dev nD) (t : Fin cfg0.N) (h0 : ¬t.val % 8 = 0) (y : S1x2048.Idx) :
    (outsAt0 m c t.val t.isLt).2.2 y = (outsAt0 m c (t.val - 1) (Nat.lt_of_le_of_lt (Nat.sub_le _ _) t.isLt)).2.2 y
      + ∑ r : Fin 256, dwRow (iblk m c 0 t) (iblk m c 2 t) r (y 1) := by
  have hN : t.val < 8 := lt_of_lt_of_eq t.isLt (show cfg0.N = 8 from N_0)
  rw [outsAt0_B m c t h0 (by omega)]
  frame_out
  rw [pay1_eq, pay6_eq]

/-- The rows' gradient at the end of the call. -/
theorem arr4_eq (c : Dev nD) : (dats m 0 c).arrAt 4 cfg0.N = bwd (V m c main_arg0) (V m c main_arg1) (V m c main_arg2) (V m c main_arg3) := by
  refine (dats m 0 c).arrAt_eq_of_covers 4 _ (by decide +kernel) fun t _ y => ?_
  blk_simp
  rw [after0_4, (out4_eq m c t).1, pay4_eq]
  unfold bwd gradK scale msq
  dsimp only [row]
  blk_point [iblk, V, idx0 t]

/-- The same, in the narrower format. -/
theorem arr5_eq (c : Dev nD) : (dats m 0 c).arrAt 5 cfg0.N = bwd (V m c main_arg0) (V m c main_arg1) (V m c main_arg2) (V m c main_arg3) := by
  refine (dats m 0 c).arrAt_eq_of_covers 5 _ (by decide +kernel) fun t _ y => ?_
  blk_simp
  rw [after0_5, (out4_eq m c t).2, pay5_eq]
  unfold bwd gradK scale msq
  dsimp only [row]
  blk_point [iblk, V, idx0 t]

/-- The weights' gradient at the end of the call: the sum over all rows. -/
theorem arr6_eq (c : Dev nD) : (dats m 0 c).arrAt 6 cfg0.N
    = fun i : S1x2048.Idx => ∑ r : Fin 2048, dwRow (a := 2048) (V m c main_arg0) (V m c main_arg2) r (i 1) := by
  refine (dats m 0 c).arrAt_eq_of_covers 6 _ (by decide +kernel) fun t hf y => ?_
  have ht : t = t0_7 := by revert t; decide +kernel
  subst ht
  blk_simp
  rw [after0_6, Pipeline.eq_sum_fin_of_reset_step_apply_last (fun n h => (outsAt0 m c n h).2.2) 8 (fun _ => 0) _
    (fun t h j => by rw [out6_A m c t h]) (fun t h j => by rw [out6_B m c t h]) (le_of_eq N_0) t0_7 rfl y, zero_add]
  refine Fin.sum_mul_add_congr (fun p r hl => ?_) rfl
  unfold dwRow scale msq
  dsimp only [row]
  blk_point [iblk, V, idx0 p, idx0 t0_7]

end Cert.Norm.Bwd
-- ==== Proof.Norm.BwdAgree.lean ====
/- The backward normalisation, the reference's side, and the agreement of the two. -/
module

public import proofs.«01_k».proof.Proof.Norm.Bwd
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Defs
public import Idealize.ShloMosaic.Lib.Claim

@[expose] public section

set_option maxRecDepth 16384

noncomputable section

namespace Cert.Norm.Bwd

open Idealize.ShloMosaic Idealize.ShloMosaic.TcCoe Idealize.SL.Sem
open scoped BigOperators

section Ref
open Cert.Reference4Ideal Cert.Reference4Ideal.Read

variable (x : (⟨S2048x2048, .f32⟩ : BufTy).Contents (Elt Ideal)) (w : (⟨S1x2048, .f32⟩ : BufTy).Contents (Elt Ideal))
  (dh dres : (⟨S2048x2048, .f32⟩ : BufTy).Contents (Elt Ideal))

/-- The cotangent of the normalised row `r`: the incoming one times the weights. -/
abbrev cot (r : Fin 2048) : Fin 2048 → EReal := fun k => dh (ix2 r k) * w (ix2 0 k)

theorem ref_msq (j : S2048x1.Idx) : val_main_v7 (F := Ideal) x j = msq (row (a := 2048) x (j 0)) := by
  rw [val_main_v7_apply, val_main_v5_apply, val_main_v3_apply, val_main_v2_apply, val_main_v4_apply, val_main_v6_apply]
  simp only [val_main_v1_apply, val_main_cst_apply, val_main_cst_0_apply, val_main_cst_1_apply]
  show Ideal.div (Ideal.ofBits .f32 0x00000000#32 + ∑ k, x _ * x _) c2048 + ceps = _
  rw [Ideal.ofBits_zero, zero_add]
  have e : ∀ k, idx_main_v2 (idx_main_v3 j) k = ix2 (j 0) k := fun k => funext fun a => Fin.ext (by match a with | ⟨0, _⟩ => rfl | ⟨1, _⟩ => rfl)
  simp only [e]
  rfl

theorem ref_scale (j : S2048x1.Idx) : val_main_v8 (F := Ideal) x j = scale (row (a := 2048) x (j 0)) := by
  rw [val_main_v8_apply, ref_msq]
  rfl

theorem ref_hat (i : S2048x2048.Idx) : val_main_v13 (F := Ideal) x i = x i * scale (row (a := 2048) x (i 0)) := by
  rw [val_main_v13_apply, val_main_v12_apply, ref_scale]
  rfl

theorem ref_cot (i : S2048x2048.Idx) : val_main_v21 (F := Ideal) w dh i = dh i * w (ix2 0 (i 1)) := by
  rw [val_main_v21_apply, val_main_v20_apply, val_main_v14_apply, val_main_v0_apply]
  refine congrArg (dh i * ·) (congrArg w (funext fun a => Fin.ext ?_))
  match a with
  | ⟨0, _⟩ => rfl
  | ⟨1, _⟩ => exact Nat.mod_eq_of_lt (i 1).isLt

theorem ref_sqCot (j : S2048x1.Idx) : val_main_v30 (F := Ideal) x w dh j = sqCot (row (a := 2048) x (j 0)) (cot w dh (j 0)) := by
  rw [val_main_v30_apply, val_main_v28_apply, val_main_v25_apply, val_main_v24_apply, val_main_v29_apply, val_main_v11_apply, val_main_v10_apply,
    val_main_v9_apply, ref_scale, ref_msq]
  simp only [val_main_cst_5_apply, val_main_cst_6_apply, val_main_cst_2_apply]
  have e : ∀ k, val_main_v23 (F := Ideal) x w dh (idx_main_v24 (idx_main_v25 j) k) = x (ix2 (n0 := 2048) (n1 := 2048) (j 0) k) * cot w dh (j 0) k := fun k => by
    have e' : idx_main_v24 (idx_main_v25 j) k = ix2 (n0 := 2048) (n1 := 2048) (j 0) k := funext fun a => Fin.ext (by
      match a with
      | ⟨0, _⟩ =>
        show (j 0).val * 1 + (j 1).val = (j 0).val
        have h1 : (j 1).val < 1 := (j 1).isLt
        omega
      | ⟨1, _⟩ => rfl)
    rw [e', val_main_v23_apply, ref_cot]
    rfl
  rw [Finset.sum_congr rfl fun k _ => e k]
  show Ideal.div ((Ideal.ofBits .f32 0x00000000#32 + ∑ k, x _ * _) * _) c2048 = _
  rw [Ideal.ofBits_zero, zero_add]
  rfl

/-- The rows' gradient. -/
theorem ref_dx (i : S2048x2048.Idx) : val_main_v37 (F := Ideal) x w dh dres i = bwd (a := 2048) x w dh dres i := by
  have hs : val_main_v32 (F := Ideal) x w dh i = sqCot (row (a := 2048) x (i 0)) (cot w dh (i 0)) := by
    rw [val_main_v32_apply, val_main_v31_apply, Fin.sum_univ_one, ref_sqCot, val_main_cst_7_apply]
    show Ideal.ofBits .f32 0x00000000#32 + _ = _
    rw [Ideal.ofBits_zero, zero_add]
    rfl
  rw [val_main_v37_apply, val_main_v36_apply, val_main_v34_apply, val_main_v27_apply, val_main_v33_apply, val_main_v35_apply, hs, ref_cot,
    val_main_v26_apply, ref_scale]
  refine Eq.trans ?_ (congrArg (dres i + ·) (gradR_eq (row (a := 2048) x (i 0)) (cot w dh (i 0)) (i 1)))
  have ex : x i = row (a := 2048) x (i 0) (i 1) := congrArg x (eq_ix2 i)
  have ed : dh i * w (ix2 0 (i 1)) = cot w dh (i 0) (i 1) := congrArg (· * _) (congrArg dh (eq_ix2 i))
  exact congrArg (dres i + ·) (congrArg₂ (· + ·) (congrArg₂ (· + ·) (congrArg₂ (· * ·) ed rfl) (congrArg (· * _) ex)) (congrArg (_ * ·) ex))

theorem ref_dw (i : S1x2048.Idx) : val_main_v39 (F := Ideal) x dh i = ∑ r : Fin 2048, dwRow (a := 2048) x dh r (i 1) := by
  rw [val_main_v39_apply, val_main_v22_apply, Fin.sum_univ_one, val_main_v19_apply, val_main_v18_apply]
  simp only [val_main_v17_apply, ref_hat, val_main_cst_3_apply, val_main_cst_4_apply]
  show Ideal.ofBits .f32 0x00000000#32 + (Ideal.ofBits .f32 0x00000000#32 + ∑ k, x _ * _ * dh _) = _
  rw [Ideal.ofBits_zero, zero_add, zero_add]
  refine Finset.sum_congr rfl fun r _ => ?_
  have e : idx_main_v18 (idx_main_v19 (idx_main_v22 (idx_main_v39 i) 0)) r = ix2 r (i 1) := funext fun a => Fin.ext (by
    match a with
    | ⟨0, _⟩ => rfl
    | ⟨1, _⟩ =>
      show 0 * 2048 + (i 1).val = (i 1).val
      omega)
  rw [e, mul_comm]
  rfl

end Ref

/-- The value claim of the backward normalisation. -/
theorem algebraic_bwd : @Cert.algebraic_Kernel4Ideal_Reference4Ideal Cert.Kernel4Ideal.Gen.facts Cert.Reference4Ideal.Gen.facts := by
  intro m g m' g' _ hagree
  refine ⟨fun c => (Cert.Kernel4Ideal.Gen.dats m 0 c).arrAt 4 Cert.Kernel4Ideal.cfg0.N,
    fun c => (Cert.Kernel4Ideal.Gen.dats m 0 c).arrAt 5 Cert.Kernel4Ideal.cfg0.N,
    fun c => (Cert.Kernel4Ideal.Gen.dats m 0 c).arrAt 6 Cert.Kernel4Ideal.cfg0.N, ?_, ?_⟩
  · exact (θ_run _ _ _).mono (fun r h c => h c) (Cert.Kernel4Ideal.Value.run_blocks (F := Ideal) m g)
  · refine (θ_run _ _ _).mono (fun r h c => ?_) (Cert.Reference4Ideal.Value.run (F := Ideal) m' g')
    obtain ⟨a0, a1, a2, a3⟩ := hagree c
    obtain ⟨e0, e1, e2, hargs⟩ := h c
    refine ⟨(e0.trans (Cert.Reference4Ideal.Read.val_main_v37_eq m' c)).trans (Eq.trans ?_ (arr4_eq m c).symm),
      (e1.trans (Cert.Reference4Ideal.Read.val_main_v38_eq m' c)).trans (Eq.trans ?_ (arr5_eq m c).symm),
      (e2.trans (Cert.Reference4Ideal.Read.val_main_v39_eq _ _)).trans (Eq.trans ?_ (arr6_eq m c).symm), hargs⟩
    · rw [a0, a1, a2, a3]
      exact funext fun i => ref_dx _ _ _ _ i
    · rw [a0, a1, a2, a3]
      exact funext fun i => ref_dx _ _ _ _ i
    · rw [a0, a2]
      exact funext fun i => ref_dw _ _ i

end Cert.Norm.Bwd
-- ==== Proof.Norm.Loss.lean ====
/- The last normalisation with the loss, the kernel's side: what its call leaves in its four output arrays. -/
module

public import proofs.«01_k».proof.Proof.Norm.Core
public import proofs.«01_k».proof.Proof.Gen.Kernel5Ideal.Frame
public import Idealize.ShloMosaic.Lib.Pipeline.ValueKit

@[expose] public section

set_option maxRecDepth 16384

noncomputable section

namespace Cert.Norm.Loss

open Idealize.ShloMosaic Idealize.ShloMosaic.TcCoe Idealize.SL.Sem
open scoped BigOperators

/-- The error of the normalised rows against the target. -/
def err {a : ℕ} (X : (⟨2, ![a, 2048]⟩ : Shape).Idx → EReal) (W : (⟨2, ![1, 2048]⟩ : Shape).Idx → EReal)
    (T : (⟨2, ![a, 2048]⟩ : Shape).Idx → EReal) (r : Fin a) (k : Fin 2048) : EReal :=
  X (ix2 r k) * scale (row X r) * W (ix2 0 k) - T (ix2 r k)

/-- The mean square error of row `r`. -/
def rowLoss {a : ℕ} (X : (⟨2, ![a, 2048]⟩ : Shape).Idx → EReal) (W : (⟨2, ![1, 2048]⟩ : Shape).Idx → EReal)
    (T : (⟨2, ![a, 2048]⟩ : Shape).Idx → EReal) (r : Fin a) : EReal :=
  Ideal.div (∑ k, err X W T r k * err X W T r k) c2048

/-- The rows' gradient of the loss. -/
def dxLoss {a : ℕ} (X : (⟨2, ![a, 2048]⟩ : Shape).Idx → EReal) (W : (⟨2, ![1, 2048]⟩ : Shape).Idx → EReal)
    (T : (⟨2, ![a, 2048]⟩ : Shape).Idx → EReal) : (⟨2, ![a, 2048]⟩ : Shape).Idx → EReal :=
  fun i => gradK (row X (i 0)) (fun k => err X W T (i 0) k * cinv * W (ix2 0 k)) (i 1)

/-- What row `r` adds to the weights' gradient of the loss. -/
def dwLoss {a : ℕ} (X : (⟨2, ![a, 2048]⟩ : Shape).Idx → EReal) (W : (⟨2, ![1, 2048]⟩ : Shape).Idx → EReal)
    (T : (⟨2, ![a, 2048]⟩ : Shape).Idx → EReal) (r : Fin a) (k : Fin 2048) : EReal :=
  err X W T r k * cinv * (X (ix2 r k) * scale (row X r))

open Cert.Kernel5Ideal Cert.Kernel5Ideal.Gen

variable (m : (ℓ : Loc nD τ sig) → Buf (Elt Ideal) ℓ)

/-- One block of the rows' gradient. -/
theorem pay11_eq (x t : Vec Ideal S256x2048 .f32) (w : Vec Ideal S1x2048 .f32) (y : S256x2048.Idx) :
    k0_pay11 (F := Ideal) x w t y = dxLoss x w t y := by
  pointwise [k0_pay11, k0_pay10, k0_pay8, k0_pay7, k0_pay6, dxLoss, gradK, err, scale, msq, row]

theorem pay1_eq (x t : Vec Ideal S256x2048 .f32) (w : Vec Ideal S1x2048 .f32) (y : S256x2048.Idx) :
    k0_pay1 (F := Ideal) (k0_pay11 x w t) y = dxLoss x w t y :=
  (show k0_pay1 (F := Ideal) (k0_pay11 x w t) y = k0_pay11 (F := Ideal) x w t y from rfl).trans (pay11_eq x t w y)

/-- What one block adds to the weights' gradient. -/
theorem pay2_eq (x t : Vec Ideal S256x2048 .f32) (w : Vec Ideal S1x2048 .f32) (y : S1x2048.Idx) :
    k0_pay2 (F := Ideal) (k0_pay7 x) (k0_pay10 x w t) y = ∑ r : Fin 256, dwLoss x w t r (y 1) := by
  pointwise [k0_pay2, k0_pay10, k0_pay8, k0_pay7, k0_pay6, dwLoss, err, scale, msq, row]

theorem pay4_eq (x t : Vec Ideal S256x2048 .f32) (w d : Vec Ideal S1x2048 .f32) (y : S1x2048.Idx) :
    k0_pay4 (F := Ideal) (k0_pay7 x) (k0_pay10 x w t) d y = d y + ∑ r : Fin 256, dwLoss x w t r (y 1) := by
  rw [← pay2_eq]
  pointwise [k0_pay4]

/-- What one block adds to the loss, in every lane. -/
theorem pay3_eq (x t : Vec Ideal S256x2048 .f32) (w : Vec Ideal S1x2048 .f32) (y : S1x128.Idx) :
    k0_pay3 (F := Ideal) (k0_pay9 x w t) y = chalf * ∑ r : Fin 256, rowLoss x w t r := by
  pointwise [k0_pay3, k0_pay9, k0_pay8, k0_pay7, k0_pay6, rowLoss, err, scale, msq, row]

theorem pay5_eq (x t : Vec Ideal S256x2048 .f32) (w : Vec Ideal S1x2048 .f32) (l : Vec Ideal S1x128 .f32) (y : S1x128.Idx) :
    k0_pay5 (F := Ideal) (k0_pay9 x w t) l y = l y + chalf * ∑ r : Fin 256, rowLoss x w t r := by
  rw [← pay3_eq (y := y)]
  pointwise [k0_pay5]

theorem idx0 : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The block of the rows' gradient after each point. -/
theorem out4_eq (c : Dev nD) (t : Fin cfg0.N) : (outsAt0 m c t.val t.isLt).2.1 = k0_pay11 (iblk m c 0 t) (iblk m c 1 t) (iblk m c 2 t)
    ∧ (outsAt0 m c t.val t.isLt).2.2.1 = k0_pay1 (k0_pay11 (iblk m c 0 t) (iblk m c 1 t) (iblk m c 2 t)) := by
  have hN : t.val < 8 := lt_of_lt_of_eq t.isLt (show cfg0.N = 8 from N_0)
  by_cases h0 : t.val % 8 = 0
  · rw [outsAt0_A m c t h0 (by omega)]
    constructor <;> frame_out
  · rw [outsAt0_B m c t h0 (by omega)]
    constructor <;> frame_out

/-- The loss and the weights' gradient so far, at the first point and at a later one. -/
theorem out3_A (c : Dev nD) (t : Fin cfg0.N) (h0 : t.val % 8 = 0) (y : S1x128.Idx) :
    (outsAt0 m c t.val t.isLt).1 y = 0 + chalf * ∑ r : Fin 256, rowLoss (iblk m c 0 t) (iblk m c 1 t) (iblk m c 2 t) r := by
  have hN : t.val < 8 := lt_of_lt_of_eq t.isLt (show cfg0.N = 8 from N_0)
  rw [outsAt0_A m c t h0 (by omega)]
  frame_out
  rw [pay3_eq, zero_add]

theorem out3_B (c : Dev nD) (t : Fin cfg0.N) (h0 : ¬t.val % 8 = 0) (y : S1x128.Idx) :
    (outsAt0 m c t.val t.isLt).1 y = (outsAt0 m c (t.val - 1) (Nat.lt_of_le_of_lt (Nat.sub_le _ _) t.isLt)).1 y
      + chalf * ∑ r : Fin 256, rowLoss (iblk m c 0 t) (iblk m c 1 t) (iblk m c 2 t) r := by
  have hN : t.val < 8 := lt_of_lt_of_eq t.isLt (show cfg0.N = 8 from N_0)
  rw [outsAt0_B m c t h0 (by omega)]
  frame_out
  rw [pay5_eq]

theorem out6_A (c : Dev nD) (t : Fin cfg0.N) (h0 : t.val % 8 = 0) (y : S1x2048.Idx) :
    (outsAt0 m c t.val t.isLt).2.2.2 y = 0 + ∑ r : Fin 256, dwLoss (iblk m c 0 t) (iblk m c 1 t) (iblk m c 2 t) r (y 1) := by
  have hN : t.val < 8 := lt_of_lt_of_eq t.isLt (show cfg0.N = 8 from N_0)
  rw [outsAt0_A m c t h0 (by omega)]
  frame_out
  rw [pay2_eq, zero_add]

theorem out6_B (c : Dev nD) (t : Fin cfg0.N) (h0 : ¬t.val % 8 = 0) (y : S1x2048.Idx) :
    (outsAt0 m c t.val t.isLt).2.2.2 y = (outsAt0 m c (t.val - 1) (Nat.lt_of_le_of_lt (Nat.sub_le _ _) t.isLt)).2.2.2 y
      + ∑ r : Fin 256, dwLoss (iblk m c 0 t) (iblk m c 1 t) (iblk m c 2 t) r (y 1) := by
  have hN : t.val < 8 := lt_of_lt_of_eq t.isLt (show cfg0.N = 8 from N_0)
  rw [outsAt0_B m c t h0 (by omega)]
  frame_out
  rw [pay4_eq]

/-- The rows' gradient at the end of the call. -/
theorem arr4_eq (c : Dev nD) : (dats m 0 c).arrAt 4 cfg0.N = dxLoss (V m c main_arg0) (V m c main_arg1) (V m c main_arg2) := by
  refine (dats m 0 c).arrAt_eq_of_covers 4 _ (by decide +kernel) fun t _ y => ?_
  blk_simp
  rw [after0_4, (out4_eq m c t).1, pay11_eq]
  unfold dxLoss gradK err scale msq
  dsimp only [row]
  blk_point [iblk, V, idx0 t]

/-- The same, in the narrower format. -/
theorem arr5_eq (c : Dev nD) : (dats m 0 c).arrAt 5 cfg0.N = dxLoss (V m c main_arg0) (V m c main_arg1) (V m c main_arg2) := by
  refine (dats m 0 c).arrAt_eq_of_covers 5 _ (by decide +kernel) fun t _ y => ?_
  blk_simp
  rw [after0_5, (out4_eq m c t).2, pay1_eq]
  unfold dxLoss gradK err scale msq
  dsimp only [row]
  blk_point [iblk, V, idx0 t]

/-- The loss at the end of the call, in every lane: half the sum over all rows of the mean square error. -/
theorem arr3_eq (c : Dev nD) : (dats m 0 c).arrAt 3 cfg0.N
    = fun _ : S1x128.Idx => chalf * ∑ r : Fin 2048, rowLoss (a := 2048) (V m c main_arg0) (V m c main_arg1) (V m c main_arg2) r := by
  refine (dats m 0 c).arrAt_eq_of_covers 3 _ (by decide +kernel) fun t hf y => ?_
  have ht : t = t0_7 := by revert t; decide +kernel
  subst ht
  blk_simp
  rw [after0_3, Pipeline.eq_sum_fin_of_reset_step_apply_last (fun n h => (outsAt0 m c n h).1) 8 (fun _ => 0) _
    (fun t h j => by rw [out3_A m c t h]) (fun t h j => by rw [out3_B m c t h]) (le_of_eq N_0) t0_7 rfl y, zero_add, chalf_eq,
    ← mul_sum _ (by norm_num)]
  refine congrArg (_ * ·) (Fin.sum_mul_add_congr (fun p r hl => ?_) rfl)
  unfold rowLoss err scale msq
  dsimp only [row]
  blk_point [iblk, V, idx0 p]

/-- The weights' gradient at the end of the call: the sum over all rows. -/
theorem arr6_eq (c : Dev nD) : (dats m 0 c).arrAt 6 cfg0.N
    = fun i : S1x2048.Idx => ∑ r : Fin 2048, dwLoss (a := 2048) (V m c main_arg0) (V m c main_arg1) (V m c main_arg2) r (i 1) := by
  refine (dats m 0 c).arrAt_eq_of_covers 6 _ (by decide +kernel) fun t hf y => ?_
  have ht : t = t0_7 := by revert t; decide +kernel
  subst ht
  blk_simp
  rw [after0_6, Pipeline.eq_sum_fin_of_reset_step_apply_last (fun n h => (outsAt0 m c n h).2.2.2) 8 (fun _ => 0) _
    (fun t h j => by rw [out6_A m c t h]) (fun t h j => by rw [out6_B m c t h]) (le_of_eq N_0) t0_7 rfl y, zero_add]
  refine Fin.sum_mul_add_congr (fun p r hl => ?_) rfl
  unfold dwLoss err scale msq
  dsimp only [row]
  blk_point [iblk, V, idx0 p, idx0 t0_7]

end Cert.Norm.Loss
-- ==== Proof.Norm.LossAgree.lean ====
/- The last normalisation with the loss, the reference's side, and the agreement of the two. -/
module

public import proofs.«01_k».proof.Proof.Norm.Loss
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Defs
public import Idealize.ShloMosaic.Lib.Claim

@[expose] public section

set_option maxRecDepth 16384

noncomputable section

namespace Cert.Norm.Loss

open Idealize.ShloMosaic Idealize.ShloMosaic.TcCoe Idealize.SL.Sem
open scoped BigOperators

section Ref
open Cert.Reference5Ideal Cert.Reference5Ideal.Read

variable (x : (⟨S2048x2048, .f32⟩ : BufTy).Contents (Elt Ideal)) (w : (⟨S1x2048, .f32⟩ : BufTy).Contents (Elt Ideal))
  (t : (⟨S2048x2048, .f32⟩ : BufTy).Contents (Elt Ideal))

/-- The cotangent of the normalised row `r`: the error over the row length, times the weights. -/
abbrev cot (r : Fin 2048) : Fin 2048 → EReal := fun k => err (a := 2048) x w t r k * cinv * w (ix2 0 k)

theorem ref_msq (j : S2048x1.Idx) : val_main_v7 (F := Ideal) x j = msq (row (a := 2048) x (j 0)) := by
  rw [val_main_v7_apply, val_main_v5_apply, val_main_v3_apply, val_main_v2_apply, val_main_v4_apply, val_main_v6_apply]
  simp only [val_main_v1_apply, val_main_cst_apply, val_main_cst_0_apply, val_main_cst_1_apply]
  show Ideal.div (Ideal.ofBits .f32 0x00000000#32 + ∑ k, x _ * x _) c2048 + ceps = _
  rw [Ideal.ofBits_zero, zero_add]
  have e : ∀ k, idx_main_v2 (idx_main_v3 j) k = ix2 (j 0) k := fun k => funext fun a => Fin.ext (by match a with | ⟨0, _⟩ => rfl | ⟨1, _⟩ => rfl)
  simp only [e]
  rfl

theorem ref_scale (j : S2048x1.Idx) : val_main_v8 (F := Ideal) x j = scale (row (a := 2048) x (j 0)) := by
  rw [val_main_v8_apply, ref_msq]
  rfl

theorem ref_hat (i : S2048x2048.Idx) : val_main_v13 (F := Ideal) x i = x i * scale (row (a := 2048) x (i 0)) := by
  rw [val_main_v13_apply, val_main_v12_apply, ref_scale]
  rfl

theorem ref_w (i : S2048x2048.Idx) : val_main_v15 (F := Ideal) w i = w (ix2 (n1 := 2048) 0 (i 1)) := by
  rw [val_main_v15_apply, val_main_v14_apply, val_main_v0_apply]
  refine congrArg w (funext fun a => Fin.ext ?_)
  match a with
  | ⟨0, _⟩ => rfl
  | ⟨1, _⟩ => exact Nat.mod_eq_of_lt (i 1).isLt

theorem ref_w' (i : S2048x2048.Idx) : val_main_v35 (F := Ideal) w i = w (ix2 (n1 := 2048) 0 (i 1)) := by
  rw [val_main_v35_apply, val_main_v14_apply, val_main_v0_apply]
  refine congrArg w (funext fun a => Fin.ext ?_)
  match a with
  | ⟨0, _⟩ => rfl
  | ⟨1, _⟩ => exact Nat.mod_eq_of_lt (i 1).isLt

/-- The error. -/
theorem ref_err (r k : Fin 2048) : val_main_v17 (F := Ideal) x w t (ix2 (n0 := 2048) (n1 := 2048) r k) = err (a := 2048) x w t r k := by
  rw [val_main_v17_apply, val_main_v16_apply, ref_hat, ref_w]
  rfl

/-- What the loss passes back to the normalised rows times the weights. -/
theorem ref_dy (r k : Fin 2048) : val_main_v31 (F := Ideal) x w t (ix2 (n0 := 2048) (n1 := 2048) r k) = err (a := 2048) x w t r k * cinv := by
  rw [val_main_v31_apply, val_main_v30_apply, val_main_v29_apply, val_main_v28_apply, val_main_v27_apply, val_main_v26_apply, val_main_v20_apply, ref_err,
    val_main_v19_apply]
  simp only [val_main_cst_8_apply, val_main_cst_9_apply, val_main_cst_10_apply, val_main_cst_3_apply]
  exact loss_cot _

theorem ref_cot (r k : Fin 2048) : val_main_v36 (F := Ideal) x w t (ix2 (n0 := 2048) (n1 := 2048) r k) = cot x w t r k := by
  rw [val_main_v36_apply, ref_dy, ref_w']
  rfl

theorem ref_sqCot (j : S2048x1.Idx) : val_main_v45 (F := Ideal) x w t j = sqCot (row (a := 2048) x (j 0)) (cot x w t (j 0)) := by
  rw [val_main_v45_apply, val_main_v43_apply, val_main_v40_apply, val_main_v39_apply, val_main_v44_apply, val_main_v11_apply, val_main_v10_apply,
    val_main_v9_apply, ref_scale, ref_msq]
  simp only [val_main_cst_13_apply, val_main_cst_14_apply, val_main_cst_2_apply]
  have e : ∀ k, val_main_v38 (F := Ideal) x w t (idx_main_v39 (idx_main_v40 j) k) = x (ix2 (n0 := 2048) (n1 := 2048) (j 0) k) * cot x w t (j 0) k := fun k => by
    have e' : idx_main_v39 (idx_main_v40 j) k = ix2 (n0 := 2048) (n1 := 2048) (j 0) k := funext fun a => Fin.ext (by
      match a with
      | ⟨0, _⟩ =>
        show (j 0).val * 1 + (j 1).val = (j 0).val
        have h1 : (j 1).val < 1 := (j 1).isLt
        omega
      | ⟨1, _⟩ => rfl)
    rw [e', val_main_v38_apply]
    exact congrArg (x _ * ·) (ref_cot x w t _ k)
  rw [Finset.sum_congr rfl fun k _ => e k]
  show Ideal.div ((Ideal.ofBits .f32 0x00000000#32 + ∑ k, x _ * _) * _) c2048 = _
  rw [Ideal.ofBits_zero, zero_add]
  rfl

/-- The rows' gradient. -/
theorem ref_dx (r k : Fin 2048) : val_main_v51 (F := Ideal) x w t (ix2 (n0 := 2048) (n1 := 2048) r k) = dxLoss (a := 2048) x w t (ix2 r k) := by
  have hs : val_main_v47 (F := Ideal) x w t (ix2 (n0 := 2048) (n1 := 2048) r k) = sqCot (row (a := 2048) x r) (cot x w t r) := by
    rw [val_main_v47_apply, val_main_v46_apply, Fin.sum_univ_one, ref_sqCot, val_main_cst_15_apply]
    show Ideal.ofBits .f32 0x00000000#32 + _ = _
    rw [Ideal.ofBits_zero, zero_add]
    rfl
  rw [val_main_v51_apply, val_main_v49_apply, val_main_v42_apply, val_main_v48_apply, val_main_v50_apply, hs, ref_cot, val_main_v41_apply, ref_scale]
  exact gradR_eq (row (a := 2048) x r) (cot x w t r) k

theorem ref_dw (i : S1x2048.Idx) : val_main_v54 (F := Ideal) x w t i = ∑ r : Fin 2048, dwLoss (a := 2048) x w t r (i 1) := by
  rw [val_main_v54_apply, val_main_v37_apply, Fin.sum_univ_one, val_main_v34_apply, val_main_v33_apply]
  simp only [val_main_cst_11_apply, val_main_cst_12_apply]
  have e : ∀ r, val_main_v32 (F := Ideal) x w t (idx_main_v33 (idx_main_v34 (idx_main_v37 (idx_main_v54 i) 0)) r) = dwLoss (a := 2048) x w t r (i 1) := fun r => by
    have e' : idx_main_v33 (idx_main_v34 (idx_main_v37 (idx_main_v54 i) 0)) r = ix2 (n0 := 2048) (n1 := 2048) r (i 1) := funext fun a => Fin.ext (by
      match a with
      | ⟨0, _⟩ => rfl
      | ⟨1, _⟩ =>
        show 0 * 2048 + (i 1).val = (i 1).val
        omega)
    rw [e', val_main_v32_apply]
    exact (congrArg₂ (· * ·) (ref_hat x _) (ref_dy x w t r _)).trans (mul_comm _ _)
  rw [Finset.sum_congr rfl fun r _ => e r]
  show Ideal.ofBits .f32 0x00000000#32 + (Ideal.ofBits .f32 0x00000000#32 + _) = _
  rw [Ideal.ofBits_zero, zero_add, zero_add]

/-- The loss. -/
theorem ref_loss (i : S1x128.Idx) : val_main_v52 (F := Ideal) x w t i = chalf * ∑ r : Fin 2048, rowLoss (a := 2048) x w t r := by
  rw [val_main_v52_apply, val_main_v25_apply, val_main_v24_apply]
  simp only [val_main_cst_6_apply, val_main_cst_7_apply]
  have e : ∀ j : S2048.Idx, val_main_v23 (F := Ideal) x w t j = rowLoss (a := 2048) x w t (j 0) := fun j => by
    rw [val_main_v23_apply, val_main_v21_apply, val_main_v22_apply]
    simp only [val_main_cst_4_apply, val_main_cst_5_apply]
    have e' : ∀ k, val_main_v18 (F := Ideal) x w t (idx_main_v21 j k) = err (a := 2048) x w t (j 0) k * err (a := 2048) x w t (j 0) k := fun k => by
      have e'' : idx_main_v21 j k = ix2 (n0 := 2048) (n1 := 2048) (j 0) k := funext fun a => Fin.ext (by match a with | ⟨0, _⟩ => rfl | ⟨1, _⟩ => rfl)
      rw [e'', val_main_v18_apply]
      exact congrArg₂ (· * ·) (ref_err x w t _ k) (ref_err x w t _ k)
    rw [Finset.sum_congr rfl fun k _ => e' k]
    show Ideal.div (Ideal.ofBits .f32 0x00000000#32 + _) c2048 = _
    rw [Ideal.ofBits_zero, zero_add]
    rfl
  rw [Finset.sum_congr rfl fun j _ => e j]
  show chalf * (Ideal.ofBits .f32 0x00000000#32 + _) = _
  rw [Ideal.ofBits_zero, zero_add]
  refine congrArg (chalf * ·) ?_
  exact Fin.sum_idx1 S2048.size (fun r => rowLoss (a := 2048) x w t r)

end Ref

/-- The value claim of the last normalisation with the loss. -/
theorem algebraic_loss : @Cert.algebraic_Kernel5Ideal_Reference5Ideal Cert.Kernel5Ideal.Gen.facts Cert.Reference5Ideal.Gen.facts := by
  intro m g m' g' _ hagree
  refine ⟨fun c => (Cert.Kernel5Ideal.Gen.dats m 0 c).arrAt 3 Cert.Kernel5Ideal.cfg0.N,
    fun c => (Cert.Kernel5Ideal.Gen.dats m 0 c).arrAt 4 Cert.Kernel5Ideal.cfg0.N,
    fun c => (Cert.Kernel5Ideal.Gen.dats m 0 c).arrAt 5 Cert.Kernel5Ideal.cfg0.N,
    fun c => (Cert.Kernel5Ideal.Gen.dats m 0 c).arrAt 6 Cert.Kernel5Ideal.cfg0.N, ?_, ?_⟩
  · exact (θ_run _ _ _).mono (fun r h c => h c) (Cert.Kernel5Ideal.Value.run_blocks (F := Ideal) m g)
  · refine (θ_run _ _ _).mono (fun r h c => ?_) (Cert.Reference5Ideal.Value.run (F := Ideal) m' g')
    obtain ⟨a0, a1, a2⟩ := hagree c
    obtain ⟨e0, e1, e2, e3, hargs⟩ := h c
    refine ⟨(e0.trans (Cert.Reference5Ideal.Read.val_main_v52_eq _ _ _)).trans (Eq.trans ?_ (arr3_eq m c).symm),
      (e1.trans (Cert.Reference5Ideal.Read.val_main_v51_eq m' c)).trans (Eq.trans ?_ (arr4_eq m c).symm),
      (e2.trans (Cert.Reference5Ideal.Read.val_main_v53_eq m' c)).trans (Eq.trans ?_ (arr5_eq m c).symm),
      (e3.trans (Cert.Reference5Ideal.Read.val_main_v54_eq _ _ _)).trans (Eq.trans ?_ (arr6_eq m c).symm), hargs⟩
    · rw [a0, a1, a2]
      exact funext fun i => ref_loss _ _ _ i
    · rw [a0, a1, a2]
      exact funext fun i => by rw [eq_ix2 i]; exact ref_dx _ _ _ _ _
    · rw [a0, a1, a2]
      exact funext fun i => by rw [eq_ix2 i]; exact ref_dx _ _ _ _ _
    · rw [a0, a1, a2]
      exact funext fun i => ref_dw _ _ _ i

end Cert.Norm.Loss
-- ==== Proof.InProj.Table.lean ====
/- The shard number the input projection's call reads: the precondition makes it one of 0, 1, 2, 3, and at each of them every block
   the call moves lies inside its array. -/
module

public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Pre_shard_of_four
public import proofs.«01_k».proof.Defs
public import Idealize.ShloMosaic.Lib.StableHlo.Predicate
public import Idealize.ShloMosaic.Lib.Pipeline.ValueKit

@[expose] public section

set_option maxRecDepth 16384

namespace Cert.InProj

open Idealize.ShloMosaic Idealize.ShloMosaic.TcCoe Idealize.SL.Sem

/-- The one index of an array of one element. -/
def ix1 : (⟨1, ![1]⟩ : Shape).Idx := fun | ⟨0, _⟩ => ⟨0, Nat.one_pos⟩

theorem one_idx (x y : (⟨1, ![1]⟩ : Shape).Idx) : x = y := funext fun a => match a with
  | ⟨0, _⟩ => Fin.ext (by have h1 : (x 0).val < 1 := (x 0).isLt; have h2 : (y 0).val < 1 := (y 0).isLt; show (x 0).val = (y 0).val; omega)

/-- A word between 0 and 3, both included, is the word of one of the four shard numbers. -/
theorem word_of_pre {w : BitVec 32} (e : IntOp.cmpi .sge w 0#32 &&& IntOp.cmpi .slt w 4#32 = 1#1) : ∃ k : Fin 4, w = BitVec.ofNat 32 k.val := by
  have both : ∀ a b : BitVec 1, a &&& b = 1#1 → a = 1#1 ∧ b = 1#1 := by decide
  obtain ⟨h1, h2⟩ := both _ _ e
  have g1 : (0#32).sle w = true := (StableHlo.Predicate.ofBool_eq_one_iff _).mp h1
  have g2 : w.slt 4#32 = true := (StableHlo.Predicate.ofBool_eq_one_iff _).mp h2
  rw [BitVec.sle_iff_toInt_le] at g1
  rw [BitVec.slt_iff_toInt_lt] at g2
  have z : (0#32).toInt = 0 := by decide
  have f : (4#32).toInt = 4 := by decide
  rw [z] at g1
  rw [f] at g2
  have hw : w.toInt.toNat < 4 := by omega
  refine ⟨⟨w.toInt.toNat, hw⟩, ?_⟩
  apply BitVec.eq_of_toInt_eq
  rw [StableHlo.Predicate.toInt_ofNat_small _ (by dsimp only; omega)]
  dsimp only
  omega

section Bits
open Cert.Kernel8 Cert.Kernel8.Gen

set_option backward.proofsInPublic true in
/-- The table that holds shard number `k`. -/
def pfB (k : Fin 4) : pre0.Contents (Elt Bits) := fun | ⟨0, _⟩ => fun _ => BitVec.ofNat 32 k.val | ⟨_ + 1, h⟩ => absurd h (by simp)

theorem okB : ∀ k : Fin 4, ok0 (F := Bits) (pfB k) := by decide +kernel

theorem tblB (m : (ℓ : Loc nD τ sig) → Buf (Elt Bits) ℓ) (h : Cert.Pre_Kernel8 m) : ∃ k, tbl m = pfB k := by
  have e := congrFun (h 0) ix1
  obtain ⟨k, hk⟩ := word_of_pre e
  refine ⟨k, funext fun j => funext fun x => ?_⟩
  match j with
  | ⟨0, _⟩ => exact (congrArg (m ((((0 : Dev nD).tc : Thread nD τ)).loc main_arg3)) (one_idx _ _)).trans hk

/-- So every block the printed call moves lies inside its array. -/
theorem ok_bits (m : (ℓ : Loc nD τ sig) → Buf (Elt Bits) ℓ) (h : Cert.Pre_Kernel8 m) : Ok (F := Bits) m := by
  obtain ⟨k, hk⟩ := tblB m h
  unfold Ok; rw [hk]; exact okB k

end Bits

section Ideal
open Cert.Kernel8Ideal Cert.Kernel8Ideal.Gen

set_option backward.proofsInPublic true in
/-- The table that holds shard number `k`. -/
noncomputable def pfI (k : Fin 4) : pre0.Contents (Elt Ideal) := fun | ⟨0, _⟩ => fun _ => BitVec.ofNat 32 k.val | ⟨_ + 1, h⟩ => absurd h (by simp)

theorem okI : ∀ k : Fin 4, ok0 (F := Ideal) (pfI k) := by decide +kernel

/-- The call of shard `k`. -/
noncomputable def admI (k : Fin 4) : (pcfg0 (F := Ideal)).Adm := ⟨pfI k, okI k⟩

theorem tblI (m : (ℓ : Loc nD τ sig) → Buf (Elt Ideal) ℓ) (h : Cert.Pre_Kernel8Ideal m) :
    ∃ k : Fin 4, tbl m = pfI k ∧ ∀ c : Dev nD, ∀ x, m ((c.tc : Thread nD τ).loc main_arg3) x = BitVec.ofNat 32 k.val := by
  have e := congrFun (h 0) ix1
  obtain ⟨k, hk⟩ := word_of_pre e
  have hx : ∀ x, m (((0 : Dev nD).tc : Thread nD τ).loc main_arg3) x = BitVec.ofNat 32 k.val := fun x =>
    (congrArg (m ((((0 : Dev nD).tc : Thread nD τ)).loc main_arg3)) (one_idx _ _)).trans hk
  refine ⟨k, funext fun j => funext fun x => ?_, fun c x => ?_⟩
  · match j with
    | ⟨0, _⟩ => exact hx x
  · obtain rfl : c = 0 := Subsingleton.elim _ _
    exact hx x

/-- So every block the idealised call moves lies inside its array. -/
theorem ok_ideal (m : (ℓ : Loc nD τ sig) → Buf (Elt Ideal) ℓ) (h : Cert.Pre_Kernel8Ideal m) : Ok (F := Ideal) m := by
  obtain ⟨k, hk, _⟩ := tblI m h
  unfold Ok; rw [hk]; exact okI k

/-- At shard `k` the call's blocks: the whole left factor, and the blocks `7 k + t` of the right factor and of the result. -/
theorem idxK : ∀ k : Fin 4, ∀ t : Fin (cfg0 (admI k)).N, ((cfg0 (admI k)).win 0).index t = ![0, 0]
    ∧ ((cfg0 (admI k)).win 1).index t = ![0, 7 * k.val + t.val] ∧ ((cfg0 (admI k)).win 2).index t = ![0, 7 * k.val + t.val] :=
  (by decide +kernel : ∀ k : Fin 4, ∀ t : Fin grid0.N, cc0_transform_0 (grid0.coords t) = ![0, 0]
    ∧ cc0_transform_1 Facts₀.inb_S1_S1_0 Facts₀.numel1_S1 (pfI k) (grid0.coords t) = ![0, 7 * k.val + t.val]
    ∧ cc0_transform_3 Facts₀.inb_S1_S1_0 Facts₀.numel1_S1 (pfI k) (grid0.coords t) = ![0, 7 * k.val + t.val])

/-- At shard `k` the call writes the blocks of the shard and no other. -/
theorem coversK : ∀ k : Fin 4, ((cfg0 (admI k)).win 2).CoversWhere (fun β => β (1 : Fin 2) / 7 = k.val) := by decide +kernel

end Ideal

end Cert.InProj
-- ==== Proof.InProj.Value.lean ====
/- The input projection of one shard into a given array: the kernel's call and the reference both leave the product in the shard's
   quarter of the columns and the given array in the others. -/
module

public import proofs.«01_k».proof.Proof.InProj.Table
public import proofs.«01_k».proof.Proof.Gen.Reference8Ideal
public import proofs.«01_k».proof.Proof.Gen.Reference8Ideal.Run
public import proofs.«01_k».proof.Proof.Gen.Reference8Ideal.Read
public import Idealize.ShloMosaic.Lib.Claim

@[expose] public section

set_option maxRecDepth 16384

noncomputable section

namespace Cert.InProj

open Idealize.ShloMosaic Idealize.ShloMosaic.TcCoe Idealize.SL.Sem
open scoped BigOperators

section Kernel
open Cert.Kernel8Ideal Cert.Kernel8Ideal.Gen

/-- The product of the two matrices. -/
def prod (X : FVec Ideal S2048x2048 .bf16) (W : FVec Ideal S2048x7168 .bf16) : FVec Ideal S2048x7168 .f32 :=
  fun i => ∑ k : Fin 2048, X (ix2 (i 0) k) * W (ix2 k (i 1))

/-- The product in quarter `k` of the columns, the given array in the others. -/
def into (k : ℕ) (X : FVec Ideal S2048x2048 .bf16) (W : FVec Ideal S2048x7168 .bf16) (P : FVec Ideal S2048x7168 .f32) : FVec Ideal S2048x7168 .f32 :=
  fun i => if (i 1 : ℕ) / 256 / 7 = k then prod X W i else P i

variable (m : (ℓ : Loc nD τ sig) → Buf (Elt Ideal) ℓ)

theorem idx_of {a : (pcfg0 (F := Ideal)).Adm} {k : Fin 4} (h : a = admI k) (t : Fin (cfg0 a).N) : ((cfg0 a).win 0).index t = ![0, 0]
    ∧ ((cfg0 a).win 1).index t = ![0, 7 * k.val + t.val] ∧ ((cfg0 a).win 2).index t = ![0, 7 * k.val + t.val] := by
  subst h; exact idxK k t

theorem covers_of {a : (pcfg0 (F := Ideal)).Adm} {k : Fin 4} (h : a = admI k) : ((cfg0 a).win 2).CoversWhere (fun β => β (1 : Fin 2) / 7 = k.val) := by
  subst h; exact coversK k

/-- One block of the call: the product of the whole left factor with the block's columns of the right one. -/
theorem pay_eq (x : Vec Ideal S2048x2048 .bf16) (w : Vec Ideal S2048x256 .bf16) (y : S2048x256.Idx) :
    k0_pay1 (F := Ideal) x w y = ∑ k : Fin 2048, x (ix2 (y 0) k) * w (ix2 k (y 1)) := by
  pointwise [k0_pay1]

/-- The call of shard `k` leaves the product in the shard's quarter and what the array held in the others. -/
theorem arr_eq (hO : Ok m) (k : Fin 4) (h : adm m hO = admI k) (c : Dev nD) :
    (dats m hO 0 c).arrAt 2 (cfgM m hO).N = into k.val (V m c main_arg0) (V m c main_arg1) (V m c main_v0) := by
  refine (dats m hO 0 c).arrAt_eq_of_coversWhere 2 (prod (V m c main_arg0) (V m c main_arg1)) _ (covers_of h) (fun t _ y => ?_) (fun j => Iff.rfl)
  blk_simp
  rw [after0_2]
  unfold outsAt0
  frame_out
  refine (congrArg₂ (fun x w => k0_pay1 (F := Ideal) x w y) ((hs0_0 m hO t).read_unread _) ((hs0_1 m hO t).read_unread _)).trans ((pay_eq _ _ _).trans ?_)
  refine Finset.sum_congr rfl fun q _ => congrArg₂ (· * ·) ?_ ?_
  all_goals blk_point [iblk, idx_of h t]

end Kernel

section Ref
open Cert.Reference8Ideal Cert.Reference8Ideal.Read

/-- The reference, where the shard number is `k`. -/
theorem ref_eq (x : (⟨S2048x2048, .bf16⟩ : BufTy).Contents (Elt Ideal)) (w : (⟨S2048x7168, .bf16⟩ : BufTy).Contents (Elt Ideal))
    (p : (⟨S2048x7168, .f32⟩ : BufTy).Contents (Elt Ideal)) (s : (⟨S1, .i32⟩ : BufTy).Contents (Elt Ideal)) (k : Fin 4)
    (hs : ∀ j, s j = BitVec.ofNat 32 k.val) : val_main_v8 (F := Ideal) x w p s = into k.val x w p := by
  funext i
  have hi : (i 1).val < 7168 := (i 1).isLt
  have hq : ((i 1).val / 1792) < 4 := by omega
  have words : ∀ a b : Fin 4, IntOp.cmpi .eq (BitVec.ofNat 32 a.val) (BitVec.ofNat 32 b.val) = if a.val = b.val then 1#1 else 0#1 := by decide +kernel
  have mask : val_main_call0_v0 (F := Ideal) s i = if (i 1).val / 256 / 7 = k.val then 1#1 else 0#1 := by
    rw [val_main_call0_v0_apply, val_main_v6_apply, val_main_v5_apply, val_main_v4_apply, val_main_v3_apply, val_main_v0_apply, val_main_v2_apply,
      show val_main_v1 (F := Ideal) s _ = BitVec.ofNat 32 k.val from hs _, Nat.div_div_eq_div_mul]
    exact words ⟨(i 1).val / 1792, hq⟩ k
  have dot : val_main_v7 (F := Ideal) x w i = prod x w i := by
    rw [val_main_v7_apply]
    refine Finset.sum_congr rfl fun q _ => congrArg₂ (· * ·) (congrArg x (funext fun a => ?_)) (congrArg w (funext fun a => ?_))
    · match a with
      | ⟨0, _⟩ => rfl
      | ⟨1, _⟩ => rfl
    · match a with
      | ⟨0, _⟩ => rfl
      | ⟨1, _⟩ => rfl
  rw [val_main_v8_apply, mask, dot]
  unfold into
  by_cases hk : (i 1).val / 256 / 7 = k.val
  · rw [if_pos hk, if_pos hk]; rfl
  · rw [if_neg hk, if_neg hk]; rfl

end Ref

/-- The value claim of the input projection into a given array. -/
theorem algebraic_inProj : @Cert.algebraic_Kernel8Ideal_Reference8Ideal Cert.Kernel8Ideal.Gen.facts Cert.Reference8Ideal.Gen.facts Cert.Pre_shard_of_four.Gen.facts := by
  intro m g m' g' hpre hagree
  have hO := ok_ideal m hpre
  obtain ⟨k, hk, hword⟩ := tblI m hpre
  have hadm : Cert.Kernel8Ideal.Gen.adm m hO = admI k := Subtype.ext hk
  refine ⟨fun c => (Cert.Kernel8Ideal.Gen.dats m hO 0 c).arrAt 2 (Cert.Kernel8Ideal.Gen.cfgM m hO).N, ?_, ?_⟩
  · exact (θ_run _ _ _).mono (fun r h c => ⟨(h.1 c).1 2, h.2 c⟩)
      (θ_run_and (Cert.Kernel8Ideal.Gen.run_main (F := Ideal) m g hO) (Cert.Kernel8Ideal.Gen.unchanged (F := Ideal) m g hO))
  · refine (θ_run _ _ _).mono (fun r h c => ?_) (Cert.Reference8Ideal.Value.run (F := Ideal) m' g')
    obtain ⟨a0, a1, a2, a3⟩ := hagree c
    obtain ⟨e0, hargs⟩ := h c
    refine ⟨e0.trans ((Cert.Reference8Ideal.Read.val_main_v8_eq _ _ _ _).trans ((ref_eq _ _ _ _ k ?_).trans ?_)), hargs⟩
    · intro j
      rw [a3]
      exact hword c j
    · rw [a0, a1, a2]
      exact (arr_eq m hO k hadm c).symm

end Cert.InProj

end
-- ==== Proof.InProj.Own.lean ====
/- The input projection's first call: it is given no array, and where the call writes, in the columns of the device's own shard, it
   leaves what the reference computes there. -/
module

public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Pre_own_of_four
public import proofs.«01_k».proof.Proof.Gen.On_own_columns
public import proofs.«01_k».proof.Proof.Gen.Reference9Ideal
public import proofs.«01_k».proof.Proof.Gen.Reference9Ideal.Run
public import proofs.«01_k».proof.Proof.Gen.Reference9Ideal.Read
public import proofs.«01_k».proof.Proof.InProj.Value

@[expose] public section

set_option maxRecDepth 16384

namespace Cert.InProj.Own

open Idealize.ShloMosaic Idealize.ShloMosaic.TcCoe Idealize.SL.Sem
open scoped BigOperators

section Bits
open Cert.Kernel9 Cert.Kernel9.Gen

set_option backward.proofsInPublic true in
/-- The table that holds shard number `k`. -/
def pfB (k : Fin 4) : pre0.Contents (Elt Bits) := fun | ⟨0, _⟩ => fun _ => BitVec.ofNat 32 k.val | ⟨_ + 1, h⟩ => absurd h (by simp)

theorem okB : ∀ k : Fin 4, ok0 (F := Bits) (pfB k) := by decide +kernel

theorem tblB (m : (ℓ : Loc nD τ sig) → Buf (Elt Bits) ℓ) (h : Cert.Pre_Kernel9 m) : ∃ k, tbl m = pfB k := by
  have e := congrFun (h 0) ix1
  obtain ⟨k, hk⟩ := word_of_pre e
  refine ⟨k, funext fun j => funext fun x => ?_⟩
  match j with
  | ⟨0, _⟩ => exact (congrArg (m ((((0 : Dev nD).tc : Thread nD τ)).loc main_arg2)) (one_idx _ _)).trans hk

/-- So every block the printed call moves lies inside its array. -/
theorem ok_bits (m : (ℓ : Loc nD τ sig) → Buf (Elt Bits) ℓ) (h : Cert.Pre_Kernel9 m) : Ok (F := Bits) m := by
  obtain ⟨k, hk⟩ := tblB m h
  unfold Ok; rw [hk]; exact okB k

end Bits

section Ideal
open Cert.Kernel9Ideal Cert.Kernel9Ideal.Gen

set_option backward.proofsInPublic true in
/-- The table that holds shard number `k`. -/
noncomputable def pfI (k : Fin 4) : pre0.Contents (Elt Ideal) := fun | ⟨0, _⟩ => fun _ => BitVec.ofNat 32 k.val | ⟨_ + 1, h⟩ => absurd h (by simp)

theorem okI : ∀ k : Fin 4, ok0 (F := Ideal) (pfI k) := by decide +kernel

/-- The call of shard `k`. -/
noncomputable def admI (k : Fin 4) : (pcfg0 (F := Ideal)).Adm := ⟨pfI k, okI k⟩

theorem tblI (m : (ℓ : Loc nD τ sig) → Buf (Elt Ideal) ℓ) (h : Cert.Pre_Kernel9Ideal m) :
    ∃ k : Fin 4, tbl m = pfI k ∧ ∀ c : Dev nD, ∀ x, m ((c.tc : Thread nD τ).loc main_arg2) x = BitVec.ofNat 32 k.val := by
  have e := congrFun (h 0) ix1
  obtain ⟨k, hk⟩ := word_of_pre e
  have hx : ∀ x, m (((0 : Dev nD).tc : Thread nD τ).loc main_arg2) x = BitVec.ofNat 32 k.val := fun x =>
    (congrArg (m ((((0 : Dev nD).tc : Thread nD τ)).loc main_arg2)) (one_idx _ _)).trans hk
  refine ⟨k, funext fun j => funext fun x => ?_, fun c x => ?_⟩
  · match j with
    | ⟨0, _⟩ => exact hx x
  · obtain rfl : c = 0 := Subsingleton.elim _ _
    exact hx x

/-- So every block the idealised call moves lies inside its array. -/
theorem ok_ideal (m : (ℓ : Loc nD τ sig) → Buf (Elt Ideal) ℓ) (h : Cert.Pre_Kernel9Ideal m) : Ok (F := Ideal) m := by
  obtain ⟨k, hk, _⟩ := tblI m h
  unfold Ok; rw [hk]; exact okI k

/-- At shard `k` the call's blocks: the whole left factor, and the blocks `7 k + t` of the right factor and of the result. -/
theorem idxK : ∀ k : Fin 4, ∀ t : Fin (cfg0 (admI k)).N, ((cfg0 (admI k)).win 0).index t = ![0, 0]
    ∧ ((cfg0 (admI k)).win 1).index t = ![0, 7 * k.val + t.val] ∧ ((cfg0 (admI k)).win 2).index t = ![0, 7 * k.val + t.val] :=
  (by decide +kernel : ∀ k : Fin 4, ∀ t : Fin grid0.N, cc0_transform_0 (grid0.coords t) = ![0, 0]
    ∧ cc0_transform_1 Facts₀.inb_S1_S1_0 Facts₀.numel1_S1 (pfI k) (grid0.coords t) = ![0, 7 * k.val + t.val]
    ∧ cc0_transform_2 Facts₀.inb_S1_S1_0 Facts₀.numel1_S1 (pfI k) (grid0.coords t) = ![0, 7 * k.val + t.val])

/-- At shard `k` the call writes the blocks of the shard and no other. -/
theorem coversK : ∀ k : Fin 4, ((cfg0 (admI k)).win 2).CoversWhere (fun β => β (1 : Fin 2) / 7 = k.val) := by decide +kernel

end Ideal

noncomputable section

section Kernel
open Cert.Kernel9Ideal Cert.Kernel9Ideal.Gen

variable (m : (ℓ : Loc nD τ sig) → Buf (Elt Ideal) ℓ)

theorem idx_of {a : (pcfg0 (F := Ideal)).Adm} {k : Fin 4} (h : a = admI k) (t : Fin (cfg0 a).N) : ((cfg0 a).win 0).index t = ![0, 0]
    ∧ ((cfg0 a).win 1).index t = ![0, 7 * k.val + t.val] ∧ ((cfg0 a).win 2).index t = ![0, 7 * k.val + t.val] := by
  subst h; exact idxK k t

theorem covers_of {a : (pcfg0 (F := Ideal)).Adm} {k : Fin 4} (h : a = admI k) : ((cfg0 a).win 2).CoversWhere (fun β => β (1 : Fin 2) / 7 = k.val) := by
  subst h; exact coversK k

/-- One block of the call: the product of the whole left factor with the block's columns of the right one. -/
theorem pay_eq (x : Vec Ideal S2048x2048 .bf16) (w : Vec Ideal S2048x256 .bf16) (y : S2048x256.Idx) :
    k0_pay1 (F := Ideal) x w y = ∑ k : Fin 2048, x (ix2 (y 0) k) * w (ix2 k (y 1)) := by
  pointwise [k0_pay1]

/-- The call of shard `k` leaves the product in the shard's quarter and what the array held in the others. -/
theorem arr_eq (hO : Ok m) (k : Fin 4) (h : adm m hO = admI k) (c : Dev nD) :
    (dats m hO 0 c).arrAt 2 (cfgM m hO).N = into k.val (V m c main_arg0) (V m c main_arg1) (V m c main_v0) := by
  refine (dats m hO 0 c).arrAt_eq_of_coversWhere 2 (prod (V m c main_arg0) (V m c main_arg1)) _ (covers_of h) (fun t _ y => ?_) (fun j => Iff.rfl)
  blk_simp
  rw [after0_2]
  unfold outsAt0
  frame_out
  refine (congrArg₂ (fun x w => k0_pay1 (F := Ideal) x w y) ((hs0_0 m hO t).read_unread _) ((hs0_1 m hO t).read_unread _)).trans ((pay_eq _ _ _).trans ?_)
  refine Finset.sum_congr rfl fun q _ => congrArg₂ (· * ·) ?_ ?_
  all_goals blk_point [iblk, idx_of h t]

end Kernel

section Mask
open Cert.On_own_columns

/-- The mask, where the shard number is `k`, selects the shard's columns and no other. -/
theorem mask_col (x : FVec Ideal S2048x2048 .bf16) (w : FVec Ideal S2048x7168 .bf16) (s : IVec S1 32) (k : Fin 4)
    (hs : ∀ j, s j = BitVec.ofNat 32 k.val) (i : S2048x7168.Idx) (h : Cert.On_own_columns.fn (F := Ideal) x w s i = 1#1) : (i 1 : ℕ) / 256 / 7 = k.val := by
  have hi0 : (i 0).val < 2048 := (i 0).isLt
  have hi : (i 1).val < 7168 := (i 1).isLt
  have hq : ((i 1).val / 1792) < 4 := by omega
  have words : ∀ a b : Fin 4, IntOp.cmpi .eq (BitVec.ofNat 32 a.val) (BitVec.ofNat 32 b.val) = 1#1 → a.val = b.val := by decide +kernel
  let j3 : S2048x4x1792.Idx := fun | ⟨0, _⟩ => i 0 | ⟨1, _⟩ => ⟨(i 1).val / 1792, hq⟩ | ⟨2, _⟩ => ⟨(i 1).val % 1792, by show _ < 1792; omega⟩
  let j4 : S1x4x1.Idx := fun | ⟨0, _⟩ => ⟨0, Nat.one_pos⟩ | ⟨1, _⟩ => ⟨(i 1).val / 1792, hq⟩ | ⟨2, _⟩ => ⟨0, Nat.one_pos⟩
  let j1 : S4.Idx := fun | ⟨0, _⟩ => ⟨(i 1).val / 1792, hq⟩
  rw [Nat.div_div_eq_div_mul]
  unfold Cert.On_own_columns.fn at h
  dsimp only at h
  rw [shapeCast_apply _ _ i j3 (by
      rewrite [Shape.rowMajor_val_three, Shape.rowMajor_val_two]
      show ((i 0).val * 4 + (i 1).val / 1792) * 1792 + (i 1).val % 1792 = (i 0).val * 7168 + (i 1).val
      omega),
    broadcastInDim_apply _ _ _ j3 j4 (fun a => match a with
      | ⟨0, _⟩ => by show 0 = if (1 : Nat) = 1 then 0 else (i 0).val; rw [if_pos rfl]
      | ⟨1, _⟩ => by show (i 1).val / 1792 = if (4 : Nat) = 1 then 0 else (i 1).val / 1792; rw [if_neg (by decide)]
      | ⟨2, _⟩ => by show 0 = if (1 : Nat) = 1 then 0 else (i 1).val % 1792; rw [if_pos rfl]),
    broadcastInDim_apply _ _ _ j4 j1 (fun a => match a with
      | ⟨0, _⟩ => by show (i 1).val / 1792 = if (4 : Nat) = 1 then 0 else (i 1).val / 1792; rw [if_neg (by decide)])] at h
  have e : IntOp.cmpi .eq (BitVec.ofNat 32 ((i 1).val / 1792)) (BitVec.ofNat 32 k.val) = 1#1 := by
    rw [← hs ix1]
    exact (congrArg (fun b => IntOp.cmpi .eq (BitVec.ofNat 32 ((i 1).val / 1792)) b) ((hs _).trans (hs _).symm)).trans h
  exact words ⟨(i 1).val / 1792, hq⟩ k e

end Mask

section Ref
open Cert.Reference9Ideal Cert.Reference9Ideal.Read

/-- The reference is the product. -/
theorem ref_eq (x : (⟨S2048x2048, .bf16⟩ : BufTy).Contents (Elt Ideal)) (w : (⟨S2048x7168, .bf16⟩ : BufTy).Contents (Elt Ideal)) :
    val_main_v0 (F := Ideal) x w = prod x w := by
  funext i
  rw [val_main_v0_apply]
  refine Finset.sum_congr rfl fun q _ => congrArg₂ (· * ·) (congrArg x (funext fun a => ?_)) (congrArg w (funext fun a => ?_))
  · match a with
    | ⟨0, _⟩ => rfl
    | ⟨1, _⟩ => rfl
  · match a with
    | ⟨0, _⟩ => rfl
    | ⟨1, _⟩ => rfl

end Ref

/-- The value claim of the input projection's first call, in the columns that it writes. -/
theorem algebraic_own : @Cert.algebraic_Kernel9Ideal_Reference9Ideal_on_own_columns Cert.Kernel9Ideal.Gen.facts Cert.Reference9Ideal.Gen.facts
    Cert.Pre_own_of_four.Gen.facts Cert.On_own_columns.Gen.facts := by
  intro m g m' g' hpre hagree
  have hO := ok_ideal m hpre
  obtain ⟨k, hk, hword⟩ := tblI m hpre
  have hadm : Cert.Kernel9Ideal.Gen.adm m hO = admI k := Subtype.ext hk
  refine ⟨fun c => (Cert.Kernel9Ideal.Gen.dats m hO 0 c).arrAt 2 (Cert.Kernel9Ideal.Gen.cfgM m hO).N, ?_, ?_⟩
  · exact (θ_run _ _ _).mono (fun r h c => ⟨fun i _ => congrFun ((h.1 c).1 2) i, h.2 c⟩)
      (θ_run_and (Cert.Kernel9Ideal.Gen.run_main (F := Ideal) m g hO) (Cert.Kernel9Ideal.Gen.unchanged (F := Ideal) m g hO))
  · refine (θ_run _ _ _).mono (fun r h c => ?_) (Cert.Reference9Ideal.Value.run (F := Ideal) m' g')
    obtain ⟨a0, a1, a2⟩ := hagree c
    obtain ⟨e0, hargs⟩ := h c
    refine ⟨fun i hi => ?_, hargs⟩
    have hcol := mask_col _ _ _ k (fun j => hword c j) i hi
    refine (congrFun (e0.trans ((Cert.Reference9Ideal.Read.val_main_v0_eq _ _).trans (ref_eq _ _))) i).trans ?_
    rw [a0, a1]
    refine Eq.trans ?_ (congrFun (arr_eq m hO k hadm c) i).symm
    unfold into
    exact (if_pos hcol).symm

end

end Cert.InProj.Own
-- ==== Proof.lean ====
/- The proof of the certificate's claim: each conjunct from the module that carries its argument. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite1
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Mlp.Agree
public import proofs.«01_k».proof.Proof.Proj.Agree
public import proofs.«01_k».proof.Proof.Ret.Run
public import proofs.«01_k».proof.Proof.RetI.Run
public import proofs.«01_k».proof.Proof.RetV.Agree
public import proofs.«01_k».proof.Proof.Adam.Agree
public import proofs.«01_k».proof.Proof.Norm.Fwd
public import proofs.«01_k».proof.Proof.Norm.BwdAgree
public import proofs.«01_k».proof.Proof.Norm.LossAgree
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5Ideal.Value
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel7Ideal.Value
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_shard_of_four
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_shard_of_four
public import proofs.«01_k».proof.Proof.InProj.Own
public import proofs.«01_k».proof.Proof.InProj.Value
public import Idealize.ShloMosaic.Lib.Claim

@[expose] public section

noncomputable section

namespace Cert.Proof

open Idealize.ShloMosaic Idealize.SL.Sem

/-- The printed program runs, its arguments end unchanged and every counter at zero. -/
theorem frame_Kernel : @Cert.quiescent_Kernel Cert.Kernel.Gen.facts := fun m g _ =>
  (θ_run _ _ _).mono (fun _ h => ⟨fun c => (h.1 c).2, h.2⟩) (Cert.Ret.run_main (F := Bits) m g)

/-- The idealised program runs, its arguments end unchanged and every counter at zero. -/
theorem frame_KernelIdeal : @Cert.quiescent_KernelIdeal Cert.KernelIdeal.Gen.facts := fun m g _ =>
  (θ_run _ _ _).mono (fun _ h => ⟨fun c => (h.1 c).2, h.2⟩) (Cert.RetI.run_main (F := Ideal) m g)

/-- The reference runs, its arguments end unchanged and every counter at zero. -/
theorem frame_ReferenceIdeal : @Cert.quiescent_ReferenceIdeal Cert.ReferenceIdeal.Gen.facts := fun m g _ =>
  (θ_run _ _ _).mono (fun r h => ⟨fun c => (h c).2.2, sem_eq_zero_of_no_sems (by decide) r.2⟩) (Cert.ReferenceIdeal.Value.run (F := Ideal) m g)

/-- The idealised program differs from the printed one in four named constants. -/
theorem preserves_named : Cert.preserves_Kernel_KernelIdeal :=
  ⟨IdealRules.named_const.statement Cert.KernelIdeal.κ "log_gamma2" .f32 0xBC0080AC#32 _ rfl,
    IdealRules.named_const.statement Cert.KernelIdeal.κ "log_gamma3" .f32 0xBB80402B#32 _ rfl,
    IdealRules.named_const.statement Cert.KernelIdeal.κ "log_gamma1" .f32 0xBC8102B3#32 _ rfl,
    IdealRules.named_const.statement Cert.KernelIdeal.κ "log_gamma0" .f32 0xBD020AEC#32 _ rfl⟩

/-- The reference of the feed-forward layer runs, its arguments end unchanged and every counter at zero. -/
theorem frame_Reference2Ideal : @Cert.quiescent_Reference2Ideal Cert.Reference2Ideal.Gen.facts := fun m g _ =>
  (θ_run _ _ _).mono (fun r h => ⟨fun c => (h c).2.2.2.2, sem_eq_zero_of_no_sems (by decide) r.2⟩) (Cert.Reference2Ideal.Value.run (F := Ideal) m g)

/-- The reference of the mixer's projections runs, its arguments end unchanged and every counter at zero. -/
theorem frame_Reference3Ideal : @Cert.quiescent_Reference3Ideal Cert.Reference3Ideal.Gen.facts := fun m g _ =>
  (θ_run _ _ _).mono (fun r h => ⟨fun c => (h c).2.2.2.2.2, sem_eq_zero_of_no_sems (by decide) r.2⟩) (Cert.Reference3Ideal.Value.run (F := Ideal) m g)

/-- The reference of the norm's backward pass runs, its arguments end unchanged and every counter at zero. -/
theorem frame_Reference4Ideal : @Cert.quiescent_Reference4Ideal Cert.Reference4Ideal.Gen.facts := fun m g _ =>
  (θ_run _ _ _).mono (fun r h => ⟨fun c => (h c).2.2.2, sem_eq_zero_of_no_sems (by decide) r.2⟩) (Cert.Reference4Ideal.Value.run (F := Ideal) m g)

/-- The reference of the last norm with the loss runs, its arguments end unchanged and every counter at zero. -/
theorem frame_Reference5Ideal : @Cert.quiescent_Reference5Ideal Cert.Reference5Ideal.Gen.facts := fun m g _ =>
  (θ_run _ _ _).mono (fun r h => ⟨fun c => (h c).2.2.2.2, sem_eq_zero_of_no_sems (by decide) r.2⟩) (Cert.Reference5Ideal.Value.run (F := Ideal) m g)

/-- The reference of the optimiser's five matrices runs, its arguments end unchanged and every counter at zero. -/
theorem frame_Reference6Ideal : @Cert.quiescent_Reference6Ideal Cert.Reference6Ideal.Gen.facts := fun m g _ =>
  (θ_run _ _ _).mono (fun r h => ⟨fun c => (h c).2.2.2.2.2.2.2.2.2.2.2.2.2.2.2, sem_eq_zero_of_no_sems (by decide) r.2⟩) (Cert.Reference6Ideal.Value.run (F := Ideal) m g)

/-- The reference of the norm's forward pass runs, its arguments end unchanged and every counter at zero. -/
theorem frame_Reference7Ideal : @Cert.quiescent_Reference7Ideal Cert.Reference7Ideal.Gen.facts := fun m g _ =>
  (θ_run _ _ _).mono (fun r h => ⟨fun c => (h c).2, sem_eq_zero_of_no_sems (by decide) r.2⟩) (Cert.Reference7Ideal.Value.run (F := Ideal) m g)

/-- The reference of the input projection runs, its arguments end unchanged and every counter at zero. -/
theorem frame_Reference8Ideal : @Cert.quiescent_Reference8Ideal Cert.Reference8Ideal.Gen.facts := fun m g _ =>
  (θ_run _ _ _).mono (fun r h => ⟨fun c => (h c).2, sem_eq_zero_of_no_sems (by decide) r.2⟩) (Cert.Reference8Ideal.Value.run (F := Ideal) m g)

/-- The reference of the input projection's first call runs, its arguments end unchanged and every counter at zero. -/
theorem frame_Reference9Ideal : @Cert.quiescent_Reference9Ideal Cert.Reference9Ideal.Gen.facts := fun m g _ =>
  (θ_run _ _ _).mono (fun r h => ⟨fun c => (h c).2, sem_eq_zero_of_no_sems (by decide) r.2⟩) (Cert.Reference9Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite1.Gen.facts, Cert.Pre_finite2.Gen.facts, Cert.Pre_shard_of_four.Gen.facts, Cert.Pre_own_of_four.Gen.facts, Cert.On_own_columns.Gen.facts,
  frame_Kernel, frame_KernelIdeal, fun m g _ => frame_KernelIdeal m g trivial, frame_ReferenceIdeal, fun m g _ => frame_ReferenceIdeal m g trivial,
  fun m ρ _ => Cert.Kernel2.Gen.frame m ρ, fun m ρ _ => Cert.Kernel2Ideal.Gen.frame m ρ, fun m ρ _ => Cert.Kernel2Ideal.Gen.frame m ρ,
  frame_Reference2Ideal, fun m g _ => frame_Reference2Ideal m g trivial,
  fun m ρ _ => Cert.Kernel3.Gen.frame m ρ, fun m ρ _ => Cert.Kernel3Ideal.Gen.frame m ρ, frame_Reference3Ideal,
  fun m ρ _ => Cert.Kernel4.Gen.frame m ρ, fun m ρ _ => Cert.Kernel4Ideal.Gen.frame m ρ, frame_Reference4Ideal,
  fun m ρ _ => Cert.Kernel5.Gen.frame m ρ, fun m ρ _ => Cert.Kernel5Ideal.Gen.frame m ρ, frame_Reference5Ideal,
  fun m ρ _ => Cert.Kernel6.Gen.frame m ρ, fun m ρ _ => Cert.Kernel6Ideal.Gen.frame m ρ, frame_Reference6Ideal,
  fun m ρ _ => Cert.Kernel7.Gen.frame m ρ, fun m ρ _ => Cert.Kernel7Ideal.Gen.frame m ρ, frame_Reference7Ideal,
  fun m ρ h => Cert.Kernel8.Gen.frame m ρ (Cert.InProj.ok_bits m h), fun m ρ h => Cert.Kernel8Ideal.Gen.frame m ρ (Cert.InProj.ok_ideal m h),
  frame_Reference8Ideal, fun m g _ => frame_Reference8Ideal m g trivial,
  fun m ρ h => Cert.Kernel9.Gen.frame m ρ (Cert.InProj.Own.ok_bits m h), fun m ρ h => Cert.Kernel9Ideal.Gen.frame m ρ (Cert.InProj.Own.ok_ideal m h),
  frame_Reference9Ideal, fun m g _ => frame_Reference9Ideal m g trivial,
  preserves_named, Cert.RetV.algebraic_ret, trivial, Cert.Mlp.algebraic_mlp, trivial, Cert.Proj.algebraic_proj,
  trivial, Cert.Norm.Bwd.algebraic_bwd, trivial, Cert.Norm.Loss.algebraic_loss, trivial, Cert.Adam.algebraic_adam, trivial, Cert.Norm.Fwd.algebraic_fwd,
  trivial, Cert.InProj.algebraic_inProj, trivial, Cert.InProj.Own.algebraic_own⟩

end Cert.Proof

end
